-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_blocks_in_range : Cert.Pre_blocks_in_range.Facts] (m : (ℓ : Loc Cert.Kernel2.nD Cert.Kernel2.τ Cert.Kernel2.sig) → Buf (Elt Bits) ℓ) : Prop :=
  ∀ c : Dev Cert.Kernel2.nD,
    (Cert.Pre_blocks_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_blocks_in_range : Cert.Pre_blocks_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_in_range [hPre_blocks_in_range : Cert.Pre_blocks_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_blocks_in_range : Cert.Pre_blocks_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_blocks_in_range [hReference2Ideal : Cert.Reference2Ideal.Facts] [hPre_blocks_in_range : Cert.Pre_blocks_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v40)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v40)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_blocks_in_range : Cert.Pre_blocks_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_blocks_in_range := hPre_blocks_in_range)
    ∧ quiescent_Kernel2Ideal (hKernel2Ideal := hKernel2Ideal) (hPre_blocks_in_range := hPre_blocks_in_range)
    ∧ quiescent_Reference2Ideal (hReference2Ideal := hReference2Ideal)
    ∧ quiescent_Reference2Ideal_pre_blocks_in_range (hReference2Ideal := hReference2Ideal) (hPre_blocks_in_range := hPre_blocks_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_blocks_in_range := hPre_blocks_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_blocks_in_range.lean ====
abbrev S545 : Shape := ⟨1, ![545]⟩
abbrev S1 : Shape := ⟨1, ![1]⟩
abbrev S70656x2048 : Shape := ⟨2, ![70656, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S545 : S_.BroadcastsInDim S545 (![] : Fin 0 → Fin S545.rank)
  reducesTo_S545_S_d0 : S545.ReducesTo [0] S_

variable [Facts]

def fn {F : FTy → Type} [FloatOps F] (main_arg0 : IVec S545 32) (main_arg1 : IVec S1 32) (main_arg2 : FVec F S70656x2048 .f32) (main_arg3 : FVec F S32x2048x4096 .f32) (main_arg4 : FVec F S32x4096 .f32) (main_arg5 : FVec F S32x2048x2048 .f32) (main_arg6 : FVec F S32x2048 .f32) : IVec S_ 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 545#32
  let main_v3 : IVec S1 32 := broadcastInDim S1 ![] bcast_S_S1 main_c_1
  let main_v4 : IVec S1 1 := cmpi .sle main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  let main_c_3 : IVec S_ 32 := constantI S_ 32 0#32
  let main_v7 : IVec S545 32 := broadcastInDim S545 ![] bcast_S_S545 main_c_3
  let main_v8 : IVec S545 1 := cmpi .sge main_arg0 main_v7
  let main_c_4 : IVec S_ 1 := constantI S_ 1 1#1
  let main_v9 : IVec S_ 1 := (fun x v => Host.reduce IntOp.andi x v reducesTo_S545_S_d0 h_S_) main_v8 main_c_4
  let main_v10 : IVec S_ 1 := andi main_v6 main_v9
  let main_c_5 : IVec S_ 32 := constantI S_ 32 32#32
  let main_v11 : IVec S545 32 := broadcastInDim S545 ![] bcast_S_S545 main_c_5
  let main_v12 : IVec S545 1 := cmpi .slt main_arg0 main_v11
  let main_c_6 : IVec S_ 1 := constantI S_ 1 1#1
  let main_v13 : IVec S_ 1 := (fun x v => Host.reduce IntOp.andi x v reducesTo_S545_S_d0 h_S_) main_v12 main_c_6
  let main_v14 : IVec S_ 1 := andi main_v10 main_v13
  main_v14
-- ==== Pre_finite_inputs.lean ====
abbrev S16640x4096 : Shape := ⟨2, ![16640, 4096]⟩
abbrev S16640x2048 : Shape := ⟨2, ![16640, 2048]⟩
abbrev S128 : Shape := ⟨1, ![128]⟩
abbrev S256 : Shape := ⟨1, ![256]⟩
abbrev S_ : Shape := ⟨0, ![]⟩

class Facts : Prop where
  bcast_S_S16640x4096 : S_.BroadcastsInDim S16640x4096 (![] : Fin 0 → Fin S16640x4096.rank)
  reducesTo_S16640x4096_S_d0_1 : S16640x4096.ReducesTo [0, 1] S_
  h_S_ : 0 < S_.numel
  bcast_S_S16640x2048 : S_.BroadcastsInDim S16640x2048 (![] : Fin 0 → Fin S16640x2048.rank)
  reducesTo_S16640x2048_S_d0_1 : S16640x2048.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16640x4096 .f32) (main_arg1 : FVec F S16640x2048 .f32) (main_arg2 : FVec F S128 .f32) (main_arg3 : FVec F S128 .f32) (main_arg4 : FVec F S128 .f32) (main_arg5 : FVec F S128 .f32) (main_arg6 : FVec F S256 .f32) : IVec S_ 1 :=
  let main_v0 : FVec F S16640x4096 .f32 := Host.absf main_arg0
  let main_cst : FVec F S_ .f32 := constant S_ .f32 0x7F800000#32
  let main_v1 : FVec F S16640x4096 .f32 := broadcastInDim S16640x4096 ![] bcast_S_S16640x4096 main_cst
  let main_v2 : IVec S16640x4096 1 := cmpf .olt main_v0 main_v1
  let main_c : IVec S_ 1 := constantI S_ 1 1#1
  let main_v3 : IVec S_ 1 := (fun x v => Host.reduce IntOp.andi x v reducesTo_S16640x4096_S_d0_1 h_S_) main_v2 main_c
  let main_v4 : FVec F S16640x2048 .f32 := Host.absf main_arg1
  let main_cst_0 : FVec F S_ .f32 := constant S_ .f32 0x7F800000#32
  let main_v5 : FVec F S16640x2048 .f32 := broadcastInDim S16640x2048 ![] bcast_S_S16640x2048 main_cst_0
  let main_v6 : IVec S16640x2048 1 := cmpf .olt main_v4 main_v5
  let main_c_1 : IVec S_ 1 := constantI S_ 1 1#1
  let main_v7 : IVec S_ 1 := (fun x v => Host.reduce IntOp.andi x v reducesTo_S16640x2048_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16640x4096 : Shape := ⟨2, ![16640, 4096]⟩
abbrev S16640x2048 : Shape := ⟨2, ![16640, 2048]⟩
abbrev S128 : Shape := ⟨1, ![128]⟩
abbrev S256 : Shape := ⟨1, ![256]⟩
abbrev S91 : Shape := ⟨1, ![91]⟩
abbrev S_ : Shape := ⟨0, ![]⟩
abbrev S1024 : Shape := ⟨1, ![1024]⟩
abbrev S4096 : Shape := ⟨1, ![4096]⟩
abbrev S1x4096 : Shape := ⟨2, ![1, 4096]⟩
abbrev S1x128 : Shape := ⟨2, ![1, 128]⟩
abbrev S1x256 : Shape := ⟨2, ![1, 256]⟩
abbrev S16640x1024 : Shape := ⟨2, ![16640, 1024]⟩
abbrev S640x1024 : Shape := ⟨2, ![640, 1024]⟩
abbrev S1 : Shape := ⟨1, ![1]⟩
abbrev S640x128 : Shape := ⟨2, ![640, 128]⟩
abbrev S8x128x640 : Shape := ⟨3, ![8, 128, 640]⟩
abbrev S8x640x256 : Shape := ⟨3, ![8, 640, 256]⟩
abbrev S128x128 : Shape := ⟨2, ![128, 128]⟩
abbrev S128x640 : Shape := ⟨2, ![128, 640]⟩
abbrev S1x128x640 : Shape := ⟨3, ![1, 128, 640]⟩
abbrev S128x1 : Shape := ⟨2, ![128, 1]⟩
abbrev S640x256 : Shape := ⟨2, ![640, 256]⟩
abbrev S1x128x256 : Shape := ⟨3, ![1, 128, 256]⟩
abbrev S128x256 : Shape := ⟨2, ![128, 256]⟩
abbrev S1x128x128 : Shape := ⟨3, ![1, 128, 128]⟩
abbrev S256x128 : Shape := ⟨2, ![256, 128]⟩
abbrev S256x256 : Shape := ⟨2, ![256, 256]⟩
abbrev S128x384 : Shape := ⟨2, ![128, 384]⟩
abbrev S384x128 : Shape := ⟨2, ![384, 128]⟩
abbrev S1x128x384 : Shape := ⟨3, ![1, 128, 384]⟩
abbrev S384x256 : Shape := ⟨2, ![384, 256]⟩
abbrev S128x512 : Shape := ⟨2, ![128, 512]⟩
abbrev S512x128 : Shape := ⟨2, ![512, 128]⟩
abbrev S1x128x512 : Shape := ⟨3, ![1, 128, 512]⟩
abbrev S512x256 : Shape := ⟨2, ![512, 256]⟩
abbrev S1x1 : Shape := ⟨2, ![1, 1]⟩
abbrev S1x640x256 : Shape := ⟨3, ![1, 640, 256]⟩
abbrev S640x1 : Shape := ⟨2, ![640, 1]⟩
abbrev S640 : Shape := ⟨1, ![640]⟩

abbrev nBuf : Space → Nat
  | .hbm => 32
  | .vmem => 18
  | .smem => 2
  | _ => 0

abbrev bufTy : (tb : Table) → Fin (tcTables nBuf tb) → BufTy
  | .hbm, ⟨0, _⟩ => ⟨S16640x4096, .f32⟩
  | .hbm, ⟨1, _⟩ => ⟨S16640x2048, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S4096, .f32⟩
  | .hbm, ⟨21, _⟩ => ⟨S1x4096, .f32⟩
  | .hbm, ⟨22, _⟩ => ⟨S16640x4096, .f32⟩
  | .hbm, ⟨23, _⟩ => ⟨S16640x4096, .f32⟩
  | .hbm, ⟨24, _⟩ => ⟨S16640x4096, .bf16⟩
  | .hbm, ⟨25, _⟩ => ⟨S16640x2048, .bf16⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x256, .f32⟩
  | .hbm, ⟨31, _⟩ => ⟨S16640x1024, .bf16⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S640x1024, .bf16⟩
  | .local _ .vmem, ⟨12, _⟩ => ⟨S640x1024, .bf16⟩
  | .local _ .vmem, ⟨13, _⟩ => ⟨S640x128, .f32⟩
  | .local _ .vmem, ⟨14, _⟩ => ⟨S640x128, .f32⟩
  | .local _ .vmem, ⟨15, _⟩ => ⟨S8x128x640, .f32⟩
  | .local _ .vmem, ⟨16, _⟩ => ⟨S8x128x640, .bf16⟩
  | .local _ .vmem, ⟨17, _⟩ => ⟨S8x640x256, .f32⟩
  | .local _ .smem, ⟨0, _⟩ => ⟨S91, .i32⟩
  | .local _ .smem, ⟨1, _⟩ => ⟨S91, .i32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 91], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop : Scf.Loop 32 :=
  let c0_i32_6 : BitVec 32 := 0#32
  let c5_i32 : BitVec 32 := 5#32
  let v20 : BitVec 32 := Scalar.addi c0_i32_6 c5_i32
  let c1_i32 : BitVec 32 := 1#32
  ⟨c0_i32_6, v20, c1_i32⟩
def k0_mult1 (k0_t1 : Fin k0_t1_loop.trips) : BitVec 32 :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  v21
def k0_off2 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v40 : Index := Scalar.indexCast v22
  let c0 : Index := 0#32
  ![v40.toNat, 0]
def k0_off3 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v42 : Index := Scalar.indexCast v22
  let c0_10 : Index := 0#32
  ![v42.toNat, 0]
def k0_off4 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v59 : Index := Scalar.indexCast v22
  let c128 : Index := 128#32
  ![v59.toNat, 128]
def k0_off5 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v76 : Index := Scalar.indexCast v22
  let c256 : Index := 256#32
  ![v76.toNat, 256]
def k0_off6 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v93 : Index := Scalar.indexCast v22
  let c384 : Index := 384#32
  ![v93.toNat, 384]
def k0_off7 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v110 : Index := Scalar.indexCast v22
  let c512 : Index := 512#32
  ![v110.toNat, 512]
def k0_off8 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v127 : Index := Scalar.indexCast v22
  let c640 : Index := 640#32
  ![v127.toNat, 640]
def k0_off9 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v144 : Index := Scalar.indexCast v22
  let c768 : Index := 768#32
  ![v144.toNat, 768]
def k0_off10 (k0_t1 : Fin k0_t1_loop.trips) : Fin 2 → Nat :=
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v161 : Index := Scalar.indexCast v22
  let c896 : Index := 896#32
  ![v161.toNat, 896]
def k0_off11 (k0_t1 : Fin k0_t1_loop.trips) : Fin 3 → Nat :=
  let c0_138 : Index := 0#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v339 : Index := Scalar.indexCast v22
  let c0_139 : Index := 0#32
  ![0, v339.toNat, 0]
def k0_off12 (k0_t1 : Fin k0_t1_loop.trips) : Fin 3 → Nat :=
  let c1_148 : Index := 1#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v355 : Index := Scalar.indexCast v22
  let c0_149 : Index := 0#32
  ![1, v355.toNat, 0]
def k0_off13 (k0_t1 : Fin k0_t1_loop.trips) : Fin 3 → Nat :=
  let c2_158 : Index := 2#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v371 : Index := Scalar.indexCast v22
  let c0_159 : Index := 0#32
  ![2, v371.toNat, 0]
def k0_off14 (k0_t1 : Fin k0_t1_loop.trips) : Fin 3 → Nat :=
  let c3_168 : Index := 3#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v387 : Index := Scalar.indexCast v22
  let c0_169 : Index := 0#32
  ![3, v387.toNat, 0]
def k0_off15 (k0_t1 : Fin k0_t1_loop.trips) : Fin 3 → Nat :=
  let c4_178 : Index := 4#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v403 : Index := Scalar.indexCast v22
  let c0_179 : Index := 0#32
  ![4, v403.toNat, 0]
def k0_off16 (k0_t1 : Fin k0_t1_loop.trips) : Fin 3 → Nat :=
  let c5_188 : Index := 5#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v419 : Index := Scalar.indexCast v22
  let c0_189 : Index := 0#32
  ![5, v419.toNat, 0]
def k0_off17 (k0_t1 : Fin k0_t1_loop.trips) : Fin 3 → Nat :=
  let c6_198 : Index := 6#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v435 : Index := Scalar.indexCast v22
  let c0_199 : Index := 0#32
  ![6, v435.toNat, 0]
def k0_off18 (k0_t1 : Fin k0_t1_loop.trips) : Fin 3 → Nat :=
  let c7_208 : Index := 7#32
  let c0_i32_6 : BitVec 32 := 0#32
  let c1_i32 : BitVec 32 := 1#32
  let arg18 : BitVec 32 := Scf.iv c0_i32_6 c1_i32 k0_t1
  let c128_i32 : BitVec 32 := 128#32
  let v21 : BitVec 32 := Scalar.muli arg18 c128_i32
  let v22 : BitVec 32 := v21
  let v451 : Index := Scalar.indexCast v22
  let c0_209 : Index := 0#32
  ![7, v451.toNat, 0]
@[reducible] def k0_t2_loop : Scf.Loop 32 :=
  let c0_i32_6 : BitVec 32 := 0#32
  let c5_i32 : BitVec 32 := 5#32
  let v20 : BitVec 32 := Scalar.addi c0_i32_6 c5_i32
  let c1_i32 : BitVec 32 := 1#32
  ⟨c0_i32_6, v20, c1_i32⟩
def k0_mult2 (k0_t2 : Fin k0_t2_loop.trips) : BitVec 32 :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  v21
def k0_off19 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v24 : Index := Scalar.indexCast v22
  let c0 : Index := 0#32
  ![v24.toNat, 0]
def k0_off20 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v26 : Index := Scalar.indexCast v22
  let c0_8 : Index := 0#32
  ![v26.toNat, 0]
def k0_off21 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v42 : Index := Scalar.indexCast v22
  let c128 : Index := 128#32
  ![v42.toNat, 128]
def k0_off22 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v58 : Index := Scalar.indexCast v22
  let c256 : Index := 256#32
  ![v58.toNat, 256]
def k0_off23 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v74 : Index := Scalar.indexCast v22
  let c384 : Index := 384#32
  ![v74.toNat, 384]
def k0_off24 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v90 : Index := Scalar.indexCast v22
  let c512 : Index := 512#32
  ![v90.toNat, 512]
def k0_off25 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v106 : Index := Scalar.indexCast v22
  let c640 : Index := 640#32
  ![v106.toNat, 640]
def k0_off26 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v122 : Index := Scalar.indexCast v22
  let c768 : Index := 768#32
  ![v122.toNat, 768]
def k0_off27 (k0_t2 : Fin k0_t2_loop.trips) : Fin 2 → Nat :=
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v138 : Index := Scalar.indexCast v22
  let c896 : Index := 896#32
  ![v138.toNat, 896]
def k0_off28 (k0_t2 : Fin k0_t2_loop.trips) : Fin 3 → Nat :=
  let c0_135 : Index := 0#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v315 : Index := Scalar.indexCast v22
  let c0_136 : Index := 0#32
  ![0, v315.toNat, 0]
def k0_off29 (k0_t2 : Fin k0_t2_loop.trips) : Fin 3 → Nat :=
  let c1_145 : Index := 1#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v331 : Index := Scalar.indexCast v22
  let c0_146 : Index := 0#32
  ![1, v331.toNat, 0]
def k0_off30 (k0_t2 : Fin k0_t2_loop.trips) : Fin 3 → Nat :=
  let c2_155 : Index := 2#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v347 : Index := Scalar.indexCast v22
  let c0_156 : Index := 0#32
  ![2, v347.toNat, 0]
def k0_off31 (k0_t2 : Fin k0_t2_loop.trips) : Fin 3 → Nat :=
  let c3_165 : Index := 3#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v363 : Index := Scalar.indexCast v22
  let c0_166 : Index := 0#32
  ![3, v363.toNat, 0]
def k0_off32 (k0_t2 : Fin k0_t2_loop.trips) : Fin 3 → Nat :=
  let c4_175 : Index := 4#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v379 : Index := Scalar.indexCast v22
  let c0_176 : Index := 0#32
  ![4, v379.toNat, 0]
def k0_off33 (k0_t2 : Fin k0_t2_loop.trips) : Fin 3 → Nat :=
  let c5_185 : Index := 5#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v395 : Index := Scalar.indexCast v22
  let c0_186 : Index := 0#32
  ![5, v395.toNat, 0]
def k0_off34 (k0_t2 : Fin k0_t2_loop.trips) : Fin 3 → Nat :=
  let c6_195 : Index := 6#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v411 : Index := Scalar.indexCast v22
  let c0_196 : Index := 0#32
  ![6, v411.toNat, 0]
def k0_off35 (k0_t2 : Fin k0_t2_loop.trips) : Fin 3 → Nat :=
  let c7_205 : Index := 7#32
  let c0_i32_6 : BitVec 32 := 0#32
  let c1_i32 : BitVec 32 := 1#32
  let arg18 : BitVec 32 := Scf.iv c0_i32_6 c1_i32 k0_t2
  let c128_i32 : BitVec 32 := 128#32
  let v21 : BitVec 32 := Scalar.muli arg18 c128_i32
  let v22 : BitVec 32 := v21
  let v427 : Index := Scalar.indexCast v22
  let c0_206 : Index := 0#32
  ![7, v427.toNat, 0]
def k0_cond4 (v1 : BitVec 32) (v3 : BitVec 32) : BitVec 1 :=
  let v17 : BitVec 1 := Scalar.cmpi .eq v3 v1
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : Index := Scalar.indexCast arg1
  let v2 : BitVec 32 := pf.at 0 (Rect.unit (s := S91) ![v1.toNat] S1.size (k0_off1_inb i)) numel1_S1
  let v3 : BitVec 32 := Scalar.addi v0 v2
  let c2_i32 : BitVec 32 := 2#32
  let c0_i32 : BitVec 32 := 0#32
  ![v3.toNat, c2_i32.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : Index := Scalar.indexCast arg1
  let v2 : BitVec 32 := pf.at 1 (Rect.unit (s := S91) ![v1.toNat] S1.size (k0_off1_inb i)) numel1_S1
  let v3 : BitVec 32 := Scalar.addi v0 v2
  let c3_i32 : BitVec 32 := 3#32
  let c0_i32 : BitVec 32 := 0#32
  ![v3.toNat, c3_i32.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : Index := Scalar.indexCast arg1
  let v2 : BitVec 32 := pf.at 1 (Rect.unit (s := S91) ![v1.toNat] S1.size (k0_off1_inb i)) numel1_S1
  let v3 : BitVec 32 := Scalar.addi v0 v2
  let c1_i32 : BitVec 32 := 1#32
  let c0_i32 : BitVec 32 := 0#32
  ![v3.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : Index := Scalar.indexCast arg1
  let v2 : BitVec 32 := pf.at 0 (Rect.unit (s := S91) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16640x4096 : Shape := ⟨2, ![16640, 4096]⟩
abbrev S16640x2048 : Shape := ⟨2, ![16640, 2048]⟩
abbrev S128 : Shape := ⟨1, ![128]⟩
abbrev S256 : Shape := ⟨1, ![256]⟩
abbrev S2x8320x4096 : Shape := ⟨3, ![2, 8320, 4096]⟩
abbrev S2x8208x4096 : Shape := ⟨3, ![2, 8208, 4096]⟩
abbrev S2x8208x1024 : Shape := ⟨3, ![2, 8208, 1024]⟩
abbrev S2x8208x4x2x128 : Shape := ⟨5, ![2, 8208, 4, 2, 128]⟩
abbrev S2x8320x2048 : Shape := ⟨3, ![2, 8320, 2048]⟩
abbrev S2x8208x2048 : Shape := ⟨3, ![2, 8208, 2048]⟩
abbrev S2x8208x4x256 : Shape := ⟨4, ![2, 8208, 4, 256]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x1x8208x8208 : Shape := ⟨4, ![1, 1, 8208, 8208]⟩
abbrev S_ : Shape := ⟨0, ![]⟩
abbrev S2x8208x4x1x128 : Shape := ⟨5, ![2, 8208, 4, 1, 128]⟩
abbrev S2x8208x4x128 : Shape := ⟨4, ![2, 8208, 4, 128]⟩
abbrev S2x4x8208x8208 : Shape := ⟨4, ![2, 4, 8208, 8208]⟩
abbrev S2x4x8208 : Shape := ⟨3, ![2, 4, 8208]⟩
abbrev S2x4x8208x1 : Shape := ⟨4, ![2, 4, 8208, 1]⟩
abbrev S2x4x256x8208 : Shape := ⟨4, ![2, 4, 256, 8208]⟩
abbrev S2x8208x4 : Shape := ⟨3, ![2, 8208, 4]⟩
abbrev S2x8208x4x1 : Shape := ⟨4, ![2, 8208, 4, 1]⟩
abbrev S1x1x1x256 : Shape := ⟨4, ![1, 1, 1, 256]⟩
abbrev S2x8320x1024 : Shape := ⟨3, ![2, 8320, 1024]⟩
abbrev S16640x1024 : Shape := ⟨2, ![16640, 1024]⟩

abbrev nBuf : Space → Nat
  | .hbm => 123
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S16640x2048, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S2x8320x4096, .f32⟩
  | .hbm, ⟨8, _⟩ => ⟨S2x8208x4096, .f32⟩
  | .hbm, ⟨9, _⟩ => ⟨S2x8208x1024, .f32⟩
  | .hbm, ⟨10, _⟩ => ⟨S2x8208x4x2x128, .f32⟩
  | .hbm, ⟨11, _⟩ => ⟨S2x8320x4096, .f32⟩
  | .hbm, ⟨12, _⟩ => ⟨S2x8208x4096, .f32⟩
  | .hbm, ⟨13, _⟩ => ⟨S2x8208x1024, .f32⟩
  | .hbm, ⟨14, _⟩ => ⟨S2x8208x4x2x128, .f32⟩
  | .hbm, ⟨15, _⟩ => ⟨S2x8320x2048, .f32⟩
  | .hbm, ⟨16, _⟩ => ⟨S2x8208x2048, .f32⟩
  | .hbm, ⟨17, _⟩ => ⟨S2x8208x1024, .f32⟩
  | .hbm, ⟨18, _⟩ => ⟨S2x8208x4x256, .f32⟩
  | .hbm, ⟨19, _⟩ => ⟨S8208, .i32⟩
  | .hbm, ⟨20, _⟩ => ⟨S1x8208, .i32⟩
  | .hbm, ⟨21, _⟩ => ⟨S8208x1, .i32⟩
  | .hbm, ⟨22, _⟩ => ⟨S8208x8208, .i32⟩
  | .hbm, ⟨23, _⟩ => ⟨S8208x8208, .i32⟩
  | .hbm, ⟨24, _⟩ => ⟨S8208x8208, .i1⟩
  | .hbm, ⟨25, _⟩ => ⟨S1x1x8208x8208, .i1⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x8208x4x1x128, .f32⟩
  | .hbm, ⟨38, _⟩ => ⟨S2x8208x4x128, .f32⟩
  | .hbm, ⟨39, _⟩ => ⟨S2x8208x4x1x128, .f32⟩
  | .hbm, ⟨40, _⟩ => ⟨S2x8208x4x128, .f32⟩
  | .hbm, ⟨41, _⟩ => ⟨S2x4x8208x8208, .f32⟩
  | .hbm, ⟨42, _⟩ => ⟨S_, .f32⟩
  | .hbm, ⟨43, _⟩ => ⟨S_, .f32⟩
  | .hbm, ⟨44, _⟩ => ⟨S2x4x8208x8208, .f32⟩
  | .hbm, ⟨45, _⟩ => ⟨S2x4x8208x8208, .f32⟩
  | .hbm, ⟨46, _⟩ => ⟨S_, .f32⟩
  | .hbm, ⟨47, _⟩ => ⟨S_, .f32⟩
  | .hbm, ⟨48, _⟩ => ⟨S2x4x8208x8208, .i1⟩
  | .hbm, ⟨49, _⟩ => ⟨S2x4x8208x8208, .f32⟩
  | .hbm, ⟨50, _⟩ => ⟨S2x4x8208x8208, .f32⟩
  | .hbm, ⟨51, _⟩ => ⟨S_, .f32⟩
  | .hbm, ⟨52, _⟩ => ⟨S2x4x8208, .f32⟩
  | .hbm, ⟨53, _⟩ => ⟨S_, .f32⟩
  | .hbm, ⟨54, _⟩ => ⟨S2x4x8208, .f32⟩
  | .hbm, ⟨55, _⟩ => ⟨S2x4x8208, .f32⟩
  | .hbm, ⟨56, _⟩ => ⟨S2x4x8208x1, .f32⟩
  | .hbm, ⟨57, _⟩ => ⟨S2x4x8208x8208, .f32⟩
  | .hbm, ⟨58, _⟩ => ⟨S2x4x8208x8208, .f32⟩
  | .hbm, ⟨59, _⟩ => ⟨S2x4x8208x8208, .f32⟩
  | .hbm, ⟨60, _⟩ => ⟨S_, .f32⟩
  | .hbm, ⟨61, _⟩ => ⟨S2x4x8208, .f32⟩
  | .hbm, ⟨62, _⟩ => ⟨S2x4x8208x1, .f32⟩
  | .hbm, ⟨63, _⟩ => ⟨S2x4x8208x8208, .f32⟩
  | .hbm, ⟨64, _⟩ => ⟨S2x4x8208x8208, .f32⟩
  | .hbm, ⟨65, _⟩ => ⟨S2x8208x4x1x128, .f32⟩
  | .hbm, ⟨66, _⟩ => ⟨S2x8208x4x128, .f32⟩
  | .hbm, ⟨67, _⟩ => ⟨S2x8208x4x1x128, .f32⟩
  | .hbm, ⟨68, _⟩ => ⟨S2x8208x4x128, .f32⟩
  | .hbm, ⟨69, _⟩ => ⟨S2x4x8208x8208, .f32⟩
  | .hbm, ⟨70, _⟩ => ⟨S_, .f32⟩
  | .hbm, ⟨71, _⟩ => ⟨S_, .f32⟩
  | .hbm, ⟨72, _⟩ => ⟨S2x4x8208x8208, .f32⟩
  | .hbm, ⟨73, _⟩ => ⟨S2x4x8208x8208, .f32⟩
  | .hbm, ⟨74, _⟩ => ⟨S_, .f32⟩
  | .hbm, ⟨75, _⟩ => ⟨S_, .f32⟩
  | .hbm, ⟨76, _⟩ => ⟨S2x4x8208x8208, .i1⟩
  | .hbm, ⟨77, _⟩ => ⟨S2x4x8208x8208, .f32⟩
  | .hbm, ⟨78, _⟩ => ⟨S2x4x8208x8208, .f32⟩
  | .hbm, ⟨79, _⟩ => ⟨S_, .f32⟩
  | .hbm, ⟨80, _⟩ => ⟨S2x4x8208, .f32⟩
  | .hbm, ⟨81, _⟩ => ⟨S_, .f32⟩
  | .hbm, ⟨82, _⟩ => ⟨S2x4x8208, .f32⟩
  | .hbm, ⟨83, _⟩ => ⟨S2x4x8208, .f32⟩
  | .hbm, ⟨84, _⟩ => ⟨S2x4x8208x1, .f32⟩
  | .hbm, ⟨85, _⟩ => ⟨S2x4x8208x8208, .f32⟩
  | .hbm, ⟨86, _⟩ => ⟨S2x4x8208x8208, .f32⟩
  | .hbm, ⟨87, _⟩ => ⟨S2x4x8208x8208, .f32⟩
  | .hbm, ⟨88, _⟩ => ⟨S_, .f32⟩
  | .hbm, ⟨89, _⟩ => ⟨S2x4x8208, .f32⟩
  | .hbm, ⟨90, _⟩ => ⟨S2x4x8208x1, .f32⟩
  | .hbm, ⟨91, _⟩ => ⟨S2x4x8208x8208, .f32⟩
  | .hbm, ⟨92, _⟩ => ⟨S2x4x8208x8208, .f32⟩
  | .hbm, ⟨93, _⟩ => ⟨S2x4x8208x8208, .f32⟩
  | .hbm, ⟨94, _⟩ => ⟨S2x4x8208x8208, .f32⟩
  | .hbm, ⟨95, _⟩ => ⟨S2x4x8208x8208, .f32⟩
  | .hbm, ⟨96, _⟩ => ⟨S2x4x256x8208, .f32⟩
  | .hbm, ⟨97, _⟩ => ⟨S2x8208x4x256, .f32⟩
  | .hbm, ⟨98, _⟩ => ⟨S2x8208x4x256, .f32⟩
  | .hbm, ⟨99, _⟩ => ⟨S_, .f32⟩
  | .hbm, ⟨100, _⟩ => ⟨S2x8208x4, .f32⟩
  | .hbm, ⟨101, _⟩ => ⟨S2x8208x4x1, .f32⟩
  | .hbm, ⟨102, _⟩ => ⟨S_, .f32⟩
  | .hbm, ⟨103, _⟩ => ⟨S2x8208x4x1, .f32⟩
  | .hbm, ⟨104, _⟩ => ⟨S2x8208x4x1, .f32⟩
  | .hbm, ⟨105, _⟩ => ⟨S_, .f32⟩
  | .hbm, ⟨106, _⟩ => ⟨S2x8208x4x1, .f32⟩
  | .hbm, ⟨107, _⟩ => ⟨S2x8208x4x1, .f32⟩
  | .hbm, ⟨108, _⟩ => ⟨S2x8208x4x1, .f32⟩
  | .hbm, ⟨109, _⟩ => ⟨S2x8208x4x256, .f32⟩
  | .hbm, ⟨110, _⟩ => ⟨S2x8208x4x256, .f32⟩
  | .hbm, ⟨111, _⟩ => ⟨S1x1x1x256, .f32⟩
  | .hbm, ⟨112, _⟩ => ⟨S2x8208x4x256, .f32⟩
  | .hbm, ⟨113, _⟩ => ⟨S2x8208x4x256, .f32⟩
  | .hbm, ⟨114, _⟩ => ⟨S_, .f32⟩
  | .hbm, ⟨115, _⟩ => ⟨S2x8208x4x256, .f32⟩
  | .hbm, ⟨116, _⟩ => ⟨S2x8208x4x256, .f32⟩
  | .hbm, ⟨117, _⟩ => ⟨S2x8208x1024, .f32⟩
  | .hbm, ⟨118, _⟩ => ⟨S_, .i32⟩
  | .hbm, ⟨119, _⟩ => ⟨S_, .f32⟩
  | .hbm, ⟨120, _⟩ => ⟨S2x8320x1024, .f32⟩
  | .hbm, ⟨121, _⟩ => ⟨S16640x1024, .f32⟩
  | .hbm, ⟨122, _⟩ => ⟨S16640x1024, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c : Ref sig .tc := ⟨.hbm, 118, rfl⟩
abbrev main_call2_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel2.lean ====
abbrev S545 : Shape := ⟨1, ![545]⟩
abbrev S1 : Shape := ⟨1, ![1]⟩
abbrev S70656x2048 : Shape := ⟨2, ![70656, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x2048x16x128x2 : Shape := ⟨5, ![32, 2048, 16, 128, 2]⟩
abbrev S32x2048x16x2x128 : Shape := ⟨5, ![32, 2048, 16, 2, 128]⟩
abbrev S32x16x128x2 : Shape := ⟨4, ![32, 16, 128, 2]⟩
abbrev S32x16x2x128 : Shape := ⟨4, ![32, 16, 2, 128]⟩
abbrev S_ : Shape := ⟨0, ![]⟩
abbrev S545x1 : Shape := ⟨2, ![545, 1]⟩
abbrev S32x1x4096 : Shape := ⟨3, ![32, 1, 4096]⟩
abbrev S32x1x2048 : Shape := ⟨3, ![32, 1, 2048]⟩
abbrev S69760x2048 : Shape := ⟨2, ![69760, 2048]⟩
abbrev S128x2048 : Shape := ⟨2, ![128, 2048]⟩
abbrev S1x2048x4096 : Shape := ⟨3, ![1, 2048, 4096]⟩
abbrev S1x1x4096 : Shape := ⟨3, ![1, 1, 4096]⟩
abbrev S1x2048x2048 : Shape := ⟨3, ![1, 2048, 2048]⟩
abbrev S1x1x2048 : Shape := ⟨3, ![1, 1, 2048]⟩
abbrev S2048x4096 : Shape := ⟨2, ![2048, 4096]⟩
abbrev S128x4096 : Shape := ⟨2, ![128, 4096]⟩
abbrev S1x4096 : Shape := ⟨2, ![1, 4096]⟩
abbrev S128x128 : Shape := ⟨2, ![128, 128]⟩
abbrev S2048x2048 : Shape := ⟨2, ![2048, 2048]⟩
abbrev S1x2048 : Shape := ⟨2, ![1, 2048]⟩

abbrev nBuf : Space → Nat
  | .hbm => 32
  | .vmem => 12
  | .smem => 2
  | _ => 0

abbrev bufTy : (tb : Table) → Fin (tcTables nBuf tb) → BufTy
  | .hbm, ⟨0, _⟩ => ⟨S545, .i32⟩
  | .hbm, ⟨1, _⟩ => ⟨S70656x2048, .f32⟩
  | .hbm, ⟨2, _⟩ => ⟨S32x2048x4096, .f32⟩
  | .hbm, ⟨3, _⟩ => ⟨S32x4096, .f32⟩
  | .hbm, ⟨4, _⟩ => ⟨S32x2048x2048, .f32⟩
  | .hbm, ⟨5, _⟩ => ⟨S32x2048, .f32⟩
  | .hbm, ⟨6, _⟩ => ⟨S32x2048x16x128x2, .f32⟩
  | .hbm, ⟨7, _⟩ => ⟨S32x2048x16x2x128, .f32⟩
  | .hbm, ⟨8, _⟩ => ⟨S32x2048x4096, .f32⟩
  | .hbm, ⟨9, _⟩ => ⟨S32x2048x4096, .bf16⟩
  | .hbm, ⟨10, _⟩ => ⟨S32x16x128x2, .f32⟩
  | .hbm, ⟨11, _⟩ => ⟨S32x16x2x128, .f32⟩
  | .hbm, ⟨12, _⟩ => ⟨S32x4096, .f32⟩
  | .hbm, ⟨13, _⟩ => ⟨S545, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S545, .i32⟩
  | .hbm, ⟨18, _⟩ => ⟨S545, .i32⟩
  | .hbm, ⟨19, _⟩ => ⟨S_, .i32⟩
  | .hbm, ⟨20, _⟩ => ⟨S545, .i32⟩
  | .hbm, ⟨21, _⟩ => ⟨S545, .i1⟩
  | .hbm, ⟨22, _⟩ => ⟨S_, .i32⟩
  | .hbm, ⟨23, _⟩ => ⟨S545, .i32⟩
  | .hbm, ⟨24, _⟩ => ⟨S545, .i32⟩
  | .hbm, ⟨25, _⟩ => ⟨S545, .i32⟩
  | .hbm, ⟨26, _⟩ => ⟨S545x1, .i32⟩
  | .hbm, ⟨27, _⟩ => ⟨S70656x2048, .bf16⟩
  | .hbm, ⟨28, _⟩ => ⟨S32x2048x2048, .bf16⟩
  | .hbm, ⟨29, _⟩ => ⟨S32x1x4096, .f32⟩
  | .hbm, ⟨30, _⟩ => ⟨S32x1x2048, .f32⟩
  | .hbm, ⟨31, _⟩ => ⟨S69760x2048, .f32⟩
  | .local _ .vmem, ⟨0, _⟩ => ⟨S128x2048, .bf16⟩
  | .local _ .vmem, ⟨1, _⟩ => ⟨S128x2048, .bf16⟩
  | .local _ .vmem, ⟨2, _⟩ => ⟨S1x2048x4096, .bf16⟩
  | .local _ .vmem, ⟨3, _⟩ => ⟨S1x2048x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x1x2048, .f32⟩
  | .local _ .vmem, ⟨9, _⟩ => ⟨S1x1x2048, .f32⟩
  | .local _ .vmem, ⟨10, _⟩ => ⟨S128x2048, .f32⟩
  | .local _ .vmem, ⟨11, _⟩ => ⟨S128x2048, .f32⟩
  | .local _ .smem, ⟨0, _⟩ => ⟨S545, .i32⟩
  | .local _ .smem, ⟨1, _⟩ => ⟨S1, .i32⟩
  | _, _ => ⟨S545, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v18 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![545], ![false]⟩

abbrev pre0 : Pipeline.Prefetch sig := ⟨2, ![main_v18.idx, main_arg1.idx], fun | 0 => main_v18.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S545 : Shape := ⟨1, ![545]⟩
abbrev S1 : Shape := ⟨1, ![1]⟩
abbrev S70656x2048 : Shape := ⟨2, ![70656, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S69760x2048 : Shape := ⟨2, ![69760, 2048]⟩
abbrev S545x128x2048 : Shape := ⟨3, ![545, 128, 2048]⟩
abbrev S_ : Shape := ⟨0, ![]⟩
abbrev S545x1 : Shape := ⟨2, ![545, 1]⟩
abbrev S545x2048x4096 : Shape := ⟨3, ![545, 2048, 4096]⟩
abbrev S545x128x4096 : Shape := ⟨3, ![545, 128, 4096]⟩
abbrev S545x4096 : Shape := ⟨2, ![545, 4096]⟩
abbrev S545x1x4096 : Shape := ⟨3, ![545, 1, 4096]⟩
abbrev S545x2048x2048 : Shape := ⟨3, ![545, 2048, 2048]⟩
abbrev S545x2048 : Shape := ⟨2, ![545, 2048]⟩
abbrev S545x1x2048 : Shape := ⟨3, ![545, 1, 2048]⟩
abbrev S545x1x1 : Shape := ⟨3, ![545, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S545, .i32⟩
  | .hbm, ⟨1, _⟩ => ⟨S1, .i32⟩
  | .hbm, ⟨2, _⟩ => ⟨S70656x2048, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S69760x2048, .f32⟩
  | .hbm, ⟨8, _⟩ => ⟨S545x128x2048, .f32⟩
  | .hbm, ⟨9, _⟩ => ⟨S_, .i32⟩
  | .hbm, ⟨10, _⟩ => ⟨S545, .i32⟩
  | .hbm, ⟨11, _⟩ => ⟨S545, .i1⟩
  | .hbm, ⟨12, _⟩ => ⟨S_, .i32⟩
  | .hbm, ⟨13, _⟩ => ⟨S545, .i32⟩
  | .hbm, ⟨14, _⟩ => ⟨S545, .i32⟩
  | .hbm, ⟨15, _⟩ => ⟨S545, .i32⟩
  | .hbm, ⟨16, _⟩ => ⟨S545x1, .i32⟩
  | .hbm, ⟨17, _⟩ => ⟨S545x2048x4096, .f32⟩
  | .hbm, ⟨18, _⟩ => ⟨S545x128x4096, .f32⟩
  | .hbm, ⟨19, _⟩ => ⟨S_, .i32⟩
  | .hbm, ⟨20, _⟩ => ⟨S545, .i32⟩
  | .hbm, ⟨21, _⟩ => ⟨S545, .i1⟩
  | .hbm, ⟨22, _⟩ => ⟨S_, .i32⟩
  | .hbm, ⟨23, _⟩ => ⟨S545, .i32⟩
  | .hbm, ⟨24, _⟩ => ⟨S545, .i32⟩
  | .hbm, ⟨25, _⟩ => ⟨S545, .i32⟩
  | .hbm, ⟨26, _⟩ => ⟨S545x1, .i32⟩
  | .hbm, ⟨27, _⟩ => ⟨S545x4096, .f32⟩
  | .hbm, ⟨28, _⟩ => ⟨S545x1x4096, .f32⟩
  | .hbm, ⟨29, _⟩ => ⟨S545x128x4096, .f32⟩
  | .hbm, ⟨30, _⟩ => ⟨S545x128x4096, .f32⟩
  | .hbm, ⟨31, _⟩ => ⟨S545x128x2048, .f32⟩
  | .hbm, ⟨32, _⟩ => ⟨S_, .f32⟩
  | .hbm, ⟨33, _⟩ => ⟨S545x128x2048, .f32⟩
  | .hbm, ⟨34, _⟩ => ⟨S545x128x2048, .f32⟩
  | .hbm, ⟨35, _⟩ => ⟨S545x128x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S545x128x2048, .f32⟩
  | .hbm, ⟨40, _⟩ => ⟨S545x128x2048, .f32⟩
  | .hbm, ⟨41, _⟩ => ⟨S_, .f32⟩
  | .hbm, ⟨42, _⟩ => ⟨S545x128x2048, .f32⟩
  | .hbm, ⟨43, _⟩ => ⟨S545x128x2048, .f32⟩
  | .hbm, ⟨44, _⟩ => ⟨S_, .f32⟩
  | .hbm, ⟨45, _⟩ => ⟨S545x128x2048, .f32⟩
  | .hbm, ⟨46, _⟩ => ⟨S545x128x2048, .f32⟩
  | .hbm, ⟨47, _⟩ => ⟨S545x128x2048, .f32⟩
  | .hbm, ⟨48, _⟩ => ⟨S545x128x2048, .f32⟩
  | .hbm, ⟨49, _⟩ => ⟨S_, .f32⟩
  | .hbm, ⟨50, _⟩ => ⟨S545x128x2048, .f32⟩
  | .hbm, ⟨51, _⟩ => ⟨S545x128x2048, .f32⟩
  | .hbm, ⟨52, _⟩ => ⟨S_, .f32⟩
  | .hbm, ⟨53, _⟩ => ⟨S545x128x2048, .f32⟩
  | .hbm, ⟨54, _⟩ => ⟨S545x128x2048, .f32⟩
  | .hbm, ⟨55, _⟩ => ⟨S545x128x2048, .f32⟩
  | .hbm, ⟨56, _⟩ => ⟨S_, .f32⟩
  | .hbm, ⟨57, _⟩ => ⟨S545x128x2048, .f32⟩
  | .hbm, ⟨58, _⟩ => ⟨S545x128x2048, .f32⟩
  | .hbm, ⟨59, _⟩ => ⟨S545x128x2048, .f32⟩
  | .hbm, ⟨60, _⟩ => ⟨S_, .i32⟩
  | .hbm, ⟨61, _⟩ => ⟨S545, .i32⟩
  | .hbm, ⟨62, _⟩ => ⟨S545, .i1⟩
  | .hbm, ⟨63, _⟩ => ⟨S_, .i32⟩
  | .hbm, ⟨64, _⟩ => ⟨S545, .i32⟩
  | .hbm, ⟨65, _⟩ => ⟨S545, .i32⟩
  | .hbm, ⟨66, _⟩ => ⟨S545, .i32⟩
  | .hbm, ⟨67, _⟩ => ⟨S545x1, .i32⟩
  | .hbm, ⟨68, _⟩ => ⟨S545x2048x2048, .f32⟩
  | .hbm, ⟨69, _⟩ => ⟨S545x128x2048, .f32⟩
  | .hbm, ⟨70, _⟩ => ⟨S_, .i32⟩
  | .hbm, ⟨71, _⟩ => ⟨S545, .i32⟩
  | .hbm, ⟨72, _⟩ => ⟨S545, .i1⟩
  | .hbm, ⟨73, _⟩ => ⟨S_, .i32⟩
  | .hbm, ⟨74, _⟩ => ⟨S545, .i32⟩
  | .hbm, ⟨75, _⟩ => ⟨S545, .i32⟩
  | .hbm, ⟨76, _⟩ => ⟨S545, .i32⟩
  | .hbm, ⟨77, _⟩ => ⟨S545x1, .i32⟩
  | .hbm, ⟨78, _⟩ => ⟨S545x2048, .f32⟩
  | .hbm, ⟨79, _⟩ => ⟨S545x1x2048, .f32⟩
  | .hbm, ⟨80, _⟩ => ⟨S545x128x2048, .f32⟩
  | .hbm, ⟨81, _⟩ => ⟨S545x128x2048, .f32⟩
  | .hbm, ⟨82, _⟩ => ⟨S545, .i32⟩
  | .hbm, ⟨83, _⟩ => ⟨S545, .i32⟩
  | .hbm, ⟨84, _⟩ => ⟨S545, .i1⟩
  | .hbm, ⟨85, _⟩ => ⟨S545x1x1, .i1⟩
  | .hbm, ⟨86, _⟩ => ⟨S_, .f32⟩
  | .hbm, ⟨87, _⟩ => ⟨S_, .f32⟩
  | .hbm, ⟨88, _⟩ => ⟨S545x128x2048, .i1⟩
  | .hbm, ⟨89, _⟩ => ⟨S545x128x2048, .f32⟩
  | .hbm, ⟨90, _⟩ => ⟨S545x128x2048, .f32⟩
  | .hbm, ⟨91, _⟩ => ⟨S69760x2048, .f32⟩
  | _, _ => ⟨S545, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S16640x2048 : Shape := ⟨2, ![16640, 2048]⟩
abbrev S2048x11344 : Shape := ⟨2, ![2048, 11344]⟩
abbrev S2048x2048 : Shape := ⟨2, ![2048, 2048]⟩
abbrev S2048x4096 : Shape := ⟨2, ![2048, 4096]⟩
abbrev S16640x4096 : Shape := ⟨2, ![16640, 4096]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x4096, .bf16⟩
  | .hbm, ⟨6, _⟩ => ⟨S16640x2048, .bf16⟩
  | .hbm, ⟨7, _⟩ => ⟨S16640x4096, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16640x2048 : Shape := ⟨2, ![16640, 2048]⟩
abbrev S2048x11344 : Shape := ⟨2, ![2048, 11344]⟩
abbrev S16640x11344 : Shape := ⟨2, ![16640, 11344]⟩
abbrev S_ : Shape := ⟨0, ![]⟩
abbrev S16640x4096 : Shape := ⟨2, ![16640, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S16640x11344, .f32⟩
  | .hbm, ⟨3, _⟩ => ⟨S16640x2048, .f32⟩
  | .hbm, ⟨4, _⟩ => ⟨S16640x2048, .f32⟩
  | .hbm, ⟨5, _⟩ => ⟨S16640x2048, .f32⟩
  | .hbm, ⟨6, _⟩ => ⟨S16640x2048, .f32⟩
  | .hbm, ⟨7, _⟩ => ⟨S_, .f32⟩
  | .hbm, ⟨8, _⟩ => ⟨S16640x2048, .f32⟩
  | .hbm, ⟨9, _⟩ => ⟨S16640x2048, .f32⟩
  | .hbm, ⟨10, _⟩ => ⟨S_, .f32⟩
  | .hbm, ⟨11, _⟩ => ⟨S16640x2048, .f32⟩
  | .hbm, ⟨12, _⟩ => ⟨S16640x2048, .f32⟩
  | .hbm, ⟨13, _⟩ => ⟨S16640x2048, .f32⟩
  | .hbm, ⟨14, _⟩ => ⟨S16640x2048, .f32⟩
  | .hbm, ⟨15, _⟩ => ⟨S_, .f32⟩
  | .hbm, ⟨16, _⟩ => ⟨S16640x2048, .f32⟩
  | .hbm, ⟨17, _⟩ => ⟨S16640x2048, .f32⟩
  | .hbm, ⟨18, _⟩ => ⟨S_, .f32⟩
  | .hbm, ⟨19, _⟩ => ⟨S16640x2048, .f32⟩
  | .hbm, ⟨20, _⟩ => ⟨S16640x2048, .f32⟩
  | .hbm, ⟨21, _⟩ => ⟨S16640x4096, .f32⟩
  | .hbm, ⟨22, _⟩ => ⟨S16640x4096, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S16640x2048 : Shape := ⟨2, ![16640, 2048]⟩
abbrev S2048x11344 : Shape := ⟨2, ![2048, 11344]⟩
abbrev S2048x1024 : Shape := ⟨2, ![2048, 1024]⟩
abbrev S2048x2048 : Shape := ⟨2, ![2048, 2048]⟩
abbrev S640x2048 : Shape := ⟨2, ![640, 2048]⟩
abbrev S640x1024 : Shape := ⟨2, ![640, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .bf16⟩
  | .hbm, ⟨6, _⟩ => ⟨S16640x2048, .bf16⟩
  | .hbm, ⟨7, _⟩ => ⟨S16640x2048, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16640x2048 : Shape := ⟨2, ![16640, 2048]⟩
abbrev S2048x11344 : Shape := ⟨2, ![2048, 11344]⟩
abbrev S16640x11344 : Shape := ⟨2, ![16640, 11344]⟩
abbrev S16640x1024 : Shape := ⟨2, ![16640, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S16640x11344, .f32⟩
  | .hbm, ⟨3, _⟩ => ⟨S16640x1024, .f32⟩
  | .hbm, ⟨4, _⟩ => ⟨S16640x1024, .f32⟩
  | .hbm, ⟨5, _⟩ => ⟨S16640x2048, .f32⟩
  | .hbm, ⟨6, _⟩ => ⟨S16640x2048, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16640x2048 : Shape := ⟨2, ![16640, 2048]⟩
abbrev S2048x11344 : Shape := ⟨2, ![2048, 11344]⟩
abbrev S2048x1024 : Shape := ⟨2, ![2048, 1024]⟩
abbrev S2048x4096 : Shape := ⟨2, ![2048, 4096]⟩
abbrev S8320 : Shape := ⟨1, ![8320]⟩
abbrev S_ : Shape := ⟨0, ![]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1x8320x1x128 : Shape := ⟨4, ![1, 8320, 1, 128]⟩
abbrev S1x4096 : Shape := ⟨2, ![1, 4096]⟩
abbrev S16640x4096 : Shape := ⟨2, ![16640, 4096]⟩
abbrev S640x2048 : Shape := ⟨2, ![640, 2048]⟩
abbrev S640x128 : Shape := ⟨2, ![640, 128]⟩
abbrev S1x1024 : Shape := ⟨2, ![1, 1024]⟩
abbrev S640x1024 : Shape := ⟨2, ![640, 1024]⟩

abbrev nBuf : Space → Nat
  | .hbm => 50
  | .vmem => 12
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x4096, .f32⟩
  | .hbm, ⟨7, _⟩ => ⟨S2048x4096, .bf16⟩
  | .hbm, ⟨8, _⟩ => ⟨S8320, .f32⟩
  | .hbm, ⟨9, _⟩ => ⟨S_, .f32⟩
  | .hbm, ⟨10, _⟩ => ⟨S8320, .f32⟩
  | .hbm, ⟨11, _⟩ => ⟨S8320, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S8320x1, .f32⟩
  | .hbm, ⟨29, _⟩ => ⟨S1x64, .f32⟩
  | .hbm, ⟨30, _⟩ => ⟨S8320x64, .f32⟩
  | .hbm, ⟨31, _⟩ => ⟨S8320x64, .f32⟩
  | .hbm, ⟨32, _⟩ => ⟨S8320x64, .f32⟩
  | .hbm, ⟨33, _⟩ => ⟨S8320x64, .f32⟩
  | .hbm, ⟨34, _⟩ => ⟨S8320x64, .f32⟩
  | .hbm, ⟨35, _⟩ => ⟨S8320x128, .f32⟩
  | .hbm, ⟨36, _⟩ => ⟨S8320x64, .f32⟩
  | .hbm, ⟨37, _⟩ => ⟨S8320x64, .f32⟩
  | .hbm, ⟨38, _⟩ => ⟨S8320x64, .f32⟩
  | .hbm, ⟨39, _⟩ => ⟨S8320x128, .f32⟩
  | .hbm, ⟨40, _⟩ => ⟨S1x8320x1x128, .f32⟩
  | .hbm, ⟨41, _⟩ => ⟨S1x8320x1x128, .f32⟩
  | .hbm, ⟨42, _⟩ => ⟨S8320x128, .f32⟩
  | .hbm, ⟨43, _⟩ => ⟨S1x8320x1x128, .f32⟩
  | .hbm, ⟨44, _⟩ => ⟨S1x8320x1x128, .f32⟩
  | .hbm, ⟨45, _⟩ => ⟨S8320x128, .f32⟩
  | .hbm, ⟨46, _⟩ => ⟨S16640x2048, .bf16⟩
  | .hbm, ⟨47, _⟩ => ⟨S_, .f32⟩
  | .hbm, ⟨48, _⟩ => ⟨S1x4096, .f32⟩
  | .hbm, ⟨49, _⟩ => ⟨S16640x4096, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S1x1024, .f32⟩
  | .local _ .vmem, ⟨9, _⟩ => ⟨S1x1024, .f32⟩
  | .local _ .vmem, ⟨10, _⟩ => ⟨S640x1024, .bf16⟩
  | .local _ .vmem, ⟨11, _⟩ => ⟨S640x1024, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![26, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16640x2048 : Shape := ⟨2, ![16640, 2048]⟩
abbrev S2048x11344 : Shape := ⟨2, ![2048, 11344]⟩
abbrev S16640x11344 : Shape := ⟨2, ![16640, 11344]⟩
abbrev S2x8320x11344 : Shape := ⟨3, ![2, 8320, 11344]⟩
abbrev S8320 : Shape := ⟨1, ![8320]⟩
abbrev S_ : Shape := ⟨0, ![]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S2x8320x1024 : Shape := ⟨3, ![2, 8320, 1024]⟩
abbrev S2x8320x8x128 : Shape := ⟨4, ![2, 8320, 8, 128]⟩
abbrev S2x8320x32x128 : Shape := ⟨4, ![2, 8320, 32, 128]⟩
abbrev S2x8320x32x64 : Shape := ⟨4, ![2, 8320, 32, 64]⟩
abbrev S1x8320x1x128 : Shape := ⟨4, ![1, 8320, 1, 128]⟩
abbrev S16640x4096 : Shape := ⟨2, ![16640, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S16640x11344, .f32⟩
  | .hbm, ⟨3, _⟩ => ⟨S2x8320x11344, .f32⟩
  | .hbm, ⟨4, _⟩ => ⟨S8320, .f32⟩
  | .hbm, ⟨5, _⟩ => ⟨S_, .f32⟩
  | .hbm, ⟨6, _⟩ => ⟨S8320, .f32⟩
  | .hbm, ⟨7, _⟩ => ⟨S8320, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S8320x1, .f32⟩
  | .hbm, ⟨25, _⟩ => ⟨S1x64, .f32⟩
  | .hbm, ⟨26, _⟩ => ⟨S8320x64, .f32⟩
  | .hbm, ⟨27, _⟩ => ⟨S8320x64, .f32⟩
  | .hbm, ⟨28, _⟩ => ⟨S8320x64, .f32⟩
  | .hbm, ⟨29, _⟩ => ⟨S8320x128, .f32⟩
  | .hbm, ⟨30, _⟩ => ⟨S8320x128, .f32⟩
  | .hbm, ⟨31, _⟩ => ⟨S8320x128, .f32⟩
  | .hbm, ⟨32, _⟩ => ⟨S2x8320x1024, .f32⟩
  | .hbm, ⟨33, _⟩ => ⟨S2x8320x1024, .f32⟩
  | .hbm, ⟨34, _⟩ => ⟨S2x8320x1024, .f32⟩
  | .hbm, ⟨35, _⟩ => ⟨S2x8320x1024, .f32⟩
  | .hbm, ⟨36, _⟩ => ⟨S2x8320x8x128, .f32⟩
  | .hbm, ⟨37, _⟩ => ⟨S2x8320x8x128, .f32⟩
  | .hbm, ⟨38, _⟩ => ⟨S2x8320x8x128, .f32⟩
  | .hbm, ⟨39, _⟩ => ⟨S2x8320x8x128, .f32⟩
  | .hbm, ⟨40, _⟩ => ⟨S2x8320x32x128, .f32⟩
  | .hbm, ⟨41, _⟩ => ⟨S2x8320x32x64, .f32⟩
  | .hbm, ⟨42, _⟩ => ⟨S2x8320x32x64, .f32⟩
  | .hbm, ⟨43, _⟩ => ⟨S2x8320x32x64, .f32⟩
  | .hbm, ⟨44, _⟩ => ⟨S2x8320x32x128, .f32⟩
  | .hbm, ⟨45, _⟩ => ⟨S1x8320x1x128, .f32⟩
  | .hbm, ⟨46, _⟩ => ⟨S2x8320x32x128, .f32⟩
  | .hbm, ⟨47, _⟩ => ⟨S2x8320x32x128, .f32⟩
  | .hbm, ⟨48, _⟩ => ⟨S1x8320x1x128, .f32⟩
  | .hbm, ⟨49, _⟩ => ⟨S2x8320x32x128, .f32⟩
  | .hbm, ⟨50, _⟩ => ⟨S2x8320x32x128, .f32⟩
  | .hbm, ⟨51, _⟩ => ⟨S2x8320x32x128, .f32⟩
  | .hbm, ⟨52, _⟩ => ⟨S16640x4096, .f32⟩
  | .hbm, ⟨53, _⟩ => ⟨S16640x4096, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel6.lean ====
abbrev S16640x1024 : Shape := ⟨2, ![16640, 1024]⟩
abbrev S16640x4096 : Shape := ⟨2, ![16640, 4096]⟩
abbrev S16640x2048 : Shape := ⟨2, ![16640, 2048]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x96 : Shape := ⟨2, ![2048, 96]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S16640x128 : Shape := ⟨2, ![16640, 128]⟩
abbrev S8x128 : Shape := ⟨2, ![8, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 30
  | .vmem => 26
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x4096, .f32⟩
  | .hbm, ⟨3, _⟩ => ⟨S16640x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x32, .f32⟩
  | .hbm, ⟨9, _⟩ => ⟨S32, .f32⟩
  | .hbm, ⟨10, _⟩ => ⟨S_, .f32⟩
  | .hbm, ⟨11, _⟩ => ⟨S2048x96, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S96, .f32⟩
  | .hbm, ⟨16, _⟩ => ⟨S128, .f32⟩
  | .hbm, ⟨17, _⟩ => ⟨S1x128, .f32⟩
  | .hbm, ⟨18, _⟩ => ⟨S16640x1024, .bf16⟩
  | .hbm, ⟨19, _⟩ => ⟨S16640x1024, .bf16⟩
  | .hbm, ⟨20, _⟩ => ⟨S16640x4096, .bf16⟩
  | .hbm, ⟨21, _⟩ => ⟨S1024x2048, .bf16⟩
  | .hbm, ⟨22, _⟩ => ⟨S1024x2048, .bf16⟩
  | .hbm, ⟨23, _⟩ => ⟨S2048x2048, .bf16⟩
  | .hbm, ⟨24, _⟩ => ⟨S1x2048, .f32⟩
  | .hbm, ⟨25, _⟩ => ⟨S16640x2048, .f32⟩
  | .hbm, ⟨26, _⟩ => ⟨S16640x2048, .bf16⟩
  | .hbm, ⟨27, _⟩ => ⟨S16640x128, .i32⟩
  | .hbm, ⟨28, _⟩ => ⟨S16640x128, .f32⟩
  | .hbm, ⟨29, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x128, .bf16⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S8x128, .f32⟩
  | .local _ .vmem, ⟨25, _⟩ => ⟨S1x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S16640x1024 : Shape := ⟨2, ![16640, 1024]⟩
abbrev S16640x4096 : Shape := ⟨2, ![16640, 4096]⟩
abbrev S16640x2048 : Shape := ⟨2, ![16640, 2048]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S16640 : Shape := ⟨1, ![16640]⟩
abbrev S16640x1 : Shape := ⟨2, ![16640, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x4096, .f32⟩
  | .hbm, ⟨3, _⟩ => ⟨S16640x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x32, .f32⟩
  | .hbm, ⟨9, _⟩ => ⟨S32, .f32⟩
  | .hbm, ⟨10, _⟩ => ⟨S16640x2048, .f32⟩
  | .hbm, ⟨11, _⟩ => ⟨S16640x2048, .f32⟩
  | .hbm, ⟨12, _⟩ => ⟨S16640x2048, .f32⟩
  | .hbm, ⟨13, _⟩ => ⟨S16640x2048, .f32⟩
  | .hbm, ⟨14, _⟩ => ⟨S16640x2048, .f32⟩
  | .hbm, ⟨15, _⟩ => ⟨S16640x2048, .f32⟩
  | .hbm, ⟨16, _⟩ => ⟨S16640x2048, .f32⟩
  | .hbm, ⟨17, _⟩ => ⟨S16640x2048, .f32⟩
  | .hbm, ⟨18, _⟩ => ⟨S16640x2048, .f32⟩
  | .hbm, ⟨19, _⟩ => ⟨S16640x2048, .f32⟩
  | .hbm, ⟨20, _⟩ => ⟨S_, .f32⟩
  | .hbm, ⟨21, _⟩ => ⟨S16640, .f32⟩
  | .hbm, ⟨22, _⟩ => ⟨S16640x1, .f32⟩
  | .hbm, ⟨23, _⟩ => ⟨S_, .f32⟩
  | .hbm, ⟨24, _⟩ => ⟨S16640x1, .f32⟩
  | .hbm, ⟨25, _⟩ => ⟨S16640x1, .f32⟩
  | .hbm, ⟨26, _⟩ => ⟨S_, .f32⟩
  | .hbm, ⟨27, _⟩ => ⟨S16640x1, .f32⟩
  | .hbm, ⟨28, _⟩ => ⟨S16640x1, .f32⟩
  | .hbm, ⟨29, _⟩ => ⟨S16640x1, .f32⟩
  | .hbm, ⟨30, _⟩ => ⟨S16640x2048, .f32⟩
  | .hbm, ⟨31, _⟩ => ⟨S16640x2048, .f32⟩
  | .hbm, ⟨32, _⟩ => ⟨S1x2048, .f32⟩
  | .hbm, ⟨33, _⟩ => ⟨S16640x2048, .f32⟩
  | .hbm, ⟨34, _⟩ => ⟨S16640x2048, .f32⟩
  | .hbm, ⟨35, _⟩ => ⟨S16640x2048, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel7.lean ====
abbrev S16640x2048 : Shape := ⟨2, ![16640, 2048]⟩
abbrev S2048x11344 : Shape := ⟨2, ![2048, 11344]⟩
abbrev S_ : Shape := ⟨0, ![]⟩
abbrev S2048x64 : Shape := ⟨2, ![2048, 64]⟩
abbrev S2048x1024 : Shape := ⟨2, ![2048, 1024]⟩
abbrev S2048x1280 : Shape := ⟨2, ![2048, 1280]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S1x8320x1x64 : Shape := ⟨4, ![1, 8320, 1, 64]⟩
abbrev S1x8320x2x64 : Shape := ⟨4, ![1, 8320, 2, 64]⟩
abbrev S8320x128 : Shape := ⟨2, ![8320, 128]⟩
abbrev S1x1280 : Shape := ⟨2, ![1, 1280]⟩
abbrev S16640x1280 : Shape := ⟨2, ![16640, 1280]⟩
abbrev S640x2048 : Shape := ⟨2, ![640, 2048]⟩
abbrev S2048x640 : Shape := ⟨2, ![2048, 640]⟩
abbrev S640x128 : Shape := ⟨2, ![640, 128]⟩
abbrev S1x640 : Shape := ⟨2, ![1, 640]⟩
abbrev S640x640 : Shape := ⟨2, ![640, 640]⟩

abbrev nBuf : Space → Nat
  | .hbm => 51
  | .vmem => 12
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S_, .f32⟩
  | .hbm, ⟨3, _⟩ => ⟨S2048x64, .f32⟩
  | .hbm, ⟨4, _⟩ => ⟨S2048x1024, .f32⟩
  | .hbm, ⟨5, _⟩ => ⟨S2048x64, .f32⟩
  | .hbm, ⟨6, _⟩ => ⟨S2048x64, .f32⟩
  | .hbm, ⟨7, _⟩ => ⟨S2048x1280, .f32⟩
  | .hbm, ⟨8, _⟩ => ⟨S2048x1280, .bf16⟩
  | .hbm, ⟨9, _⟩ => ⟨S8320, .f32⟩
  | .hbm, ⟨10, _⟩ => ⟨S_, .f32⟩
  | .hbm, ⟨11, _⟩ => ⟨S8320, .f32⟩
  | .hbm, ⟨12, _⟩ => ⟨S8320, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8320x1, .f32⟩
  | .hbm, ⟨30, _⟩ => ⟨S1x32, .f32⟩
  | .hbm, ⟨31, _⟩ => ⟨S8320x32, .f32⟩
  | .hbm, ⟨32, _⟩ => ⟨S8320x32, .f32⟩
  | .hbm, ⟨33, _⟩ => ⟨S8320x32, .f32⟩
  | .hbm, ⟨34, _⟩ => ⟨S8320x32, .f32⟩
  | .hbm, ⟨35, _⟩ => ⟨S8320x32, .f32⟩
  | .hbm, ⟨36, _⟩ => ⟨S8320x64, .f32⟩
  | .hbm, ⟨37, _⟩ => ⟨S8320x32, .f32⟩
  | .hbm, ⟨38, _⟩ => ⟨S8320x32, .f32⟩
  | .hbm, ⟨39, _⟩ => ⟨S8320x32, .f32⟩
  | .hbm, ⟨40, _⟩ => ⟨S8320x64, .f32⟩
  | .hbm, ⟨41, _⟩ => ⟨S1x8320x1x64, .f32⟩
  | .hbm, ⟨42, _⟩ => ⟨S1x8320x2x64, .f32⟩
  | .hbm, ⟨43, _⟩ => ⟨S8320x128, .f32⟩
  | .hbm, ⟨44, _⟩ => ⟨S1x8320x1x64, .f32⟩
  | .hbm, ⟨45, _⟩ => ⟨S1x8320x2x64, .f32⟩
  | .hbm, ⟨46, _⟩ => ⟨S8320x128, .f32⟩
  | .hbm, ⟨47, _⟩ => ⟨S16640x2048, .bf16⟩
  | .hbm, ⟨48, _⟩ => ⟨S_, .f32⟩
  | .hbm, ⟨49, _⟩ => ⟨S1x1280, .f32⟩
  | .hbm, ⟨50, _⟩ => ⟨S16640x1280, .bf16⟩
  | .local _ .vmem, ⟨0, _⟩ => ⟨S640x2048, .bf16⟩
  | .local _ .vmem, ⟨1, _⟩ => ⟨S640x2048, .bf16⟩
  | .local _ .vmem, ⟨2, _⟩ => ⟨S2048x640, .bf16⟩
  | .local _ .vmem, ⟨3, _⟩ => ⟨S2048x640, .bf16⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S1x640, .f32⟩
  | .local _ .vmem, ⟨9, _⟩ => ⟨S1x640, .f32⟩
  | .local _ .vmem, ⟨10, _⟩ => ⟨S640x640, .bf16⟩
  | .local _ .vmem, ⟨11, _⟩ => ⟨S640x640, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16640x2048 : Shape := ⟨2, ![16640, 2048]⟩
abbrev S2048x11344 : Shape := ⟨2, ![2048, 11344]⟩
abbrev S16640x11344 : Shape := ⟨2, ![16640, 11344]⟩
abbrev S2x8320x11344 : Shape := ⟨3, ![2, 8320, 11344]⟩
abbrev S8320 : Shape := ⟨1, ![8320]⟩
abbrev S_ : Shape := ⟨0, ![]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S2x8320x1024 : Shape := ⟨3, ![2, 8320, 1024]⟩
abbrev S2x8320x16x64 : Shape := ⟨4, ![2, 8320, 16, 64]⟩
abbrev S2x8320x64 : Shape := ⟨3, ![2, 8320, 64]⟩
abbrev S2x8320x1x64 : Shape := ⟨4, ![2, 8320, 1, 64]⟩
abbrev S2x8320x16x32 : Shape := ⟨4, ![2, 8320, 16, 32]⟩
abbrev S1x8320x1x64 : Shape := ⟨4, ![1, 8320, 1, 64]⟩
abbrev S2x8320x1x32 : Shape := ⟨4, ![2, 8320, 1, 32]⟩
abbrev S2x8320x20x64 : Shape := ⟨4, ![2, 8320, 20, 64]⟩
abbrev S16640x1280 : Shape := ⟨2, ![16640, 1280]⟩

abbrev nBuf : Space → Nat
  | .hbm => 63
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S16640x11344, .f32⟩
  | .hbm, ⟨3, _⟩ => ⟨S2x8320x11344, .f32⟩
  | .hbm, ⟨4, _⟩ => ⟨S8320, .f32⟩
  | .hbm, ⟨5, _⟩ => ⟨S_, .f32⟩
  | .hbm, ⟨6, _⟩ => ⟨S8320, .f32⟩
  | .hbm, ⟨7, _⟩ => ⟨S8320, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8320x1, .f32⟩
  | .hbm, ⟨25, _⟩ => ⟨S1x32, .f32⟩
  | .hbm, ⟨26, _⟩ => ⟨S8320x32, .f32⟩
  | .hbm, ⟨27, _⟩ => ⟨S8320x32, .f32⟩
  | .hbm, ⟨28, _⟩ => ⟨S8320x32, .f32⟩
  | .hbm, ⟨29, _⟩ => ⟨S8320x64, .f32⟩
  | .hbm, ⟨30, _⟩ => ⟨S8320x64, .f32⟩
  | .hbm, ⟨31, _⟩ => ⟨S8320x64, .f32⟩
  | .hbm, ⟨32, _⟩ => ⟨S2x8320x1024, .f32⟩
  | .hbm, ⟨33, _⟩ => ⟨S2x8320x16x64, .f32⟩
  | .hbm, ⟨34, _⟩ => ⟨S2x8320x64, .f32⟩
  | .hbm, ⟨35, _⟩ => ⟨S2x8320x1x64, .f32⟩
  | .hbm, ⟨36, _⟩ => ⟨S2x8320x16x32, .f32⟩
  | .hbm, ⟨37, _⟩ => ⟨S2x8320x16x32, .f32⟩
  | .hbm, ⟨38, _⟩ => ⟨S2x8320x16x32, .f32⟩
  | .hbm, ⟨39, _⟩ => ⟨S2x8320x16x64, .f32⟩
  | .hbm, ⟨40, _⟩ => ⟨S1x8320x1x64, .f32⟩
  | .hbm, ⟨41, _⟩ => ⟨S2x8320x16x64, .f32⟩
  | .hbm, ⟨42, _⟩ => ⟨S2x8320x16x64, .f32⟩
  | .hbm, ⟨43, _⟩ => ⟨S1x8320x1x64, .f32⟩
  | .hbm, ⟨44, _⟩ => ⟨S2x8320x16x64, .f32⟩
  | .hbm, ⟨45, _⟩ => ⟨S2x8320x16x64, .f32⟩
  | .hbm, ⟨46, _⟩ => ⟨S2x8320x16x64, .f32⟩
  | .hbm, ⟨47, _⟩ => ⟨S2x8320x1x32, .f32⟩
  | .hbm, ⟨48, _⟩ => ⟨S2x8320x1x32, .f32⟩
  | .hbm, ⟨49, _⟩ => ⟨S2x8320x1x32, .f32⟩
  | .hbm, ⟨50, _⟩ => ⟨S2x8320x1x64, .f32⟩
  | .hbm, ⟨51, _⟩ => ⟨S1x8320x1x64, .f32⟩
  | .hbm, ⟨52, _⟩ => ⟨S2x8320x1x64, .f32⟩
  | .hbm, ⟨53, _⟩ => ⟨S2x8320x1x64, .f32⟩
  | .hbm, ⟨54, _⟩ => ⟨S1x8320x1x64, .f32⟩
  | .hbm, ⟨55, _⟩ => ⟨S2x8320x1x64, .f32⟩
  | .hbm, ⟨56, _⟩ => ⟨S2x8320x1x64, .f32⟩
  | .hbm, ⟨57, _⟩ => ⟨S2x8320x1x64, .f32⟩
  | .hbm, ⟨58, _⟩ => ⟨S_, .f32⟩
  | .hbm, ⟨59, _⟩ => ⟨S2x8320x1x64, .f32⟩
  | .hbm, ⟨60, _⟩ => ⟨S2x8320x20x64, .f32⟩
  | .hbm, ⟨61, _⟩ => ⟨S16640x1280, .f32⟩
  | .hbm, ⟨62, _⟩ => ⟨S16640x1280, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_5 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== Kernel8.lean ====
abbrev S16640x2048 : Shape := ⟨2, ![16640, 2048]⟩
abbrev S2048x11344 : Shape := ⟨2, ![2048, 11344]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩
abbrev S16640x128 : Shape := ⟨2, ![16640, 128]⟩
abbrev S640x2048 : Shape := ⟨2, ![640, 2048]⟩
abbrev S640x128 : Shape := ⟨2, ![640, 128]⟩

abbrev nBuf : Space → Nat
  | .hbm => 9
  | .vmem => 5
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S2048x16, .f32⟩
  | .hbm, ⟨3, _⟩ => ⟨S_, .f32⟩
  | .hbm, ⟨4, _⟩ => ⟨S2048x112, .f32⟩
  | .hbm, ⟨5, _⟩ => ⟨S2048x128, .f32⟩
  | .hbm, ⟨6, _⟩ => ⟨S2048x128, .bf16⟩
  | .hbm, ⟨7, _⟩ => ⟨S16640x2048, .bf16⟩
  | .hbm, ⟨8, _⟩ => ⟨S16640x128, .f32⟩
  | .local _ .vmem, ⟨0, _⟩ => ⟨S640x2048, .bf16⟩
  | .local _ .vmem, ⟨1, _⟩ => ⟨S640x2048, .bf16⟩
  | .local _ .vmem, ⟨2, _⟩ => ⟨S2048x128, .bf16⟩
  | .local _ .vmem, ⟨3, _⟩ => ⟨S640x128, .f32⟩
  | .local _ .vmem, ⟨4, _⟩ => ⟨S640x128, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16640x2048 : Shape := ⟨2, ![16640, 2048]⟩
abbrev S2048x11344 : Shape := ⟨2, ![2048, 11344]⟩
abbrev S16640x11344 : Shape := ⟨2, ![16640, 11344]⟩
abbrev S16640x16 : Shape := ⟨2, ![16640, 16]⟩
abbrev S_ : Shape := ⟨0, ![]⟩
abbrev S16640x112 : Shape := ⟨2, ![16640, 112]⟩
abbrev S16640x128 : Shape := ⟨2, ![16640, 128]⟩

abbrev nBuf : Space → Nat
  | .hbm => 10
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048x11344, .f32⟩
  | .hbm, ⟨2, _⟩ => ⟨S16640x11344, .f32⟩
  | .hbm, ⟨3, _⟩ => ⟨S16640x16, .f32⟩
  | .hbm, ⟨4, _⟩ => ⟨S_, .f32⟩
  | .hbm, ⟨5, _⟩ => ⟨S16640x16, .f32⟩
  | .hbm, ⟨6, _⟩ => ⟨S16640x16, .f32⟩
  | .hbm, ⟨7, _⟩ => ⟨S_, .f32⟩
  | .hbm, ⟨8, _⟩ => ⟨S16640x112, .f32⟩
  | .hbm, ⟨9, _⟩ => ⟨S16640x128, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S2x8192x2048 : Shape := ⟨3, ![2, 8192, 2048]⟩
abbrev S16x2048 : Shape := ⟨2, ![16, 2048]⟩
abbrev S2048 : Shape := ⟨1, ![2048]⟩
abbrev S_ : Shape := ⟨0, ![]⟩
abbrev S112x2048 : Shape := ⟨2, ![112, 2048]⟩
abbrev S128x2048 : Shape := ⟨2, ![128, 2048]⟩
abbrev S16384x2048 : Shape := ⟨2, ![16384, 2048]⟩
abbrev S1x2048 : Shape := ⟨2, ![1, 2048]⟩
abbrev S16640x2048 : Shape := ⟨2, ![16640, 2048]⟩
abbrev S128 : Shape := ⟨1, ![128]⟩
abbrev S128x1 : Shape := ⟨2, ![128, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S16x2048, .f32⟩
  | .hbm, ⟨2, _⟩ => ⟨S2048, .f32⟩
  | .hbm, ⟨3, _⟩ => ⟨S_, .f32⟩
  | .hbm, ⟨4, _⟩ => ⟨S112x2048, .f32⟩
  | .hbm, ⟨5, _⟩ => ⟨S128x2048, .f32⟩
  | .hbm, ⟨6, _⟩ => ⟨S16384x2048, .f32⟩
  | .hbm, ⟨7, _⟩ => ⟨S1x2048, .f32⟩
  | .hbm, ⟨8, _⟩ => ⟨S16640x2048, .f32⟩
  | .hbm, ⟨9, _⟩ => ⟨S16640x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c65_i32 : BitVec 32 := 65#32
  let c0_i32 : BitVec 32 := 0#32
  let v0 : BitVec 1 := Scalar.cmpi .eq c65_i32 c0_i32
  let c1_i32 : BitVec 32 := 1#32
  let v1 : BitVec 32 := Scalar.select v0 c1_i32 c65_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let c0_i32_4 : BitVec 32 := 0#32
  let c0_i32_5 : BitVec 32 := 0#32
  ![v10.toNat, c0_i32_4.toNat]

def cc0_transform_1 (i : grid0.Coords) : Fin 2 → Nat :=
  let arg0 : BitVec 32 := BitVec.ofNat 32 (i 0).val
  let c65_i32 : BitVec 32 := 65#32
  let v0 : BitVec 32 := Scalar.divsi arg0 c65_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c65_i32 c0_i32_1
  let v7 : BitVec 32 := Scalar.extui v6
  let c0_i32_2 : BitVec 32 := 0#32
  let v8 : BitVec 1 := Scalar.cmpi .slt c65_i32 c0_i32_2
  let v9 : BitVec 32 := Scalar.extui v8
  let v10 : BitVec 32 := Scalar.subi v7 v9
  let v11 : BitVec 1 := Scalar.cmpi .ne v5 v10
  let v12 : BitVec 32 := Scalar.remsi arg0 c65_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let c65_i32_4 : BitVec 32 := 65#32
  let c0_i32_5 : BitVec 32 := 0#32
  let v18 : BitVec 1 := Scalar.cmpi .eq c65_i32_4 c0_i32_5
  let c1_i32_6 : BitVec 32 := 1#32
  let v19 : BitVec 32 := Scalar.select v18 c1_i32_6 c65_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2x8192x2048 : Shape := ⟨3, ![2, 8192, 2048]⟩
abbrev S16x2048 : Shape := ⟨2, ![16, 2048]⟩
abbrev S2048 : Shape := ⟨1, ![2048]⟩
abbrev S1x16x2048 : Shape := ⟨3, ![1, 16, 2048]⟩
abbrev S2x16x2048 : Shape := ⟨3, ![2, 16, 2048]⟩
abbrev S_ : Shape := ⟨0, ![]⟩
abbrev S2x112x2048 : Shape := ⟨3, ![2, 112, 2048]⟩
abbrev S2x8320x2048 : Shape := ⟨3, ![2, 8320, 2048]⟩
abbrev S16640x2048 : Shape := ⟨2, ![16640, 2048]⟩
abbrev S16640 : Shape := ⟨1, ![16640]⟩
abbrev S16640x1 : Shape := ⟨2, ![16640, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16x2048, .f32⟩
  | .hbm, ⟨2, _⟩ => ⟨S2048, .f32⟩
  | .hbm, ⟨3, _⟩ => ⟨S1x16x2048, .f32⟩
  | .hbm, ⟨4, _⟩ => ⟨S2x16x2048, .f32⟩
  | .hbm, ⟨5, _⟩ => ⟨S_, .f32⟩
  | .hbm, ⟨6, _⟩ => ⟨S2x112x2048, .f32⟩
  | .hbm, ⟨7, _⟩ => ⟨S2x8320x2048, .f32⟩
  | .hbm, ⟨8, _⟩ => ⟨S16640x2048, .f32⟩
  | .hbm, ⟨9, _⟩ => ⟨S16640x2048, .f32⟩
  | .hbm, ⟨10, _⟩ => ⟨S_, .f32⟩
  | .hbm, ⟨11, _⟩ => ⟨S16640, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S16640x1, .f32⟩
  | .hbm, ⟨20, _⟩ => ⟨S16640x2048, .f32⟩
  | .hbm, ⟨21, _⟩ => ⟨S16640x2048, .f32⟩
  | .hbm, ⟨22, _⟩ => ⟨S1x2048, .f32⟩
  | .hbm, ⟨23, _⟩ => ⟨S16640x2048, .f32⟩
  | .hbm, ⟨24, _⟩ => ⟨S16640x2048, .f32⟩
  | .hbm, ⟨25, _⟩ => ⟨S16640x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel10.lean ====
abbrev S32x2048x4096 : Shape := ⟨3, ![32, 2048, 4096]⟩
abbrev S1x256x4096 : Shape := ⟨3, ![1, 256, 4096]⟩
abbrev S256x256 : Shape := ⟨2, ![256, 256]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S32x2048x4096, .f32⟩
  | .hbm, ⟨1, _⟩ => ⟨S32x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | _, _ => ⟨S32x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference10Ideal.lean ====
abbrev S32x2048x4096 : Shape := ⟨3, ![32, 2048, 4096]⟩
abbrev S32x2048x16x128x2 : Shape := ⟨5, ![32, 2048, 16, 128, 2]⟩
abbrev S32x2048x16x128x1 : Shape := ⟨5, ![32, 2048, 16, 128, 1]⟩
abbrev S32x2048x16x128 : Shape := ⟨4, ![32, 2048, 16, 128]⟩
abbrev S32x2048x16x256 : Shape := ⟨4, ![32, 2048, 16, 256]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x4096, .f32⟩
  | .hbm, ⟨1, _⟩ => ⟨S32x2048x16x128x2, .f32⟩
  | .hbm, ⟨2, _⟩ => ⟨S32x2048x16x128x1, .f32⟩
  | .hbm, ⟨3, _⟩ => ⟨S32x2048x16x128, .f32⟩
  | .hbm, ⟨4, _⟩ => ⟨S32x2048x16x128x1, .f32⟩
  | .hbm, ⟨5, _⟩ => ⟨S32x2048x16x128, .f32⟩
  | .hbm, ⟨6, _⟩ => ⟨S32x2048x16x256, .f32⟩
  | .hbm, ⟨7, _⟩ => ⟨S32x2048x4096, .f32⟩
  | .hbm, ⟨8, _⟩ => ⟨S32x2048x4096, .bf16⟩
  | _, _ => ⟨S32x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Proof.Body.lean ====
/-
  The kernel's body said once: one program over any buffers and any scalar type, of which both printed kernels are
  instances (Kernel and KernelIdeal print the same text in two namespaces).  A GROUP is the work on 128 query rows against
  the first `kw` rows of a key tile: the scores of the 8 score sets, their probabilities, and the 8 accumulators.
-/
module

public import Idealize.ShloMosaic.Lib.Pipeline
public import Idealize.ShloMosaic.Lib.Scf
public import Idealize.ShloMosaic.PureOps

@[expose] public section

noncomputable section

namespace Cert.Attn

open Idealize.ShloMosaic Idealize.SL.Sem

/-- A matrix shape, -/
abbrev Sh2 (a b : ℕ) : Shape := ⟨2, ![a, b]⟩
/-- a shape of three axes, -/
abbrev Sh3 (a b c : ℕ) : Shape := ⟨3, ![a, b, c]⟩
/-- and a vector's. -/
abbrev Sh1 (a : ℕ) : Shape := ⟨1, ![a]⟩

/-- The side conditions of the shape operations of a group whose key tile is read to its row `kw`. -/
structure KF (kw : ℕ) : Prop where
  pos : 0 < kw
  le : kw ≤ 640
  scK : (Sh2 kw 128).ShapeCasts (Sh2 kw 128)
  scV : (Sh2 kw 256).ShapeCasts (Sh2 kw 256)
  scD : (Sh3 1 128 kw).ShapeCasts (Sh2 128 kw)
  scU : (Sh2 128 kw).ShapeCasts (Sh3 1 128 kw)
  red : (Sh2 128 kw).Reduces [1] (Sh1 128)
  bc : (Sh2 128 1).Broadcasts (Sh2 128 kw)
  hk : 0 < (Sh2 kw 128).numel
  hv : 0 < (Sh2 kw 256).numel
  hs : 0 < (Sh3 1 128 kw).numel
  inbK : ∀ c : Fin 8, ∀ a, (![0, 128 * c.val] : Fin 2 → ℕ) a + (Sh2 kw 128).size a ≤ (Sh2 640 1024).size a
  inbV : ∀ c : Fin 8, ∀ a, (![0, (c.val / 2) * 256] : Fin 2 → ℕ) a + (Sh2 kw 256).size a ≤ (Sh2 640 1024).size a
  inbS : ∀ c : Fin 8, ∀ a, (![c.val, 0, 0] : Fin 3 → ℕ) a + (Sh3 1 128 kw).size a ≤ (Sh3 8 128 640).size a

/-- The side conditions that do not speak of the key tile. -/
structure GF : Prop where
  scQ : (Sh2 128 128).ShapeCasts (Sh2 128 128)
  scA : (Sh3 1 128 256).ShapeCasts (Sh2 128 256)
  scA' : (Sh2 128 256).ShapeCasts (Sh3 1 128 256)
  scC : (Sh1 128).ShapeCasts (Sh2 128 1)
  scC' : (Sh2 128 1).ShapeCasts (Sh2 128 1)
  bcM : (Sh2 128 1).Broadcasts (Sh2 128 128)
  bcA : (Sh2 128 1).Broadcasts (Sh2 128 256)
  sl : ∀ c : Fin 8, (Sh2 128 128).Slices ![0, c.val] (Sh2 128 1)
  lane : (Sh2 128 128).Iotas .tc 32 [1]
  tr : FTy.bf16.bits < FTy.f32.bits
  hm : 0 < (Sh2 128 128).numel
  ha : 0 < (Sh3 1 128 256).numel

theorem gf : GF := by
  constructor <;> first | decide | exact fun c => by fin_cases c <;> decide

theorem inbQ {r : ℕ} (hr : r + 128 ≤ 640) (c : Fin 8) :
    ∀ a, (![r, 128 * c.val] : Fin 2 → ℕ) a + (Sh2 128 128).size a ≤ (Sh2 640 1024).size a :=
  Fin.forall_fin_two.mpr ⟨hr, by show 128 * c.val + 128 ≤ 1024; omega⟩
theorem inbM {r : ℕ} (hr : r + 128 ≤ 640) :
    ∀ a, (![r, 0] : Fin 2 → ℕ) a + (Sh2 128 128).size a ≤ (Sh2 640 128).size a :=
  Fin.forall_fin_two.mpr ⟨hr, by show 0 + 128 ≤ 128; omega⟩
theorem inbA {r : ℕ} (hr : r + 128 ≤ 640) (c : Fin 8) :
    ∀ a, (![c.val, r, 0] : Fin 3 → ℕ) a + (Sh3 1 128 256).size a ≤ (Sh3 8 640 256).size a := by
  intro a; fin_cases a
  · show c.val + 1 ≤ 8; omega
  · show r + 128 ≤ 640; exact hr
  · show 0 + 256 ≤ 256; omega

variable {nD : ℕ} {τ : Topo} {sig : RefSig} {Λ : Labels} {F : FTy → Type} [FloatOps F]

/-- The buffers a step works on: the query, key and value windows, the running maxima and denominators, the scores and
    probabilities of the group at hand, and the accumulators. -/
structure Mems (sig : RefSig) where
  q : Memref sig .tc .vmem (Sh2 640 1024) .bf16
  k : Memref sig .tc .vmem (Sh2 640 1024) .bf16
  v : Memref sig .tc .vmem (Sh2 640 1024) .bf16
  m : Memref sig .tc .vmem (Sh2 640 128) .f32
  l : Memref sig .tc .vmem (Sh2 640 128) .f32
  s : Memref sig .tc .vmem (Sh3 8 128 640) .f32
  p : Memref sig .tc .vmem (Sh3 8 128 640) .bf16
  a : Memref sig .tc .vmem (Sh3 8 640 256) .f32

/-- Where a group reads its queries, -/
abbrev rQ {r : ℕ} (hr : r + 128 ≤ 640) (c : Fin 8) : Rect (Sh2 640 1024) :=
  Rect.unit (s := Sh2 640 1024) ![r, 128 * c.val] (Sh2 128 128).size (inbQ hr c)
/-- its keys, -/
abbrev rK {kw : ℕ} (kf : KF kw) (c : Fin 8) : Rect (Sh2 640 1024) :=
  Rect.unit (s := Sh2 640 1024) ![0, 128 * c.val] (Sh2 kw 128).size (kf.inbK c)
/-- its values, -/
abbrev rV {kw : ℕ} (kf : KF kw) (c : Fin 8) : Rect (Sh2 640 1024) :=
  Rect.unit (s := Sh2 640 1024) ![0, (c.val / 2) * 256] (Sh2 kw 256).size (kf.inbV c)
/-- its maxima and denominators, -/
abbrev rM {r : ℕ} (hr : r + 128 ≤ 640) : Rect (Sh2 640 128) :=
  Rect.unit (s := Sh2 640 128) ![r, 0] (Sh2 128 128).size (inbM hr)
/-- its scores and probabilities, -/
abbrev rS {kw : ℕ} (kf : KF kw) (c : Fin 8) : Rect (Sh3 8 128 640) :=
  Rect.unit (s := Sh3 8 128 640) ![c.val, 0, 0] (Sh3 1 128 kw).size (kf.inbS c)
/-- and its accumulators. -/
abbrev rA {r : ℕ} (hr : r + 128 ≤ 640) (c : Fin 8) : Rect (Sh3 8 640 256) :=
  Rect.unit (s := Sh3 8 640 256) ![c.val, r, 0] (Sh3 1 128 256).size (inbA hr c)

/-- The lane numbers of a 128 × 128 tile. -/
abbrev lanes : IVec (Sh2 128 128) 32 := iota .tc (Sh2 128 128) 32 [1] gf.lane

/-- The score tile of one set: the queries against the keys, and on a masked tile the mask added. -/
def scorePay {kw : ℕ} (kf : KF kw) (bias : Option (FVec F (Sh2 128 kw) .f32)) (q : Vec F (Sh2 128 128) .bf16)
    (k : Vec F (Sh2 kw 128) .bf16) : FVec F (Sh2 128 kw) .f32 :=
  match bias with
  | none => FloatOps.matmul (DotDims.transposedRhs 128 128 kw) none (shapeCast (Sh2 128 128) q gf.scQ) (shapeCast (Sh2 kw 128) k kf.scK)
      (constant (Sh2 128 kw) .f32 0x00000000#32)
  | some b => addf (FloatOps.matmul (DotDims.transposedRhs 128 128 kw) none (shapeCast (Sh2 128 128) q gf.scQ) (shapeCast (Sh2 kw 128) k kf.scK)
      (constant (Sh2 128 kw) .f32 0x00000000#32)) b

/-- The row maxima of a score tile placed in lane `c`, the other lanes as they were. -/
def maxPay {kw : ℕ} (kf : KF kw) (c : Fin 8) (s : FVec F (Sh2 128 kw) .f32) (m : FVec F (Sh2 128 128) .f32) :
    FVec F (Sh2 128 128) .f32 :=
  select (cmpi .eq lanes (broadcast (Sh2 128 128) (BitVec.ofNat 32 c.val)))
    (broadcastTo (Sh2 128 128) (shapeCast (Sh2 128 1) (shapeCast (Sh2 128 1)
      (multiReduction .maximumf [1] (Sh1 128) s 0xFF800000#32 kf.red (.inl rfl) rfl) gf.scC) gf.scC') gf.bcM) m

/-- The probabilities of one set from its scores and the new maxima. -/
def probPay {kw : ℕ} (kf : KF kw) (c : Fin 8) (mNew : FVec F (Sh2 128 128) .f32) (s : Vec F (Sh3 1 128 kw) .f32) :
    FVec F (Sh2 128 kw) .f32 :=
  exp2 (subf (shapeCast (Sh2 128 kw) s kf.scD)
    (broadcastTo (Sh2 128 kw) (extractStridedSlice (Sh2 128 1) ![0, c.val] mNew (gf.sl c)) kf.bc))

/-- The row sums of the probabilities added in lane `c`. -/
def sumPay {kw : ℕ} (kf : KF kw) (c : Fin 8) (p : FVec F (Sh2 128 kw) .f32) (l : FVec F (Sh2 128 128) .f32) :
    FVec F (Sh2 128 128) .f32 :=
  addf l (select (cmpi .eq lanes (broadcast (Sh2 128 128) (BitVec.ofNat 32 c.val)))
    (broadcastTo (Sh2 128 128) (shapeCast (Sh2 128 1) (shapeCast (Sh2 128 1)
      (multiReduction .add [1] (Sh1 128) p 0x00000000#32 kf.red (.inl rfl) rfl) gf.scC) gf.scC') gf.bcM)
    (broadcast (Sh2 128 128) (Scalar.ofBits .f32 0x00000000#32)))

/-- The new accumulator of one set. -/
def accPay {kw : ℕ} (kf : KF kw) (c : Fin 8) (alpha : FVec F (Sh2 128 128) .f32) (v : Vec F (Sh2 kw 256) .bf16)
    (a : Vec F (Sh3 1 128 256) .f32) (p : Vec F (Sh3 1 128 kw) .bf16) : FVec F (Sh2 128 256) .f32 :=
  addf (mulf (broadcastTo (Sh2 128 256) (extractStridedSlice (Sh2 128 1) ![0, c.val] alpha (gf.sl c)) gf.bcA)
      (shapeCast (Sh2 128 256) a gf.scA))
    (FloatOps.matmul (DotDims.plain 128 kw 256) none (shapeCast (Sh2 128 kw) p kf.scD : FVec F (Sh2 128 kw) .bf16)
      (shapeCast (Sh2 kw 256) v kf.scV : FVec F (Sh2 kw 256) .bf16) (constant (Sh2 128 256) .f32 0x00000000#32))

/-- The scores of the sets of the list, one after another, each tile stored; the running maxima are handed on. -/
def scores {α : Type} (M : Mems sig) {kw r : ℕ} (kf : KF kw) (hr : r + 128 ≤ 640) (bias : Option (FVec F (Sh2 128 kw) .f32)) :
    List (Fin 8) → FVec F (Sh2 128 128) .f32 → (FVec F (Sh2 128 128) .f32 → Prog (TpuEff nD τ sig (Elt F) Λ .tc) α) → Prog (TpuEff nD τ sig (Elt F) Λ .tc) α
  | [], m, k => k m
  | c :: cs, m, k =>
    .op (.load M.q (rQ hr c).toLoadRect (View.loadsAt_vmem gf.hm)) fun q =>
    .op (.load M.k (rK kf c).toLoadRect (View.loadsAt_vmem kf.hk)) fun kk =>
    .op (.load M.s (rS kf c).toLoadRect (View.loadsAt_vmem kf.hs)) fun _ =>
    .op (.store M.s (rS kf c) (shapeCast (Sh3 1 128 kw) (scorePay kf bias q kk) kf.scU) Finset.univ
      (View.stores_vmem_bits_univ kf.hs rfl) (.inl rfl)) fun _ =>
    scores M kf hr bias cs (maxPay kf c (scorePay kf bias q kk) m) k

/-- The probabilities of the sets of the list, stored in the narrow format; the running denominators are handed on. -/
def probs {α : Type} (M : Mems sig) {kw : ℕ} (kf : KF kw)
    (hst : ∀ c, (M.p.access (rS kf c)).Stores Finset.univ) (mNew : FVec F (Sh2 128 128) .f32) :
    List (Fin 8) → FVec F (Sh2 128 128) .f32 → (FVec F (Sh2 128 128) .f32 → Prog (TpuEff nD τ sig (Elt F) Λ .tc) α) → Prog (TpuEff nD τ sig (Elt F) Λ .tc) α
  | [], l, k => k l
  | c :: cs, l, k =>
    .op (.load M.s (rS kf c).toLoadRect (View.loadsAt_vmem kf.hs)) fun s =>
    .op (.load M.p (rS kf c).toLoadRect (View.loadsAt_vmem kf.hs)) fun _ =>
    .op (.store M.p (rS kf c) (shapeCast (Sh3 1 128 kw) (truncf .bf16 (probPay kf c mNew s) gf.tr : FVec F (Sh2 128 kw) .bf16) kf.scU)
      Finset.univ (hst c) (.inl rfl)) fun _ =>
    probs M kf hst mNew cs (sumPay kf c (probPay kf c mNew s) l) k

/-- The accumulators of the sets of the list. -/
def accs {α : Type} (M : Mems sig) {kw r : ℕ} (kf : KF kw) (hr : r + 128 ≤ 640) (alpha : FVec F (Sh2 128 128) .f32) :
    List (Fin 8) → Prog (TpuEff nD τ sig (Elt F) Λ .tc) α → Prog (TpuEff nD τ sig (Elt F) Λ .tc) α
  | [], k => k
  | c :: cs, k =>
    .op (.load M.v (rV kf c).toLoadRect (View.loadsAt_vmem kf.hv)) fun v =>
    .op (.load M.a (rA hr c).toLoadRect (View.loadsAt_vmem gf.ha)) fun a =>
    .op (.load M.p (rS kf c).toLoadRect (View.loadsAt_vmem kf.hs)) fun p =>
    .op (.load M.a (rA hr c).toLoadRect (View.loadsAt_vmem gf.ha)) fun _ =>
    .op (.store M.a (rA hr c) (shapeCast (Sh3 1 128 256) (accPay kf c alpha v a p) gf.scA') Finset.univ
      (View.stores_vmem_bits_univ gf.ha rfl) (.inl rfl)) fun _ =>
    accs M kf hr alpha cs k

/-- The 8 score sets in the kernel's order. -/
abbrev sets : List (Fin 8) := [0, 1, 2, 3, 4, 5, 6, 7]

/-- What is done once the row maxima of the group are known. -/
def groupTail (M : Mems sig) {kw r : ℕ} (kf : KF kw) (hr : r + 128 ≤ 640)
    (hst : ∀ c, (M.p.access (rS kf c)).Stores Finset.univ) (mNew alpha : FVec F (Sh2 128 128) .f32) :
    Prog (TpuEff nD τ sig (Elt F) Λ .tc) PUnit :=
  .op (.load M.l (rM hr).toLoadRect (View.loadsAt_vmem gf.hm)) fun (l : Vec F (Sh2 128 128) .f32) =>
  probs M kf hst mNew sets (mulf alpha l) fun lOut =>
  accs M kf hr alpha sets <|
  .op (.load M.m (rM hr).toLoadRect (View.loadsAt_vmem gf.hm)) fun _ =>
  .op (.store M.m (rM hr) (shapeCast (Sh2 128 128) mNew gf.scQ) Finset.univ
    (View.stores_vmem_bits_univ gf.hm rfl) (.inl rfl)) fun _ =>
  .op (.load M.l (rM hr).toLoadRect (View.loadsAt_vmem gf.hm)) fun _ =>
  .op (.store M.l (rM hr) (shapeCast (Sh2 128 128) lOut gf.scQ) Finset.univ (View.stores_vmem_bits_univ gf.hm rfl) (.inl rfl)) fun _ =>
  .ret ⟨⟩

/-- One group. -/
def group (M : Mems sig) {kw r : ℕ} (kf : KF kw) (hr : r + 128 ≤ 640)
    (hst : ∀ c, (M.p.access (rS kf c)).Stores Finset.univ) (bias : Option (FVec F (Sh2 128 kw) .f32)) :
    Prog (TpuEff nD τ sig (Elt F) Λ .tc) PUnit :=
  .op (.load M.m (rM hr).toLoadRect (View.loadsAt_vmem gf.hm)) fun (mAll : Vec F (Sh2 128 128) .f32) =>
  scores M kf hr bias sets mAll fun mLoc =>
  groupTail M kf hr hst (maximumf (φ := .f32) mAll mLoc) (exp2 (subf (φ := .f32) mAll (maximumf (φ := .f32) mAll mLoc)))

/-! ## The step's ends -/

/-- The side conditions of the ends. -/
structure EF : Prop where
  scM : (Sh2 640 128).ShapeCasts (Sh2 640 128)
  scA : (Sh3 8 640 256).ShapeCasts (Sh3 8 640 256)
  sc1 : (Sh2 1 128).ShapeCasts (Sh2 1 128)
  scG : (Sh2 1 256).ShapeCasts (Sh2 1 256)
  scO : (Sh3 1 640 256).ShapeCasts (Sh2 640 256)
  sc11 : (Sh1 1).ShapeCasts (Sh2 1 1)
  scR : (Sh1 640).ShapeCasts (Sh2 640 1)
  red1 : (Sh2 1 128).Reduces [1] (Sh1 1)
  redR : (Sh2 640 256).Reduces [1] (Sh1 640)
  bcL : (Sh2 640 1).Broadcasts (Sh2 640 256)
  bc11 : (Sh2 1 1).Broadcasts (Sh2 640 256)
  bcG : (Sh2 1 256).Broadcasts (Sh2 640 256)
  sl : ∀ c : Fin 8, (Sh2 640 128).Slices ![0, c.val] (Sh2 640 1)
  hm : 0 < (Sh2 640 128).numel
  ha : 0 < (Sh3 8 640 256).numel
  h1 : 0 < (Sh2 1 128).numel
  hg : 0 < (Sh2 1 256).numel
  ho : 0 < (Sh2 640 256).numel
  hA : 0 < (Sh3 1 640 256).numel
  inbM : ∀ a, (![0, 0] : Fin 2 → ℕ) a + (Sh2 640 128).size a ≤ (Sh2 640 128).size a
  inbA : ∀ a, (![0, 0, 0] : Fin 3 → ℕ) a + (Sh3 8 640 256).size a ≤ (Sh3 8 640 256).size a
  inb1 : ∀ a, (![0, 0] : Fin 2 → ℕ) a + (Sh2 1 128).size a ≤ (Sh2 1 128).size a
  inbG : ∀ a, (![0, 0] : Fin 2 → ℕ) a + (Sh2 1 256).size a ≤ (Sh2 1 256).size a
  inbH : ∀ c : Fin 8, ∀ a, (![c.val, 0, 0] : Fin 3 → ℕ) a + (Sh3 1 640 256).size a ≤ (Sh3 8 640 256).size a
  inbO : ∀ h : Fin 4, ∀ a, (![0, 256 * h.val] : Fin 2 → ℕ) a + (Sh2 640 256).size a ≤ (Sh2 640 1024).size a

theorem ef : EF := by
  constructor <;> first | decide | (intro c; fin_cases c <;> decide)

/-- The buffers the ends work on beside the others: the four λ vectors, the gain, and the result's window. -/
structure Ends (sig : RefSig) where
  lq1 : Memref sig .tc .vmem (Sh2 1 128) .f32
  lk1 : Memref sig .tc .vmem (Sh2 1 128) .f32
  lq2 : Memref sig .tc .vmem (Sh2 1 128) .f32
  lk2 : Memref sig .tc .vmem (Sh2 1 128) .f32
  g : Memref sig .tc .vmem (Sh2 1 256) .f32
  o : Memref sig .tc .vmem (Sh2 640 1024) .bf16

/-- The whole of the maxima's buffer, -/
abbrev wM : Rect (Sh2 640 128) := Rect.unit (s := Sh2 640 128) ![0, 0] (Sh2 640 128).size ef.inbM
/-- of the accumulators', -/
abbrev wA : Rect (Sh3 8 640 256) := Rect.unit (s := Sh3 8 640 256) ![0, 0, 0] (Sh3 8 640 256).size ef.inbA
/-- of a λ vector's, -/
abbrev w1 : Rect (Sh2 1 128) := Rect.unit (s := Sh2 1 128) ![0, 0] (Sh2 1 128).size ef.inb1
/-- and of the gain's. -/
abbrev wG : Rect (Sh2 1 256) := Rect.unit (s := Sh2 1 256) ![0, 0] (Sh2 1 256).size ef.inbG
/-- One set's accumulator, -/
abbrev rH (c : Fin 8) : Rect (Sh3 8 640 256) := Rect.unit (s := Sh3 8 640 256) ![c.val, 0, 0] (Sh3 1 640 256).size (ef.inbH c)
/-- and one head's columns of the result. -/
abbrev rO (h : Fin 4) : Rect (Sh2 640 1024) := Rect.unit (s := Sh2 640 1024) ![0, 256 * h.val] (Sh2 640 256).size (ef.inbO h)

/-- The running buffers at a row tile's first key tile. -/
def reset (M : Mems sig) (mask : F .f32) : Prog (TpuEff nD τ sig (Elt F) Λ .tc) PUnit :=
  .op (.load M.m wM.toLoadRect (View.loadsAt_vmem ef.hm)) fun _ =>
  .op (.store M.m wM (shapeCast (Sh2 640 128) (broadcast (Sh2 640 128) mask) ef.scM : FVec F (Sh2 640 128) .f32) Finset.univ
    (View.stores_vmem_bits_univ ef.hm rfl) (.inl rfl)) fun _ =>
  .op (.load M.l wM.toLoadRect (View.loadsAt_vmem ef.hm)) fun _ =>
  .op (.store M.l wM (shapeCast (Sh2 640 128) (broadcast (Sh2 640 128) (Scalar.ofBits .f32 0x00000000#32 : F .f32)) ef.scM : FVec F (Sh2 640 128) .f32)
    Finset.univ (View.stores_vmem_bits_univ ef.hm rfl) (.inl rfl)) fun _ =>
  .op (.load M.a wA.toLoadRect (View.loadsAt_vmem ef.ha)) fun _ =>
  .op (.store M.a wA (shapeCast (Sh3 8 640 256) (broadcast (Sh3 8 640 256) (Scalar.ofBits .f32 0x00000000#32 : F .f32)) ef.scA : FVec F (Sh3 8 640 256) .f32)
    Finset.univ (View.stores_vmem_bits_univ ef.ha rfl) (.inl rfl)) fun _ =>
  .ret ⟨⟩

/-- One exponential of λ: of the inner product of two vectors. -/
def lamPart (x y : Vec F (Sh2 1 128) .f32) : FVec F (Sh2 1 1) .f32 :=
  exp (shapeCast (Sh2 1 1) (multiReduction .add [1] (Sh1 1) (mulf (shapeCast (Sh2 1 128) x ef.sc1 : FVec F (Sh2 1 128) .f32)
    (shapeCast (Sh2 1 128) y ef.sc1)) 0x00000000#32 ef.red1 (.inl rfl) rfl) ef.sc11)

/-- λ. -/
def lamPay (a b c d : Vec F (Sh2 1 128) .f32) : FVec F (Sh2 1 1) .f32 :=
  addf (subf (lamPart a b) (lamPart c d)) (broadcast (Sh2 1 1) (Scalar.ofBits .f32 0x3E4CCCCD#32))

/-- One set's accumulator over its denominators. -/
def ratio (c : Fin 8) (l : Vec F (Sh2 640 128) .f32) (a : Vec F (Sh3 1 640 256) .f32) : FVec F (Sh2 640 256) .f32 :=
  divf (shapeCast (Sh2 640 256) a ef.scO : FVec F (Sh2 640 256) .f32)
    (broadcastTo (Sh2 640 256) (extractStridedSlice (Sh2 640 1) ![0, c.val] l (ef.sl c)) ef.bcL)

/-- The difference of the two maps of a head. -/
def diffPay (lam : FVec F (Sh2 1 1) .f32) (x y : FVec F (Sh2 640 256) .f32) : FVec F (Sh2 640 256) .f32 :=
  subf x (mulf (broadcastTo (Sh2 640 256) lam ef.bc11) y)

/-- The head's result: the difference normalised to unit mean square, the gain and the scale applied. -/
def outPay (g : Vec F (Sh2 1 256) .f32) (o : FVec F (Sh2 640 256) .f32) : FVec F (Sh2 640 256) .bf16 :=
  truncf .bf16 (mulf (mulf (mulf o (broadcastTo (Sh2 640 256) (rsqrt (addf (divf (shapeCast (Sh2 640 1)
      (multiReduction .add [1] (Sh1 640) (mulf o o) 0x00000000#32 ef.redR (.inl rfl) rfl) ef.scR)
        (broadcast (Sh2 640 1) (Scalar.ofBits .f32 0x43800000#32))) (broadcast (Sh2 640 1) (Scalar.ofBits .f32 0x3727C5AC#32)))) ef.bcL))
    (broadcastTo (Sh2 640 256) (shapeCast (Sh2 1 256) g ef.scG : FVec F (Sh2 1 256) .f32) ef.bcG))
    (broadcast (Sh2 640 256) (Scalar.ofBits .f32 0x3F4CCCCD#32))) gf.tr

/-- The heads of the list, each written to its columns of the result. -/
def heads (M : Mems sig) (W : Ends sig) (hso : ∀ h, (W.o.access (rO h)).Stores Finset.univ) (lam : FVec F (Sh2 1 1) .f32)
    (g : Vec F (Sh2 1 256) .f32) (l : Vec F (Sh2 640 128) .f32) :
    List (Fin 4 × Fin 8 × Fin 8) → Prog (TpuEff nD τ sig (Elt F) Λ .tc) PUnit
  | [] => .ret ⟨⟩
  | (h, c, d) :: hs =>
    .op (.load M.a (rH c).toLoadRect (View.loadsAt_vmem ef.hA)) fun x =>
    .op (.load M.a (rH d).toLoadRect (View.loadsAt_vmem ef.hA)) fun y =>
    .op (.load W.o (rO h).toLoadRect (View.loadsAt_vmem ef.ho)) fun _ =>
    .op (.store W.o (rO h) (outPay g (diffPay lam (ratio c l x) (ratio d l y))) Finset.univ (hso h) (.inl rfl)) fun _ =>
    heads M W hso lam g l hs

/-- The four heads and their two score sets. -/
abbrev headList : List (Fin 4 × Fin 8 × Fin 8) := [(0, 0, 1), (1, 2, 3), (2, 4, 5), (3, 6, 7)]

/-- A row tile's result from its finished denominators and accumulators. -/
def final (M : Mems sig) (W : Ends sig) (hso : ∀ h, (W.o.access (rO h)).Stores Finset.univ) :
    Prog (TpuEff nD τ sig (Elt F) Λ .tc) PUnit :=
  .op (.load W.lq1 w1.toLoadRect (View.loadsAt_vmem ef.h1)) fun a =>
  .op (.load W.lk1 w1.toLoadRect (View.loadsAt_vmem ef.h1)) fun b =>
  .op (.load W.lq2 w1.toLoadRect (View.loadsAt_vmem ef.h1)) fun c =>
  .op (.load W.lk2 w1.toLoadRect (View.loadsAt_vmem ef.h1)) fun d =>
  .op (.load W.g wG.toLoadRect (View.loadsAt_vmem ef.hg)) fun g =>
  .op (.load M.l wM.toLoadRect (View.loadsAt_vmem ef.hm)) fun l =>
  heads M W hso (lamPay a b c d) g l headList

/-! ## The step -/

theorem kf_of {kw : ℕ} (h : kw = 128 ∨ kw = 256 ∨ kw = 384 ∨ kw = 512 ∨ kw = 640) : KF kw := by
  rcases h with rfl | rfl | rfl | rfl | rfl <;> constructor <;> first | decide | (intro c; fin_cases c <;> decide)

theorem kf128 : KF 128 := kf_of (.inl rfl)
theorem kf256 : KF 256 := kf_of (.inr (.inl rfl))
theorem kf384 : KF 384 := kf_of (.inr (.inr (.inl rfl)))
theorem kf512 : KF 512 := kf_of (.inr (.inr (.inr (.inl rfl))))
theorem kf640 : KF 640 := kf_of (.inr (.inr (.inr (.inr rfl))))

/-- The row and column numbers of a 128 × kw tile. -/
structure IF' (kw : ℕ) : Prop where
  i0 : (Sh2 128 kw).Iotas .tc 32 [0]
  i1 : (Sh2 128 kw).Iotas .tc 32 [1]
theorem if_of {kw : ℕ} (h : kw = 128 ∨ kw = 256 ∨ kw = 384 ∨ kw = 512 ∨ kw = 640) : IF' kw := by
  rcases h with rfl | rfl | rfl | rfl | rfl <;> constructor <;> decide
theorem if128 : IF' 128 := if_of (.inl rfl)
theorem if256 : IF' 256 := if_of (.inr (.inl rfl))
theorem if384 : IF' 384 := if_of (.inr (.inr (.inl rfl)))
theorem if512 : IF' 512 := if_of (.inr (.inr (.inr (.inl rfl))))
theorem if640 : IF' 640 := if_of (.inr (.inr (.inr (.inr rfl))))

/-- The mask of a group: zero where the key's row is at most the query's and is not padding, the masked value elsewhere. -/
def biasPay {kw : ℕ} (ih : IF' kw) (i j r0 : BitVec 32) (mask : F .f32) : FVec F (Sh2 128 kw) .f32 :=
  select (andi
      (cmpi .sle (addi (broadcast (Sh2 128 kw) (Scalar.muli j 640#32)) (iota .tc (Sh2 128 kw) 32 [1] ih.i1))
        (addi (broadcast (Sh2 128 kw) (Scalar.addi (Scalar.muli i 640#32) r0)) (iota .tc (Sh2 128 kw) 32 [0] ih.i0)))
      (cmpi .sge (addi (broadcast (Sh2 128 kw) (Scalar.muli j 640#32)) (iota .tc (Sh2 128 kw) 32 [1] ih.i1))
        (broadcast (Sh2 128 kw) (112#32))))
    (broadcast (Sh2 128 kw) (Scalar.ofBits .f32 0x00000000#32 : F .f32)) (broadcast (Sh2 128 kw) mask)

/-- The loop over the 5 groups of a key tile off the diagonal. -/
abbrev loop5 : Scf.Loop 32 := ⟨0#32, Scalar.addi 0#32 5#32, 1#32⟩
/-- The first row of a trip's group. -/
abbrev row0 (t : Fin loop5.trips) : BitVec 32 := Scalar.muli (Scf.iv 0#32 1#32 t) 128#32

theorem loop5_trips : loop5.trips = 5 := by decide
theorem loop5_ok : loop5.OK := by decide
theorem row0_toNat (t : Fin loop5.trips) : (row0 t).toNat = 128 * t.val := by
  have ht : t.val < 5 := lt_of_lt_of_eq t.isLt loop5_trips
  have h : ∀ k : Fin 5, (Scalar.muli (0#32 + BitVec.ofNat 32 k.val * 1#32) 128#32).toNat = 128 * k.val := by decide
  exact h ⟨t.val, ht⟩
theorem row0_le (t : Fin loop5.trips) : (row0 t).toNat + 128 ≤ 640 := by
  have ht : t.val < 5 := lt_of_lt_of_eq t.isLt loop5_trips
  rw [row0_toNat]; omega

/-- The stores of the probabilities are possible at every width. -/
abbrev StP (M : Mems sig) : Prop := ∀ {kw : ℕ} (kf : KF kw) (c : Fin 8), (M.p.access (rS kf c)).Stores Finset.univ

/-- A key tile left of the diagonal: five groups of all its keys, masked where the tile holds the padding. -/
def full (M : Mems sig) (hst : StP M) (bias : Fin loop5.trips → Option (FVec F (Sh2 128 640) .f32)) :
    Prog (TpuEff nD τ sig (Elt F) Λ .tc) PUnit :=
  Scf.Loop.for loop5 loop5_ok ⟨⟩ fun t _ => group M kf640 (row0_le t) (hst kf640) (bias t)

/-- The key tile on the diagonal: the group of rows `128 r` against the keys to row `128 (r + 1)`, all masked. -/
def diag (M : Mems sig) (hst : StP M) (i j : BitVec 32) (mask : F .f32) : Prog (TpuEff nD τ sig (Elt F) Λ .tc) PUnit := do
  group M kf128 (r := 0) (by decide) (hst kf128) (some (biasPay if128 i j 0#32 mask))
  group M kf256 (r := 128) (by decide) (hst kf256) (some (biasPay if256 i j 128#32 mask))
  group M kf384 (r := 256) (by decide) (hst kf384) (some (biasPay if384 i j 256#32 mask))
  group M kf512 (r := 384) (by decide) (hst kf512) (some (biasPay if512 i j 384#32 mask))
  group M kf640 (r := 512) (by decide) (hst kf640) (some (biasPay if640 i j 512#32 mask))

/-- What a step does once its tile numbers are read. -/
def stepAt (M : Mems sig) (W : Ends sig) (hst : StP M) (hso : ∀ h, (W.o.access (rO h)).Stores Finset.univ) (mask : F .f32)
    (i j : BitVec 32) : Prog (TpuEff nD τ sig (Elt F) Λ .tc) PUnit := do
  if Scalar.cmpi .ne (Scalar.extui (Scalar.cmpi .eq j 0#32) : BitVec 32) 0#32 = 1#1 then reset M mask else pure ⟨⟩
  if Scalar.cmpi .ne (Scalar.extui (Scalar.andi (Scalar.cmpi .eq j 0#32) (Scalar.cmpi .slt j i)) : BitVec 32) 0#32 = 1#1 then
    full M hst fun t => some (biasPay if640 i j (row0 t) mask)
  else pure ⟨⟩
  if Scalar.cmpi .ne (Scalar.extui (Scalar.andi (Scalar.cmpi .sgt j 0#32) (Scalar.cmpi .slt j i)) : BitVec 32) 0#32 = 1#1 then
    full M hst fun _ => none
  else pure ⟨⟩
  if Scalar.cmpi .ne (Scalar.extui (Scalar.cmpi .eq j i) : BitVec 32) 0#32 = 1#1 then do
    diag M hst i j mask
    final M W hso
  else pure ⟨⟩

/-- One step of the kernel. -/
def step (qt kt : Memref sig .tc .smem (Sh1 91) .i32) (off : Fin 1 → ℕ) (inb : ∀ a, off a + (Sh1 1).size a ≤ (Sh1 91).size a)
    (h1 : (Sh1 1).numel = 1) (M : Mems sig) (W : Ends sig) (hst : StP M)
    (hso : ∀ h, (W.o.access (rO h)).Stores Finset.univ) (mask : F .f32) : Prog (TpuEff nD τ sig (Elt F) Λ .tc) PUnit := do
  let i : Elt F .i32 ← smemLoad qt (Rect.unit (s := Sh1 91) off (Sh1 1).size inb) h1 rfl
  let j : Elt F .i32 ← smemLoad kt (Rect.unit (s := Sh1 91) off (Sh1 1).size inb) h1 rfl
  stepAt M W hst hso mask i j

end Cert.Attn
-- ==== Proof.Same.lean ====
module

public import proofs.«01_k».proof.Proof.Body
public import proofs.«01_k».proof.KernelIdeal
public import proofs.«01_k».proof.Proof.Gen.KernelIdeal
public import Idealize.ShloMosaic.Lib.Pipeline.Regions

@[expose] public section

noncomputable section

namespace Cert.KernelIdeal

open Idealize.ShloMosaic Idealize.SL.Sem
open Idealize.ShloMosaic.RefSig (ofTc tcTables tileCredit tileCredit_eq_zero tileCredit_pos)

variable {F : FTy → Type} [FloatOps F] [Named F]
variable [Facts]
open Facts₀ Facts

theorem body_eq (i : grid0.Coords) (arg2 : Memref sig .tc .smem S91 .i32) (harg2 : arg2.IsWhole) (arg3 : Memref sig .tc .smem S91 .i32) (harg3 : arg3.IsWhole) (arg4 : Memref sig .tc .vmem S640x1024 .bf16) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S640x1024 .bf16) (harg12 : arg12.IsWhole) (arg13 : Memref sig .tc .vmem S640x128 .f32) (harg13 : arg13.IsWhole) (arg14 : Memref sig .tc .vmem S640x128 .f32) (harg14 : arg14.IsWhole) (arg15 : Memref sig .tc .vmem S8x128x640 .f32) (harg15 : arg15.IsWhole) (arg16 : Memref sig .tc .vmem S8x128x640 .bf16) (harg16 : arg16.IsWhole) (arg17 : Memref sig .tc .vmem S8x640x256 .f32) (harg17 : arg17.IsWhole)
    (hst : Attn.StP ⟨arg4, arg5, arg6, arg13, arg14, arg15, arg16, arg17⟩)
    (hso : ∀ h, (arg12.access (Attn.rO h)).Stores Finset.univ) :
    (cc0__attn_b_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = Attn.step arg2 arg3 (k0_off1 i) (k0_off1_inb i) numel1_S1
          ⟨arg4, arg5, arg6, arg13, arg14, arg15, arg16, arg17⟩ ⟨arg7, arg8, arg9, arg10, arg11, arg12⟩ hst hso
          (Named.named κ "mask" 0xF149F2CA#32) := by
  chain_rfl

end Cert.KernelIdeal
-- ==== Proof.Tiles.lean ====
/-
  The order in which the steps take the tiles: step `n` of the 91 pairs query tile `qi n` with key tile `ki n`, key tiles
  counted up to the query tile's own, query tiles in order.
-/
module

public import Idealize.ShloMosaic.Lib.ValueIdxCore

@[expose] public section

namespace Cert.Attn

/-- The query tile of a step. -/
def qiN (n : ℕ) : ℕ := ((List.range 12).filter fun r => decide ((r + 1) * (r + 2) / 2 ≤ n)).length
/-- The key tile of a step. -/
def kiN (n : ℕ) : ℕ := n - qiN n * (qiN n + 1) / 2

theorem qiN_lt : ∀ n : Fin 91, qiN n.val < 13 := by decide
theorem kiN_lt : ∀ n : Fin 91, kiN n.val < 13 := by decide

def qi (n : Fin 91) : Fin 13 := ⟨qiN n.val, qiN_lt n⟩
def ki (n : Fin 91) : Fin 13 := ⟨kiN n.val, kiN_lt n⟩

theorem ki_le : ∀ n : Fin 91, (ki n).val ≤ (qi n).val := by decide
theorem tile_prev : ∀ n : Fin 91, (ki n).val ≠ 0 → n.val ≠ 0 ∧ qiN (n.val - 1) = (qi n).val ∧ kiN (n.val - 1) + 1 = (ki n).val := by decide
theorem diag_last : ∀ n : Fin 91, (ki n).val = (qi n).val → n.val = 90 ∨ qiN (n.val + 1) ≠ (qi n).val := by decide
theorem diag_at : ∀ i : Fin 13, ∃ n : Fin 91, qi n = i ∧ ki n = i := by decide

end Cert.Attn
-- ==== Proof.Rules.lean ====
/-
  Loads and stores of a buffer held by what it reads, and a group run by them: from the windows and running buffers at any
  contents, one group leaves contents related to them by `GroupRel`.
-/
module

public import proofs.«01_k».proof.Proof.Body
public import Idealize.ShloMosaic.Lib.MemrefSat
public import Idealize.ShloMosaic.Lib.Pipeline.Value

@[expose] public section

noncomputable section

namespace Cert.Attn

open Idealize.ShloMosaic
open Idealize.SL
open Idealize.SL.RA Idealize.SL.Sem Idealize.SL.ProofMode
open Idealize.SL.BI (sProp)
open scoped Idealize.SL.BI
open Idealize.SL.BI.BIBase Idealize.SL.BI.Laws

section Owns

variable {nD : ℕ} {τ : Topo} {sig : RefSig} {Ix : Type} [DecidableEq Ix]
variable {Val : EltTy → Type} {Name : Type} [DecidableEq Name] {U : Type} [URA U] {Lvl : Type} {Λ : Labels} [Preorder Lvl]
local notation "𝕄" => MT nD τ sig Ix Val Name U Lvl
variable {defs : Defs nD τ sig Val Λ} (𝒱 : Variants) (c : Thread nD τ) (bd : Option 𝒱.V) {Γ : PendingWaitsCtx sig Ix} (E : Set Name)
variable {α : Type} {s : Shape} {e : EltTy}

/-- A load of a buffer that reads `X` continues with the rectangle of `X`. -/
theorem wp_load_owns {Q : α → sProp 𝕄} {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄) ⊢ iprop((owns c m q X -∗ wp frame (wpE' defs 𝒱 c bd Γ) E (k fun i => X (r.emb i)) Q)
        -∗ wp frame (wpE' defs 𝒱 c bd Γ) E (.op (.load m r hl) k) Q) := by
  iintro H Hk
  unfold owns
  icases H with ⟨%f, %hf, H⟩
  iapply (wp_load_rect (defs := defs) 𝒱 c bd E (Q := Q) (r := r) (hl := hl) (k := k) (q := q) (f := f)
    (S := m.view.set) (View.set_slice_subset _ _)) $$ H
  iintro H
  have hr : (m.access r).read Val f = fun i => X (r.emb i) := by
    subst hf; rfl
  rw [hr]
  iapply Hk
  iexists f
  isplitr
  · ipureintro; exact hf
  · iexact H

/-- A whole store to a rectangle leaves the stored values there and the other values as they were. -/
theorem wp_store_owns {Q : α → sProp 𝕄} {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄) ⊢ iprop((∀ Y, ⌜(∀ i, Y (r.emb i) = w i) ∧ ∀ y, (∀ i, r.emb i ≠ y) → Y y = X y⌝ -∗ owns c m fullShare Y
          -∗ wp frame (wpE' defs 𝒱 c bd Γ) E (k ⟨⟩) Q)
        -∗ wp frame (wpE' defs 𝒱 c bd Γ) E (.op (.store m r w Finset.univ hx hm) k) Q) := by
  iintro H Hk
  unfold owns
  icases H with ⟨%f, %hf, H⟩
  iapply (wp_store (defs := defs) 𝒱 c bd E (Q := Q) (m := m) (r := r) (w := w) (Mk := Finset.univ) (hx := hx) (hm := hm) (k := k)
    (f := f) (S := m.view.set) (View.set_slice_subset _ _)) $$ H
  iintro H
  iapply Hk $$ %(m.view.read Val ((m.access r).write Val f w Finset.univ))
  · ipureintro
    subst hf
    refine ⟨fun i => View.read_slice_write_emb _ _ _ (Finset.mem_univ i), fun y hy => View.read_slice_write_of_not_mem _ _ _ _ ?_⟩
    intro h
    obtain ⟨i, -, hi⟩ := Finset.mem_map.mp h
    exact hy i hi
  · iexists _
    isplitr
    · ipureintro; rfl
    · iexact H

end Owns

/-- Where a unit rectangle places an index: its offset further. -/
theorem unit_emb_val {s : Shape} (off size : Fin s.rank → ℕ) (inb : ∀ a, off a + size a ≤ s.size a)
    (i : (Rect.unit off size inb).shape.Idx) (a : Fin s.rank) : ((Rect.unit off size inb).emb i a).val = off a + (i a).val := by
  show off a + 1 * (i a).val = _
  rw [Nat.one_mul]

theorem rS_ne {kw : ℕ} (kf : KF kw) {c d : Fin 8} (h : c ≠ d) (i j : (Sh3 1 128 kw).Idx) : (rS kf c).emb i ≠ (rS kf d).emb j := by
  intro e
  have h0 := congrArg (fun x : (Sh3 8 128 640).Idx => (x 0).val) e
  have hi := unit_emb_val (s := Sh3 8 128 640) _ _ (kf.inbS c) i 0
  have hj := unit_emb_val (s := Sh3 8 128 640) _ _ (kf.inbS d) j 0
  have hi' : (i 0).val < 1 := (i 0).isLt
  have hj' : (j 0).val < 1 := (j 0).isLt
  apply h
  apply Fin.ext
  change ((rS kf c).emb i 0).val = ((rS kf d).emb j 0).val at h0
  change ((rS kf c).emb i 0).val = c.val + _ at hi
  change ((rS kf d).emb j 0).val = d.val + _ at hj
  omega

theorem rA_ne {r : ℕ} (hr : r + 128 ≤ 640) {c d : Fin 8} (h : c ≠ d) (i j : (Sh3 1 128 256).Idx) : (rA hr c).emb i ≠ (rA hr d).emb j := by
  intro e
  have h0 := congrArg (fun x : (Sh3 8 640 256).Idx => (x 0).val) e
  have hi := unit_emb_val (s := Sh3 8 640 256) _ _ (inbA hr c) i 0
  have hj := unit_emb_val (s := Sh3 8 640 256) _ _ (inbA hr d) j 0
  have hi' : (i 0).val < 1 := (i 0).isLt
  have hj' : (j 0).val < 1 := (j 0).isLt
  apply h
  apply Fin.ext
  change ((rA hr c).emb i 0).val = ((rA hr d).emb j 0).val at h0
  change ((rA hr c).emb i 0).val = c.val + _ at hi
  change ((rA hr d).emb j 0).val = d.val + _ at hj
  omega

section Pure

variable {F : FTy → Type} [FloatOps F]

/-- The score tile of set `c` from the windows. -/
def sc {kw r : ℕ} (kf : KF kw) (hr : r + 128 ≤ 640) (bias : Option (FVec F (Sh2 128 kw) .f32)) (Q K : Vec F (Sh2 640 1024) .bf16)
    (c : Fin 8) : FVec F (Sh2 128 kw) .f32 :=
  scorePay kf bias (fun i => Q ((rQ hr c).emb i)) (fun i => K ((rK kf c).emb i))

/-- The running maxima with the row maxima of the sets of the list placed in their lanes. -/
def maxs {kw : ℕ} (kf : KF kw) (s : Fin 8 → FVec F (Sh2 128 kw) .f32) (cs : List (Fin 8)) (m : FVec F (Sh2 128 128) .f32) :
    FVec F (Sh2 128 128) .f32 := cs.foldl (fun m c => maxPay kf c (s c) m) m

/-- The running denominators with the row sums of the sets of the list added in their lanes. -/
def sums {kw : ℕ} (kf : KF kw) (p : Fin 8 → FVec F (Sh2 128 kw) .f32) (cs : List (Fin 8)) (l : FVec F (Sh2 128 128) .f32) :
    FVec F (Sh2 128 128) .f32 := cs.foldl (fun l c => sumPay kf c (p c) l) l

/-- The narrow probabilities of set `c` as stored. -/
def pst {kw : ℕ} (kf : KF kw) (p : Fin 8 → FVec F (Sh2 128 kw) .f32) (c : Fin 8) : Vec F (Sh3 1 128 kw) .bf16 :=
  shapeCast (Sh3 1 128 kw) (truncf .bf16 (p c) gf.tr : FVec F (Sh2 128 kw) .bf16) kf.scU

/-- The rows of a 640 × 128 buffer a group works on. -/
def rows {r : ℕ} (hr : r + 128 ≤ 640) (X : Vec F (Sh2 640 128) .f32) : FVec F (Sh2 128 128) .f32 := fun i => X ((rM hr).emb i)

/-- The new maxima of a group, -/
def newM {kw r : ℕ} (kf : KF kw) (hr : r + 128 ≤ 640) (bias : Option (FVec F (Sh2 128 kw) .f32)) (Q K : Vec F (Sh2 640 1024) .bf16)
    (X : Vec F (Sh2 640 128) .f32) : FVec F (Sh2 128 128) .f32 :=
  maximumf (rows hr X) (maxs kf (sc kf hr bias Q K) sets (rows hr X))

/-- the factor the old denominators and accumulators take, -/
def alphaOf {r : ℕ} (hr : r + 128 ≤ 640) (X : Vec F (Sh2 640 128) .f32) (mNew : FVec F (Sh2 128 128) .f32) : FVec F (Sh2 128 128) .f32 :=
  exp2 (subf (rows hr X) mNew)

/-- and its probabilities. -/
def probOf {kw : ℕ} (kf : KF kw) (s : Fin 8 → FVec F (Sh2 128 kw) .f32) (mNew : FVec F (Sh2 128 128) .f32) (c : Fin 8) :
    FVec F (Sh2 128 kw) .f32 :=
  probPay kf c mNew (shapeCast (Sh3 1 128 kw) (s c) kf.scU)

/-- The accumulator of set `c` after a group whose factors and probabilities are given. -/
def accOf {kw r : ℕ} (kf : KF kw) (hr : r + 128 ≤ 640) (alpha : FVec F (Sh2 128 128) .f32) (p : Fin 8 → FVec F (Sh2 128 kw) .f32)
    (V : Vec F (Sh2 640 1024) .bf16) (A : Vec F (Sh3 8 640 256) .f32) (c : Fin 8) : FVec F (Sh2 128 256) .f32 :=
  accPay kf c alpha (fun i => V ((rV kf c).emb i)) (fun i => A ((rA hr c).emb i)) (pst kf p c)

/-- What one group makes of the running buffers: `(M, L, A)` before, `(M', L', A')` after. -/
structure GroupRel {kw r : ℕ} (kf : KF kw) (hr : r + 128 ≤ 640) (bias : Option (FVec F (Sh2 128 kw) .f32))
    (Q K V : Vec F (Sh2 640 1024) .bf16) (M L M' L' : Vec F (Sh2 640 128) .f32) (A A' : Vec F (Sh3 8 640 256) .f32) : Prop where
  m : ∀ i, M' ((rM hr).emb i) = newM kf hr bias Q K M i
  mOff : ∀ y, (∀ i, (rM hr).emb i ≠ y) → M' y = M y
  l : ∀ i, L' ((rM hr).emb i) = sums kf (probOf kf (sc kf hr bias Q K) (newM kf hr bias Q K M)) sets
    (mulf (alphaOf hr M (newM kf hr bias Q K M)) (rows hr L)) i
  lOff : ∀ y, (∀ i, (rM hr).emb i ≠ y) → L' y = L y
  a : ∀ c i, A' ((rA hr c).emb i) = shapeCast (Sh3 1 128 256)
    (accOf kf hr (alphaOf hr M (newM kf hr bias Q K M)) (probOf kf (sc kf hr bias Q K) (newM kf hr bias Q K M)) V A c) gf.scA' i
  aOff : ∀ y, (∀ c i, (rA hr c).emb i ≠ y) → A' y = A y

end Pure

section Stages

variable {nD : ℕ} {τ : Topo} {sig : RefSig} {Ix : Type} [DecidableEq Ix]
variable {F : FTy → Type} [FloatOps F] {Name : Type} [DecidableEq Name] {U : Type} [URA U] {Lvl : Type} {Λ : Labels} [Preorder Lvl]
local notation "𝕄" => MT nD τ sig Ix (Elt F) Name U Lvl
variable {defs : Defs nD τ sig (Elt F) Λ} (𝒱 : Variants) (d : Dev nD)

theorem wp_scores {α : Type} (bd : Option 𝒱.V) {Γ : PendingWaitsCtx sig Ix} (E : Set Name) {Φ : α → sProp 𝕄}
    (M : Mems sig) {kw r : ℕ} (kf : KF kw) (hr : r + 128 ≤ 640) (bias : Option (FVec F (Sh2 128 kw) .f32))
    {πq πk : PosShare TreeShare} {Q K : Vec F (Sh2 640 1024) .bf16} (cs : List (Fin 8)) (hcs : cs.Nodup) :
    ∀ (S : Vec F (Sh3 8 128 640) .f32) (m : FVec F (Sh2 128 128) .f32)
      (k : FVec F (Sh2 128 128) .f32 → Prog (TpuEff nD τ sig (Elt F) Λ .tc) α),
    iprop(owns ((d, .tc) : Thread nD τ) M.q πq Q ∗ owns ((d, .tc) : Thread nD τ) M.k πk K ∗ owns ((d, .tc) : Thread nD τ) M.s fullShare S : sProp 𝕄) ⊢
      iprop((∀ S', ⌜(∀ c ∈ cs, ∀ i, S' ((rS kf c).emb i) = shapeCast (Sh3 1 128 kw) (sc kf hr bias Q K c) kf.scU i)
            ∧ ∀ c ∉ cs, ∀ i, S' ((rS kf c).emb i) = S ((rS kf c).emb i)⌝ -∗
          owns ((d, .tc) : Thread nD τ) M.q πq Q -∗ owns ((d, .tc) : Thread nD τ) M.k πk K -∗ owns ((d, .tc) : Thread nD τ) M.s fullShare S' -∗
          wp frame (wpE' defs 𝒱 ((d, .tc) : Thread nD τ) bd Γ) E (k (maxs kf (sc kf hr bias Q K) cs m)) Φ)
        -∗ wp frame (wpE' defs 𝒱 ((d, .tc) : Thread nD τ) bd Γ) E (scores M kf hr bias cs m k) Φ) := by
  induction cs with
  | nil =>
    intro S m k
    iintro ⟨HQ, HK, HS⟩ Hk
    iapply Hk $$ %S %(by simp) HQ HK HS
  | cons c cs ih =>
    intro S m k
    have hc : c ∉ cs := (List.nodup_cons.mp hcs).1
    iintro ⟨HQ, HK, HS⟩ Hk
    unfold scores
    iapply (wp_load_owns (defs := defs) 𝒱 ((d, .tc) : Thread nD τ) bd E) $$ HQ
    iintro HQ
    iapply (wp_load_owns (defs := defs) 𝒱 ((d, .tc) : Thread nD τ) bd E) $$ HK
    iintro HK
    iapply (wp_load_owns (defs := defs) 𝒱 ((d, .tc) : Thread nD τ) bd E) $$ HS
    iintro HS
    iapply (wp_store_owns (defs := defs) 𝒱 ((d, .tc) : Thread nD τ) bd E) $$ HS
    iintro %Y %hY HS
    iapply (ih (List.nodup_cons.mp hcs).2 Y _ k) $$ [HQ HK HS]
    · isplitl [HQ]
      · iexact HQ
      · isplitl [HK]
        · iexact HK
        · iexact HS
    iintro %S' %hS' HQ HK HS
    iapply Hk $$ %S' %(by
      refine ⟨fun c' hc' i => ?_, fun c' hc' i => ?_⟩
      · rcases List.mem_cons.mp hc' with rfl | h
        · rw [hS'.2 _ hc, hY.1]; rfl
        · exact hS'.1 _ h i
      · have h1 : c' ≠ c := fun h => hc' (h ▸ List.mem_cons_self)
        have h2 : c' ∉ cs := fun h => hc' (List.mem_cons_of_mem _ h)
        rw [hS'.2 _ h2, hY.2 _ fun j => rS_ne kf (Ne.symm h1) j i]) HQ HK HS

theorem wp_probs {α : Type} (bd : Option 𝒱.V) {Γ : PendingWaitsCtx sig Ix} (E : Set Name) {Φ : α → sProp 𝕄}
    (M : Mems sig) {kw : ℕ} (kf : KF kw) (hst : ∀ c, (M.p.access (rS kf c)).Stores Finset.univ) (mNew : FVec F (Sh2 128 128) .f32)
    (s : Fin 8 → FVec F (Sh2 128 kw) .f32) {S : Vec F (Sh3 8 128 640) .f32}
    (hS : ∀ c i, S ((rS kf c).emb i) = shapeCast (Sh3 1 128 kw) (s c) kf.scU i) (cs : List (Fin 8)) (hcs : cs.Nodup) :
    ∀ (P : Vec F (Sh3 8 128 640) .bf16) (l : FVec F (Sh2 128 128) .f32)
      (k : FVec F (Sh2 128 128) .f32 → Prog (TpuEff nD τ sig (Elt F) Λ .tc) α),
    iprop(owns ((d, .tc) : Thread nD τ) M.s fullShare S ∗ owns ((d, .tc) : Thread nD τ) M.p fullShare P : sProp 𝕄) ⊢
      iprop((∀ P', ⌜(∀ c ∈ cs, ∀ i, P' ((rS kf c).emb i) = pst kf (probOf kf s mNew) c i)
            ∧ ∀ c ∉ cs, ∀ i, P' ((rS kf c).emb i) = P ((rS kf c).emb i)⌝ -∗
          owns ((d, .tc) : Thread nD τ) M.s fullShare S -∗ owns ((d, .tc) : Thread nD τ) M.p fullShare P' -∗
          wp frame (wpE' defs 𝒱 ((d, .tc) : Thread nD τ) bd Γ) E (k (sums kf (probOf kf s mNew) cs l)) Φ)
        -∗ wp frame (wpE' defs 𝒱 ((d, .tc) : Thread nD τ) bd Γ) E (probs M kf hst mNew cs l k) Φ) := by
  induction cs with
  | nil =>
    intro P l k
    iintro ⟨HS, HP⟩ Hk
    iapply Hk $$ %P %(by simp) HS HP
  | cons c cs ih =>
    intro P l k
    have hc : c ∉ cs := (List.nodup_cons.mp hcs).1
    have hs : (fun i => S ((rS kf c).emb i)) = shapeCast (Sh3 1 128 kw) (s c) kf.scU := funext fun i => hS c i
    iintro ⟨HS, HP⟩ Hk
    unfold probs
    iapply (wp_load_owns (defs := defs) 𝒱 ((d, .tc) : Thread nD τ) bd E) $$ HS
    iintro HS
    rw [hs]
    iapply (wp_load_owns (defs := defs) 𝒱 ((d, .tc) : Thread nD τ) bd E) $$ HP
    iintro HP
    iapply (wp_store_owns (defs := defs) 𝒱 ((d, .tc) : Thread nD τ) bd E) $$ HP
    iintro %Y %hY HP
    iapply (ih (List.nodup_cons.mp hcs).2 Y _ k) $$ [HS HP]
    · isplitl [HS]
      · iexact HS
      · iexact HP
    iintro %P' %hP' HS HP
    iapply Hk $$ %P' %(by
      refine ⟨fun c' hc' i => ?_, fun c' hc' i => ?_⟩
      · rcases List.mem_cons.mp hc' with rfl | h
        · rw [hP'.2 _ hc, hY.1]; rfl
        · exact hP'.1 _ h i
      · have h1 : c' ≠ c := fun h => hc' (h ▸ List.mem_cons_self)
        have h2 : c' ∉ cs := fun h => hc' (List.mem_cons_of_mem _ h)
        rw [hP'.2 _ h2, hY.2 _ fun j => rS_ne kf (Ne.symm h1) j i]) HS HP

theorem wp_accs {α : Type} (bd : Option 𝒱.V) {Γ : PendingWaitsCtx sig Ix} (E : Set Name) {Φ : α → sProp 𝕄}
    (M : Mems sig) {kw r : ℕ} (kf : KF kw) (hr : r + 128 ≤ 640) (alpha : FVec F (Sh2 128 128) .f32)
    (p : Fin 8 → FVec F (Sh2 128 kw) .f32) {πv : PosShare TreeShare} {V : Vec F (Sh2 640 1024) .bf16} {P : Vec F (Sh3 8 128 640) .bf16}
    (hP : ∀ c i, P ((rS kf c).emb i) = pst kf p c i) (cs : List (Fin 8)) (hcs : cs.Nodup) :
    ∀ (A : Vec F (Sh3 8 640 256) .f32) (k : Prog (TpuEff nD τ sig (Elt F) Λ .tc) α),
    iprop(owns ((d, .tc) : Thread nD τ) M.v πv V ∗ owns ((d, .tc) : Thread nD τ) M.p fullShare P ∗ owns ((d, .tc) : Thread nD τ) M.a fullShare A : sProp 𝕄) ⊢
      iprop((∀ A', ⌜(∀ c ∈ cs, ∀ i, A' ((rA hr c).emb i) = shapeCast (Sh3 1 128 256) (accOf kf hr alpha p V A c) gf.scA' i)
            ∧ ∀ y, (∀ c ∈ cs, ∀ i, (rA hr c).emb i ≠ y) → A' y = A y⌝ -∗
          owns ((d, .tc) : Thread nD τ) M.v πv V -∗ owns ((d, .tc) : Thread nD τ) M.p fullShare P -∗ owns ((d, .tc) : Thread nD τ) M.a fullShare A' -∗
          wp frame (wpE' defs 𝒱 ((d, .tc) : Thread nD τ) bd Γ) E k Φ)
        -∗ wp frame (wpE' defs 𝒱 ((d, .tc) : Thread nD τ) bd Γ) E (accs M kf hr alpha cs k) Φ) := by
  induction cs with
  | nil =>
    intro A k
    iintro ⟨HV, HP, HA⟩ Hk
    iapply Hk $$ %A %(by simp) HV HP HA
  | cons c cs ih =>
    intro A k
    have hc : c ∉ cs := (List.nodup_cons.mp hcs).1
    have hp : (fun i => P ((rS kf c).emb i)) = pst kf p c := funext fun i => hP c i
    iintro ⟨HV, HP, HA⟩ Hk
    unfold accs
    iapply (wp_load_owns (defs := defs) 𝒱 ((d, .tc) : Thread nD τ) bd E) $$ HV
    iintro HV
    iapply (wp_load_owns (defs := defs) 𝒱 ((d, .tc) : Thread nD τ) bd E) $$ HA
    iintro HA
    iapply (wp_load_owns (defs := defs) 𝒱 ((d, .tc) : Thread nD τ) bd E) $$ HP
    iintro HP
    rw [hp]
    iapply (wp_load_owns (defs := defs) 𝒱 ((d, .tc) : Thread nD τ) bd E) $$ HA
    iintro HA
    iapply (wp_store_owns (defs := defs) 𝒱 ((d, .tc) : Thread nD τ) bd E) $$ HA
    iintro %Y %hY HA
    iapply (ih (List.nodup_cons.mp hcs).2 Y k) $$ [HV HP HA]
    · isplitl [HV]
      · iexact HV
      · isplitl [HP]
        · iexact HP
        · iexact HA
    iintro %A' %hA' HV HP HA
    iapply Hk $$ %A' %(by
      refine ⟨fun c' hc' i => ?_, fun y hy => ?_⟩
      · rcases List.mem_cons.mp hc' with rfl | h
        · rw [hA'.2 _ fun d' hd' j => rA_ne hr (show d' ≠ c' from fun e => hc (e ▸ hd')) j i, hY.1]; rfl
        · rw [hA'.1 _ h i]
          have hne : c ≠ c' := fun e => hc (e ▸ h)
          have : (fun i => Y ((rA hr c').emb i)) = fun i => A ((rA hr c').emb i) :=
            funext fun i => hY.2 _ fun j => rA_ne hr hne j i
          exact congrArg (fun z => shapeCast (Sh3 1 128 256) (accPay kf c' alpha (fun i => V ((rV kf c').emb i)) z (pst kf p c')) gf.scA' i) this
      · rw [hA'.2 y fun c' h => hy c' (List.mem_cons_of_mem _ h), hY.2 y (hy c List.mem_cons_self)]) HV HP HA

theorem sets_nodup : sets.Nodup := by decide
theorem mem_sets (c : Fin 8) : c ∈ sets := by revert c; decide

/-- The running buffers at contents a proof names, the group's scratch at any. -/
def run (M : Mems sig) (X L : Vec F (Sh2 640 128) .f32) (A : Vec F (Sh3 8 640 256) .f32) : sProp 𝕄 :=
  iprop(owns ((d, .tc) : Thread nD τ) M.m fullShare X ∗ owns ((d, .tc) : Thread nD τ) M.l fullShare L ∗ owns ((d, .tc) : Thread nD τ) M.a fullShare A
    ∗ (∃ S, owns ((d, .tc) : Thread nD τ) M.s fullShare S) ∗ (∃ P, owns ((d, .tc) : Thread nD τ) M.p fullShare P))

/-- The windows at contents a proof names. -/
def wins (M : Mems sig) (πq πk πv : PosShare TreeShare) (Q K V : Vec F (Sh2 640 1024) .bf16) : sProp 𝕄 :=
  iprop(owns ((d, .tc) : Thread nD τ) M.q πq Q ∗ owns ((d, .tc) : Thread nD τ) M.k πk K ∗ owns ((d, .tc) : Thread nD τ) M.v πv V)

/-- **One group**: the windows keep their contents and the running buffers become what `GroupRel` says. -/
theorem wp_group (bd : Option 𝒱.V) {Γ : PendingWaitsCtx sig Ix} (E : Set Name) {Φ : PUnit → sProp 𝕄}
    (M : Mems sig) {kw r : ℕ} (kf : KF kw) (hr : r + 128 ≤ 640) (hst : ∀ c, (M.p.access (rS kf c)).Stores Finset.univ)
    (bias : Option (FVec F (Sh2 128 kw) .f32)) {πq πk πv : PosShare TreeShare} {Q K V : Vec F (Sh2 640 1024) .bf16}
    {X L : Vec F (Sh2 640 128) .f32} {A : Vec F (Sh3 8 640 256) .f32} :
    iprop(wins d M πq πk πv Q K V ∗ run d M X L A : sProp 𝕄) ⊢
      iprop((∀ X' L' A', ⌜GroupRel kf hr bias Q K V X L X' L' A A'⌝ -∗ wins d M πq πk πv Q K V -∗ run d M X' L' A' -∗ Φ ⟨⟩)
        -∗ wp frame (wpE' defs 𝒱 ((d, .tc) : Thread nD τ) bd Γ) E (group M kf hr hst bias) Φ) := by
  unfold wins run group groupTail
  iintro ⟨⟨HQ, HK, HV⟩, ⟨HX, HL, HA, ⟨%S, HS⟩, ⟨%P, HP⟩⟩⟩ Hk
  iapply (wp_load_owns (defs := defs) 𝒱 ((d, .tc) : Thread nD τ) bd E) $$ HX
  iintro HX
  iapply (wp_scores (defs := defs) 𝒱 d bd E M kf hr bias sets sets_nodup S) $$ [HQ HK HS]
  · isplitl [HQ]
    · iexact HQ
    · isplitl [HK]
      · iexact HK
      · iexact HS
  iintro %S' %hS HQ HK HS
  iapply (wp_load_owns (defs := defs) 𝒱 ((d, .tc) : Thread nD τ) bd E) $$ HL
  iintro HL
  iapply (wp_probs (defs := defs) 𝒱 d bd E M kf hst _ (sc kf hr bias Q K) (fun c i => hS.1 c (mem_sets c) i) sets sets_nodup P) $$ [HS HP]
  · isplitl [HS]
    · iexact HS
    · iexact HP
  iintro %P' %hP HS HP
  iapply (wp_accs (defs := defs) 𝒱 d bd E M kf hr _ _ (fun c i => hP.1 c (mem_sets c) i) sets sets_nodup A) $$ [HV HP HA]
  · isplitl [HV]
    · iexact HV
    · isplitl [HP]
      · iexact HP
      · iexact HA
  iintro %A' %hA HV HP HA
  iapply (wp_load_owns (defs := defs) 𝒱 ((d, .tc) : Thread nD τ) bd E) $$ HX
  iintro HX
  iapply (wp_store_owns (defs := defs) 𝒱 ((d, .tc) : Thread nD τ) bd E) $$ HX
  iintro %X' %hX HX
  iapply (wp_load_owns (defs := defs) 𝒱 ((d, .tc) : Thread nD τ) bd E) $$ HL
  iintro HL
  iapply (wp_store_owns (defs := defs) 𝒱 ((d, .tc) : Thread nD τ) bd E) $$ HL
  iintro %L' %hL HL
  rw [wp_ret]
  imodintro
  iapply Hk $$ %X' %L' %A' %(by
    refine ⟨fun i => ?_, hX.2, fun i => ?_, hL.2, fun c i => hA.1 c (mem_sets c) i, fun y hy => hA.2 y fun c _ i => hy c i⟩
    · rw [hX.1, shapeCast_self]; rfl
    · rw [hL.1, shapeCast_self]; rfl) [HQ HK HV] [HX HL HA HS HP]
  · isplitl [HQ]
    · iexact HQ
    · isplitl [HK]
      · iexact HK
      · iexact HV
  · isplitl [HX]
    · iexact HX
    isplitl [HL]
    · iexact HL
    isplitl [HA]
    · iexact HA
    isplitl [HS]
    · iexists _; iexact HS
    · iexists _; iexact HP

end Stages

end Cert.Attn
-- ==== Proof.Step.lean ====
/-
  A step's parts one after another: the reset of the running buffers, the two key-tile bodies by an invariant of the
  running buffers' contents, and a row tile's result.
-/
module

public import proofs.«01_k».proof.Proof.Rules
public import Idealize.ShloMosaic.Lib.ValueIdxCore

@[expose] public section

noncomputable section

namespace Cert.Attn

open Idealize.ShloMosaic Idealize.ShloMosaic.ValueIdx
open Idealize.SL
open Idealize.SL.RA Idealize.SL.Sem Idealize.SL.ProofMode
open Idealize.SL.BI (sProp)
open scoped Idealize.SL.BI
open Idealize.SL.BI.BIBase Idealize.SL.BI.Laws

theorem rO_ne {h h' : Fin 4} (hne : h ≠ h') (i j : (Sh2 640 256).Idx) : (rO h).emb i ≠ (rO h').emb j := by
  intro e
  have h0 := congrArg (fun x : (Sh2 640 1024).Idx => (x 1).val) e
  have hi := unit_emb_val (s := Sh2 640 1024) _ _ (ef.inbO h) i 1
  have hj := unit_emb_val (s := Sh2 640 1024) _ _ (ef.inbO h') j 1
  have hi' : (i 1).val < 256 := (i 1).isLt
  have hj' : (j 1).val < 256 := (j 1).isLt
  apply hne
  apply Fin.ext
  change ((rO h).emb i 1).val = ((rO h').emb j 1).val at h0
  change ((rO h).emb i 1).val = 256 * h.val + _ at hi
  change ((rO h').emb j 1).val = 256 * h'.val + _ at hj
  omega

theorem wM_emb (i : (Sh2 640 128).Idx) : wM.emb i = i := by
  funext a; apply Fin.ext
  rw [unit_emb_val (s := Sh2 640 128) _ _ ef.inbM i a]
  fin_cases a <;> exact Nat.zero_add _
theorem wA_emb (i : (Sh3 8 640 256).Idx) : wA.emb i = i := by
  funext a; apply Fin.ext
  rw [unit_emb_val (s := Sh3 8 640 256) _ _ ef.inbA i a]
  fin_cases a <;> exact Nat.zero_add _
theorem w1_emb (i : (Sh2 1 128).Idx) : w1.emb i = i := by
  funext a; apply Fin.ext
  rw [unit_emb_val (s := Sh2 1 128) _ _ ef.inb1 i a]
  fin_cases a <;> exact Nat.zero_add _
theorem wG_emb (i : (Sh2 1 256).Idx) : wG.emb i = i := by
  funext a; apply Fin.ext
  rw [unit_emb_val (s := Sh2 1 256) _ _ ef.inbG i a]
  fin_cases a <;> exact Nat.zero_add _

section Pure

variable {F : FTy → Type} [FloatOps F]

/-- What a row tile's result is, from the finished denominators and accumulators. -/
def tileOut (a b c d : Vec F (Sh2 1 128) .f32) (g : Vec F (Sh2 1 256) .f32) (L : Vec F (Sh2 640 128) .f32)
    (A : Vec F (Sh3 8 640 256) .f32) (t : Fin 4 × Fin 8 × Fin 8) : FVec F (Sh2 640 256) .bf16 :=
  outPay g (diffPay (lamPay a b c d) (ratio t.2.1 L fun i => A ((rH t.2.1).emb i)) (ratio t.2.2 L fun i => A ((rH t.2.2).emb i)))

end Pure

section Stages

variable {nD : ℕ} {τ : Topo} {sig : RefSig} {Ix : Type} [DecidableEq Ix]
variable {F : FTy → Type} [FloatOps F] {Name : Type} [DecidableEq Name] {U : Type} [URA U] {Lvl : Type} {Λ : Labels} [Preorder Lvl]
local notation "𝕄" => MT nD τ sig Ix (Elt F) Name U Lvl
variable {defs : Defs nD τ sig (Elt F) Λ} (𝒱 : Variants) (d : Dev nD)

/-- The reset leaves the mask in the maxima and zero in the denominators and accumulators. -/
theorem wp_reset (bd : Option 𝒱.V) {Γ : PendingWaitsCtx sig Ix} (E : Set Name) {Φ : PUnit → sProp 𝕄} (M : Mems sig) (mask : F .f32)
    {X L : Vec F (Sh2 640 128) .f32} {A : Vec F (Sh3 8 640 256) .f32} :
    (run d M X L A : sProp 𝕄) ⊢ iprop((run d M (fun _ => mask) (fun _ => Scalar.ofBits .f32 0x00000000#32)
          (fun _ => Scalar.ofBits .f32 0x00000000#32) -∗ Φ ⟨⟩)
        -∗ wp frame (wpE' defs 𝒱 ((d, .tc) : Thread nD τ) bd Γ) E (reset M mask) Φ) := by
  unfold run reset
  iintro ⟨HX, HL, HA, HS, HP⟩ Hk
  iapply (wp_load_owns (defs := defs) 𝒱 ((d, .tc) : Thread nD τ) bd E) $$ HX
  iintro HX
  iapply (wp_store_owns (defs := defs) 𝒱 ((d, .tc) : Thread nD τ) bd E) $$ HX
  iintro %X' %hX HX
  iapply (wp_load_owns (defs := defs) 𝒱 ((d, .tc) : Thread nD τ) bd E) $$ HL
  iintro HL
  iapply (wp_store_owns (defs := defs) 𝒱 ((d, .tc) : Thread nD τ) bd E) $$ HL
  iintro %L' %hL HL
  iapply (wp_load_owns (defs := defs) 𝒱 ((d, .tc) : Thread nD τ) bd E) $$ HA
  iintro HA
  iapply (wp_store_owns (defs := defs) 𝒱 ((d, .tc) : Thread nD τ) bd E) $$ HA
  iintro %A' %hA HA
  rw [wp_ret]
  imodintro
  have hX' : X' = fun _ => mask := funext fun i => by
    have := hX.1 i; rw [wM_emb] at this; exact this
  have hL' : L' = fun _ => Scalar.ofBits .f32 0x00000000#32 := funext fun i => by
    have := hL.1 i; rw [wM_emb] at this; exact this
  have hA' : A' = fun _ => Scalar.ofBits .f32 0x00000000#32 := funext fun i => by
    have := hA.1 i; rw [wA_emb] at this; exact this
  subst hX' hL' hA'
  iapply Hk
  isplitl [HX]
  · iexact HX
  isplitl [HL]
  · iexact HL
  isplitl [HA]
  · iexact HA
  isplitl [HS]
  · iexact HS
  · iexact HP

/-- The running buffers at contents that meet `I`. -/
def runI (M : Mems sig) (I : Vec F (Sh2 640 128) .f32 → Vec F (Sh2 640 128) .f32 → Vec F (Sh3 8 640 256) .f32 → Prop) : sProp 𝕄 :=
  iprop(∃ X L A, ⌜I X L A⌝ ∗ run d M X L A)

/-- A group by an invariant of the running buffers' contents. -/
theorem wp_groupI (bd : Option 𝒱.V) {Γ : PendingWaitsCtx sig Ix} (E : Set Name) {Φ : PUnit → sProp 𝕄}
    (M : Mems sig) {kw r : ℕ} (kf : KF kw) (hr : r + 128 ≤ 640) (hst : ∀ c, (M.p.access (rS kf c)).Stores Finset.univ)
    (bias : Option (FVec F (Sh2 128 kw) .f32)) {πq πk πv : PosShare TreeShare} {Q K V : Vec F (Sh2 640 1024) .bf16}
    (I I' : Vec F (Sh2 640 128) .f32 → Vec F (Sh2 640 128) .f32 → Vec F (Sh3 8 640 256) .f32 → Prop)
    (hI : ∀ X L A X' L' A', I X L A → GroupRel kf hr bias Q K V X L X' L' A A' → I' X' L' A') :
    iprop(wins d M πq πk πv Q K V ∗ runI d M I : sProp 𝕄) ⊢
      iprop((wins d M πq πk πv Q K V -∗ runI d M I' -∗ Φ ⟨⟩)
        -∗ wp frame (wpE' defs 𝒱 ((d, .tc) : Thread nD τ) bd Γ) E (group M kf hr hst bias) Φ) := by
  unfold runI
  iintro ⟨HW, %X, %L, %A, %h, HR⟩ Hk
  iapply (wp_group (defs := defs) 𝒱 d bd E M kf hr hst bias (Q := Q) (K := K) (V := V)) $$ [HW HR]
  · isplitl [HW]
    · iexact HW
    · iexact HR
  iintro %X' %L' %A' %h' HW HR
  iapply Hk $$ HW
  iexists X'; iexists L'; iexists A'
  isplitr
  · ipureintro; exact hI _ _ _ _ _ _ h h'
  · iexact HR

/-- A key tile off the diagonal by an invariant over its five groups. -/
theorem wp_full (bd : Option 𝒱.V) {Γ : PendingWaitsCtx sig Ix} (E : Set Name) {Φ : PUnit → sProp 𝕄}
    (M : Mems sig) (hst : StP M) (bias : Fin loop5.trips → Option (FVec F (Sh2 128 640) .f32))
    {πq πk πv : PosShare TreeShare} {Q K V : Vec F (Sh2 640 1024) .bf16}
    (I : ℕ → Vec F (Sh2 640 128) .f32 → Vec F (Sh2 640 128) .f32 → Vec F (Sh3 8 640 256) .f32 → Prop)
    (hI : ∀ (t : Fin loop5.trips) X L A X' L' A', I t.val X L A → GroupRel kf640 (row0_le t) (bias t) Q K V X L X' L' A A' → I (t.val + 1) X' L' A') :
    iprop(wins d M πq πk πv Q K V ∗ runI d M (I 0) : sProp 𝕄) ⊢
      iprop((wins d M πq πk πv Q K V -∗ runI d M (I 5) -∗ Φ ⟨⟩)
        -∗ wp frame (wpE' defs 𝒱 ((d, .tc) : Thread nD τ) bd Γ) E (full M hst bias) Φ) := by
  unfold full
  iintro ⟨HW, HR⟩ Hk
  iapply (Scf.wp_for frame (wpE' defs 𝒱 ((d, .tc) : Thread nD τ) bd Γ) E loop5.lb loop5.ub loop5.st loop5_ok (PUnit.unit)
    (fun t _ => group M kf640 (row0_le t) (hst kf640) (bias t)) (fun n _ => iprop(wins d M πq πk πv Q K V ∗ runI d M (I n)))
    (fun t _ => by
      iintro ⟨HW, HR⟩
      iapply (wp_groupI (defs := defs) 𝒱 d bd E M kf640 (row0_le t) (hst kf640) (bias t) (Q := Q) (K := K) (V := V) (I t.val) (I (t.val + 1)) (hI t)) $$ [HW HR]
      · isplitl [HW]
        · iexact HW
        · iexact HR
      iintro HW HR
      isplitl [HW]
      · iexact HW
      · iexact HR))
  isplitl [HW HR]
  · isplitl [HW]
    · iexact HW
    · iexact HR
  · iintro %acc ⟨HW, HR⟩
    iapply Hk $$ HW
    rw [show Scf.trips loop5.lb loop5.ub loop5.st = 5 from loop5_trips]
    iexact HR

/-- The five widths of the diagonal's groups. -/
theorem kfd (t : Fin 5) : KF (128 * (t.val + 1)) := by
  fin_cases t
  exacts [kf128, kf256, kf384, kf512, kf640]
theorem ifd (t : Fin 5) : IF' (128 * (t.val + 1)) := by
  fin_cases t
  exacts [if128, if256, if384, if512, if640]
theorem rd_le (t : Fin 5) : 128 * t.val + 128 ≤ 640 := by omega

/-- The key tile on the diagonal by an invariant over its five groups. -/
theorem wp_diag (bd : Option 𝒱.V) {Γ : PendingWaitsCtx sig Ix} (E : Set Name) {Φ : PUnit → sProp 𝕄}
    (M : Mems sig) (hst : StP M) (i j : BitVec 32) (mask : F .f32)
    {πq πk πv : PosShare TreeShare} {Q K V : Vec F (Sh2 640 1024) .bf16}
    (I : ℕ → Vec F (Sh2 640 128) .f32 → Vec F (Sh2 640 128) .f32 → Vec F (Sh3 8 640 256) .f32 → Prop)
    (hI : ∀ (t : Fin 5) X L A X' L' A', I t.val X L A →
      GroupRel (kfd t) (rd_le t) (some (biasPay (ifd t) i j (BitVec.ofNat 32 (128 * t.val)) mask)) Q K V X L X' L' A A' → I (t.val + 1) X' L' A') :
    iprop(wins d M πq πk πv Q K V ∗ runI d M (I 0) : sProp 𝕄) ⊢
      iprop((wins d M πq πk πv Q K V -∗ runI d M (I 5) -∗ Φ ⟨⟩)
        -∗ wp frame (wpE' defs 𝒱 ((d, .tc) : Thread nD τ) bd Γ) E (diag M hst i j mask) Φ) := by
  unfold diag
  simp only [wp_bind]
  iintro ⟨HW, HR⟩ Hk
  iapply (wp_groupI (defs := defs) 𝒱 d bd E M kf128 _ (hst kf128) _ (Q := Q) (K := K) (V := V) (I 0) (I 1) (hI 0)) $$ [HW HR]
  · isplitl [HW]
    · iexact HW
    · iexact HR
  iintro HW HR
  iapply (wp_groupI (defs := defs) 𝒱 d bd E M kf256 _ (hst kf256) _ (Q := Q) (K := K) (V := V) (I 1) (I 2) (hI 1)) $$ [HW HR]
  · isplitl [HW]
    · iexact HW
    · iexact HR
  iintro HW HR
  iapply (wp_groupI (defs := defs) 𝒱 d bd E M kf384 _ (hst kf384) _ (Q := Q) (K := K) (V := V) (I 2) (I 3) (hI 2)) $$ [HW HR]
  · isplitl [HW]
    · iexact HW
    · iexact HR
  iintro HW HR
  iapply (wp_groupI (defs := defs) 𝒱 d bd E M kf512 _ (hst kf512) _ (Q := Q) (K := K) (V := V) (I 3) (I 4) (hI 3)) $$ [HW HR]
  · isplitl [HW]
    · iexact HW
    · iexact HR
  iintro HW HR
  iapply (wp_groupI (defs := defs) 𝒱 d bd E M kf640 _ (hst kf640) _ (Q := Q) (K := K) (V := V) (I 4) (I 5) (hI 4)) $$ [HW HR]
  · isplitl [HW]
    · iexact HW
    · iexact HR
  iexact Hk

theorem wp_heads (bd : Option 𝒱.V) {Γ : PendingWaitsCtx sig Ix} (E : Set Name) {Φ : PUnit → sProp 𝕄}
    (M : Mems sig) (W : Ends sig) (hso : ∀ h, (W.o.access (rO h)).Stores Finset.univ) (lam : FVec F (Sh2 1 1) .f32)
    (g : Vec F (Sh2 1 256) .f32) {L : Vec F (Sh2 640 128) .f32} {A : Vec F (Sh3 8 640 256) .f32}
    (hs : List (Fin 4 × Fin 8 × Fin 8)) (hnd : (hs.map (·.1)).Nodup) :
    ∀ (O : Vec F (Sh2 640 1024) .bf16),
    iprop(owns ((d, .tc) : Thread nD τ) M.a fullShare A ∗ owns ((d, .tc) : Thread nD τ) W.o fullShare O : sProp 𝕄) ⊢
      iprop((∀ O', ⌜(∀ t ∈ hs, ∀ i, O' ((rO t.1).emb i) = outPay g (diffPay lam (ratio t.2.1 L fun i => A ((rH t.2.1).emb i))
              (ratio t.2.2 L fun i => A ((rH t.2.2).emb i))) i)
            ∧ ∀ h, h ∉ hs.map (·.1) → ∀ i, O' ((rO h).emb i) = O ((rO h).emb i)⌝ -∗
          owns ((d, .tc) : Thread nD τ) M.a fullShare A -∗ owns ((d, .tc) : Thread nD τ) W.o fullShare O' -∗ Φ ⟨⟩)
        -∗ wp frame (wpE' defs 𝒱 ((d, .tc) : Thread nD τ) bd Γ) E (heads M W hso lam g L hs) Φ) := by
  induction hs with
  | nil =>
    intro O
    iintro ⟨HA, HO⟩ Hk
    unfold heads
    rw [wp_ret]
    imodintro
    iapply Hk $$ %O %(by simp) HA HO
  | cons t hs ih =>
    intro O
    obtain ⟨h, c, c'⟩ := t
    rw [List.map_cons, List.nodup_cons] at hnd
    have hc : h ∉ hs.map (·.1) := hnd.1
    iintro ⟨HA, HO⟩ Hk
    unfold heads
    iapply (wp_load_owns (defs := defs) 𝒱 ((d, .tc) : Thread nD τ) bd E) $$ HA
    iintro HA
    iapply (wp_load_owns (defs := defs) 𝒱 ((d, .tc) : Thread nD τ) bd E) $$ HA
    iintro HA
    iapply (wp_load_owns (defs := defs) 𝒱 ((d, .tc) : Thread nD τ) bd E) $$ HO
    iintro HO
    iapply (wp_store_owns (defs := defs) 𝒱 ((d, .tc) : Thread nD τ) bd E) $$ HO
    iintro %Y %hY HO
    iapply (ih hnd.2 Y) $$ [HA HO]
    · isplitl [HA]
      · iexact HA
      · iexact HO
    iintro %O' %hO' HA HO
    iapply Hk $$ %O' %(by
      refine ⟨fun t ht i => ?_, fun h' hh' i => ?_⟩
      · rcases List.mem_cons.mp ht with rfl | ht
        · exact (hO'.2 _ hc i).trans (hY.1 i)
        · exact hO'.1 _ ht i
      · rw [List.map_cons] at hh'
        have h1 : h' ≠ h := fun e => hh' (e ▸ List.mem_cons_self)
        have h2 : h' ∉ hs.map (·.1) := fun e => hh' (List.mem_cons_of_mem _ e)
        rw [hO'.2 _ h2, hY.2 _ fun j => rO_ne (Ne.symm h1) j i]) HA HO

/-- The small windows at contents a proof names. -/
def ends (W : Ends sig) (a b c e : Vec F (Sh2 1 128) .f32) (g : Vec F (Sh2 1 256) .f32) : sProp 𝕄 :=
  iprop(owns ((d, .tc) : Thread nD τ) W.lq1 fullShare a ∗ owns ((d, .tc) : Thread nD τ) W.lk1 fullShare b
    ∗ owns ((d, .tc) : Thread nD τ) W.lq2 fullShare c ∗ owns ((d, .tc) : Thread nD τ) W.lk2 fullShare e ∗ owns ((d, .tc) : Thread nD τ) W.g fullShare g)

theorem headList_nodup : (headList.map (·.1)).Nodup := by decide

/-- A row tile's result is written from the finished running buffers. -/
theorem wp_final (bd : Option 𝒱.V) {Γ : PendingWaitsCtx sig Ix} (E : Set Name) {Φ : PUnit → sProp 𝕄}
    (M : Mems sig) (W : Ends sig) (hso : ∀ h, (W.o.access (rO h)).Stores Finset.univ) {a b c e : Vec F (Sh2 1 128) .f32}
    {g : Vec F (Sh2 1 256) .f32} (I : Vec F (Sh2 640 128) .f32 → Vec F (Sh2 640 128) .f32 → Vec F (Sh3 8 640 256) .f32 → Prop) :
    iprop(ends d W a b c e g ∗ runI d M I ∗ (∃ O, owns ((d, .tc) : Thread nD τ) W.o fullShare O) : sProp 𝕄) ⊢
      iprop((∀ O X L A, ⌜I X L A ∧ ∀ t ∈ headList, ∀ i, O ((rO t.1).emb i) = tileOut a b c e g L A t i⌝ -∗
          ends d W a b c e g -∗ runI d M I -∗ owns ((d, .tc) : Thread nD τ) W.o fullShare O -∗ Φ ⟨⟩)
        -∗ wp frame (wpE' defs 𝒱 ((d, .tc) : Thread nD τ) bd Γ) E (final M W hso) Φ) := by
  unfold ends runI run final
  iintro ⟨⟨Ha, Hb, Hc, He, Hg⟩, ⟨%X, %L, %A, %h, HX, HL, HA, HS, HP⟩, ⟨%O, HO⟩⟩ Hk
  iapply (wp_load_owns (defs := defs) 𝒱 ((d, .tc) : Thread nD τ) bd E) $$ Ha
  iintro Ha
  iapply (wp_load_owns (defs := defs) 𝒱 ((d, .tc) : Thread nD τ) bd E) $$ Hb
  iintro Hb
  iapply (wp_load_owns (defs := defs) 𝒱 ((d, .tc) : Thread nD τ) bd E) $$ Hc
  iintro Hc
  iapply (wp_load_owns (defs := defs) 𝒱 ((d, .tc) : Thread nD τ) bd E) $$ He
  iintro He
  iapply (wp_load_owns (defs := defs) 𝒱 ((d, .tc) : Thread nD τ) bd E) $$ Hg
  iintro Hg
  iapply (wp_load_owns (defs := defs) 𝒱 ((d, .tc) : Thread nD τ) bd E) $$ HL
  iintro HL
  have hw1 : ∀ x : Vec F (Sh2 1 128) .f32, (fun i => x (w1.emb i)) = x := fun x => funext fun i => congrArg x (w1_emb i)
  have hwG : ∀ x : Vec F (Sh2 1 256) .f32, (fun i => x (wG.emb i)) = x := fun x => funext fun i => congrArg x (wG_emb i)
  have hwM : ∀ x : Vec F (Sh2 640 128) .f32, (fun i => x (wM.emb i)) = x := fun x => funext fun i => congrArg x (wM_emb i)
  rw [hw1 a, hw1 b, hw1 c, hw1 e, hwG g, hwM L]
  iapply (wp_heads (defs := defs) 𝒱 d bd E M W hso (lamPay a b c e) g headList headList_nodup O) $$ [HA HO]
  · isplitl [HA]
    · iexact HA
    · iexact HO
  iintro %O' %hO HA HO
  iapply Hk $$ %O' %X %L %A %(⟨h, hO.1⟩) [Ha Hb Hc He Hg] [HX HL HA HS HP] HO
  · isplitl [Ha]
    · iexact Ha
    isplitl [Hb]
    · iexact Hb
    isplitl [Hc]
    · iexact Hc
    isplitl [He]
    · iexact He
    · iexact Hg
  · iexists X; iexists L; iexists A
    isplitr
    · ipureintro; exact h
    isplitl [HX]
    · iexact HX
    isplitl [HL]
    · iexact HL
    isplitl [HA]
    · iexact HA
    isplitl [HS]
    · iexact HS
    · iexact HP

end Stages

/-! ## The step's cases -/

theorem case_first (j : Fin 13) :
    (Scalar.cmpi .ne (Scalar.extui (Scalar.cmpi .eq (BitVec.ofNat 32 j.val) 0#32) : BitVec 32) 0#32 = 1#1) ↔ j.val = 0 := by
  revert j; decide
theorem case_masked (i j : Fin 13) :
    (Scalar.cmpi .ne (Scalar.extui (Scalar.andi (Scalar.cmpi .eq (BitVec.ofNat 32 j.val) 0#32)
      (Scalar.cmpi .slt (BitVec.ofNat 32 j.val) (BitVec.ofNat 32 i.val))) : BitVec 32) 0#32 = 1#1) ↔ j.val = 0 ∧ j.val < i.val := by
  revert i j; decide
theorem case_open (i j : Fin 13) :
    (Scalar.cmpi .ne (Scalar.extui (Scalar.andi (Scalar.cmpi .sgt (BitVec.ofNat 32 j.val) 0#32)
      (Scalar.cmpi .slt (BitVec.ofNat 32 j.val) (BitVec.ofNat 32 i.val))) : BitVec 32) 0#32 = 1#1) ↔ 0 < j.val ∧ j.val < i.val := by
  revert i j; decide
theorem case_diag (i j : Fin 13) :
    (Scalar.cmpi .ne (Scalar.extui (Scalar.cmpi .eq (BitVec.ofNat 32 j.val) (BitVec.ofNat 32 i.val)) : BitVec 32) 0#32 = 1#1) ↔ j.val = i.val := by
  revert i j; decide

section Step

variable {nD : ℕ} {τ : Topo} {sig : RefSig} {Ix : Type} [DecidableEq Ix]
variable {F : FTy → Type} [FloatOps F] {Name : Type} [DecidableEq Name] {U : Type} [URA U] {Lvl : Type} {Λ : Labels} [Preorder Lvl]
local notation "𝕄" => MT nD τ sig Ix (Elt F) Name U Lvl
variable {defs : Defs nD τ sig (Elt F) Λ} (𝒱 : Variants) (d : Dev nD)

/-- What the proof of a step asks of the invariants: `P` of the running buffers as the step finds them, `I t` after `t` groups,
    at the tile numbers `i` and `j` and the windows' contents. -/
structure StepInv (i j : Fin 13) (mask : F .f32) (Q K V : Vec F (Sh2 640 1024) .bf16)
    (P : Vec F (Sh2 640 128) .f32 → Vec F (Sh2 640 128) .f32 → Vec F (Sh3 8 640 256) .f32 → Prop)
    (I : ℕ → Vec F (Sh2 640 128) .f32 → Vec F (Sh2 640 128) .f32 → Vec F (Sh3 8 640 256) .f32 → Prop) : Prop where
  le : j.val ≤ i.val
  first : j.val = 0 → I 0 (fun _ => mask) (fun _ => Scalar.ofBits .f32 0x00000000#32) (fun _ => Scalar.ofBits .f32 0x00000000#32)
  next : j.val ≠ 0 → ∀ X L A, P X L A → I 0 X L A
  masked : j.val = 0 → j.val < i.val → ∀ (t : Fin loop5.trips) X L A X' L' A', I t.val X L A →
    GroupRel kf640 (row0_le t) (some (biasPay if640 (BitVec.ofNat 32 i.val) (BitVec.ofNat 32 j.val) (row0 t) mask)) Q K V X L X' L' A A' →
      I (t.val + 1) X' L' A'
  plain : 0 < j.val → j.val < i.val → ∀ (t : Fin loop5.trips) X L A X' L' A', I t.val X L A →
    GroupRel kf640 (row0_le t) none Q K V X L X' L' A A' → I (t.val + 1) X' L' A'
  diag : j.val = i.val → ∀ (t : Fin 5) X L A X' L' A', I t.val X L A →
    GroupRel (kfd t) (rd_le t) (some (biasPay (ifd t) (BitVec.ofNat 32 i.val) (BitVec.ofNat 32 j.val) (BitVec.ofNat 32 (128 * t.val)) mask))
      Q K V X L X' L' A A' → I (t.val + 1) X' L' A'

/-- What the step says of the result's window: on the diagonal it is the finished tile. -/
def OutRel (i j : Fin 13) (a b c e : Vec F (Sh2 1 128) .f32) (g : Vec F (Sh2 1 256) .f32)
    (I : Vec F (Sh2 640 128) .f32 → Vec F (Sh2 640 128) .f32 → Vec F (Sh3 8 640 256) .f32 → Prop) (O : Vec F (Sh2 640 1024) .bf16) : Prop :=
  j.val = i.val → ∃ X L A, I X L A ∧ ∀ t ∈ headList, ∀ y, O ((rO t.1).emb y) = tileOut a b c e g L A t y

/-- **One step at its tile numbers.** -/
theorem wp_stepAt (bd : Option 𝒱.V) {Γ : PendingWaitsCtx sig Ix} (E : Set Name) {Φ : PUnit → sProp 𝕄}
    (M : Mems sig) (W : Ends sig) (hst : StP M) (hso : ∀ h, (W.o.access (rO h)).Stores Finset.univ) (mask : F .f32) (i j : Fin 13)
    {Q K V : Vec F (Sh2 640 1024) .bf16} {a b c e : Vec F (Sh2 1 128) .f32} {g : Vec F (Sh2 1 256) .f32}
    (P : Vec F (Sh2 640 128) .f32 → Vec F (Sh2 640 128) .f32 → Vec F (Sh3 8 640 256) .f32 → Prop)
    (I : ℕ → Vec F (Sh2 640 128) .f32 → Vec F (Sh2 640 128) .f32 → Vec F (Sh3 8 640 256) .f32 → Prop)
    (hI : StepInv i j mask Q K V P I) :
    iprop(wins d M fullShare fullShare fullShare Q K V ∗ ends d W a b c e g ∗ runI d M P ∗ (∃ O, owns ((d, .tc) : Thread nD τ) W.o fullShare O) : sProp 𝕄) ⊢
      iprop((∀ O, ⌜OutRel i j a b c e g (I 5) O⌝ -∗ wins d M fullShare fullShare fullShare Q K V -∗ ends d W a b c e g -∗ runI d M (I 5)
          -∗ owns ((d, .tc) : Thread nD τ) W.o fullShare O -∗ Φ ⟨⟩)
        -∗ wp frame (wpE' defs 𝒱 ((d, .tc) : Thread nD τ) bd Γ) E
            (stepAt M W hst hso mask (BitVec.ofNat 32 i.val) (BitVec.ofNat 32 j.val)) Φ) := by
  unfold stepAt
  simp only [case_first, case_masked, case_open, case_diag]
  -- the reset of a row tile's first step, and the running buffers of a later one
  have hreset : j.val = 0 → ∀ {Ψ : PUnit → sProp 𝕄}, (runI d M P : sProp 𝕄) ⊢ iprop((runI d M (I 0) -∗ Ψ ⟨⟩)
      -∗ wp frame (wpE' defs 𝒱 ((d, .tc) : Thread nD τ) bd Γ) E (reset M mask) Ψ) := fun h0 Ψ => by
    unfold runI
    iintro ⟨%X, %L, %A, %h, HR⟩ Hk
    iapply (wp_reset (defs := defs) 𝒱 d bd E M mask) $$ HR
    iintro HR
    iapply Hk
    iexists _; iexists _; iexists _
    isplitr
    · ipureintro; exact hI.first h0
    · iexact HR
  have hnext : j.val ≠ 0 → (runI d M P : sProp 𝕄) ⊢ runI d M (I 0) := fun h0 => by
    unfold runI
    iintro ⟨%X, %L, %A, %h, HR⟩
    iexists X; iexists L; iexists A
    isplitr
    · ipureintro; exact hI.next h0 X L A h
    · iexact HR
  -- the diagonal step's end
  have hfin : j.val = i.val → ∀ {O₀ : Vec F (Sh2 640 1024) .bf16},
      iprop(wins d M fullShare fullShare fullShare Q K V ∗ ends d W a b c e g ∗ runI d M (I 0) ∗ owns ((d, .tc) : Thread nD τ) W.o fullShare O₀ : sProp 𝕄) ⊢
      iprop((∀ O, ⌜OutRel i j a b c e g (I 5) O⌝ -∗ wins d M fullShare fullShare fullShare Q K V -∗ ends d W a b c e g -∗ runI d M (I 5)
          -∗ owns ((d, .tc) : Thread nD τ) W.o fullShare O -∗ Φ ⟨⟩)
        -∗ wp frame (wpE' defs 𝒱 ((d, .tc) : Thread nD τ) bd Γ) E (diag M hst (BitVec.ofNat 32 i.val) (BitVec.ofNat 32 j.val) mask)
            fun _ => wp frame (wpE' defs 𝒱 ((d, .tc) : Thread nD τ) bd Γ) E (final M W hso) Φ) := fun hd O₀ => by
    iintro ⟨HW, HE, HR, HO⟩ Hk
    iapply (wp_diag (defs := defs) 𝒱 d bd E M hst _ _ mask (Q := Q) (K := K) (V := V) I (hI.diag hd)) $$ [HW HR]
    · isplitl [HW]
      · iexact HW
      · iexact HR
    iintro HW HR
    iapply (wp_final (defs := defs) 𝒱 d bd E M W hso (a := a) (b := b) (c := c) (e := e) (g := g) (I 5)) $$ [HE HR HO]
    · isplitl [HE]
      · iexact HE
      isplitl [HR]
      · iexact HR
      · iexists O₀; iexact HO
    iintro %O %X %L %A %hO HE HR HO
    iapply Hk $$ %O %(fun _ => ⟨X, L, A, hO⟩) HW HE HR HO
  by_cases h0 : j.val = 0
  · iintro ⟨HW, HE, HR, %O₀, HO⟩ Hk
    by_cases hd : j.val = i.val
    · have h1 : ¬ (j.val = 0 ∧ j.val < i.val) := by omega
      have h2 : ¬ (0 < j.val ∧ j.val < i.val) := by omega
      simp only [if_pos h0, if_neg h1, if_neg h2, if_pos hd, wp_bind]
      iapply (hreset h0) $$ HR
      iintro HR
      iapply (hfin hd) $$ [HW HE HR HO]
      · isplitl [HW]
        · iexact HW
        isplitl [HE]
        · iexact HE
        isplitl [HR]
        · iexact HR
        · iexact HO
      iexact Hk
    · have h1 : j.val = 0 ∧ j.val < i.val := ⟨h0, lt_of_le_of_ne hI.le hd⟩
      have h2 : ¬ (0 < j.val ∧ j.val < i.val) := by omega
      simp only [if_pos h0, if_pos h1, if_neg h2, if_neg hd, wp_bind]
      iapply (hreset h0) $$ HR
      iintro HR
      iapply (wp_full (defs := defs) 𝒱 d bd E M hst _ (Q := Q) (K := K) (V := V) I (hI.masked h1.1 h1.2)) $$ [HW HR]
      · isplitl [HW]
        · iexact HW
        · iexact HR
      iintro HW HR
      iapply (show Φ ⟨⟩ ⊢ wp frame (wpE' defs 𝒱 ((d, .tc) : Thread nD τ) bd Γ) E (.ret ⟨⟩) Φ from by
        rw [wp_ret]; iintro H; imodintro; iexact H)
      iapply Hk $$ %O₀ %(fun h => absurd h hd) HW HE HR HO
  · refine (sep_mono .rfl (sep_mono .rfl (sep_mono (hnext h0) .rfl))).trans ?_
    iintro ⟨HW, HE, HR, %O₀, HO⟩ Hk
    by_cases hd : j.val = i.val
    · have h1 : ¬ (j.val = 0 ∧ j.val < i.val) := by omega
      have h2 : ¬ (0 < j.val ∧ j.val < i.val) := by omega
      simp only [if_neg h0, if_neg h1, if_neg h2, if_pos hd, wp_bind]
      iapply (hfin hd) $$ [HW HE HR HO]
      · isplitl [HW]
        · iexact HW
        isplitl [HE]
        · iexact HE
        isplitl [HR]
        · iexact HR
        · iexact HO
      iexact Hk
    · have h1 : ¬ (j.val = 0 ∧ j.val < i.val) := by omega
      have h2 : 0 < j.val ∧ j.val < i.val := ⟨Nat.pos_of_ne_zero h0, lt_of_le_of_ne hI.le hd⟩
      simp only [if_neg h0, if_neg h1, if_pos h2, if_neg hd, wp_bind]
      iapply (wp_full (defs := defs) 𝒱 d bd E M hst _ (Q := Q) (K := K) (V := V) I (hI.plain h2.1 h2.2)) $$ [HW HR]
      · isplitl [HW]
        · iexact HW
        · iexact HR
      iintro HW HR
      iapply (show Φ ⟨⟩ ⊢ wp frame (wpE' defs 𝒱 ((d, .tc) : Thread nD τ) bd Γ) E (.ret ⟨⟩) Φ from by
        rw [wp_ret]; iintro H; imodintro; iexact H)
      iapply Hk $$ %O₀ %(fun h => absurd h hd) HW HE HR HO

/-- A table's entry read at the head of a program. -/
theorem wp_table {α : Type} (bd : Option 𝒱.V) {Γ : PendingWaitsCtx sig Ix} (E : Set Name) {Φ : α → sProp 𝕄}
    (qt : Memref sig .tc .smem (Sh1 91) .i32) (off : Fin 1 → ℕ) (inb : ∀ a, off a + (Sh1 1).size a ≤ (Sh1 91).size a)
    (h1 : (Sh1 1).numel = 1) {π : PosShare TreeShare} {T : Vec F (Sh1 91) .i32} {k : Elt F .i32 → Prog (TpuEff nD τ sig (Elt F) Λ .tc) α}
    (n : Fin 91) (hn : off 0 = n.val) :
    (owns ((d, .tc) : Thread nD τ) qt π T : sProp 𝕄) ⊢
      iprop((owns ((d, .tc) : Thread nD τ) qt π T -∗ wp frame (wpE' defs 𝒱 ((d, .tc) : Thread nD τ) bd Γ) E (k (T (ix1 n))) Φ)
        -∗ wp frame (wpE' defs 𝒱 ((d, .tc) : Thread nD τ) bd Γ) E (smemLoad qt (Rect.unit (s := Sh1 91) off (Sh1 1).size inb) h1 rfl >>= k) Φ) := by
  rw [wp_bind]
  iintro H Hk
  unfold smemLoad smemLoadElt
  iapply (wp_load_owns (defs := defs) 𝒱 ((d, .tc) : Thread nD τ) bd E) $$ H
  iintro H
  rw [wp_ret]
  imodintro
  rw [show (fun i => T ((Rect.unit (s := Sh1 91) off (Sh1 1).size inb).emb i)) (Shape.Idx.first _) = T (ix1 n) from congrArg T (by
    funext a; apply Fin.ext
    rw [unit_emb_val (s := Sh1 91) _ _ inb _ a]
    obtain rfl : a = 0 := Subsingleton.elim _ _
    rw [hn]
    rfl)]
  iapply Hk
  iexact H

/-- **One step**, its tile numbers read from the two tables. -/
theorem wp_step (bd : Option 𝒱.V) {Γ : PendingWaitsCtx sig Ix} (E : Set Name) {Φ : PUnit → sProp 𝕄}
    (qt kt : Memref sig .tc .smem (Sh1 91) .i32) (off : Fin 1 → ℕ) (inb : ∀ a, off a + (Sh1 1).size a ≤ (Sh1 91).size a)
    (h1 : (Sh1 1).numel = 1) {π π' : PosShare TreeShare} {T T' : Vec F (Sh1 91) .i32} (n : Fin 91) (hn : off 0 = n.val)
    (M : Mems sig) (W : Ends sig) (hst : StP M) (hso : ∀ h, (W.o.access (rO h)).Stores Finset.univ) (mask : F .f32) (i j : Fin 13)
    (hi : T (ix1 n) = BitVec.ofNat 32 i.val) (hj : T' (ix1 n) = BitVec.ofNat 32 j.val)
    {Q K V : Vec F (Sh2 640 1024) .bf16} {a b c e : Vec F (Sh2 1 128) .f32} {g : Vec F (Sh2 1 256) .f32}
    (P : Vec F (Sh2 640 128) .f32 → Vec F (Sh2 640 128) .f32 → Vec F (Sh3 8 640 256) .f32 → Prop)
    (I : ℕ → Vec F (Sh2 640 128) .f32 → Vec F (Sh2 640 128) .f32 → Vec F (Sh3 8 640 256) .f32 → Prop)
    (hI : StepInv i j mask Q K V P I) :
    iprop((owns ((d, .tc) : Thread nD τ) qt π T ∗ owns ((d, .tc) : Thread nD τ) kt π' T') ∗ wins d M fullShare fullShare fullShare Q K V ∗ ends d W a b c e g ∗ runI d M P
        ∗ (∃ O, owns ((d, .tc) : Thread nD τ) W.o fullShare O) : sProp 𝕄) ⊢
      iprop((∀ O, ⌜OutRel i j a b c e g (I 5) O⌝ -∗ (owns ((d, .tc) : Thread nD τ) qt π T ∗ owns ((d, .tc) : Thread nD τ) kt π' T')
          -∗ wins d M fullShare fullShare fullShare Q K V -∗ ends d W a b c e g -∗ runI d M (I 5)
          -∗ owns ((d, .tc) : Thread nD τ) W.o fullShare O -∗ Φ ⟨⟩)
        -∗ wp frame (wpE' defs 𝒱 ((d, .tc) : Thread nD τ) bd Γ) E (step qt kt off inb h1 M W hst hso mask) Φ) := by
  unfold step
  iintro ⟨⟨Hq, Hk⟩, HR⟩ HΦ
  iapply (wp_table (defs := defs) (d := d) 𝒱 bd E qt off inb h1 n hn) $$ Hq
  iintro Hq
  iapply (wp_table (defs := defs) (d := d) 𝒱 bd E kt off inb h1 n hn) $$ Hk
  iintro Hk
  rw [hi, hj]
  iapply (wp_stepAt (defs := defs) (d := d) 𝒱 bd E M W hst hso mask i j P I hI) $$ HR
  iintro %O %hO Hw He Hr Ho
  iapply HΦ $$ %O %hO [Hq Hk] Hw He Hr Ho
  isplitl [Hq]
  · iexact Hq
  · iexact Hk

end Step

end Cert.Attn
-- ==== Proof.Tables.lean ====
/-
  The two tables the call reads its tile numbers from, as the program's constants hold them, and the region's side
  condition of them.
-/
module

public import proofs.«01_k».proof.Proof.Same
public import proofs.«01_k».proof.Proof.Tiles
public import proofs.«01_k».proof.Proof.Step
public import Idealize.ShloMosaic.Lib.PairWhole
public import proofs.«01_k».proof.Proof.Gen.KernelIdeal.Launch

@[expose] public section

noncomputable section

namespace Cert.KernelIdeal

open Idealize.ShloMosaic Idealize.ShloMosaic.ValueIdx Idealize.SL.Sem
open Cert.KernelIdeal.Gen

theorem lit0_eq : ∀ n : Fin 91, lit0 n = BitVec.ofNat 32 (Attn.qi n).val := by decide
theorem lit1_eq : ∀ n : Fin 91, lit1 n = BitVec.ofNat 32 (Attn.ki n).val := by decide

variable {F : FTy → Type} [FloatOps F] [Named F]

/-- The tables' contents. -/
def tbl : pre0.Contents (Elt F) := fun
  | 0 => fun i => lit0 (S91.rowMajor i)
  | 1 => fun i => lit1 (S91.rowMajor i)
  | ⟨_ + 2, h⟩ => absurd h (Nat.not_lt.2 (Nat.le_add_left _ _))

theorem rm91 : ∀ n : Fin 91, (S91.rowMajor (ix1 n)).val = n.val := by decide

theorem tbl0 (n : Fin 91) : (tbl (F := F)) 0 (ix1 n) = BitVec.ofNat 32 (Attn.qi n).val := by
  rw [← lit0_eq]
  exact congrArg lit0 (Fin.ext (rm91 n))
theorem tbl1 (n : Fin 91) : (tbl (F := F)) 1 (ix1 n) = BitVec.ofNat 32 (Attn.ki n).val := by
  rw [← lit1_eq]
  exact congrArg lit1 (Fin.ext (rm91 n))

theorem off1_eq : ∀ n : Fin 91, (Scalar.indexCast (BitVec.ofNat 32 n.val)).toNat = n.val := by decide
theorem off1_zero (i : grid0.Coords) : k0_off1 i 0 = (i 1).val := off1_eq (i 1)
theorem row_word : ∀ (b : Fin 2) (q : Fin 13),
    (Scalar.addi (Scalar.muli (BitVec.ofNat 32 b.val) 13#32) (BitVec.ofNat 32 q.val)).toNat = 13 * b.val + q.val := by decide

/-- The word an index map reads of a table is the table's word of the step. -/
theorem at_ix (i : grid0.Coords) (h1 : S1.numel = 1) (T : S91.Idx → BitVec 32) :
    T ((Rect.unit (s := S91) ![(Scalar.indexCast (BitVec.ofNat 32 (i 1).val)).toNat] S1.size (k0_off1_inb i)).emb (Shape.Idx.first (h1.symm ▸ Nat.one_pos)))
      = T (ix1 (i 1)) := congrArg T (by
  funext a; apply Fin.ext
  refine (Attn.unit_emb_val (s := S91) _ _ (k0_off1_inb i) _ a).trans ?_
  obtain rfl : a = 0 := Subsingleton.elim _ _
  exact (congrArg (· + 0) (off1_zero i)).trans rfl)

theorem row_of (b : Fin 2) (q : Fin 13) (x : BitVec 32) (l : ℕ) (hx : x = BitVec.ofNat 32 q.val) :
    (![(Scalar.addi (Scalar.muli (BitVec.ofNat 32 b.val) 13#32) x).toNat, l] : Fin 2 → ℕ) = ![13 * b.val + q.val, l] := by
  subst hx; rw [row_word b q]

theorem transform_0_eq (i : grid0.Coords) : cc0_transform_0 k0_off1_inb numel1_S1 (tbl (F := F)) i = ![13 * (i 0).val + (Attn.qi (i 1)).val, 2] := by
  unfold cc0_transform_0
  exact row_of (i 0) _ _ 2 ((at_ix i numel1_S1 (tbl (F := F) 0)).trans (tbl0 (i 1)))
theorem transform_1_eq (i : grid0.Coords) : cc0_transform_1 k0_off1_inb numel1_S1 (tbl (F := F)) i = ![13 * (i 0).val + (Attn.ki (i 1)).val, 3] := by
  unfold cc0_transform_1
  exact row_of (i 0) _ _ 3 ((at_ix i numel1_S1 (tbl (F := F) 1)).trans (tbl1 (i 1)))
theorem transform_2_eq (i : grid0.Coords) : cc0_transform_2 k0_off1_inb numel1_S1 (tbl (F := F)) i = ![13 * (i 0).val + (Attn.ki (i 1)).val, 1] := by
  unfold cc0_transform_2
  exact row_of (i 0) _ _ 1 ((at_ix i numel1_S1 (tbl (F := F) 1)).trans (tbl1 (i 1)))
theorem transform_8_eq (i : grid0.Coords) : cc0_transform_8 k0_off1_inb numel1_S1 (tbl (F := F)) i = ![13 * (i 0).val + (Attn.qi (i 1)).val, 0] := by
  unfold cc0_transform_8
  exact row_of (i 0) _ _ 0 ((at_ix i numel1_S1 (tbl (F := F) 0)).trans (tbl0 (i 1)))

theorem row_fits (b q : ℕ) (hb : b < 2) (hq : q < 13) : (13 * b + q + 1) * 640 ≤ 16640 :=
  Nat.mul_le_mul_right 640 (show 13 * b + q + 1 ≤ 26 by omega)

theorem blk_le {W : ℕ} (b : Fin 2) (q : Fin 13) (l : ℕ) (hl : (l + 1) * 1024 ≤ W) (ix : Fin 2 → ℕ) (h0 : ix 0 = 13 * b.val + q.val) (h1 : ix 1 = l) :
    ∀ a, (ix a + 1) * S640x1024.size a ≤ (Attn.Sh2 16640 W).size a := by
  rw [Fin.forall_fin_two]
  refine ⟨show (ix 0 + 1) * 640 ≤ 16640 from ?_, show (ix 1 + 1) * 1024 ≤ W from ?_⟩
  · rw [h0]; exact row_fits b.val q.val b.isLt q.isLt
  · rw [h1]; exact hl

theorem blk_words {W : ℕ} (ix : Fin 2 → ℕ) (h : ∀ a, (ix a + 1) * S640x1024.size a ≤ (Attn.Sh2 16640 W).size a) :
    (Rect.block (s := Attn.Sh2 16640 W) S640x1024.size ix h).WholeWords 2 := by
  have hd : 2 ∣ 640 := by decide
  have h2 : 2 ≤ (Attn.Sh2 16640 W).rank := le_refl 2
  refine Rect.PackedRows.wholeWords (Rect.packedRows_of_rowAxis _ 2 h2 ?_ ?_ rfl)
  · exact show 2 ∣ ix 0 * 640 from Dvd.dvd.mul_left hd _
  · exact show 2 ∣ 640 from hd

theorem blk_ok {W : ℕ} (b : Fin 2) (q : Fin 13) (l : ℕ) (hl : (l + 1) * 1024 ≤ W) (ix : Fin 2 → ℕ)
    (hx : ix = ![13 * b.val + q.val, l]) :
    ∃ h : (∀ a, (ix a + 1) * S640x1024.size a ≤ (Attn.Sh2 16640 W).size a), EltTy.bits .bf16 = 32 ∨
      (Rect.block (s := Attn.Sh2 16640 W) S640x1024.size ix h).WholeWords (EltTy.packing .bf16) :=
  ⟨blk_le b q l hl ix (by rw [hx]; rfl) (by rw [hx]; rfl), .inr (blk_words ix _)⟩

/-- Every window's block lies inside its array. -/
theorem tbl_ok : ok0 (tbl (F := F)) :=
  ⟨fun i => blk_ok (i 0) _ 2 (by omega) _ (transform_0_eq i), fun i => blk_ok (i 0) _ 3 (by omega) _ (transform_1_eq i),
    fun i => blk_ok (i 0) _ 1 (by omega) _ (transform_2_eq i), fun i => blk_ok (i 0) _ 0 (by omega) _ (transform_8_eq i)⟩

/-- The tables as the region admits them. -/
def adm (p : Fin 1) : (pcfgs (F := F) p).Adm := ⟨tbl, tbl_ok⟩

end Cert.KernelIdeal
-- ==== Proof.Run.lean ====
/-
  The run of the call: what the pipeline carries from step to step, the body's obligation at each step, and the run of
  the whole program, for any invariant of the running buffers that a step keeps.
-/
module

public import proofs.«01_k».proof.Proof.Tables
public import Idealize.ShloMosaic.Lib.Pipeline.Frame
public import Idealize.ShloMosaic.Lib.Pipeline.FrameBody
public import Idealize.ShloMosaic.Lib.Pipeline.DatRel
public import Idealize.ShloMosaic.Lib.Pipeline.ArrRel

@[expose] public section

noncomputable section

namespace Cert.KernelIdeal

open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat RDat)
open Cert.KernelIdeal.Gen

variable {F : FTy → Type} [FloatOps F] [Named F]

local notation "𝕄" => MT nD τ sig Unit (Elt F) ℕ (UR sig nD τ) ℕ
variable (F) in
/-- The pipeline at the tables' contents. -/
abbrev cfgM : Pipeline.Cfg sig Λ₀ := Pipeline.pin (pcfgs (F := F)) adm 0

/-- What is asked of the running buffers at some moment. -/
abbrev Cond : Type := Vec F (Attn.Sh2 640 128) .f32 → Vec F (Attn.Sh2 640 128) .f32 → Vec F (Attn.Sh3 8 640 256) .f32 → Prop

/-- The memrefs of a step. -/
def mems (t : Fin (cfgM F).N) : Attn.Mems sig :=
  ⟨spec0_0.stage ((cfgM F).slots t 0), spec0_1.stage ((cfgM F).slots t 1), spec0_2.stage ((cfgM F).slots t 2),
    Memref.whole cc0_scratch0, Memref.whole cc0_scratch1, Memref.whole cc0_scratch2, Memref.whole cc0_scratch3, Memref.whole cc0_scratch4⟩
def endsOf (t : Fin (cfgM F).N) : Attn.Ends sig :=
  ⟨spec0_3.stage ((cfgM F).slots t 3), spec0_4.stage ((cfgM F).slots t 4), spec0_5.stage ((cfgM F).slots t 5), spec0_6.stage ((cfgM F).slots t 6),
    spec0_7.stage ((cfgM F).slots t 7), spec0_8.stage ((cfgM F).slots t 8)⟩

/-- The running buffers between steps. -/
def carried (c : Dev nD) (I : Cond (F := F)) : sProp 𝕄 :=
  iprop(∃ X L A, ⌜I X L A⌝ ∗ (owns (c : Thread nD τ) (Memref.whole cc0_scratch0) fullShare X ∗ owns (c : Thread nD τ) (Memref.whole cc0_scratch1) fullShare L
    ∗ owns (c : Thread nD τ) (Memref.whole cc0_scratch4) fullShare A
    ∗ (∃ S, owns (c : Thread nD τ) (Memref.whole cc0_scratch2) fullShare S) ∗ (∃ P, owns (c : Thread nD τ) (Memref.whole cc0_scratch3) fullShare P)))

/-- The two tables, each at half. -/
def tabs (c : Dev nD) : sProp 𝕄 :=
  iprop(owns (c : Thread nD τ) (Memref.whole main_c) fullShare.right (tbl (F := F) 0) ∗ owns (c : Thread nD τ) (Memref.whole main_c_0) fullShare.right (tbl (F := F) 1))

theorem tabs_eq (c : Dev nD) : (Pipeline.ΦT pre0 (tbl (F := F)) c : sProp 𝕄) = tabs c := by
  unfold Pipeline.ΦT Pipeline.prefHeld tabs
  rw [show (Finset.univ : Finset (Fin 2)) = insert (0 : Fin 2) {(1 : Fin 2)} from by decide, Idealize.SL.BI.bigSep_insert (by decide), Idealize.SL.BI.bigSep_singleton]
  exact congrArg₂ BI.sep (owns_whole (c : Thread nD τ) main_c fullShare.right (tbl (F := F) 0)).symm
    (owns_whole (c : Thread nD τ) main_c_0 fullShare.right (tbl (F := F) 1)).symm

/-- What a step carries to the next. -/
def inv (c : Dev nD) (J : ℕ → Cond (F := F)) (n : ℕ) : sProp 𝕄 :=
  iprop(carried c (J n) ∗ (∃ r, prngReg c r) ∗ tabs c)

/-- The pipeline's data at the arrays' contents `A`: each input window's buffer holds its block. -/
def dat (c : Dev nD) (A : (w : Fin (cfgM F).W) → Buf (Elt F) (((cfgM F).win w).arr.view.loc (c.tc : Thread nD τ))) (J : ℕ → Cond (F := F)) :
    Dat τ (Elt F) Unit ℕ (UR sig nD τ) ℕ (cfgM F) c where
  A := A
  after := fun w t => match w with
    | 0 => (((cfgM F).win 0).blk t).view.read (Elt F) (A 0)
    | 1 => (((cfgM F).win 1).blk t).view.read (Elt F) (A 1)
    | 2 => (((cfgM F).win 2).blk t).view.read (Elt F) (A 2)
    | 3 => (((cfgM F).win 3).blk t).view.read (Elt F) (A 3)
    | 4 => (((cfgM F).win 4).blk t).view.read (Elt F) (A 4)
    | 5 => (((cfgM F).win 5).blk t).view.read (Elt F) (A 5)
    | 6 => (((cfgM F).win 6).blk t).view.read (Elt F) (A 6)
    | 7 => (((cfgM F).win 7).blk t).view.read (Elt F) (A 7)
    | 8 => Dat.unnamed 8 t
    | ⟨_ + 9, h⟩ => absurd h (Nat.not_lt.2 (Nat.le_add_left _ _))
  Φ := fun t => inv c J t.val
  q := Pipeline.shareOf spec0
  owed := fun _ => 0

section Data

variable (c : Dev nD) (A : (w : Fin (cfgM F).W) → Buf (Elt F) (((cfgM F).win w).arr.view.loc (c.tc : Thread nD τ))) (J : ℕ → Cond (F := F))

/-- The blocks that a step reads. -/
def blkQ (t : Fin (cfgM F).N) : Vec F (Attn.Sh2 640 1024) .bf16 := (((cfgM F).win 0).blk t).view.read (Elt F) (A 0)
def blkK (t : Fin (cfgM F).N) : Vec F (Attn.Sh2 640 1024) .bf16 := (((cfgM F).win 1).blk t).view.read (Elt F) (A 1)
def blkV (t : Fin (cfgM F).N) : Vec F (Attn.Sh2 640 1024) .bf16 := (((cfgM F).win 2).blk t).view.read (Elt F) (A 2)
def blk3 (t : Fin (cfgM F).N) : Vec F (Attn.Sh2 1 128) .f32 := (((cfgM F).win 3).blk t).view.read (Elt F) (A 3)
def blk4 (t : Fin (cfgM F).N) : Vec F (Attn.Sh2 1 128) .f32 := (((cfgM F).win 4).blk t).view.read (Elt F) (A 4)
def blk5 (t : Fin (cfgM F).N) : Vec F (Attn.Sh2 1 128) .f32 := (((cfgM F).win 5).blk t).view.read (Elt F) (A 5)
def blk6 (t : Fin (cfgM F).N) : Vec F (Attn.Sh2 1 128) .f32 := (((cfgM F).win 6).blk t).view.read (Elt F) (A 6)
def blk7 (t : Fin (cfgM F).N) : Vec F (Attn.Sh2 1 256) .f32 := (((cfgM F).win 7).blk t).view.read (Elt F) (A 7)

theorem before0 (t d) : (dat c A J).before 0 t d = blkQ c A t :=
  (dat c A J).before_in_eq_fetched 0 rfl (fun _ => rfl) (fun _ _ _ => rfl) (fun _ => rfl) t d
theorem before1 (t d) : (dat c A J).before 1 t d = blkK c A t :=
  (dat c A J).before_in_eq_fetched 1 rfl (fun _ => rfl) (fun _ _ _ => rfl) (fun _ => rfl) t d
theorem before2 (t d) : (dat c A J).before 2 t d = blkV c A t :=
  (dat c A J).before_in_eq_fetched 2 rfl (fun _ => rfl) (fun _ _ _ => rfl) (fun _ => rfl) t d
theorem before3 (t d) : (dat c A J).before 3 t d = blk3 c A t :=
  (dat c A J).before_in_eq_fetched 3 rfl (fun _ => rfl) (fun _ _ _ => rfl) (fun _ => rfl) t d
theorem before4 (t d) : (dat c A J).before 4 t d = blk4 c A t :=
  (dat c A J).before_in_eq_fetched 4 rfl (fun _ => rfl) (fun _ _ _ => rfl) (fun _ => rfl) t d
theorem before5 (t d) : (dat c A J).before 5 t d = blk5 c A t :=
  (dat c A J).before_in_eq_fetched 5 rfl (fun _ => rfl) (fun _ _ _ => rfl) (fun _ => rfl) t d
theorem before6 (t d) : (dat c A J).before 6 t d = blk6 c A t :=
  (dat c A J).before_in_eq_fetched 6 rfl (fun _ => rfl) (fun _ _ _ => rfl) (fun _ => rfl) t d
theorem before7 (t d) : (dat c A J).before 7 t d = blk7 c A t :=
  (dat c A J).before_in_eq_fetched 7 rfl (fun _ => rfl) (fun _ _ _ => rfl) (fun _ => rfl) t d

/-- The step of a grid point, -/
def stp (t : Fin (cfgM F).N) : Fin 91 := grid0.coords t 1
/-- its query tile, -/
def qt (t : Fin (cfgM F).N) : Fin 13 := Attn.qi (stp t)
/-- and its key tile. -/
def kt (t : Fin (cfgM F).N) : Fin 13 := Attn.ki (stp t)

/-- The mask's word. -/
def msk : F .f32 := Named.named κ "mask" 0xF149F2CA#32

/-- Only the result's window is not named. -/
def fgt : Fin (cfgM F).W → Bool := fun w => match w with | 8 => true | _ => false

/-- What a step leaves in the result's window. -/
def Rl (I : Fin (cfgM F).N → ℕ → Cond (F := F)) : (w : Fin (cfgM F).W) → (t : Fin (cfgM F).N) → (((cfgM F).win w).block.Idx → Elt F ((cfgM F).win w).elt) → Prop :=
  fun w t => match w with
    | 8 => fun X => Attn.OutRel (qt t) (kt t) (blk3 c A t) (blk4 c A t) (blk5 c A t) (blk6 c A t) (blk7 c A t) (I t 5) X
    | _ => fun _ => True

theorem val_castSucc {N : ℕ} (t : Fin N) : t.castSucc.val = t.val := rfl
theorem val_succ {N : ℕ} (t : Fin N) : t.succ.val = t.val + 1 := rfl

theorem run_eq (t : Fin (cfgM F).N) (X L : Vec F (Attn.Sh2 640 128) .f32) (B : Vec F (Attn.Sh3 8 640 256) .f32) :
    (Attn.run c (mems t) X L B : sProp 𝕄) = iprop(owns (c : Thread nD τ) (Memref.whole cc0_scratch0) fullShare X ∗ owns (c : Thread nD τ) (Memref.whole cc0_scratch1) fullShare L
    ∗ owns (c : Thread nD τ) (Memref.whole cc0_scratch4) fullShare B
    ∗ (∃ S, owns (c : Thread nD τ) (Memref.whole cc0_scratch2) fullShare S) ∗ (∃ P, owns (c : Thread nD τ) (Memref.whole cc0_scratch3) fullShare P)) := rfl

theorem pst (t : Fin (cfgM F).N) : Attn.StP (mems (F := F) t) := fun {kw} kf h => by
  refine View.stores_vmem kf.hs (Memref.IsWhole.storeExact_slice (Memref.isWhole_whole _) rfl _ ?_) (fun _ => rfl)
  refine Rect.packedRows_of_rowAxis _ 2 (show 2 ≤ 3 by decide) ?_ ?_ rfl
  · exact show 2 ∣ 0 by decide
  · exact show 2 ∣ 128 by decide

theorem ost (t : Fin (cfgM F).N) : ∀ h, ((endsOf (F := F) t).o.access (Attn.rO h)).Stores Finset.univ := fun h => by
  refine View.stores_vmem (show 0 < 640 * (256 * 1) by decide) (Memref.IsWhole.storeExact_slice (hstage0_8 (((cfgM F).slots t 8).cast nbuf0_8)) rfl _ ?_) (fun _ => rfl)
  refine Rect.packedRows_of_rowAxis _ 2 (show 2 ≤ 2 by decide) ?_ ?_ rfl
  · exact show 2 ∣ 0 by decide
  · exact show 2 ∣ 640 by decide

theorem hbody (𝒱₀ : Variants) (I : Fin (cfgM F).N → ℕ → Cond (F := F))
    (hI : ∀ t, Attn.StepInv (qt t) (kt t) msk (blkQ c A t) (blkK c A t) (blkV c A t) (J t.val) (I t))
    (hJ : ∀ t X L B, I t 5 X L B → J (t.val + 1) X L B) :
    Pipeline.BodyObligationRel (dat c A J) defs₀ 𝒱₀ () Set.univ fgt (Rl c A I) := fun t => by
  rw [bigSep_W0, bigSep_W0]
  rw [show (defs₀ (F := F) .tc (cfgM F).body ((cfgM F).bodyArgs t ((cfgM F).slots t)))
    = Attn.step (Memref.whole main_c) (Memref.whole main_c_0) (k0_off1 (grid0.coords t)) (k0_off1_inb (grid0.coords t)) numel1_S1
        (mems t) (endsOf t) (pst t) (ost t) msk from body_eq (grid0.coords t) _ _ _ _ _ _ _ _ _ _ _ _ _ _ _ _ _ _ _ _ _ _ _ _ _ _ _ _ _ _ _ _ (pst t) (ost t)]
  show iprop(inv c J t.castSucc.val ∗ (dat c A J).owesAt () t.castSucc
      ∗ (∃ d, owns (c : Thread nD τ) (mems t).q fullShare ((dat c A J).before 0 t d))
      ∗ (∃ d, owns (c : Thread nD τ) (mems t).k fullShare ((dat c A J).before 1 t d))
      ∗ (∃ d, owns (c : Thread nD τ) (mems t).v fullShare ((dat c A J).before 2 t d))
      ∗ (∃ d, owns (c : Thread nD τ) (endsOf t).lq1 fullShare ((dat c A J).before 3 t d))
      ∗ (∃ d, owns (c : Thread nD τ) (endsOf t).lk1 fullShare ((dat c A J).before 4 t d))
      ∗ (∃ d, owns (c : Thread nD τ) (endsOf t).lq2 fullShare ((dat c A J).before 5 t d))
      ∗ (∃ d, owns (c : Thread nD τ) (endsOf t).lk2 fullShare ((dat c A J).before 6 t d))
      ∗ (∃ d, owns (c : Thread nD τ) (endsOf t).g fullShare ((dat c A J).before 7 t d))
      ∗ (∃ Y, ⌜_⌝ ∗ owns (c : Thread nD τ) (endsOf t).o fullShare Y))
    ⊢ wp frame (wpE defs₀ 𝒱₀ (c : Thread nD τ) none) Set.univ _ fun _ =>
      iprop(inv c J t.succ.val ∗ (dat c A J).owesAt () t.castSucc
      ∗ owns (c : Thread nD τ) (mems t).q fullShare (blkQ c A t)
      ∗ owns (c : Thread nD τ) (mems t).k fullShare (blkK c A t)
      ∗ owns (c : Thread nD τ) (mems t).v fullShare (blkV c A t)
      ∗ owns (c : Thread nD τ) (endsOf t).lq1 fullShare (blk3 c A t)
      ∗ owns (c : Thread nD τ) (endsOf t).lk1 fullShare (blk4 c A t)
      ∗ owns (c : Thread nD τ) (endsOf t).lq2 fullShare (blk5 c A t)
      ∗ owns (c : Thread nD τ) (endsOf t).lk2 fullShare (blk6 c A t)
      ∗ owns (c : Thread nD τ) (endsOf t).g fullShare (blk7 c A t)
      ∗ (∃ X, ⌜Attn.OutRel (qt t) (kt t) (blk3 c A t) (blk4 c A t) (blk5 c A t) (blk6 c A t) (blk7 c A t) (I t 5) X⌝
          ∗ owns (c : Thread nD τ) (endsOf t).o fullShare X))
  simp only [before0, before1, before2, before3, before4, before5, before6, before7, val_castSucc, val_succ]
  unfold inv carried tabs
  iintro ⟨⟨⟨%X, %L, %B, %hP, Hr⟩, Hp, Ht⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%Y, -, H8⟩⟩
  iapply (Attn.wp_step (defs := defs₀ (F := F)) (d := c) 𝒱₀ none Set.univ (Memref.whole main_c) (Memref.whole main_c_0) (k0_off1 (grid0.coords t))
    (k0_off1_inb (grid0.coords t)) numel1_S1 (π := fullShare.right) (π' := fullShare.right) (stp t) (off1_zero (grid0.coords t)) (mems t) (endsOf t) (pst t) (ost t) msk (qt t) (kt t)
    (tbl0 (stp t)) (tbl1 (stp t)) (J t.val) (I t) (hI t)) $$ [Hr Ht H0 H1 H2 H3 H4 H5 H6 H7 H8]
  · isplitl [Ht]
    · iexact Ht
    isplitl [H0 H1 H2]
    · unfold Attn.wins
      isplitl [H0]
      · iexact H0
      isplitl [H1]
      · iexact H1
      · iexact H2
    isplitl [H3 H4 H5 H6 H7]
    · unfold Attn.ends
      isplitl [H3]
      · iexact H3
      isplitl [H4]
      · iexact H4
      isplitl [H5]
      · iexact H5
      isplitl [H6]
      · iexact H6
      · iexact H7
    isplitl [Hr]
    · unfold Attn.runI
      iexists X; iexists L; iexists B
      rw [run_eq]
      isplitr
      · ipureintro; exact hP
      · iexact Hr
    · iexists Y; iexact H8
  unfold Attn.wins Attn.ends Attn.runI
  simp only [run_eq]
  iintro %O %hO Ht ⟨H0, H1, H2⟩ ⟨H3, H4, H5, H6, H7⟩ ⟨%X', %L', %B', %hI', Hr⟩ H8
  isplitl [Hr Hp Ht]
  · isplitl [Hr]
    · iexists X'; iexists L'; iexists B'
      isplitr
      · ipureintro; exact hJ t X' L' B' hI'
      · iexact Hr
    isplitl [Hp]
    · iexact Hp
    · iexact Ht
  isplitl [Howe]
  · iexact Howe
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  iexists O
  isplitr
  · ipureintro; exact hO
  · iexact H8

end Data

section Whole

variable (m : (ℓ : Loc nD τ sig) → Buf (Elt F) ℓ)

/-- The buffers as the call finds them. -/
abbrev V (c : Dev nD) (b : Ref sig .tc) : Buf (Elt F) ((c : Thread nD τ).loc b) :=
  StableHlo.after (List.flatten [hostOps0]) (fun b => m (c, b)) (Proc.devRef .tc b)

theorem fresh0 : (hostOps0 (F := F)).Forall fun op => op.fresh = ∅ := by
  simp only [List.Forall]
  and_intros <;> rfl

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub) (by simp only [List.Forall]; exact fresh0) main_chain

theorem V_pre (c : Dev nD) : ∀ k : Fin 2, V m c (pre0.ref k) = tbl k
  | 0 => by show StableHlo.after hostOps0 (fun b => m (c, b)) (Proc.devRef .tc main_c) = _; after_results; rfl
  | 1 => by show StableHlo.after hostOps0 (fun b => m (c, b)) (Proc.devRef .tc main_c_0) = _; after_results; rfl

/-- The arrays as the call finds them. -/
def Arr (c : Dev nD) (w : Fin (cfgM F).W) : Buf (Elt F) (((cfgM F).win w).arr.view.loc (c.tc : Thread nD τ)) := V m c (Pipeline.arrRef spec0 w)

theorem rest_inv (c : Dev nD) (J : ℕ → Cond (F := F)) (h0 : ∀ X L B, J 0 X L B) :
    (iprop(Pipeline.ΦA spec0 c ∗ Pipeline.ΦT pre0 (tbl (F := F)) c) : sProp 𝕄) ⊢ inv c J 0 := by
  rw [tabs_eq]
  unfold Pipeline.ΦA inv carried
  rw [scopedRest0_eq]
  simp only [owns_whole]
  iintro ⟨⟨⟨⟨%X, HX⟩, ⟨%L, HL⟩, HS, HP, ⟨%B, HB⟩⟩, Hp⟩, Ht⟩
  isplitl [HX HL HS HP HB]
  · iexists X; iexists L; iexists B
    isplitr
    · ipureintro; exact h0 X L B
    isplitl [HX]
    · iexact HX
    isplitl [HL]
    · iexact HL
    isplitl [HB]
    · iexact HB
    isplitl [HS]
    · iexact HS
    · iexact HP
  isplitl [Hp]
  · iexact Hp
  · iexact Ht

theorem inv_rest (c : Dev nD) (J : ℕ → Cond (F := F)) (n : ℕ) : (inv c J n : sProp 𝕄) ⊢ Pipeline.ΦA spec0 c := by
  unfold Pipeline.ΦA inv carried
  rw [scopedRest0_eq]
  simp only [owns_whole]
  iintro ⟨⟨%X, %L, %B, -, HX, HL, HB, HS, HP⟩, Hp, -⟩
  isplitl [HX HL HS HP HB]
  · isplitl [HX]
    · iexists X; iexact HX
    isplitl [HL]
    · iexists L; iexact HL
    isplitl [HS]
    · iexact HS
    isplitl [HP]
    · iexact HP
    · iexists B; iexact HB
  · iexact Hp

/-- **The run**, for invariants that a step keeps. -/
theorem run (𝒱₀ : Variants) (g : Dev nD → PrngReg) (J : Dev nD → ℕ → Cond (F := F)) (I : Dev nD → Fin (cfgM F).N → ℕ → Cond (F := F))
    (h0 : ∀ c X L B, J c 0 X L B)
    (hI : ∀ c t, Attn.StepInv (qt t) (kt t) msk (blkQ c (Arr m c) t) (blkK c (Arr m c) t) (blkV c (Arr m c) t) (J c t.val) (I c t))
    (hJ : ∀ c t X L B, I c t 5 X L B → J c (t.val + 1) X L B) :
    θ_run (defs (F := F)) (onTc (τ := τ) (main (F := F))) ⟨m, fun _ => 0, g⟩ (fun r =>
      RDat.FramePost (cfgM F) (fun c => (dat c (Arr m c) (J c)).toRRel fgt (Rl c (Arr m c) (I c))) (V m) r ∧ r.2.sem = fun _ => 0) :=
  Pipeline.RDat.θ_run_frameP_track_shared pcfgs adm 0 launch₀0 defs₀ 𝒱₀ (fun c => (dat c (Arr m c) (J c)).toRRel fgt (Rl c (Arr m c) (I c))) m g main
    (fun c => (hbody c (Arr m c) (J c) 𝒱₀ (I c) (hI c) (hJ c)).toRRel) (fun _ _ _ => rfl) (fun _ _ => rfl) (V m) (hmain m 𝒱₀)
    (fun _ _ => rfl) (V_pre m)
    (fun c => rest_inv c (J c) (h0 c)) (fun c => inv_rest c (J c) _)
    _ (fun _ h => h)

/-- No operation before the call writes an argument. -/
theorem V_arg (c : Dev nD) (b : Ref sig .tc) (hb : b ∈ [main_arg0, main_arg1, main_arg2, main_arg3, main_arg4, main_arg5, main_arg6]) :
    V m c b = m ((c : Thread nD τ).loc b) := by
  simp only [List.mem_cons, List.mem_nil_iff, or_false] at hb
  rcases hb with rfl | rfl | rfl | rfl | rfl | rfl | rfl <;>
    (show StableHlo.after hostOps0 (fun b => m (c, b)) (Proc.devRef .tc _) = _; after_results)

theorem arg_rest : ∀ b ∈ [main_arg0, main_arg1, main_arg2, main_arg3, main_arg4, main_arg5, main_arg6], b ∈ Pipeline.restRefs sig spec0 := by decide

/-- **The frame**: from any memory the program ends, its arguments as they were. -/
theorem frame (𝒱₀ : Variants) (g : Dev nD → PrngReg) :
    θ_run (defs (F := F)) (onTc (τ := τ) (main (F := F))) ⟨m, fun _ => 0, g⟩ (fun r =>
      (∀ c : Dev nD, ∀ b ∈ [main_arg0, main_arg1, main_arg2, main_arg3, main_arg4, main_arg5, main_arg6],
        r.2.mem ((c : Thread nD τ).loc b) = m ((c : Thread nD τ).loc b)) ∧ r.2.sem = fun _ => 0) :=
  (θ_run _ _ _).mono (fun r h => ⟨fun c b hb => ((h.1 c).2 b (arg_rest b hb)).trans (V_arg m c b hb), h.2⟩)
    (run m 𝒱₀ g (fun _ _ _ _ _ => True) (fun _ _ _ _ _ _ => True) (fun _ _ _ _ => trivial)
      (fun c t => ⟨Attn.ki_le _, fun _ => trivial, fun _ _ _ _ _ => trivial, fun _ _ _ _ _ _ _ _ _ _ _ => trivial,
        fun _ _ _ _ _ _ _ _ _ _ _ => trivial, fun _ _ _ _ _ _ _ _ _ _ => trivial⟩)
      (fun _ _ _ _ _ _ => trivial))

end Whole

end Cert.KernelIdeal
-- ==== Proof.SameBits.lean ====
module

public import proofs.«01_k».proof.Proof.Body
public import proofs.«01_k».proof.Kernel
public import proofs.«01_k».proof.Proof.Gen.Kernel
public import Idealize.ShloMosaic.Lib.Pipeline.Regions

@[expose] public section

noncomputable section

namespace Cert.Kernel

open Idealize.ShloMosaic Idealize.SL.Sem
open Idealize.ShloMosaic.RefSig (ofTc tcTables tileCredit tileCredit_eq_zero tileCredit_pos)

variable {F : FTy → Type} [FloatOps F]
variable [Facts]
open Facts₀ Facts

theorem body_eq (i : grid0.Coords) (arg2 : Memref sig .tc .smem S91 .i32) (harg2 : arg2.IsWhole) (arg3 : Memref sig .tc .smem S91 .i32) (harg3 : arg3.IsWhole) (arg4 : Memref sig .tc .vmem S640x1024 .bf16) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S640x1024 .bf16) (harg12 : arg12.IsWhole) (arg13 : Memref sig .tc .vmem S640x128 .f32) (harg13 : arg13.IsWhole) (arg14 : Memref sig .tc .vmem S640x128 .f32) (harg14 : arg14.IsWhole) (arg15 : Memref sig .tc .vmem S8x128x640 .f32) (harg15 : arg15.IsWhole) (arg16 : Memref sig .tc .vmem S8x128x640 .bf16) (harg16 : arg16.IsWhole) (arg17 : Memref sig .tc .vmem S8x640x256 .f32) (harg17 : arg17.IsWhole)
    (hst : Attn.StP ⟨arg4, arg5, arg6, arg13, arg14, arg15, arg16, arg17⟩)
    (hso : ∀ h, (arg12.access (Attn.rO h)).Stores Finset.univ) :
    (cc0__attn_b_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit)
      = Attn.step arg2 arg3 (k0_off1 i) (k0_off1_inb i) numel1_S1
          ⟨arg4, arg5, arg6, arg13, arg14, arg15, arg16, arg17⟩ ⟨arg7, arg8, arg9, arg10, arg11, arg12⟩ hst hso
          (Scalar.ofBits .f32 0xF149F2CA#32) := by
  chain_rfl

end Cert.Kernel
-- ==== Proof.Arrays.lean ====
/-
  The arrays the call reads and writes, over the extended reals: what the operations before it leave in its operands, the
  blocks a step sees, and the result's array from what the flushed steps leave.
-/
module

public import proofs.«01_k».proof.Proof.Run
public import Idealize.ShloMosaic.Lib.Pipeline.ValueKit

@[expose] public section

set_option maxRecDepth 16384

noncomputable section

namespace Cert.KernelIdeal

open Idealize.ShloMosaic Idealize.ShloMosaic.TcCoe Idealize.SL.Sem
open Idealize.ShloMosaic.Pipeline (Dat RDat)
open Cert.KernelIdeal.Gen

/-! ## The steps -/

theorem co : ∀ t : Fin grid0.N, (grid0.coords t 0).val = t.val / 91 ∧ (grid0.coords t 1).val = t.val % 91 := by decide +kernel

theorem stp_val (t : Fin (cfgM Ideal).N) : (stp t).val = t.val % 91 := (co t).2
theorem lt_N (t : Fin (cfgM Ideal).N) : t.val < 182 := t.isLt

theorem idx8 (t : Fin (cfgM Ideal).N) : ((cfgM Ideal).win 8).index t = ![13 * (grid0.coords t 0).val + (qt t).val, 0] := transform_8_eq (grid0.coords t)
theorem idx0 (t : Fin (cfgM Ideal).N) : ((cfgM Ideal).win 0).index t = ![13 * (grid0.coords t 0).val + (qt t).val, 2] := transform_0_eq (grid0.coords t)
theorem idx1 (t : Fin (cfgM Ideal).N) : ((cfgM Ideal).win 1).index t = ![13 * (grid0.coords t 0).val + (kt t).val, 3] := transform_1_eq (grid0.coords t)
theorem idx2 (t : Fin (cfgM Ideal).N) : ((cfgM Ideal).win 2).index t = ![13 * (grid0.coords t 0).val + (kt t).val, 1] := transform_2_eq (grid0.coords t)

section Blk
variable (c : Dev nD) (A : (w : Fin (cfgM Ideal).W) → Buf (Elt Ideal) (((cfgM Ideal).win w).arr.view.loc (c.tc : Thread nD τ)))

/-- The batch of a step. -/
abbrev bt (t : Fin (cfgM Ideal).N) : Fin 2 := grid0.coords t 0

theorem blkQ_at (t : Fin (cfgM Ideal).N) (ρ : Fin 640) (l : Fin 1024) :
    blkQ c A t (ix2 ρ l) = (A 0 : Vec Ideal S16640x4096 .bf16) (ix2 ⟨640 * (13 * (bt t).val + (qt t).val) + ρ.val, by omega⟩ ⟨2048 + l.val, by omega⟩) := by
  refine congrArg (A 0 : Vec Ideal S16640x4096 .bf16) (funext fun a => Fin.ext ?_)
  show ((cfgM Ideal).win 0).index t a * ((cfgM Ideal).win 0).size a + 1 * ((ix2 ρ l : (Attn.Sh2 640 1024).Idx) a).val = _
  rw [idx0]
  fin_cases a
  · show (13 * (bt t).val + (qt t).val) * 640 + 1 * ρ.val = 640 * (13 * (bt t).val + (qt t).val) + ρ.val
    omega
  · show 2 * 1024 + 1 * l.val = 2048 + l.val
    omega

theorem blkK_at (t : Fin (cfgM Ideal).N) (ρ : Fin 640) (l : Fin 1024) :
    blkK c A t (ix2 ρ l) = (A 1 : Vec Ideal S16640x4096 .bf16) (ix2 ⟨640 * (13 * (bt t).val + (kt t).val) + ρ.val, by omega⟩ ⟨3072 + l.val, by omega⟩) := by
  refine congrArg (A 1 : Vec Ideal S16640x4096 .bf16) (funext fun a => Fin.ext ?_)
  show ((cfgM Ideal).win 1).index t a * ((cfgM Ideal).win 1).size a + 1 * ((ix2 ρ l : (Attn.Sh2 640 1024).Idx) a).val = _
  rw [idx1]
  fin_cases a
  · show (13 * (bt t).val + (kt t).val) * 640 + 1 * ρ.val = 640 * (13 * (bt t).val + (kt t).val) + ρ.val
    omega
  · show 3 * 1024 + 1 * l.val = 3072 + l.val
    omega
theorem blkV_at (t : Fin (cfgM Ideal).N) (ρ : Fin 640) (l : Fin 1024) :
    blkV c A t (ix2 ρ l) = (A 2 : Vec Ideal S16640x2048 .bf16) (ix2 ⟨640 * (13 * (bt t).val + (kt t).val) + ρ.val, by omega⟩ ⟨1024 + l.val, by omega⟩) := by
  refine congrArg (A 2 : Vec Ideal S16640x2048 .bf16) (funext fun a => Fin.ext ?_)
  show ((cfgM Ideal).win 2).index t a * ((cfgM Ideal).win 2).size a + 1 * ((ix2 ρ l : (Attn.Sh2 640 1024).Idx) a).val = _
  rw [idx2]
  fin_cases a
  · show (13 * (bt t).val + (kt t).val) * 640 + 1 * ρ.val = 640 * (13 * (bt t).val + (kt t).val) + ρ.val
    omega
  · show 1 * 1024 + 1 * l.val = 1024 + l.val
    omega
theorem blk3_at (t : Fin (cfgM Ideal).N) (x : Fin 128) : blk3 c A t (ix2 0 x) = (A 3 : Vec Ideal S1x128 .f32) (ix2 0 x) := by
  refine congrArg (A 3 : Vec Ideal S1x128 .f32) (funext fun a => Fin.ext ?_)
  fin_cases a
  · rfl
  · show 0 * 128 + 1 * x.val = x.val
    omega
theorem blk4_at (t : Fin (cfgM Ideal).N) (x : Fin 128) : blk4 c A t (ix2 0 x) = (A 4 : Vec Ideal S1x128 .f32) (ix2 0 x) := by
  refine congrArg (A 4 : Vec Ideal S1x128 .f32) (funext fun a => Fin.ext ?_)
  fin_cases a
  · rfl
  · show 0 * 128 + 1 * x.val = x.val
    omega
theorem blk5_at (t : Fin (cfgM Ideal).N) (x : Fin 128) : blk5 c A t (ix2 0 x) = (A 5 : Vec Ideal S1x128 .f32) (ix2 0 x) := by
  refine congrArg (A 5 : Vec Ideal S1x128 .f32) (funext fun a => Fin.ext ?_)
  fin_cases a
  · rfl
  · show 0 * 128 + 1 * x.val = x.val
    omega
theorem blk6_at (t : Fin (cfgM Ideal).N) (x : Fin 128) : blk6 c A t (ix2 0 x) = (A 6 : Vec Ideal S1x128 .f32) (ix2 0 x) := by
  refine congrArg (A 6 : Vec Ideal S1x128 .f32) (funext fun a => Fin.ext ?_)
  fin_cases a
  · rfl
  · show 0 * 128 + 1 * x.val = x.val
    omega
theorem blk7_at (t : Fin (cfgM Ideal).N) (x : Fin 256) : blk7 c A t (ix2 0 x) = (A 7 : Vec Ideal S1x256 .f32) (ix2 0 x) := by
  refine congrArg (A 7 : Vec Ideal S1x256 .f32) (funext fun a => Fin.ext ?_)
  fin_cases a
  · rfl
  · show 0 * 256 + 1 * x.val = x.val
    omega

end Blk

/-! ## The operands -/

section Host
variable (m : (ℓ : Loc nD τ sig) → Buf (Elt Ideal) ℓ) (c : Dev nD)

/-- The argument that holds the queries and keys, -/
def argQK : FVec Ideal S16640x4096 .f32 := m ((c : Thread nD τ).loc main_arg0)
/-- and the values'. -/
def argV : FVec Ideal S16640x2048 .f32 := m ((c : Thread nD τ).loc main_arg1)

/-- The factor the queries take before the call. -/
def qs : EReal := Ideal.div (Ideal.ofBits .f32 0x3F800000#32) (Ideal.sqrt (Ideal.ofBits .f32 0x43000000#32) * Ideal.log (Ideal.ofBits .f32 0x40000000#32))

/-- The columns' factors. -/
def colv : FVec Ideal S1x4096 .f32 :=
  shapeCast S1x4096 (concatenate S4096 0 [⟨S1024, (broadcastInDim S1024 ![] bcast_S_S1024 (Host.divf (constant S_ .f32 0x3F800000#32) (mulf (Host.sqrt (constant S_ .f32 0x43000000#32)) (Host.log (constant S_ .f32 0x40000000#32)))) : FVec Ideal S1024 .f32)⟩,
    ⟨S1024, (broadcastInDim S1024 ![] bcast_S_S1024 (constant S_ .f32 0x3F800000#32) : FVec Ideal S1024 .f32)⟩,
    ⟨S1024, (broadcastInDim S1024 ![] bcast_S_S1024 (Host.divf (constant S_ .f32 0x3F800000#32) (mulf (Host.sqrt (constant S_ .f32 0x43000000#32)) (Host.log (constant S_ .f32 0x40000000#32)))) : FVec Ideal S1024 .f32)⟩,
    ⟨S1024, (broadcastInDim S1024 ![] bcast_S_S1024 (constant S_ .f32 0x3F800000#32) : FVec Ideal S1024 .f32)⟩] concatenates_S1024_S1024_S1024_S1024_S4096_d0) shapeCasts_S4096_S1x4096

theorem V12 : (V m c main_v12 : FVec Ideal S16640x4096 .bf16) = truncf .bf16 (mulf (argQK m c)
    (broadcastInDim S16640x4096 ![0, 1] bcast_S1x4096_S16640x4096_0_1 colv)) bitsLt_bf16_f32 := by
  show StableHlo.after hostOps0 (fun b => m (c, b)) (Proc.devRef .tc main_v12) = _
  after_results
  rfl

theorem V13 : (V m c main_v13 : FVec Ideal S16640x2048 .bf16) = (truncf .bf16 (argV m c) bitsLt_bf16_f32 : FVec Ideal S16640x2048 .bf16) := by
  show StableHlo.after hostOps0 (fun b => m (c, b)) (Proc.devRef .tc main_v13) = _
  after_results
  rfl

theorem colv_q (l : Fin 1024) : colv (ix2 0 ⟨2048 + l.val, by omega⟩) = qs := by
  pointwise [colv, qs]
  rw [dif_neg (by omega), dif_neg (by omega), dif_pos (by omega)]
theorem colv_k (l : Fin 1024) : colv (ix2 0 ⟨3072 + l.val, by omega⟩) = (1 : EReal) := by
  pointwise [colv]
  rw [dif_neg (by omega), dif_neg (by omega), dif_neg (by omega)]

theorem scaled_at (x : FVec Ideal S16640x4096 .f32) (s : FVec Ideal S1x4096 .f32) (r : Fin 16640) (l : Fin 4096) :
    (truncf .bf16 (mulf x (broadcastInDim S16640x4096 ![0, 1] bcast_S1x4096_S16640x4096_0_1 s)) bitsLt_bf16_f32 : FVec Ideal S16640x4096 .bf16) (ix2 r l)
      = (x (ix2 r l) : EReal) * s (ix2 0 l) := by
  pointwise []

theorem opQ (r : Fin 16640) (l : Fin 1024) : (V m c main_v12 : FVec Ideal S16640x4096 .bf16) (ix2 r ⟨2048 + l.val, by omega⟩)
    = (argQK m c (ix2 r ⟨2048 + l.val, by omega⟩) : EReal) * qs := by
  rw [V12, ← colv_q l]
  exact scaled_at _ _ _ _
theorem opK (r : Fin 16640) (l : Fin 1024) : (V m c main_v12 : FVec Ideal S16640x4096 .bf16) (ix2 r ⟨3072 + l.val, by omega⟩)
    = argQK m c (ix2 r ⟨3072 + l.val, by omega⟩) := by
  rw [V12]
  refine (scaled_at _ _ _ _).trans ?_
  rw [colv_k l]
  exact mul_one _
theorem opV (r : Fin 16640) (l : Fin 2048) : (V m c main_v13 : FVec Ideal S16640x2048 .bf16) (ix2 r l)
    = argV m c (ix2 r l) := by
  rw [V13]
  rfl
theorem op3 (x : Fin 128) : (V m c main_v14 : FVec Ideal S1x128 .f32) (ix2 0 x) = (m ((c : Thread nD τ).loc main_arg2) : FVec Ideal S128 .f32) (ix1 x) := by
  have h : (V m c main_v14 : FVec Ideal S1x128 .f32) = shapeCast S1x128 (m ((c : Thread nD τ).loc main_arg2) : FVec Ideal S128 .f32) shapeCasts_S128_S1x128 := by
    show StableHlo.after hostOps0 (fun b => m (c, b)) (Proc.devRef .tc main_v14) = _
    after_results
    rfl
  rw [h]
  pointwise []
theorem op4 (x : Fin 128) : (V m c main_v15 : FVec Ideal S1x128 .f32) (ix2 0 x) = (m ((c : Thread nD τ).loc main_arg3) : FVec Ideal S128 .f32) (ix1 x) := by
  have h : (V m c main_v15 : FVec Ideal S1x128 .f32) = shapeCast S1x128 (m ((c : Thread nD τ).loc main_arg3) : FVec Ideal S128 .f32) shapeCasts_S128_S1x128 := by
    show StableHlo.after hostOps0 (fun b => m (c, b)) (Proc.devRef .tc main_v15) = _
    after_results
    rfl
  rw [h]
  pointwise []
theorem op5 (x : Fin 128) : (V m c main_v16 : FVec Ideal S1x128 .f32) (ix2 0 x) = (m ((c : Thread nD τ).loc main_arg4) : FVec Ideal S128 .f32) (ix1 x) := by
  have h : (V m c main_v16 : FVec Ideal S1x128 .f32) = shapeCast S1x128 (m ((c : Thread nD τ).loc main_arg4) : FVec Ideal S128 .f32) shapeCasts_S128_S1x128 := by
    show StableHlo.after hostOps0 (fun b => m (c, b)) (Proc.devRef .tc main_v16) = _
    after_results
    rfl
  rw [h]
  pointwise []
theorem op6 (x : Fin 128) : (V m c main_v17 : FVec Ideal S1x128 .f32) (ix2 0 x) = (m ((c : Thread nD τ).loc main_arg5) : FVec Ideal S128 .f32) (ix1 x) := by
  have h : (V m c main_v17 : FVec Ideal S1x128 .f32) = shapeCast S1x128 (m ((c : Thread nD τ).loc main_arg5) : FVec Ideal S128 .f32) shapeCasts_S128_S1x128 := by
    show StableHlo.after hostOps0 (fun b => m (c, b)) (Proc.devRef .tc main_v17) = _
    after_results
    rfl
  rw [h]
  pointwise []
theorem op7 (x : Fin 256) : (V m c main_v18 : FVec Ideal S1x256 .f32) (ix2 0 x) = (m ((c : Thread nD τ).loc main_arg6) : FVec Ideal S256 .f32) (ix1 x) := by
  have h : (V m c main_v18 : FVec Ideal S1x256 .f32) = shapeCast S1x256 (m ((c : Thread nD τ).loc main_arg6) : FVec Ideal S256 .f32) shapeCasts_S256_S1x256 := by
    show StableHlo.after hostOps0 (fun b => m (c, b)) (Proc.devRef .tc main_v18) = _
    after_results
    rfl
  rw [h]
  pointwise []

end Host

/-! ## The result -/

/-- The query tile's row block at a step's number, -/
def rowN (n : ℕ) : ℕ := 13 * (n / 91) + Attn.qiN (n % 91)
theorem off_diag : ∀ t : Fin 182, Attn.kiN (t.val % 91) ≠ Attn.qiN (t.val % 91) → t.val + 1 < 182 ∧ rowN (t.val + 1) = rowN t.val := by decide +kernel
theorem row_flushed : ∀ β : Fin 26, ∃ t : Fin 182, rowN t.val = β.val ∧ (t.val + 1 = 182 ∨ rowN (t.val + 1) ≠ rowN t.val) := by decide +kernel

theorem row_eq (t : Fin (cfgM Ideal).N) : 13 * (grid0.coords t 0).val + (qt t).val = rowN t.val := by
  unfold rowN
  rw [(co t).1]
  show _ + Attn.qiN (stp t).val = _
  rw [stp_val]
theorem idx8' (t : Fin (cfgM Ideal).N) : ((cfgM Ideal).win 8).index t = ![rowN t.val, 0] := by rw [idx8, row_eq]

theorem flush_diag (t : Fin (cfgM Ideal).N) (h : ((cfgM Ideal).win 8).flush t = true) : (kt t).val = (qt t).val := by
  by_contra hne
  have hne' : Attn.kiN (t.val % 91) ≠ Attn.qiN (t.val % 91) := by
    rw [← stp_val]; exact hne
  obtain ⟨h1, h2⟩ := off_diag ⟨t.val, lt_N t⟩ hne'
  simp only at h1 h2
  unfold Pipeline.Window.flush at h
  rw [Bool.and_eq_true] at h
  have h3 := of_decide_eq_true ((Bool.or_eq_true_iff.mp h.2).resolve_left fun e => (show t.val + 1 ≠ 182 by omega) (of_decide_eq_true e))
  obtain ⟨hl, h4⟩ := h3
  exact h4 (by rw [idx8', idx8', h2])

theorem covers8 : ((cfgM Ideal).win 8).Covers := by
  refine ⟨by decide, fun β => ?_⟩
  obtain ⟨t, ht, hf⟩ : ∃ t : Fin (cfgM Ideal).N, rowN t.val = (β 0).val ∧ (t.val + 1 = 182 ∨ rowN (t.val + 1) ≠ rowN t.val) := row_flushed ⟨(β 0).val, (β 0).isLt⟩
  refine ⟨t, ?_, fun a => ?_⟩
  · unfold Pipeline.Window.flush
    rw [Bool.and_eq_true]
    refine ⟨rfl, ?_⟩
    rw [Bool.or_eq_true_iff]
    by_cases he : t.val + 1 = 182
    · exact .inl (decide_eq_true he)
    · refine .inr (decide_eq_true ⟨show t.val + 1 < 182 by have := lt_N t; omega, fun e => ?_⟩)
      rw [idx8', idx8'] at e
      exact (hf.resolve_left he) (congrFun e 0)
  · rw [idx8']
    refine ⟨?_, ?_⟩
    · fin_cases a
      · exact ht
      · have : (β 1).val < 1 := (β 1).isLt
        show 0 = (β 1).val
        omega
    · exact .inl rfl

/-- **The result's array**: it is `G` if every finished tile is `G`'s. -/
theorem result_eq (m : (ℓ : Loc nD τ sig) → Buf (Elt Ideal) ℓ) (J : Dev nD → ℕ → Cond (F := Ideal)) (I : Dev nD → Fin (cfgM Ideal).N → ℕ → Cond (F := Ideal))
    (r : PUnit × MemSt nD τ sig (Elt Ideal))
    (h : RDat.FramePost (cfgM Ideal) (fun c => (dat c (Arr m c) (J c)).toRRel fgt (Rl c (Arr m c) (I c))) (V m) r) (c : Dev nD)
    (G : FVec Ideal S16640x1024 .bf16)
    (hG : ∀ t : Fin (cfgM Ideal).N, (kt t).val = (qt t).val → ∀ X : Vec Ideal (Attn.Sh2 640 1024) .bf16,
      Attn.OutRel (qt t) (kt t) (blk3 c (Arr m c) t) (blk4 c (Arr m c) t) (blk5 c (Arr m c) t) (blk6 c (Arr m c) t) (blk7 c (Arr m c) t) (I c t 5) X →
        ∀ (ρ : Fin 640) (l : Fin 1024), X (ix2 ρ l) = G (ix2 ⟨640 * (13 * (bt t).val + (qt t).val) + ρ.val, by omega⟩ l)) :
    r.2.mem ((c.tc : Thread nD τ).loc main_v19) = G := by
  obtain ⟨after, hL, hA⟩ := RDat.FramePost.exists_exact h c
  refine (hA 8).trans ?_
  refine Dat.arrAt_eq_of_covers _ 8 _ covers8 fun t hf y => ?_
  have hR := (dat c (Arr m c) (J c)).toRRel_leaves (Rl := Rl c (Arr m c) (I c)) (fgt := fgt) (w := 8) rfl (hL 8 t hf)
  have hX := hG t (flush_diag t hf) (after 8 t) hR
  blk_simp
  refine Eq.trans (congrArg (after 8 t) (show (y : (Attn.Sh2 640 1024).Idx) = ix2 (y 0) (y 1) from ?_)) ((hX (y 0) (y 1)).trans (congrArg G ?_))
  · funext a; fin_cases a <;> rfl
  · funext a; apply Fin.ext
    refine Eq.trans ?_ (show ((cfgM Ideal).win 8).index t a * ((cfgM Ideal).win 8).size a + 1 * (y a).val = _ from rfl)
    rw [idx8]
    fin_cases a
    · show 640 * (13 * (bt t).val + (qt t).val) + (y 0).val = (13 * (bt t).val + (qt t).val) * 640 + 1 * (y 0).val
      omega
    · show (y 1).val = 0 * 1024 + 1 * (y 1).val
      omega

end Cert.KernelIdeal

end
-- ==== Proof.RefRead.lean ====
/-
  The reference's result in stages, each read at an index over the extended reals.
-/
module

public import proofs.«01_k».proof.Proof.Gen.ReferenceIdeal.Run
public import Idealize.ShloMosaic.Lib.Pipeline.ValueKit

@[expose] public section

set_option maxRecDepth 16384

noncomputable section

namespace Cert.ReferenceIdeal

open Idealize.ShloMosaic Cert.ReferenceIdeal.Gen Cert.ReferenceIdeal.Value

/-- The tokens' queries by head and half, -/
def rq (x : FVec Ideal S16640x4096 .f32) : FVec Ideal S2x8208x4x2x128 .f32 :=
  shapeCast _ (extractStridedSlice S2x8208x1024 ![0, 0, 2048] (extractStridedSlice S2x8208x4096 ![0, 112, 0] (shapeCast _ x shapeCasts_S16640x4096_S2x8320x4096) slices_S2x8320x4096_S2x8208x4096_0_112_0) slices_S2x8208x4096_S2x8208x1024_0_0_2048) shapeCasts_S2x8208x1024_S2x8208x4x2x128
/-- their keys, -/
def rk (x : FVec Ideal S16640x4096 .f32) : FVec Ideal S2x8208x4x2x128 .f32 :=
  shapeCast _ (extractStridedSlice S2x8208x1024 ![0, 0, 3072] (extractStridedSlice S2x8208x4096 ![0, 112, 0] (shapeCast _ x shapeCasts_S16640x4096_S2x8320x4096) slices_S2x8320x4096_S2x8208x4096_0_112_0) slices_S2x8208x4096_S2x8208x1024_0_0_3072) shapeCasts_S2x8208x1024_S2x8208x4x2x128
/-- and their values. -/
def rv (x : FVec Ideal S16640x2048 .f32) : FVec Ideal S2x8208x4x256 .f32 :=
  shapeCast _ (extractStridedSlice S2x8208x1024 ![0, 0, 1024] (extractStridedSlice S2x8208x2048 ![0, 112, 0] (shapeCast _ x shapeCasts_S16640x2048_S2x8320x2048) slices_S2x8320x2048_S2x8208x2048_0_112_0) slices_S2x8208x2048_S2x8208x1024_0_0_1024) shapeCasts_S2x8208x1024_S2x8208x4x256

/-- The first half, -/
def half0 (q : FVec Ideal S2x8208x4x2x128 .f32) : FVec Ideal S2x8208x4x128 .f32 :=
  shapeCast _ (extractStridedSlice S2x8208x4x1x128 ![0, 0, 0, 0, 0] q slices_S2x8208x4x2x128_S2x8208x4x1x128_0_0_0_0_0) shapeCasts_S2x8208x4x1x128_S2x8208x4x128
/-- and the second. -/
def half1 (q : FVec Ideal S2x8208x4x2x128 .f32) : FVec Ideal S2x8208x4x128 .f32 :=
  shapeCast _ (extractStridedSlice S2x8208x4x1x128 ![0, 0, 0, 1, 0] q slices_S2x8208x4x2x128_S2x8208x4x1x128_0_0_0_1_0) shapeCasts_S2x8208x4x1x128_S2x8208x4x128

/-- The keys a query sees. -/
def causal : IVec S2x4x8208x8208 1 :=
  broadcastInDim S2x4x8208x8208 ![0, 1, 2, 3] bcast_S1x1x8208x8208_S2x4x8208x8208_0_1_2_3 (broadcastInDim S1x1x8208x8208 ![2, 3] bcast_S8208x8208_S1x1x8208x8208_2_3 (cmpi .sle (broadcastInDim S8208x8208 ![0, 1] bcast_S1x8208_S8208x8208_0_1 (broadcastInDim S1x8208 ![1] bcast_S8208_S1x8208_1 (iotaInDim S8208 32 0))) (broadcastInDim S8208x8208 ![0, 1] bcast_S8208x1_S8208x8208_0_1 (broadcastInDim S8208x1 ![0] bcast_S8208_S8208x1_0 (iotaInDim S8208 32 0)))))

/-- The masked scores. -/
def scoresM (q k : FVec Ideal S2x8208x4x128 .f32) : FVec Ideal S2x4x8208x8208 .f32 :=
  select causal (Host.divf (Host.dotGeneral dot_S2x8208x4x128_S2x8208x4x128_S2x4x8208x8208_3_3_1_1_02_02 none q k) (broadcastInDim S2x4x8208x8208 ![] bcast_S_S2x4x8208x8208 (Host.sqrt (constant S_ .f32 0x43000000#32)))) (broadcastInDim S2x4x8208x8208 ![] bcast_S_S2x4x8208x8208 (id (constant S_ .f32 0xFF800000#32)))

/-- The row's maximum, -/
def rmax (s : FVec Ideal S2x4x8208x8208 .f32) : FVec Ideal S2x4x8208 .f32 :=
  maximumf (broadcastInDim S2x4x8208 ![] bcast_S_S2x4x8208 (constant S_ .f32 0xFF800000#32)) (Host.reduce FloatOps.maximumf s (constant S_ .f32 0xFF800000#32) reducesTo_S2x4x8208x8208_S2x4x8208_d3 h_S_)

/-- and the exponentials over it. -/
def expM (s : FVec Ideal S2x4x8208x8208 .f32) : FVec Ideal S2x4x8208x8208 .f32 :=
  Host.exp (subf s (broadcastInDim S2x4x8208x8208 ![0, 1, 2, 3] bcast_S2x4x8208x1_S2x4x8208x8208_0_1_2_3 (broadcastInDim S2x4x8208x1 ![0, 1, 2] bcast_S2x4x8208_S2x4x8208x1_0_1_2 (rmax s))))

/-- The exponentials over their row sums. -/
def soft (p : FVec Ideal S2x4x8208x8208 .f32) : FVec Ideal S2x4x8208x8208 .f32 :=
  Host.divf p (broadcastInDim S2x4x8208x8208 ![0, 1, 2, 3] bcast_S2x4x8208x1_S2x4x8208x8208_0_1_2_3 (broadcastInDim S2x4x8208x1 ![0, 1, 2] bcast_S2x4x8208_S2x4x8208x1_0_1_2 (Host.reduceAdd p (constant S_ .f32 0x00000000#32) reducesTo_S2x4x8208x8208_S2x4x8208_d3 h_S_)))

/-- λ. -/
def rlam (a b c d : FVec Ideal S128 .f32) : FVec Ideal S_ .f32 :=
  addf (subf (Host.exp (Host.reduceAdd (mulf a b) (constant S_ .f32 0x00000000#32) reducesTo_S128_S_d0 h_S_)) (Host.exp (Host.reduceAdd (mulf c d) (constant S_ .f32 0x00000000#32) reducesTo_S128_S_d0 h_S_))) (constant S_ .f32 0x3E4CCCCD#32)

/-- The difference of the two maps applied to the values. -/
def attn (lam : FVec Ideal S_ .f32) (p0 p1 : FVec Ideal S2x4x8208x8208 .f32) (v : FVec Ideal S2x8208x4x256 .f32) : FVec Ideal S2x8208x4x256 .f32 :=
  transpose S2x8208x4x256 [0, 3, 1, 2] (Host.dotGeneral (φ₁ := .f32) (φ₂ := .f32) dot_S2x8208x4x256_S2x4x8208x8208_S2x4x256x8208_1_3_3_2_02_01 none v (subf p0 (mulf (broadcastInDim S2x4x8208x8208 ![] bcast_S_S2x4x8208x8208 lam) p1))) transposes_S2x4x256x8208_S2x8208x4x256_0_3_1_2

/-- The normalised rows. -/
def norm (o : FVec Ideal S2x8208x4x256 .f32) (g : FVec Ideal S256 .f32) : FVec Ideal S2x8208x4x256 .f32 :=
  mulf (mulf (mulf o (broadcastInDim S2x8208x4x256 ![0, 1, 2, 3] bcast_S2x8208x4x1_S2x8208x4x256_0_1_2_3 (Host.rsqrt (addf (Host.divf (broadcastInDim S2x8208x4x1 ![0, 1, 2] bcast_S2x8208x4_S2x8208x4x1_0_1_2 (Host.reduceAdd (mulf o o) (constant S_ .f32 0x00000000#32) reducesTo_S2x8208x4x256_S2x8208x4_d3 h_S_)) (broadcastInDim S2x8208x4x1 ![] bcast_S_S2x8208x4x1 (constant S_ .f32 0x43800000#32))) (broadcastInDim S2x8208x4x1 ![] bcast_S_S2x8208x4x1 (constant S_ .f32 0x3727C5AC#32)))))) (broadcastInDim S2x8208x4x256 ![0, 1, 2, 3] bcast_S1x1x1x256_S2x8208x4x256_0_1_2_3 (broadcastInDim S1x1x1x256 ![3] bcast_S256_S1x1x1x256_3 g))) (broadcastInDim S2x8208x4x256 ![] bcast_S_S2x8208x4x256 (constant S_ .f32 0x3F4CCCCD#32))

/-- The rows behind the padding's. -/
def rout (o : FVec Ideal S2x8208x4x256 .f32) : FVec Ideal S16640x1024 .bf16 :=
  truncf .bf16 (shapeCast _ (pad S2x8320x1024 ![0, 112, 0] ![0, 0, 0] ![0, 0, 0] (shapeCast _ o shapeCasts_S2x8208x4x256_S2x8208x1024) (sitofp .f32 (constantI S_ 32 0#32) : FVec Ideal S_ .f32) pads_S2x8208x1024_S2x8320x1024_000_11200_000 h_S_) shapeCasts_S2x8320x1024_S16640x1024) bitsLt_bf16_f32

theorem res_eq (m : (ℓ : Loc nD τ sig) → Buf (Elt Ideal) ℓ) (c : Dev nD) :
    res_main_v90 (F := Ideal) m c
      = rout (norm (attn (rlam (m ((c.tc : Thread nD τ).loc main_arg2)) (m ((c.tc : Thread nD τ).loc main_arg3)) (m ((c.tc : Thread nD τ).loc main_arg4)) (m ((c.tc : Thread nD τ).loc main_arg5)))
          (soft (expM (scoresM (half0 (rq (m ((c.tc : Thread nD τ).loc main_arg0)))) (half0 (rk (m ((c.tc : Thread nD τ).loc main_arg0)))))))
          (soft (expM (scoresM (half1 (rq (m ((c.tc : Thread nD τ).loc main_arg0)))) (half1 (rk (m ((c.tc : Thread nD τ).loc main_arg0)))))))
          (rv (m ((c.tc : Thread nD τ).loc main_arg1)))) (m ((c.tc : Thread nD τ).loc main_arg6))) := rfl

theorem half0_at (x : FVec Ideal S2x8208x4x2x128 .f32) (b : Fin 2) (n : Fin 8208) (h : Fin 4) (d : Fin 128) :
    half0 x (ix4 b n h d) = x (ix5 b n h 0 d) := by
  pointwise [half0]
theorem half1_at (x : FVec Ideal S2x8208x4x2x128 .f32) (b : Fin 2) (n : Fin 8208) (h : Fin 4) (d : Fin 128) :
    half1 x (ix4 b n h d) = x (ix5 b n h 1 d) := by
  pointwise [half1]
theorem soft_at (s : FVec Ideal S2x4x8208x8208 .f32) (b : Fin 2) (h : Fin 4) (n p : Fin 8208) :
    soft s (ix4 b h n p) = Ideal.div (s (ix4 b h n p)) (∑ p, s (ix4 b h n p)) := by
  pointwise [soft]
theorem rlam_at (a b c d : FVec Ideal S128 .f32) :
    rlam a b c d ix0 = Ideal.exp (∑ x : Fin 128, (a (ix1 x) : EReal) * b (ix1 x)) - Ideal.exp (∑ x : Fin 128, (c (ix1 x) : EReal) * d (ix1 x))
      + Ideal.ofBits .f32 0x3E4CCCCD#32 := by
  pointwise [rlam]
theorem attn_at (lam : FVec Ideal S_ .f32) (p0 p1 : FVec Ideal S2x4x8208x8208 .f32) (v : FVec Ideal S2x8208x4x256 .f32)
    (b : Fin 2) (n : Fin 8208) (h : Fin 4) (e : Fin 256) :
    attn lam p0 p1 v (ix4 b n h e) = ∑ p : Fin 8208, v (ix4 b p h e) * (p0 (ix4 b h n p) - lam ix0 * p1 (ix4 b h n p)) := by
  pointwise [attn]
theorem norm_at (o : FVec Ideal S2x8208x4x256 .f32) (g : FVec Ideal S256 .f32) (b : Fin 2) (n : Fin 8208) (h : Fin 4) (e : Fin 256) :
    norm o g (ix4 b n h e) = o (ix4 b n h e) * Ideal.rsqrt (Ideal.div (∑ x : Fin 256, o (ix4 b n h x) * o (ix4 b n h x)) (Ideal.ofBits .f32 0x43800000#32) + Ideal.ofBits .f32 0x3727C5AC#32)
      * g (ix1 e) * Ideal.ofBits .f32 0x3F4CCCCD#32 := by
  pointwise [norm]
end Cert.ReferenceIdeal

end
-- ==== Proof.Flash.lean ====
/-
  The online softmax of one row over the extended reals: what the running maximum, denominator and accumulator of a row
  say of the keys seen so far, and that one tile of keys keeps it.
-/
module

public import Idealize.ShloMosaic.PureOps.Ideal
public import Mathlib.Analysis.SpecialFunctions.Pow.Real

@[expose] public section

noncomputable section

namespace Cert.Flash

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score against a reference exponent. -/
def w (s M : ℝ) : ℝ := Real.rpow 2 (s - M)

theorem w_pos (s M : ℝ) : 0 < w s M := Real.rpow_pos_of_pos (by norm_num) _
theorem w_shift (s M M' : ℝ) : Real.rpow 2 (M - M') * w s M = w s M' := by
  unfold w
  rw [show Real.rpow 2 (M - M') * Real.rpow 2 (s - M) = Real.rpow 2 ((M - M') + (s - M)) from (Real.rpow_add (by norm_num : (0 : ℝ) < 2) _ _).symm]
  congr 1; ring

/-- The running buffers of a row after the keys of `S`: the denominator and the accumulator are the weighted sums against
    the running maximum, which is a real number once a key was seen. -/
def Inv (s : ℕ → ℝ) (v : ℕ → Fin 256 → ℝ) (S : Finset ℕ) (X L : EReal) (A : Fin 256 → EReal) : Prop :=
  (S = ∅ ∧ X = ⊥ ∧ L = 0 ∧ ∀ e, A e = 0) ∨
    (S.Nonempty ∧ ∃ M : ℝ, X = M ∧ L = ((∑ k ∈ S, w (s k) M : ℝ) : EReal) ∧ ∀ e, A e = ((∑ k ∈ S, w (s k) M * v k e : ℝ) : EReal))

/-- A fold of maxima of numbers below ⊤ is below ⊤; -/
theorem fold_ne_top {n : ℕ} (f : Fin n → EReal) (h : ∀ y, f y ≠ ⊤) : Finset.fold max ⊥ f Finset.univ ≠ ⊤ := by
  rw [← lt_top_iff_ne_top, Finset.fold_max_lt]
  exact ⟨bot_lt_top, fun y _ => lt_top_iff_ne_top.mpr (h y)⟩
/-- it is at least each of them, -/
theorem le_fold {n : ℕ} (f : Fin n → EReal) (y : Fin n) : f y ≤ Finset.fold max ⊥ f Finset.univ :=
  (Finset.le_fold_max _).mpr (.inr ⟨y, Finset.mem_univ y, le_rfl⟩)
/-- and ⊥ if they all are. -/
theorem fold_bot {n : ℕ} (f : Fin n → EReal) (h : ∀ y, f y = ⊥) : Finset.fold max ⊥ f Finset.univ = ⊥ := by
  apply le_bot_iff.mp
  rw [Finset.fold_max_le]
  exact ⟨le_rfl, fun y _ => (h y).le⟩

/-- **One tile of keys**: `T` are the positions of the tile that count, `key` their keys, new ones. -/
theorem step {s : ℕ → ℝ} {v : ℕ → Fin 256 → ℝ} {S : Finset ℕ} {X L : EReal} {A : Fin 256 → EReal} (h : Inv s v S X L A)
    {n : ℕ} (key : Fin n → ℕ) (hinj : Function.Injective key) (T : Finset (Fin n)) (hT : ∀ y ∈ T, key y ∉ S)
    (σ : Fin n → EReal) (hσ : ∀ y, σ y = if y ∈ T then (s (key y) : EReal) else ⊥)
    (V : Fin n → Fin 256 → EReal) (hV : ∀ y e, V y e = (v (key y) e : EReal))
    (X' L' : EReal) (A' : Fin 256 → EReal) (hX : X' = max X (Finset.fold max ⊥ σ Finset.univ))
    (hL : L' = Ideal.exp2 (X - X') * L + ∑ y, Ideal.exp2 (σ y - X'))
    (hA : ∀ e, A' e = Ideal.exp2 (X - X') * A e + ∑ y, Ideal.exp2 (σ y - X') * V y e) :
    Inv s v (S ∪ T.image key) X' L' A' := by
  by_cases hST : S ∪ T.image key = ∅
  · obtain ⟨hS, hTi⟩ := Finset.union_eq_empty.mp hST
    have hT0 : T = ∅ := Finset.image_eq_empty.mp hTi
    rcases h with ⟨-, hX0, hL0, hA0⟩ | ⟨hne, -⟩
    · have hb : ∀ y, σ y = ⊥ := fun y => by rw [hσ y, if_neg (by rw [hT0]; exact Finset.notMem_empty y)]
      have hX' : X' = ⊥ := by rw [hX, hX0, fold_bot σ hb, max_self]
      refine .inl ⟨hST, hX', ?_, fun e => ?_⟩
      · rw [hL, hL0, hX']; simp [hb, Ideal.exp2_bot]
      · rw [hA, hA0, hX']; simp [hb, Ideal.exp2_bot]
    · exact absurd hS hne.ne_empty
  · have hne : (S ∪ T.image key).Nonempty := Finset.nonempty_iff_ne_empty.mpr hST
    have htop : X' ≠ ⊤ := by
      rw [hX]
      refine (max_lt ?_ (lt_top_iff_ne_top.mpr (fold_ne_top σ fun y => ?_))).ne
      · rcases h with ⟨-, hX0, -⟩ | ⟨-, M, hX0, -⟩
        · rw [hX0]; exact bot_lt_top
        · rw [hX0]; exact EReal.coe_lt_top M
      · rw [hσ y]; split
        · exact EReal.coe_ne_top _
        · exact bot_ne_top
    have hbot : X' ≠ ⊥ := by
      obtain ⟨k, hk⟩ := hne
      rcases Finset.mem_union.mp hk with hk | hk
      · rcases h with ⟨hS, -⟩ | ⟨-, M, hX0, -⟩
        · rw [hS] at hk; exact absurd hk (Finset.notMem_empty k)
        · refine (lt_of_lt_of_le (EReal.bot_lt_coe M) ?_).ne'
          rw [hX, hX0]; exact le_max_left _ _
      · obtain ⟨y, hy, -⟩ := Finset.mem_image.mp hk
        refine (lt_of_lt_of_le (EReal.bot_lt_coe (s (key y))) ?_).ne'
        rw [hX]
        refine le_trans ?_ (le_max_right _ _)
        have := le_fold σ y
        rwa [hσ y, if_pos hy] at this
    obtain ⟨M', hM'⟩ : ∃ M' : ℝ, X' = M' := ⟨X'.toReal, (EReal.coe_toReal htop hbot).symm⟩
    have hp : ∀ y, Ideal.exp2 (σ y - X') = ((if y ∈ T then w (s (key y)) M' else 0 : ℝ) : EReal) := by
      intro y
      rw [hσ y, hM']
      split
      · rw [← EReal.coe_sub, Ideal.exp2_coe]; rfl
      · rw [EReal.bot_sub, Ideal.exp2_bot, EReal.coe_zero]
    have hα : ∀ (F : ℕ → ℝ → ℝ) (Z : EReal), (S = ∅ → Z = 0) → (∀ M : ℝ, X = M → S.Nonempty → Z = ((∑ k ∈ S, F k M : ℝ) : EReal)) →
        (∀ k M, Real.rpow 2 (M - M') * F k M = F k M') → Ideal.exp2 (X - X') * Z = ((∑ k ∈ S, F k M' : ℝ) : EReal) := by
      intro F Z h0 h1 hF
      rcases h with ⟨hS, -⟩ | ⟨hS, M, hX0, -⟩
      · rw [h0 hS, hS]; simp
      · rw [h1 M hX0 hS, hX0, hM', ← EReal.coe_sub, Ideal.exp2_coe, ← EReal.coe_mul, Finset.mul_sum]
        exact congrArg _ (Finset.sum_congr rfl fun k _ => hF k M)
    have hdisj : Disjoint S (T.image key) := by
      rw [Finset.disjoint_right]
      intro k hk
      obtain ⟨y, hy, rfl⟩ := Finset.mem_image.mp hk
      exact hT y hy
    have hsum : ∀ G : ℕ → ℝ, ∑ k ∈ T.image key, G k = ∑ y, if y ∈ T then G (key y) else 0 := by
      intro G
      rw [Finset.sum_image fun a _ b _ e => hinj e, Finset.sum_ite_mem, Finset.univ_inter]
    refine .inr ⟨hne, M', hM', ?_, fun e => ?_⟩
    · rw [hL, hα (fun k M => w (s k) M) L ?_ ?_ fun k M => w_shift _ _ _, Finset.sum_congr rfl fun y _ => hp y, ← coe_sum, ← EReal.coe_add,
        Finset.sum_union hdisj, hsum]
      · intro hS; rcases h with ⟨-, -, hL0, -⟩ | ⟨hS', -⟩
        · exact hL0
        · exact absurd hS hS'.ne_empty
      · intro M hXM hS; rcases h with ⟨hS', -⟩ | ⟨-, M0, hX0, hL0, -⟩
        · exact absurd hS' hS.ne_empty
        · rw [hL0, show M0 = M from EReal.coe_injective (hX0.symm.trans hXM)]
    · have hv : ∀ y, Ideal.exp2 (σ y - X') * V y e = ((if y ∈ T then w (s (key y)) M' * v (key y) e else 0 : ℝ) : EReal) := by
        intro y
        rw [hp y, hV y e, ← EReal.coe_mul]; congr 1; split <;> simp
      rw [hA, hα (fun k M => w (s k) M * v k e) (A e) ?_ ?_ fun k M => by rw [← mul_assoc, w_shift], Finset.sum_congr rfl fun y _ => hv y, ← coe_sum, ← EReal.coe_add,
        Finset.sum_union hdisj, hsum]
      · intro hS; rcases h with ⟨-, -, -, hA0⟩ | ⟨hS', -⟩
        · exact hA0 e
        · exact absurd hS hS'.ne_empty
      · intro M hXM hS; rcases h with ⟨hS', -⟩ | ⟨-, M0, hX0, -, hA0⟩
        · exact absurd hS' hS.ne_empty
        · rw [hA0 e, show M0 = M from EReal.coe_injective (hX0.symm.trans hXM)]

/-- The finished quotient of a row that saw a key: the weighted mean of the values, whatever the running maximum. -/
theorem ratio_real {s : ℕ → ℝ} {v : ℕ → Fin 256 → ℝ} {S : Finset ℕ} {X L : EReal} {A : Fin 256 → EReal} (h : Inv s v S X L A)
    (hS : S.Nonempty) (e : Fin 256) :
    Ideal.div (A e) L = (((∑ k ∈ S, Real.rpow 2 (s k) * v k e) / (∑ k ∈ S, Real.rpow 2 (s k)) : ℝ) : EReal) := by
  rcases h with ⟨hS', -⟩ | ⟨-, M, -, hL, hA⟩
  · exact absurd hS' hS.ne_empty
  · have hw : ∀ k, w (s k) M = Real.rpow 2 (-M) * Real.rpow 2 (s k) := fun k => by
      have := w_shift (s k) 0 M
      unfold w at this ⊢
      rw [← this, zero_sub, sub_zero]
    have hc : Real.rpow 2 (-M) ≠ 0 := (Real.rpow_pos_of_pos (by norm_num) _).ne'
    have hpos : 0 < ∑ k ∈ S, w (s k) M := Finset.sum_pos (fun k _ => w_pos _ _) hS
    rw [hA, hL, Ideal.div_coe hpos.ne', ← EReal.coe_mul]
    congr 1
    rw [Finset.sum_congr rfl fun k _ => hw k, Finset.sum_congr rfl fun k _ => by rw [hw k, mul_assoc], ← Finset.mul_sum, ← Finset.mul_sum]
    have hpos2 : 0 < ∑ k ∈ S, Real.rpow 2 (s k) := Finset.sum_pos (fun k _ => Real.rpow_pos_of_pos (by norm_num) _) hS
    field_simp

/-- The finished quotient of a row that saw none. -/
theorem ratio_bot {s : ℕ → ℝ} {v : ℕ → Fin 256 → ℝ} {X L : EReal} {A : Fin 256 → EReal} (h : Inv s v ∅ X L A) (e : Fin 256) :
    Ideal.div (A e) L = ⊥ := by
  rcases h with ⟨-, -, hL, hA⟩ | ⟨hS, -⟩
  · rw [hL, hA]; simp [Ideal.div]
  · exact absurd hS Finset.not_nonempty_empty

end Cert.Flash

end
-- ==== Proof.RowMax.lean ====
/-
  The host's row maximum over the extended reals, at any shape of four axes.
-/
module

public import Idealize.ShloMosaic.Lib.Pipeline.ValueKit
public import proofs.«01_k».proof.Proof.Flash

@[expose] public section

noncomputable section

namespace Cert.Flash

open Idealize.ShloMosaic

theorem ninf : Ideal.ofBits .f32 0xFF800000#32 = ⊥ := by simp [Ideal.ofBits, Ideal.ieee]

/-- Choosing by a signed comparison of small words is choosing by the comparison of the numbers. -/
theorem select_sle (p n : ℕ) (hp : p < 2 ^ 31) (hn : n < 2 ^ 31) {α : Type} (a b : α) :
    Scalar.select (IntOp.cmpi .sle (BitVec.ofNat 32 p) (BitVec.ofNat 32 n)) a b = if p ≤ n then a else b := by
  have e : (BitVec.ofNat 32 p).sle (BitVec.ofNat 32 n) = decide (p ≤ n) := by
    have h1 : (BitVec.ofNat 32 p).toNat = p := by rw [BitVec.toNat_ofNat]; omega
    have h2 : (BitVec.ofNat 32 n).toNat = n := by rw [BitVec.toNat_ofNat]; omega
    rw [BitVec.sle_eq_decide, BitVec.toInt_eq_toNat_of_lt (by omega), BitVec.toInt_eq_toNat_of_lt (by omega), h1, h2]
    simp
  simp only [IntOp.cmpi, e, Scalar.select]
  by_cases h : p ≤ n <;> simp [h]

theorem word_zero : (FloatOps.sitofp .f32 (0#32 : BitVec 32) : Ideal .f32) = (0 : EReal) := by
  show ((((0#32 : BitVec 32).toInt : ℤ) : ℝ) : EReal) = 0
  simp

/-- The host's row maximum from −∞. -/
theorem row_max {n0 n1 n2 n3 : ℕ} (h : (⟨4, ![n0, n1, n2, n3]⟩ : Shape).ReducesTo [3] ⟨3, ![n0, n1, n2]⟩)
    (hb : (⟨0, ![]⟩ : Shape).BroadcastsInDim (⟨3, ![n0, n1, n2]⟩ : Shape) (![] : Fin 0 → Fin 3))
    (hu : 0 < (⟨0, ![]⟩ : Shape).numel) (s : FVec Ideal ⟨4, ![n0, n1, n2, n3]⟩ .f32) (a : Fin n0) (b : Fin n1) (c : Fin n2) :
    maximumf (broadcastInDim (⟨3, ![n0, n1, n2]⟩ : Shape) ![] hb (constant (F := Ideal) ⟨0, ![]⟩ .f32 0xFF800000#32))
      (Host.reduce FloatOps.maximumf s (constant (F := Ideal) ⟨0, ![]⟩ .f32 0xFF800000#32) h hu) (ix3 a b c)
      = Finset.fold max (⊥ : EReal) (fun k => s (ix4 a b c k)) Finset.univ := by
  show max (Ideal.ofBits .f32 0xFF800000#32) (Host.reduce (max : EReal → EReal → EReal) s (constant (F := Ideal) ⟨0, ![]⟩ .f32 0xFF800000#32) h hu (ix3 a b c)) = _
  rw [Host.reduce_eq_fold, h.fold_fiber_r4_a3]
  show max (Ideal.ofBits .f32 0xFF800000#32) (Finset.fold max (Ideal.ofBits .f32 0xFF800000#32) (fun k => s (ix4 a b c k)) Finset.univ) = _
  rw [ninf, max_eq_right bot_le]

end Cert.Flash

end
-- ==== Proof.RefPart.lean ====
/-
  The reference's stages that select, mask and pad, read at an index over the extended reals.
-/
module

public import proofs.«01_k».proof.Proof.RefRead
public import proofs.«01_k».proof.Proof.RowMax

@[expose] public section

set_option maxRecDepth 16384

noncomputable section

namespace Cert.ReferenceIdeal

open Idealize.ShloMosaic Cert.ReferenceIdeal.Gen Cert.ReferenceIdeal.Value

theorem rmax_at (s : FVec Ideal S2x4x8208x8208 .f32) (b : Fin 2) (h : Fin 4) (n : Fin 8208) :
    rmax s (ix3 b h n) = Finset.fold max (⊥ : EReal) (fun p => s (ix4 b h n p)) Finset.univ := by
  unfold rmax
  exact Flash.row_max (n0 := 2) (n1 := 4) (n2 := 8208) (n3 := 8208) reducesTo_S2x4x8208x8208_S2x4x8208_d3 bcast_S_S2x4x8208 h_S_ s b h n

theorem rmax_real (s : FVec Ideal S2x4x8208x8208 .f32) (b : Fin 2) (h : Fin 4) (n : Fin 8208)
    (h0 : ∀ p, s (ix4 b h n p) ≠ (⊤ : EReal)) (p : Fin 8208) (h1 : s (ix4 b h n p) ≠ (⊥ : EReal)) : ∃ M : ℝ, rmax s (ix3 b h n) = (M : EReal) := by
  rw [rmax_at]
  refine ⟨_, (EReal.coe_toReal (Flash.fold_ne_top _ h0) ?_).symm⟩
  exact (lt_of_lt_of_le (bot_lt_iff_ne_bot.mpr h1) (Flash.le_fold (fun p => s (ix4 b h n p)) p)).ne'

theorem rq_at (x : FVec Ideal S16640x4096 .f32) (b : Fin 2) (n : Fin 8208) (h : Fin 4) (z : Fin 2) (d : Fin 128) :
    rq x (ix5 b n h z d) = x (ix2 ⟨8320 * b.val + 112 + n.val, by omega⟩ ⟨2048 + 256 * h.val + 128 * z.val + d.val, by omega⟩) := by
  pointwise [rq]
  refine congrArg x (congrArg₂ ix2 (Fin.ext ?_) (Fin.ext ?_)) <;> simp only [] <;> omega
theorem rk_at (x : FVec Ideal S16640x4096 .f32) (b : Fin 2) (n : Fin 8208) (h : Fin 4) (z : Fin 2) (d : Fin 128) :
    rk x (ix5 b n h z d) = x (ix2 ⟨8320 * b.val + 112 + n.val, by omega⟩ ⟨3072 + 256 * h.val + 128 * z.val + d.val, by omega⟩) := by
  pointwise [rk]
  refine congrArg x (congrArg₂ ix2 (Fin.ext ?_) (Fin.ext ?_)) <;> simp only [] <;> omega
theorem rv_at (x : FVec Ideal S16640x2048 .f32) (b : Fin 2) (n : Fin 8208) (h : Fin 4) (e : Fin 256) :
    rv x (ix4 b n h e) = x (ix2 ⟨8320 * b.val + 112 + n.val, by omega⟩ ⟨1024 + 256 * h.val + e.val, by omega⟩) := by
  pointwise [rv]
  refine congrArg x (congrArg₂ ix2 (Fin.ext ?_) (Fin.ext ?_)) <;> simp only [] <;> omega
theorem expM_at (s : FVec Ideal S2x4x8208x8208 .f32) (b : Fin 2) (h : Fin 4) (n p : Fin 8208) :
    expM s (ix4 b h n p) = Ideal.exp (s (ix4 b h n p) - rmax s (ix3 b h n)) := by
  pointwise [expM]
theorem scoresM_at (q k : FVec Ideal S2x8208x4x128 .f32) (b : Fin 2) (h : Fin 4) (n p : Fin 8208) :
    scoresM q k (ix4 b h n p) = if p.val ≤ n.val then Ideal.div (∑ d : Fin 128, q (ix4 b n h d) * k (ix4 b p h d)) (Ideal.sqrt (Ideal.ofBits .f32 0x43000000#32)) else ⊥ := by
  pointwise [scoresM, causal]
  refine (Flash.select_sle p.val n.val (by omega) (by omega) _ _).trans ?_
  split
  · rfl
  · exact Flash.ninf
theorem rout_pad (o : FVec Ideal S2x8208x4x256 .f32) (b : Fin 2) (n : Fin 112) (h : Fin 4) (e : Fin 256) :
    rout o (ix2 ⟨8320 * b.val + n.val, by omega⟩ ⟨256 * h.val + e.val, by omega⟩) = (0 : EReal) := by
  pointwise [rout]
  rw [dif_neg (by omega)]
  exact Flash.word_zero
theorem rout_row (o : FVec Ideal S2x8208x4x256 .f32) (b : Fin 2) (n : Fin 8208) (h : Fin 4) (e : Fin 256) :
    rout o (ix2 ⟨8320 * b.val + 112 + n.val, by omega⟩ ⟨256 * h.val + e.val, by omega⟩) = o (ix4 b n h e) := by
  pointwise [rout]
  rw [dif_pos (by omega)]
  refine congrArg o (congrArg₂ (fun n e => ix4 b n h e) (Fin.ext ?_) (Fin.ext ?_)) <;> simp only [] <;> omega

end Cert.ReferenceIdeal

end
-- ==== Proof.Read.lean ====
/-
  The body's operations read at an index, over the extended reals.
-/
module

public import proofs.«01_k».proof.Proof.Step
public import Idealize.ShloMosaic.Lib.Pipeline.ValueKit
public import Idealize.ShloMosaic.Lib.MatmulPlain

@[expose] public section

set_option maxRecDepth 16384

noncomputable section

namespace Cert.Attn

open Idealize.ShloMosaic

theorem ofBits_ninf : Ideal.ofBits .f32 0xFF800000#32 = ⊥ := by simp [Ideal.ofBits, Ideal.ieee]
theorem ofBits_zero : Ideal.ofBits .f32 0x00000000#32 = 0 := by simp [Ideal.ofBits, Ideal.ieee]

/-- Choosing by the equality of two small words is choosing by the equality of the numbers. -/
theorem select_lane {α : Type} (j : Fin 128) (c : Fin 8) (a b : α) :
    Scalar.select (IntOp.cmpi CmpIPredicate.eq (BitVec.ofNat 32 j.val) (BitVec.ofNat 32 c.val)) a b = if j.val = c.val then a else b := by
  have h : (BitVec.ofNat 32 j.val = BitVec.ofNat 32 c.val) ↔ j.val = c.val := by
    rw [← BitVec.toNat_inj, BitVec.toNat_ofNat, BitVec.toNat_ofNat, Nat.mod_eq_of_lt (by omega), Nat.mod_eq_of_lt (by omega)]
  by_cases hc : j.val = c.val
  · rw [if_pos hc]; simp [IntOp.cmpi, h.mpr hc, Scalar.select]
  · rw [if_neg hc]
    have : ¬ BitVec.ofNat 32 j.val = BitVec.ofNat 32 c.val := fun e => hc (h.mp e)
    simp [IntOp.cmpi, beq_eq_false_iff_ne.mpr this, Scalar.select]

/-- Choosing by two signed comparisons of small words is choosing by the two comparisons of the numbers. -/
theorem select_two {α : Type} (x y z w : BitVec 32) (hx : x.toNat < 2 ^ 31) (hy : y.toNat < 2 ^ 31) (hz : z.toNat < 2 ^ 31) (hw : w.toNat < 2 ^ 31) (a b : α) :
    Scalar.select (IntOp.andi (IntOp.cmpi .sle x y) (IntOp.cmpi .sge z w)) a b = if w.toNat ≤ z.toNat ∧ x.toNat ≤ y.toNat then a else b := by
  have e : ∀ u v : BitVec 32, u.toNat < 2 ^ 31 → v.toNat < 2 ^ 31 → (u.sle v = decide (u.toNat ≤ v.toNat)) := by
    intro u v hu hv
    rw [BitVec.sle_eq_decide, BitVec.toInt_eq_toNat_of_lt (by omega), BitVec.toInt_eq_toNat_of_lt (by omega)]
    simp
  simp only [IntOp.cmpi, IntOp.andi, e x y hx hy, e w z hw hz, Scalar.select]
  by_cases h1 : x.toNat ≤ y.toNat <;> by_cases h2 : w.toNat ≤ z.toNat <;> simp [h1, h2]

/-- A row's maximum, from ⊥. -/
abbrev top {n : ℕ} (f : Fin n → EReal) : EReal := Finset.fold max ⊥ f Finset.univ

section Group
variable {kw : ℕ} (kf : KF kw)

theorem scorePay_none (q : Vec Ideal (Sh2 128 128) .bf16) (k : Vec Ideal (Sh2 kw 128) .bf16) (i : Fin 128) (y : Fin kw) :
    scorePay (F := Ideal) kf none q k (ix2 i y) = ∑ d : Fin 128, (q (ix2 i d) : EReal) * k (ix2 y d) := by
  unfold scorePay
  rw [shapeCast_self, shapeCast_self]
  refine (Ideal.matmul_transposedRhs_apply (φ₁ := .bf16) (φ₂ := .bf16) _ _ _ _ _ _).trans ?_
  show Ideal.ofBits .f32 0x00000000#32 + _ = _
  rw [ofBits_zero, zero_add]
  rfl

theorem scorePay_some (b : FVec Ideal (Sh2 128 kw) .f32) (q : Vec Ideal (Sh2 128 128) .bf16) (k : Vec Ideal (Sh2 kw 128) .bf16) (i : Fin 128) (y : Fin kw) :
    scorePay (F := Ideal) kf (some b) q k (ix2 i y) = (∑ d : Fin 128, (q (ix2 i d) : EReal) * k (ix2 y d)) + b (ix2 i y) :=
  congrArg (· + (b (ix2 i y) : EReal)) (scorePay_none kf q k i y)

theorem maxPay_at (c : Fin 8) (s : FVec Ideal (Sh2 128 kw) .f32) (m : FVec Ideal (Sh2 128 128) .f32) (i j : Fin 128) :
    maxPay (F := Ideal) kf c s m (ix2 i j) = if j.val = c.val then top fun y => s (ix2 i y) else m (ix2 i j) := by
  pointwise [maxPay]
  rw [select_lane, ofBits_ninf]

theorem sumPay_at (c : Fin 8) (s : FVec Ideal (Sh2 128 kw) .f32) (m : FVec Ideal (Sh2 128 128) .f32) (i j : Fin 128) :
    sumPay (F := Ideal) kf c s m (ix2 i j) = (m (ix2 i j) : EReal) + if j.val = c.val then ∑ y : Fin kw, (s (ix2 i y) : EReal) else 0 := by
  pointwise [sumPay]
  rw [select_lane]

theorem probPay_at (c : Fin 8) (n : FVec Ideal (Sh2 128 128) .f32) (s : FVec Ideal (Sh2 128 kw) .f32) (i : Fin 128) (y : Fin kw) :
    probPay (F := Ideal) kf c n (shapeCast (Sh3 1 128 kw) s kf.scU) (ix2 i y)
      = Ideal.exp2 ((s (ix2 i y) : EReal) - n (ix2 i ⟨c.val, by omega⟩)) := by
  pointwise [probPay]
  rfl

theorem accPay_at (c : Fin 8) (al : FVec Ideal (Sh2 128 128) .f32) (v : Vec Ideal (Sh2 kw 256) .bf16)
    (a : Vec Ideal (Sh3 1 128 256) .f32) (p : FVec Ideal (Sh2 128 kw) .f32) (i : Fin 128) (e : Fin 256) :
    accPay (F := Ideal) kf c al v a (shapeCast (Sh3 1 128 kw) (truncf .bf16 p gf.tr : FVec Ideal (Sh2 128 kw) .bf16) kf.scU) (ix2 i e)
      = (al (ix2 i ⟨c.val, by omega⟩) : EReal) * a (ix3 0 i e) + ∑ y : Fin kw, (p (ix2 i y) : EReal) * v (ix2 y e) := by
  pointwise [accPay]
  refine congrArg (_ + ·) ((Ideal.matmul_plain_apply (φ₁ := .bf16) (φ₂ := .bf16) none _ _ _ _ _).trans ?_)
  show Ideal.ofBits .f32 0x00000000#32 + _ = _
  rw [ofBits_zero, zero_add]
  rfl

/-- Lane `c` of the maxima after the sets of a list. -/
theorem maxs_not (s : Fin 8 → FVec Ideal (Sh2 128 kw) .f32) (i : Fin 128) (c : Fin 8) : ∀ (cs : List (Fin 8)), c ∉ cs → ∀ m : FVec Ideal (Sh2 128 128) .f32,
    maxs kf s cs m (ix2 i ⟨c.val, by omega⟩) = m (ix2 i ⟨c.val, by omega⟩)
  | [], _, _ => rfl
  | a :: cs, h, m => by
    have ha : c.val ≠ a.val := fun e => h (Fin.ext e ▸ List.mem_cons_self)
    refine (maxs_not s i c cs (fun e => h (List.mem_cons_of_mem _ e)) (maxPay kf a (s a) m)).trans ?_
    rw [maxPay_at, if_neg ha]

theorem maxs_mem (s : Fin 8 → FVec Ideal (Sh2 128 kw) .f32) (i : Fin 128) (c : Fin 8) : ∀ (cs : List (Fin 8)), cs.Nodup → c ∈ cs → ∀ m : FVec Ideal (Sh2 128 128) .f32,
    maxs kf s cs m (ix2 i ⟨c.val, by omega⟩) = top fun y => s c (ix2 i y)
  | a :: cs, hn, h, m => by
    rcases List.mem_cons.mp h with rfl | h'
    · refine (maxs_not kf s i c cs (List.nodup_cons.mp hn).1 (maxPay kf c (s c) m)).trans ?_
      rw [maxPay_at, if_pos rfl]
    · exact maxs_mem s i c cs (List.nodup_cons.mp hn).2 h' _

/-- Lane `c` of the denominators after the sets of a list. -/
theorem sums_not (p : Fin 8 → FVec Ideal (Sh2 128 kw) .f32) (i : Fin 128) (c : Fin 8) : ∀ (cs : List (Fin 8)), c ∉ cs → ∀ m : FVec Ideal (Sh2 128 128) .f32,
    sums kf p cs m (ix2 i ⟨c.val, by omega⟩) = m (ix2 i ⟨c.val, by omega⟩)
  | [], _, _ => rfl
  | a :: cs, h, m => by
    have ha : c.val ≠ a.val := fun e => h (Fin.ext e ▸ List.mem_cons_self)
    refine (sums_not p i c cs (fun e => h (List.mem_cons_of_mem _ e)) (sumPay kf a (p a) m)).trans ?_
    rw [sumPay_at, if_neg ha, add_zero]

theorem sums_mem (p : Fin 8 → FVec Ideal (Sh2 128 kw) .f32) (i : Fin 128) (c : Fin 8) : ∀ (cs : List (Fin 8)), cs.Nodup → c ∈ cs → ∀ m : FVec Ideal (Sh2 128 128) .f32,
    sums kf p cs m (ix2 i ⟨c.val, by omega⟩) = (m (ix2 i ⟨c.val, by omega⟩) : EReal) + ∑ y : Fin kw, (p c (ix2 i y) : EReal)
  | a :: cs, hn, h, m => by
    rcases List.mem_cons.mp h with rfl | h'
    · refine (sums_not kf p i c cs (List.nodup_cons.mp hn).1 (sumPay kf c (p c) m)).trans ?_
      rw [sumPay_at, if_pos rfl]
    · have ha : c.val ≠ a.val := fun e => (List.nodup_cons.mp hn).1 (Fin.ext e ▸ h')
      refine (sums_mem p i c cs (List.nodup_cons.mp hn).2 h' (sumPay kf a (p a) m)).trans ?_
      rw [sumPay_at, if_neg ha, add_zero]

/-- The mask read at an index: zero on the keys kept, ⊥ elsewhere. -/
theorem biasPay_at (ih : IF' kw) (hkw : kw ≤ 640) (i j : Fin 13) (r0 : BitVec 32) (hr0 : r0.toNat + 128 ≤ 640) (a : Fin 128) (y : Fin kw) :
    biasPay (F := Ideal) ih (BitVec.ofNat 32 i.val) (BitVec.ofNat 32 j.val) r0 (⊥ : EReal) (ix2 a y)
      = if 112 ≤ 640 * j.val + y.val ∧ 640 * j.val + y.val ≤ 640 * i.val + r0.toNat + a.val then (0 : EReal) else ⊥ := by
  pointwise [biasPay]
  have hy : y.val < 640 := lt_of_lt_of_le y.isLt hkw
  have h1 : (IntOp.addi (Scalar.muli (BitVec.ofNat 32 j.val) 640#32) (BitVec.ofNat 32 y.val)).toNat = 640 * j.val + y.val := by
    simp only [IntOp.addi, Scalar.muli, IntOp.muli, BitVec.toNat_add, BitVec.toNat_mul, BitVec.toNat_ofNat]
    omega
  have h2 : (IntOp.addi (Scalar.addi (Scalar.muli (BitVec.ofNat 32 i.val) 640#32) r0) (BitVec.ofNat 32 a.val)).toNat = 640 * i.val + r0.toNat + a.val := by
    simp only [IntOp.addi, Scalar.addi, Scalar.muli, IntOp.muli, BitVec.toNat_add, BitVec.toNat_mul, BitVec.toNat_ofNat]
    omega
  rw [select_two _ _ _ _ (by rw [h1]; omega) (by rw [h2]; omega) (by rw [h1]; omega) (by decide), h1, h2]
  rfl

end Group

section Ends

/-- λ. -/
def lamR (a b c d : Vec Ideal (Sh2 1 128) .f32) : EReal :=
  Ideal.exp (∑ x : Fin 128, (a (ix2 0 x) : EReal) * b (ix2 0 x)) - Ideal.exp (∑ x : Fin 128, (c (ix2 0 x) : EReal) * d (ix2 0 x))
    + Ideal.ofBits .f32 0x3E4CCCCD#32

/-- A row normalised to unit mean square, times the gain, times the scale. -/
def normRow (o : Fin 256 → EReal) (g : EReal) (e : Fin 256) : EReal :=
  o e * Ideal.rsqrt (Ideal.div (∑ x : Fin 256, o x * o x) (Ideal.ofBits .f32 0x43800000#32) + Ideal.ofBits .f32 0x3727C5AC#32) * g
    * Ideal.ofBits .f32 0x3F4CCCCD#32

theorem lamPay_at (a b c d : Vec Ideal (Sh2 1 128) .f32) : lamPay (F := Ideal) a b c d (ix2 0 0) = lamR a b c d := by
  pointwise [lamPay, lamPart, lamR]

theorem outPay_at (g : Vec Ideal (Sh2 1 256) .f32) (L : Vec Ideal (Sh2 640 128) .f32)
    (x y : Vec Ideal (Sh3 1 640 256) .f32) (c1 c2 : Fin 8) (lam : FVec Ideal (Sh2 1 1) .f32) (i : Fin 640) (e : Fin 256) :
    outPay (F := Ideal) g (diffPay lam (ratio c1 L x) (ratio c2 L y)) (ix2 i e)
      = normRow (fun e => Ideal.div (x (ix3 0 i e)) (L (ix2 i ⟨c1.val, by omega⟩))
          - (lam (ix2 0 0) : EReal) * Ideal.div (y (ix3 0 i e)) (L (ix2 i ⟨c2.val, by omega⟩))) (g (ix2 0 e)) e := by
  pointwise [outPay, diffPay, ratio, normRow]

end Ends

end Cert.Attn

end
-- ==== Proof.Value.lean ====
/-
  The running buffers over the extended reals: every row keeps the online softmax's invariant, at the keys its tile has
  seen, through every group of a step.
-/
module

public import proofs.«01_k».proof.Proof.Read
public import proofs.«01_k».proof.Proof.Flash

@[expose] public section

set_option maxRecDepth 16384

noncomputable section

namespace Cert.Attn

open Idealize.ShloMosaic

/-! ## The rectangles at an index -/

theorem rM_at {r : ℕ} (hr : r + 128 ≤ 640) (a l : Fin 128) : (rM hr).emb (ix2 a l) = ix2 ⟨r + a.val, by omega⟩ l := by
  funext x; apply Fin.ext
  refine (unit_emb_val (s := Sh2 640 128) _ _ (inbM hr) _ x).trans ?_
  fin_cases x
  · rfl
  · exact Nat.zero_add _
theorem rQ_at {r : ℕ} (hr : r + 128 ≤ 640) (c : Fin 8) (a d : Fin 128) :
    (rQ hr c).emb (ix2 a d) = ix2 ⟨r + a.val, by omega⟩ ⟨128 * c.val + d.val, by omega⟩ := by
  funext x; apply Fin.ext
  refine (unit_emb_val (s := Sh2 640 1024) _ _ (inbQ hr c) _ x).trans ?_
  fin_cases x <;> rfl
theorem rK_at {kw : ℕ} (kf : KF kw) (c : Fin 8) (y : Fin kw) (d : Fin 128) :
    (rK kf c).emb (ix2 y d) = ix2 ⟨y.val, lt_of_lt_of_le y.isLt kf.le⟩ ⟨128 * c.val + d.val, by omega⟩ := by
  funext x; apply Fin.ext
  refine (unit_emb_val (s := Sh2 640 1024) _ _ (kf.inbK c) _ x).trans ?_
  fin_cases x
  · exact Nat.zero_add _
  · rfl
theorem rV_at {kw : ℕ} (kf : KF kw) (c : Fin 8) (y : Fin kw) (e : Fin 256) :
    (rV kf c).emb (ix2 y e) = ix2 ⟨y.val, lt_of_lt_of_le y.isLt kf.le⟩ ⟨(c.val / 2) * 256 + e.val, by omega⟩ := by
  funext x; apply Fin.ext
  refine (unit_emb_val (s := Sh2 640 1024) _ _ (kf.inbV c) _ x).trans ?_
  fin_cases x
  · exact Nat.zero_add _
  · rfl
theorem rA_at {r : ℕ} (hr : r + 128 ≤ 640) (c : Fin 8) (a : Fin 128) (e : Fin 256) :
    (rA hr c).emb (ix3 0 a e) = ix3 c ⟨r + a.val, by omega⟩ e := by
  funext x; apply Fin.ext
  refine (unit_emb_val (s := Sh3 8 640 256) _ _ (inbA hr c) _ x).trans ?_
  fin_cases x
  · rfl
  · rfl
  · exact Nat.zero_add _
theorem rH_at (c : Fin 8) (ρ : Fin 640) (e : Fin 256) : (rH c).emb (ix3 0 ρ e) = ix3 c ρ e := by
  funext x; apply Fin.ext
  refine (unit_emb_val (s := Sh3 8 640 256) _ _ (ef.inbH c) _ x).trans ?_
  fin_cases x
  · rfl
  · exact Nat.zero_add _
  · exact Nat.zero_add _
theorem rO_at (h : Fin 4) (ρ : Fin 640) (e : Fin 256) : (rO h).emb (ix2 ρ e) = ix2 ρ ⟨256 * h.val + e.val, by omega⟩ := by
  funext x; apply Fin.ext
  refine (unit_emb_val (s := Sh2 640 1024) _ _ (ef.inbO h) _ x).trans ?_
  fin_cases x
  · exact Nat.zero_add _
  · rfl

theorem sets_all : ∀ c : Fin 8, c ∈ sets := by decide

/-! ## One group at a row -/

section Group

variable {kw r : ℕ} {kf : KF kw} {hr : r + 128 ≤ 640} {bias : Option (FVec Ideal (Sh2 128 kw) .f32)}
  {Q K V : Vec Ideal (Sh2 640 1024) .bf16} {X L X' L' : Vec Ideal (Sh2 640 128) .f32} {A A' : Vec Ideal (Sh3 8 640 256) .f32}

theorem newM_at (a : Fin 128) (c : Fin 8) :
    newM kf hr bias Q K X (ix2 a ⟨c.val, by omega⟩)
      = max (X (ix2 ⟨r + a.val, by omega⟩ ⟨c.val, by omega⟩) : EReal) (top fun y => sc kf hr bias Q K c (ix2 a y)) := by
  show max (X ((rM hr).emb (ix2 a ⟨c.val, _⟩)) : EReal) (maxs kf (sc kf hr bias Q K) sets (rows hr X) (ix2 a ⟨c.val, _⟩)) = _
  rw [rM_at, maxs_mem kf (sc kf hr bias Q K) a c sets sets_nodup (sets_all c) (rows hr X)]

theorem alpha_at (N : FVec Ideal (Sh2 128 128) .f32) (a l : Fin 128) :
    alphaOf hr X N (ix2 a l) = Ideal.exp2 ((X (ix2 ⟨r + a.val, by omega⟩ l) : EReal) - N (ix2 a l)) := by
  show Ideal.exp2 ((X ((rM hr).emb (ix2 a l)) : EReal) - N (ix2 a l)) = _
  rw [rM_at]

/-- What one group makes of one row of one set. -/
theorem group_row (h : GroupRel kf hr bias Q K V X L X' L' A A') (a : Fin 128) (c : Fin 8) :
    (X' (ix2 ⟨r + a.val, by omega⟩ ⟨c.val, by omega⟩) : EReal)
        = max (X (ix2 ⟨r + a.val, by omega⟩ ⟨c.val, by omega⟩) : EReal) (top fun y => sc kf hr bias Q K c (ix2 a y)) ∧
    (L' (ix2 ⟨r + a.val, by omega⟩ ⟨c.val, by omega⟩) : EReal)
        = Ideal.exp2 ((X (ix2 ⟨r + a.val, by omega⟩ ⟨c.val, by omega⟩) : EReal) - X' (ix2 ⟨r + a.val, by omega⟩ ⟨c.val, by omega⟩))
            * L (ix2 ⟨r + a.val, by omega⟩ ⟨c.val, by omega⟩)
          + ∑ y : Fin kw, Ideal.exp2 ((sc kf hr bias Q K c (ix2 a y) : EReal) - X' (ix2 ⟨r + a.val, by omega⟩ ⟨c.val, by omega⟩)) ∧
    ∀ e : Fin 256, (A' (ix3 c ⟨r + a.val, by omega⟩ e) : EReal)
        = Ideal.exp2 ((X (ix2 ⟨r + a.val, by omega⟩ ⟨c.val, by omega⟩) : EReal) - X' (ix2 ⟨r + a.val, by omega⟩ ⟨c.val, by omega⟩))
            * A (ix3 c ⟨r + a.val, by omega⟩ e)
          + ∑ y : Fin kw, Ideal.exp2 ((sc kf hr bias Q K c (ix2 a y) : EReal) - X' (ix2 ⟨r + a.val, by omega⟩ ⟨c.val, by omega⟩))
            * V (ix2 ⟨y.val, lt_of_lt_of_le y.isLt kf.le⟩ ⟨(c.val / 2) * 256 + e.val, by omega⟩) := by
  have hm := h.m (ix2 a ⟨c.val, by omega⟩)
  rw [rM_at] at hm
  have hp : ∀ y, probOf kf (sc kf hr bias Q K) (newM kf hr bias Q K X) c (ix2 a y)
      = Ideal.exp2 ((sc kf hr bias Q K c (ix2 a y) : EReal) - X' (ix2 ⟨r + a.val, by omega⟩ ⟨c.val, by omega⟩)) := fun y => by
    rw [hm]; exact probPay_at kf c _ _ a y
  have hα : alphaOf hr X (newM kf hr bias Q K X) (ix2 a ⟨c.val, by omega⟩)
      = Ideal.exp2 ((X (ix2 ⟨r + a.val, by omega⟩ ⟨c.val, by omega⟩) : EReal) - X' (ix2 ⟨r + a.val, by omega⟩ ⟨c.val, by omega⟩)) := by
    rw [hm]; exact alpha_at _ a _
  refine ⟨hm.trans (newM_at a c), ?_, fun e => ?_⟩
  · have hl := h.l (ix2 a ⟨c.val, by omega⟩)
    rw [rM_at] at hl
    rw [hl, sums_mem kf _ a c sets sets_nodup (sets_all c)]
    refine congrArg₂ (fun x y : EReal => x + y) ?_ (Finset.sum_congr rfl fun y _ => hp y)
    show (alphaOf hr X (newM kf hr bias Q K X) (ix2 a ⟨c.val, _⟩) : EReal) * L ((rM hr).emb (ix2 a ⟨c.val, _⟩)) = _
    rw [hα, rM_at]
  · have ha := h.a c (ix3 0 a e)
    rw [rA_at] at ha
    rw [ha]
    refine Eq.trans (b := accOf kf hr (alphaOf hr X (newM kf hr bias Q K X)) (probOf kf (sc kf hr bias Q K) (newM kf hr bias Q K X)) V A c (ix2 a e)) ?_ ?_
    · generalize accOf kf hr (alphaOf hr X (newM kf hr bias Q K X)) (probOf kf (sc kf hr bias Q K) (newM kf hr bias Q K X)) V A c = Z
      pointwise []
    · refine (accPay_at kf c _ _ _ _ a e).trans ?_
      rw [hα]
      refine congrArg₂ (fun x y : EReal => x + y) ?_ (Finset.sum_congr rfl fun y _ => ?_)
      · show _ * (A ((rA hr c).emb (ix3 0 a e)) : EReal) = _
        rw [rA_at]
      · rw [hp y]
        show _ * (V ((rV kf c).emb (ix2 y e)) : EReal) = _
        rw [rV_at]

end Group

/-! ## The rows' invariant -/

/-- The keys query row `n` has seen once the keys below `K` were taken: those past the padding, up to its own. -/
def keys (n K : ℕ) : Finset ℕ := (Finset.range K).filter fun k => 112 ≤ k ∧ k ≤ n

theorem mem_keys {n K k : ℕ} : k ∈ keys n K ↔ k < K ∧ 112 ≤ k ∧ k ≤ n := by
  unfold keys; rw [Finset.mem_filter, Finset.mem_range]

/-- Every row of the tile at `base`, in every set, has the invariant at the keys below its bound. -/
def Rows (s : Fin 8 → ℕ → ℕ → ℝ) (v : Fin 8 → ℕ → Fin 256 → ℝ) (base : ℕ) (K : Fin 640 → ℕ)
    (X L : Vec Ideal (Sh2 640 128) .f32) (A : Vec Ideal (Sh3 8 640 256) .f32) : Prop :=
  ∀ (c : Fin 8) (ρ : Fin 640), Flash.Inv (s c (base + ρ.val)) (v c) (keys (base + ρ.val) (K ρ))
    (X (ix2 ρ ⟨c.val, by omega⟩)) (L (ix2 ρ ⟨c.val, by omega⟩)) fun e => A (ix3 c ρ e)

/-- The blocks' scores and values are real numbers. -/
structure Blocks (s : Fin 8 → ℕ → ℕ → ℝ) (v : Fin 8 → ℕ → Fin 256 → ℝ) (base kbase : ℕ) (Q K V : Vec Ideal (Sh2 640 1024) .bf16) : Prop where
  qk : ∀ (c : Fin 8) (ρ y : Fin 640), (∑ d : Fin 128, (Q (ix2 ρ ⟨128 * c.val + d.val, by omega⟩) : EReal) * K (ix2 y ⟨128 * c.val + d.val, by omega⟩))
    = (s c (base + ρ.val) (kbase + y.val) : EReal)
  vv : ∀ (c : Fin 8) (y : Fin 640) (e : Fin 256), (V (ix2 y ⟨(c.val / 2) * 256 + e.val, by omega⟩) : EReal) = (v c (kbase + y.val) e : EReal)

section Step

variable {s : Fin 8 → ℕ → ℕ → ℝ} {v : Fin 8 → ℕ → Fin 256 → ℝ} {Q K V : Vec Ideal (Sh2 640 1024) .bf16}
  {X L X' L' : Vec Ideal (Sh2 640 128) .f32} {A A' : Vec Ideal (Sh3 8 640 256) .f32}

/-- The scores of a masked group, -/
theorem sc_masked {i j : Fin 13} (hB : Blocks s v (640 * i.val) (640 * j.val) Q K V) {kw r : ℕ} (kf : KF kw) (ih : IF' kw) (hr : r + 128 ≤ 640)
    (r0 : BitVec 32) (hr0 : r0.toNat = r) (c : Fin 8) (a : Fin 128) (y : Fin kw) :
    (sc kf hr (some (biasPay ih (BitVec.ofNat 32 i.val) (BitVec.ofNat 32 j.val) r0 (⊥ : EReal))) Q K c (ix2 a y) : EReal)
      = if 112 ≤ 640 * j.val + y.val ∧ 640 * j.val + y.val ≤ 640 * i.val + (r + a.val) then
          (s c (640 * i.val + (r + a.val)) (640 * j.val + y.val) : EReal) else ⊥ := by
  unfold sc
  rw [scorePay_some, biasPay_at ih kf.le i j r0 (by omega) a y, hr0]
  have := hB.qk c ⟨r + a.val, by omega⟩ ⟨y.val, lt_of_lt_of_le y.isLt kf.le⟩
  simp only [rQ_at, rK_at]
  rw [this, Nat.add_assoc]
  split
  · exact add_zero _
  · exact EReal.add_bot _
/-- and of one left of the diagonal. -/
theorem sc_plain {i j : Fin 13} (hB : Blocks s v (640 * i.val) (640 * j.val) Q K V) (h0 : 0 < j.val) (hij : j.val < i.val) {r : ℕ} (kf : KF 640) (hr : r + 128 ≤ 640)
    (c : Fin 8) (a : Fin 128) (y : Fin 640) :
    (sc kf hr none Q K c (ix2 a y) : EReal)
      = if 112 ≤ 640 * j.val + y.val ∧ 640 * j.val + y.val ≤ 640 * i.val + (r + a.val) then
          (s c (640 * i.val + (r + a.val)) (640 * j.val + y.val) : EReal) else ⊥ := by
  unfold sc
  rw [scorePay_none, if_pos (by omega)]
  have := hB.qk c ⟨r + a.val, by omega⟩ y
  simp only [rQ_at, rK_at]
  exact this

/-- A group takes its rows' bounds from the tile's first key past its last. -/
theorem rows_group {i j : Fin 13} (hB : Blocks s v (640 * i.val) (640 * j.val) Q K V) {kw r : ℕ} {kf : KF kw} {hr : r + 128 ≤ 640}
    {bias : Option (FVec Ideal (Sh2 128 kw) .f32)} (hkw : kw = 640 ∨ (i = j ∧ kw = r + 128))
    (hsc : ∀ (c : Fin 8) (a : Fin 128) (y : Fin kw), (sc kf hr bias Q K c (ix2 a y) : EReal)
      = if 112 ≤ 640 * j.val + y.val ∧ 640 * j.val + y.val ≤ 640 * i.val + (r + a.val) then
          (s c (640 * i.val + (r + a.val)) (640 * j.val + y.val) : EReal) else ⊥)
    {u : ℕ} (hu : r = 128 * u) (hg : GroupRel kf hr bias Q K V X L X' L' A A')
    (h : Rows s v (640 * i.val) (fun ρ => if ρ.val < 128 * u then 640 * (j.val + 1) else 640 * j.val) X L A) :
    Rows s v (640 * i.val) (fun ρ => if ρ.val < 128 * (u + 1) then 640 * (j.val + 1) else 640 * j.val) X' L' A' := by
  intro c ρ
  have hc := h c ρ
  by_cases hin : r ≤ ρ.val ∧ ρ.val < r + 128
  · obtain ⟨a, ha⟩ : ∃ a : Fin 128, (⟨r + a.val, Nat.lt_of_lt_of_le (Nat.add_lt_add_left a.isLt r) hr⟩ : Fin 640) = ρ := ⟨⟨ρ.val - r, by omega⟩, Fin.ext (by show r + (ρ.val - r) = ρ.val; omega)⟩
    subst ha
    simp only at hc ⊢
    rw [if_neg (by omega)] at hc
    rw [if_pos (by omega)]
    obtain ⟨h1, h2, h3⟩ := group_row hg a c
    have hset : keys (640 * i.val + (r + a.val)) (640 * (j.val + 1))
        = keys (640 * i.val + (r + a.val)) (640 * j.val) ∪ (Finset.univ.filter fun y : Fin kw => 112 ≤ 640 * j.val + y.val ∧ 640 * j.val + y.val ≤ 640 * i.val + (r + a.val)).image
          (fun y : Fin kw => 640 * j.val + y.val) := by
      ext k
      rw [Finset.mem_union, mem_keys, mem_keys, Finset.mem_image]
      constructor
      · rintro ⟨hk, hk1, hk2⟩
        by_cases hkj : k < 640 * j.val
        · exact .inl ⟨hkj, hk1, hk2⟩
        · have hlt : k - 640 * j.val < kw := by
            rcases hkw with rfl | ⟨rfl, rfl⟩
            · omega
            · omega
          exact .inr ⟨⟨k - 640 * j.val, hlt⟩, Finset.mem_filter.mpr ⟨Finset.mem_univ _, by simp only; omega⟩, by simp only; omega⟩
      · have := kf.le
        rintro (⟨hk, hk1, hk2⟩ | ⟨y, hy, rfl⟩)
        · exact ⟨by omega, hk1, hk2⟩
        · have := (Finset.mem_filter.mp hy).2
          have := y.isLt
          exact ⟨by omega, by omega, by omega⟩
    rw [hset]
    refine Flash.step hc (fun y : Fin kw => 640 * j.val + y.val) (fun y y' e => Fin.ext (by simp only at e; omega)) _ ?_
      (fun y => sc kf hr bias Q K c (ix2 a y)) (fun y => ?_)
      (fun y e => V (ix2 ⟨y.val, lt_of_lt_of_le y.isLt kf.le⟩ ⟨(c.val / 2) * 256 + e.val, by omega⟩)) (fun y e => ?_) _ _ _ h1 h2 h3
    · intro y _ hy
      have := (mem_keys.mp hy).1
      omega
    · rw [hsc c a y]
      simp only [Finset.mem_filter, Finset.mem_univ, true_and]
    · exact hB.vv c ⟨y.val, lt_of_lt_of_le y.isLt kf.le⟩ e
  · have e1 : (if ρ.val < 128 * (u + 1) then 640 * (j.val + 1) else 640 * j.val) = if ρ.val < 128 * u then 640 * (j.val + 1) else 640 * j.val := by
      by_cases hlt : ρ.val < 128 * u
      · rw [if_pos hlt, if_pos (by omega)]
      · rw [if_neg hlt, if_neg (by omega)]
    have hoff : ∀ l : Fin 128, ∀ x, (rM hr).emb x ≠ ix2 ρ l := by
      intro l x e
      have h0 := congrArg (fun z : (Sh2 640 128).Idx => (z 0).val) e
      have h1 := unit_emb_val (s := Sh2 640 128) _ _ (inbM hr) x 0
      have h2 : (x 0).val < 128 := (x 0).isLt
      change ((rM hr).emb x 0).val = ρ.val at h0
      change ((rM hr).emb x 0).val = r + (x 0).val at h1
      omega
    have hoffA : ∀ (e : Fin 256) (c' : Fin 8), ∀ x, (rA hr c').emb x ≠ ix3 c ρ e := by
      intro e' c' x e
      have h0 := congrArg (fun z : (Sh3 8 640 256).Idx => (z 1).val) e
      have h1 := unit_emb_val (s := Sh3 8 640 256) _ _ (inbA hr c') x 1
      have h2 : (x 1).val < 128 := (x 1).isLt
      change ((rA hr c').emb x 1).val = ρ.val at h0
      change ((rA hr c').emb x 1).val = r + (x 1).val at h1
      omega
    show Flash.Inv _ _ (keys _ (if ρ.val < 128 * (u + 1) then 640 * (j.val + 1) else 640 * j.val)) _ _ _
    rw [e1, hg.mOff _ (hoff _), hg.lOff _ (hoff _)]
    have hA : (fun e => A' (ix3 c ρ e)) = fun e => A (ix3 c ρ e) := funext fun e => hg.aOff _ fun c' x => hoffA e c' x
    rw [hA]
    exact hc

/-- **A step keeps the rows' invariant**, from the keys before its tile to those before the next. -/
theorem stepInv {i j : Fin 13} (hle : j.val ≤ i.val) (hB : Blocks s v (640 * i.val) (640 * j.val) Q K V)
    (P : Vec Ideal (Sh2 640 128) .f32 → Vec Ideal (Sh2 640 128) .f32 → Vec Ideal (Sh3 8 640 256) .f32 → Prop)
    (hP : j.val ≠ 0 → ∀ X L A, P X L A → Rows s v (640 * i.val) (fun _ => 640 * j.val) X L A) :
    StepInv i j (⊥ : EReal) Q K V P fun u => Rows s v (640 * i.val) fun ρ => if ρ.val < 128 * u then 640 * (j.val + 1) else 640 * j.val where
  le := hle
  first := fun h0 c ρ => by
    refine .inl ⟨?_, rfl, ofBits_zero, fun e => ofBits_zero⟩
    show keys _ (if ρ.val < 128 * 0 then 640 * (j.val + 1) else 640 * j.val) = ∅
    rw [if_neg (by omega), h0]; rfl
  next := fun h0 X L A h => by
    have e : (fun ρ : Fin 640 => if ρ.val < 128 * 0 then 640 * (j.val + 1) else 640 * j.val) = fun _ => 640 * j.val :=
      funext fun ρ => if_neg (by omega)
    rw [e]; exact hP h0 X L A h
  masked := fun _ _ t X L A X' L' A' h hg =>
    rows_group hB (.inl rfl) (sc_masked hB kf640 if640 (row0_le t) (row0 t) rfl) (row0_toNat t) hg h
  plain := fun h0 hij t X L A X' L' A' h hg =>
    rows_group hB (.inl rfl) (sc_plain hB h0 hij kf640 (row0_le t)) (row0_toNat t) hg h
  diag := fun he t X L A X' L' A' h hg =>
    rows_group hB (.inr ⟨Fin.ext he.symm, by omega⟩) (sc_masked hB (kfd t) (ifd t) (rd_le t) (BitVec.ofNat 32 (128 * t.val))
      (by rw [BitVec.toNat_ofNat]; omega)) rfl hg h

end Step

end Cert.Attn

end
-- ==== Proof.RefRow.lean ====
/-
  The reference's attention rows on real inputs: the difference of two softmax means, written by the keys' weights.
-/
module

public import proofs.«01_k».proof.Proof.RefPart
public import proofs.«01_k».proof.Proof.Value

@[expose] public section

set_option maxRecDepth 16384

noncomputable section

namespace Cert.Diff

open Idealize.ShloMosaic Cert.ReferenceIdeal

/-! ## Literals -/

theorem lit128 : Ideal.ofBits .f32 0x43000000#32 = ((128 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit1 : Ideal.ofBits .f32 0x3F800000#32 = ((1 : ℝ) : EReal) := by
  simp [Ideal.ofBits, Ideal.ieee, -EReal.coe_mul]; norm_num
theorem lit256 : Ideal.ofBits .f32 0x43800000#32 = ((256 : ℝ) : EReal) := by
  simp [Ideal.ofBits, Ideal.ieee, -EReal.coe_mul]; norm_num
theorem litEps : ∃ z : ℝ, Ideal.ofBits .f32 0x3727C5AC#32 = (z : EReal) := by
  simp [Ideal.ofBits, Ideal.ieee, -EReal.coe_mul]
theorem litInit : ∃ z : ℝ, Ideal.ofBits .f32 0x3E4CCCCD#32 = (z : EReal) := by
  simp [Ideal.ofBits, Ideal.ieee, -EReal.coe_mul]

/-! ## Real entries -/

/-- The real number at a place of a matrix, zero outside it. -/
def rat {a b : ℕ} (x : (⟨2, ![a, b]⟩ : Shape).Idx → EReal) (r l : ℕ) : ℝ :=
  if h : r < a ∧ l < b then (x (ix2 ⟨r, h.1⟩ ⟨l, h.2⟩)).toReal else 0

theorem rat_at {a b : ℕ} {x : (⟨2, ![a, b]⟩ : Shape).Idx → EReal} (hx : ∀ i, ∃ z : ℝ, x i = (z : EReal)) (r : Fin a) (l : Fin b) :
    x (ix2 r l) = (rat x r.val l.val : EReal) := by
  unfold rat
  rw [dif_pos ⟨r.isLt, l.isLt⟩]
  obtain ⟨z, hz⟩ := hx (ix2 r l)
  show x (ix2 r l) = ((x (ix2 r l)).toReal : EReal)
  rw [hz, EReal.toReal_coe]

/-- The factor of the queries. -/
def q0 : ℝ := 1 / (√128 * Real.log 2)

/-- A query's score of a key, in set `c` of batch `b`, -/
def dotp (x : ℕ → ℕ → ℝ) (b c n k : ℕ) : ℝ :=
  ∑ d : Fin 128, x (8320 * b + n) (2048 + (128 * c + d.val)) * x (8320 * b + k) (3072 + (128 * c + d.val))
/-- and with the queries scaled. -/
def scr (x : ℕ → ℕ → ℝ) (b c n k : ℕ) : ℝ :=
  ∑ d : Fin 128, (x (8320 * b + n) (2048 + (128 * c + d.val)) * q0) * x (8320 * b + k) (3072 + (128 * c + d.val))
/-- A key's value of a set. -/
def vlu (y : ℕ → ℕ → ℝ) (b c k : ℕ) (e : Fin 256) : ℝ := y (8320 * b + k) (1024 + ((c / 2) * 256 + e.val))

theorem scr_eq (x : ℕ → ℕ → ℝ) (b c n k : ℕ) : scr x b c n k = dotp x b c n k * q0 := by
  unfold scr dotp
  rw [Finset.sum_mul]
  exact Finset.sum_congr rfl fun d _ => by ring

/-- A power of two of a scaled score is the exponential of the plain one. -/
theorem two_pow (x : ℕ → ℕ → ℝ) (b c n k : ℕ) : Real.rpow 2 (scr x b c n k) = Real.exp (dotp x b c n k / √128) := by
  rw [scr_eq, show Real.rpow 2 (dotp x b c n k * q0) = Real.exp (Real.log 2 * (dotp x b c n k * q0)) from Real.rpow_def_of_pos (by norm_num) _]
  congr 1
  unfold q0
  have h2 : Real.log 2 ≠ 0 := (Real.log_pos (by norm_num)).ne'
  have h3 : √(128 : ℝ) ≠ 0 := (Real.sqrt_pos.mpr (by norm_num)).ne'
  field_simp

/-- The mean of the values by the weights of the scores. -/
def att (x y : ℕ → ℕ → ℝ) (b c n : ℕ) (e : Fin 256) : ℝ :=
  (∑ k ∈ Attn.keys n (n + 1), Real.rpow 2 (scr x b c n k) * vlu y b c k e) / ∑ k ∈ Attn.keys n (n + 1), Real.rpow 2 (scr x b c n k)

theorem sum_keys (n : Fin 8208) (F : ℕ → ℝ) :
    ∑ k ∈ Attn.keys (112 + n.val) (112 + n.val + 1), F k = ∑ p : Fin 8208, if p.val ≤ n.val then F (112 + p.val) else 0 := by
  have h : Attn.keys (112 + n.val) (112 + n.val + 1) = (Finset.univ.filter fun p : Fin 8208 => p.val ≤ n.val).image fun p => 112 + p.val := by
    ext k
    rw [Attn.mem_keys, Finset.mem_image]
    constructor
    · rintro ⟨h1, h2, h3⟩
      exact ⟨⟨k - 112, by omega⟩, Finset.mem_filter.mpr ⟨Finset.mem_univ _, by show k - 112 ≤ n.val; omega⟩, by show 112 + (k - 112) = k; omega⟩
    · rintro ⟨p, hp, rfl⟩
      have := (Finset.mem_filter.mp hp).2
      exact ⟨by omega, by omega, by omega⟩
  rw [h, Finset.sum_image fun a _ b _ e => Fin.ext (by have e' : 112 + a.val = 112 + b.val := e; omega), Finset.sum_filter]

/-! ## The softmax of a row -/

theorem soft_row (S : FVec Ideal S2x4x8208x8208 .f32) (b : Fin 2) (h : Fin 4) (n : Fin 8208) (x : ℕ → ℝ)
    (hS : ∀ p : Fin 8208, S (ix4 b h n p) = if p.val ≤ n.val then (x p.val : EReal) else ⊥) (p : Fin 8208) :
    soft (expM S) (ix4 b h n p) = (((if p.val ≤ n.val then Real.exp (x p.val) else 0) / ∑ p' : Fin 8208, if p'.val ≤ n.val then Real.exp (x p'.val) else 0 : ℝ) : EReal) := by
  obtain ⟨M, hM⟩ := rmax_real S b h n (fun p => by rw [hS p]; split <;> simp) ⟨0, by omega⟩ (by rw [hS, if_pos (Nat.zero_le _)]; exact EReal.coe_ne_bot _)
  have hE : ∀ p : Fin 8208, expM S (ix4 b h n p) = (((if p.val ≤ n.val then Real.exp (x p.val) else 0) * Real.exp (-M) : ℝ) : EReal) := by
    intro p
    rw [expM_at, hM, hS p]
    split
    · rw [← EReal.coe_sub, Ideal.exp_coe, ← Real.exp_add, sub_eq_add_neg]
    · rw [EReal.bot_sub, Ideal.exp_bot, zero_mul, EReal.coe_zero]
  have hpos : 0 < ∑ p' : Fin 8208, if p'.val ≤ n.val then Real.exp (x p'.val) else 0 :=
    Finset.sum_pos' (fun i _ => by split <;> positivity) ⟨⟨0, by omega⟩, Finset.mem_univ _, by rw [if_pos (Nat.zero_le _)]; positivity⟩
  have hsum : (∑ p' : Fin 8208, (expM S (ix4 b h n p') : EReal)) = (((∑ p' : Fin 8208, if p'.val ≤ n.val then Real.exp (x p'.val) else 0) * Real.exp (-M) : ℝ) : EReal) := by
    rw [Finset.sum_congr rfl fun p' _ => hE p', ← Flash.coe_sum, Finset.sum_mul]
  have hne : (∑ p' : Fin 8208, if p'.val ≤ n.val then Real.exp (x p'.val) else 0) * Real.exp (-M) ≠ 0 := (mul_pos hpos (Real.exp_pos _)).ne'
  rw [soft_at, hsum, hE p, Ideal.div_coe hne, ← EReal.coe_mul]
  refine congrArg (fun u : ℝ => (u : EReal)) ?_
  rw [mul_one_div]
  exact mul_div_mul_right _ _ (Real.exp_pos _).ne'

/-- A row's scores. -/
theorem score_row {a0 : FVec Ideal S16640x4096 .f32} (h0 : ∀ i, ∃ z : ℝ, a0 i = (z : EReal)) (q k : FVec Ideal S2x8208x4x128 .f32) (z : Fin 2)
    (hq : ∀ (b : Fin 2) (n : Fin 8208) (h : Fin 4) (d : Fin 128), q (ix4 b n h d) = rq a0 (ix5 b n h z d))
    (hk : ∀ (b : Fin 2) (n : Fin 8208) (h : Fin 4) (d : Fin 128), k (ix4 b n h d) = rk a0 (ix5 b n h z d))
    (b : Fin 2) (h : Fin 4) (n p : Fin 8208) :
    scoresM q k (ix4 b h n p) = if p.val ≤ n.val then ((dotp (rat a0) b.val (2 * h.val + z.val) (112 + n.val) (112 + p.val) / √128 : ℝ) : EReal) else ⊥ := by
  rw [scoresM_at]
  refine if_congr Iff.rfl ?_ rfl
  have hs : (√128 : ℝ) ≠ 0 := (Real.sqrt_pos.mpr (by norm_num)).ne'
  have hsum : (∑ d : Fin 128, (q (ix4 b n h d) * k (ix4 b p h d) : EReal)) = (dotp (rat a0) b.val (2 * h.val + z.val) (112 + n.val) (112 + p.val) : EReal) := by
    unfold dotp
    rw [Flash.coe_sum]
    refine Finset.sum_congr rfl fun d _ => ?_
    rw [hq, hk, rq_at, rk_at, rat_at h0, rat_at h0, EReal.coe_mul]
    refine congrArg₂ (fun u v : ℝ => (u : EReal) * (v : EReal)) (congrArg₂ (rat a0) ?_ ?_) (congrArg₂ (rat a0) ?_ ?_) <;> simp only [] <;> omega
  rw [hsum, lit128, Ideal.sqrt_coe, if_neg (by norm_num), Ideal.div_coe hs, ← EReal.coe_mul, mul_one_div]

/-- **A row of the reference's attention**: the first mean less λ times the second. -/
theorem attn_row {a0 : FVec Ideal S16640x4096 .f32} (h0 : ∀ i, ∃ z : ℝ, a0 i = (z : EReal))
    {a1 : FVec Ideal S16640x2048 .f32} (h1 : ∀ i, ∃ z : ℝ, a1 i = (z : EReal)) (lam : FVec Ideal S_ .f32) (l : ℝ) (hl : lam ix0 = (l : EReal))
    (b : Fin 2) (n : Fin 8208) (h : Fin 4) (e : Fin 256) :
    attn lam (soft (expM (scoresM (half0 (rq a0)) (half0 (rk a0))))) (soft (expM (scoresM (half1 (rq a0)) (half1 (rk a0))))) (rv a1) (ix4 b n h e)
      = ((att (rat a0) (rat a1) b.val (2 * h.val) (112 + n.val) e - l * att (rat a0) (rat a1) b.val (2 * h.val + 1) (112 + n.val) e : ℝ) : EReal) := by
  have s0 := fun p => soft_row (scoresM (half0 (rq a0)) (half0 (rk a0))) b h n (fun p => dotp (rat a0) b.val (2 * h.val + 0) (112 + n.val) (112 + p) / √128)
    (score_row h0 _ _ 0 (half0_at _) (half0_at _) b h n) p
  have s1 := fun p => soft_row (scoresM (half1 (rq a0)) (half1 (rk a0))) b h n (fun p => dotp (rat a0) b.val (2 * h.val + 1) (112 + n.val) (112 + p) / √128)
    (score_row h0 _ _ 1 (half1_at _) (half1_at _) b h n) p
  rw [attn_at, hl]
  have hv : ∀ (p : Fin 8208) (c : ℕ), c / 2 = h.val → rv a1 (ix4 b p h e) = (vlu (rat a1) b.val c (112 + p.val) e : EReal) := by
    intro p c hc
    rw [rv_at, rat_at h1]
    unfold vlu
    rw [hc]
    refine congrArg (fun u : ℝ => (u : EReal)) (congrArg₂ (rat a1) ?_ ?_) <;> simp only [] <;> omega
  have hatt : ∀ c, c / 2 = h.val → att (rat a0) (rat a1) b.val c (112 + n.val) e
      = ∑ p : Fin 8208, vlu (rat a1) b.val (2 * h.val) (112 + p.val) e * ((if p.val ≤ n.val then Real.exp (dotp (rat a0) b.val c (112 + n.val) (112 + p.val) / √128) else 0)
          / ∑ p' : Fin 8208, if p'.val ≤ n.val then Real.exp (dotp (rat a0) b.val c (112 + n.val) (112 + p'.val) / √128) else 0) := by
    intro c hc
    unfold att
    rw [sum_keys n fun k => Real.rpow 2 (scr (rat a0) b.val c (112 + n.val) k) * vlu (rat a1) b.val c k e, sum_keys n fun k => Real.rpow 2 (scr (rat a0) b.val c (112 + n.val) k)]
    simp only [two_pow]
    rw [Finset.sum_div]
    refine Finset.sum_congr rfl fun p _ => ?_
    have : vlu (rat a1) b.val c (112 + p.val) e = vlu (rat a1) b.val (2 * h.val) (112 + p.val) e := by
      unfold vlu; rw [hc, show 2 * h.val / 2 = h.val by omega]
    rw [this]
    split
    · ring
    · simp
  rw [hatt (2 * h.val) (by omega), hatt (2 * h.val + 1) (by omega), Finset.mul_sum, ← Finset.sum_sub_distrib, Flash.coe_sum]
  refine Finset.sum_congr rfl fun p _ => ?_
  rw [s0 p, s1 p, hv p (2 * h.val) (by omega), ← EReal.coe_mul, ← EReal.coe_sub, ← EReal.coe_mul]
  refine congrArg (fun u : ℝ => (u : EReal)) ?_
  simp only [Nat.add_zero]
  ring

/-- λ is a real number. -/
theorem lam_real {a b c d : FVec Ideal S128 .f32} (ha : ∀ i, ∃ z : ℝ, a i = (z : EReal)) (hb : ∀ i, ∃ z : ℝ, b i = (z : EReal))
    (hc : ∀ i, ∃ z : ℝ, c i = (z : EReal)) (hd : ∀ i, ∃ z : ℝ, d i = (z : EReal)) : ∃ l : ℝ, rlam a b c d ix0 = (l : EReal) := by
  have hp : ∀ {u v : FVec Ideal S128 .f32}, (∀ i, ∃ z : ℝ, u i = (z : EReal)) → (∀ i, ∃ z : ℝ, v i = (z : EReal)) →
      ∃ z : ℝ, Ideal.exp (∑ x : Fin 128, (u (ix1 x) : EReal) * v (ix1 x)) = (z : EReal) := by
    intro u v hu hv
    choose fu hfu using hu
    choose fv hfv using hv
    refine ⟨Real.exp (∑ x : Fin 128, fu (ix1 x) * fv (ix1 x)), ?_⟩
    rw [← Ideal.exp_coe, Flash.coe_sum]
    exact congrArg Ideal.exp (Finset.sum_congr rfl fun x _ => by rw [hfu, hfv, EReal.coe_mul])
  obtain ⟨x, hx⟩ := hp ha hb
  obtain ⟨y, hy⟩ := hp hc hd
  obtain ⟨z, hz⟩ := litInit
  refine ⟨x - y + z, ?_⟩
  rw [rlam_at, hx, hy, hz, EReal.coe_add, EReal.coe_sub]

end Cert.Diff

end
-- ==== Proof.Final.lean ====
/-
  The kernel's result against the reference's, entry by entry: the steps' invariant at the real inputs, and the rows that
  the diagonal steps leave.
-/
module

public import proofs.«01_k».proof.Proof.Arrays
public import proofs.«01_k».proof.Proof.RefRow

@[expose] public section

set_option maxRecDepth 16384

noncomputable section

namespace Cert.KernelIdeal

open Idealize.ShloMosaic Idealize.ShloMosaic.TcCoe Idealize.SL.Sem
open Cert.Diff

variable (m : (ℓ : Loc nD τ sig) → Buf (Elt Ideal) ℓ) (c : Dev nD)

/-- The arguments of λ, -/
def argL1 : FVec Ideal S128 .f32 := m ((c : Thread nD τ).loc main_arg2)
def argL2 : FVec Ideal S128 .f32 := m ((c : Thread nD τ).loc main_arg3)
def argL3 : FVec Ideal S128 .f32 := m ((c : Thread nD τ).loc main_arg4)
def argL4 : FVec Ideal S128 .f32 := m ((c : Thread nD τ).loc main_arg5)
/-- and the gain. -/
def argG : FVec Ideal S256 .f32 := m ((c : Thread nD τ).loc main_arg6)

/-- The entries the claim needs real. -/
structure Real6 : Prop where
  qk : ∀ i, ∃ z : ℝ, argQK m c i = (z : EReal)
  v : ∀ i, ∃ z : ℝ, argV m c i = (z : EReal)
  l1 : ∀ i, ∃ z : ℝ, argL1 m c i = (z : EReal)
  l2 : ∀ i, ∃ z : ℝ, argL2 m c i = (z : EReal)
  l3 : ∀ i, ∃ z : ℝ, argL3 m c i = (z : EReal)
  l4 : ∀ i, ∃ z : ℝ, argL4 m c i = (z : EReal)

/-- The scores of a batch, -/
def sB (b : Fin 2) (k : Fin 8) : ℕ → ℕ → ℝ := scr (rat (argQK m c)) b.val k.val
/-- and its values. -/
def vB (b : Fin 2) (k : Fin 8) : ℕ → Fin 256 → ℝ := vlu (rat (argV m c)) b.val k.val

/-- The queries' factor. -/
theorem qs_real : qs = (q0 : EReal) := by
  unfold qs q0
  have h2 : Real.log 2 ≠ 0 := (Real.log_pos (by norm_num)).ne'
  have h3 : √(128 : ℝ) ≠ 0 := (Real.sqrt_pos.mpr (by norm_num)).ne'
  rw [Diff.lit1, Diff.lit2, Diff.lit128, Ideal.sqrt_coe, if_neg (by norm_num), Ideal.log_coe, if_neg (by norm_num), ← EReal.coe_mul, Ideal.div_coe (mul_ne_zero h3 h2), ← EReal.coe_mul, one_mul]

/-- A step's blocks are real. -/
theorem blocks (H : Real6 m c) (t : Fin (cfgM Ideal).N) :
    Attn.Blocks (sB m c (bt t)) (vB m c (bt t)) (640 * (qt t).val) (640 * (kt t).val) (blkQ c (Arr m c) t) (blkK c (Arr m c) t) (blkV c (Arr m c) t) where
  qk := fun k ρ y => by
    unfold sB scr
    rw [Flash.coe_sum]
    refine Finset.sum_congr rfl fun d _ => ?_
    have e1 := (blkQ_at c (Arr m c) t ρ ⟨128 * k.val + d.val, by omega⟩).trans (opQ m c _ ⟨128 * k.val + d.val, by omega⟩)
    have e2 := (blkK_at c (Arr m c) t y ⟨128 * k.val + d.val, by omega⟩).trans (opK m c _ ⟨128 * k.val + d.val, by omega⟩)
    refine (congrArg₂ (fun u v : EReal => u * v) e1 e2).trans ?_
    rw [rat_at H.qk, rat_at H.qk, qs_real, ← EReal.coe_mul, ← EReal.coe_mul]
    refine congrArg (fun u : ℝ => (u : EReal)) (congrArg₂ (fun u v : ℝ => u * q0 * v) (congrArg₂ (rat _) ?_ rfl) (congrArg₂ (rat _) ?_ rfl)) <;> simp only [] <;> omega
  vv := fun k y e => by
    unfold vB vlu
    have e1 := (blkV_at c (Arr m c) t y ⟨(k.val / 2) * 256 + e.val, by omega⟩).trans (opV m c _ ⟨1024 + ((k.val / 2) * 256 + e.val), by omega⟩)
    refine e1.trans ?_
    rw [rat_at H.v]
    refine congrArg (fun u : ℝ => (u : EReal)) (congrArg₂ (rat _) ?_ rfl)
    simp only []
    omega

/-- What is known before a step, -/
def Jv (n : ℕ) (X L : Vec Ideal (Attn.Sh2 640 128) .f32) (A : Vec Ideal (Attn.Sh3 8 640 256) .f32) : Prop :=
  ∀ t : Fin (cfgM Ideal).N, t.val = n → (kt t).val ≠ 0 →
    Attn.Rows (sB m c (bt t)) (vB m c (bt t)) (640 * (qt t).val) (fun _ => 640 * (kt t).val) X L A
/-- and during one. -/
def Iv (t : Fin (cfgM Ideal).N) (u : ℕ) (X L : Vec Ideal (Attn.Sh2 640 128) .f32) (A : Vec Ideal (Attn.Sh3 8 640 256) .f32) : Prop :=
  Attn.Rows (sB m c (bt t)) (vB m c (bt t)) (640 * (qt t).val) (fun ρ => if ρ.val < 128 * u then 640 * ((kt t).val + 1) else 640 * (kt t).val) X L A

theorem Iv_end {t : Fin (cfgM Ideal).N} {X L : Vec Ideal (Attn.Sh2 640 128) .f32} {A : Vec Ideal (Attn.Sh3 8 640 256) .f32} (h : Iv m c t 5 X L A) :
    Attn.Rows (sB m c (bt t)) (vB m c (bt t)) (640 * (qt t).val) (fun _ => 640 * ((kt t).val + 1)) X L A := by
  intro k ρ
  have := h k ρ
  beta_reduce at this
  rw [if_pos (show ρ.val < 128 * 5 by omega)] at this
  exact this

theorem Jv_zero (X L : Vec Ideal (Attn.Sh2 640 128) .f32) (A : Vec Ideal (Attn.Sh3 8 640 256) .f32) : Jv m c 0 X L A := by
  intro t ht hk
  refine absurd ?_ hk
  have h : stp t = (0 : Fin 91) := Fin.ext (by rw [stp_val, ht]; rfl)
  unfold kt
  rw [h]
  decide

theorem msk_bot : (msk : Ideal .f32) = (⊥ : EReal) := IdealRules.named_const.ideal_named_scalar _ _ _ _ rfl

theorem Iv_step (H : Real6 m c) (t : Fin (cfgM Ideal).N) :
    Attn.StepInv (qt t) (kt t) (msk : Ideal .f32) (blkQ c (Arr m c) t) (blkK c (Arr m c) t) (blkV c (Arr m c) t) (Jv m c t.val) (Iv m c t) := by
  rw [msk_bot]
  exact Attn.stepInv (Attn.ki_le _) (blocks m c H t) _ fun h0 X L A h => h t rfl h0

theorem Jv_next (t : Fin (cfgM Ideal).N) (X L : Vec Ideal (Attn.Sh2 640 128) .f32) (A : Vec Ideal (Attn.Sh3 8 640 256) .f32) (h : Iv m c t 5 X L A) :
    Jv m c (t.val + 1) X L A := by
  intro t' ht' hk
  obtain ⟨h1, h2, h3⟩ := Attn.tile_prev (stp t') hk
  have hs := stp_val t'
  have hs0 := stp_val t
  have hb : bt t' = bt t := Fin.ext (by rw [(co t').1, (co t).1]; omega)
  have hp : (stp t').val - 1 = (stp t).val := by omega
  have hq : (qt t').val = (qt t).val := by
    refine h2.symm.trans ?_
    rw [hp]; rfl
  have hkk : (kt t).val + 1 = (kt t').val := by
    refine Eq.trans ?_ h3
    rw [hp]; rfl
  have := Iv_end m c h
  rw [hkk, ← hq, ← hb] at this
  exact this

/-! ## The rows a diagonal step leaves -/

theorem lam_eq (t : Fin (cfgM Ideal).N) : Attn.lamR (blk3 c (Arr m c) t) (blk4 c (Arr m c) t) (blk5 c (Arr m c) t) (blk6 c (Arr m c) t)
    = ReferenceIdeal.rlam (argL1 m c) (argL2 m c) (argL3 m c) (argL4 m c) Idealize.ShloMosaic.ix0 := by
  rw [ReferenceIdeal.rlam_at]
  unfold Attn.lamR
  have e3 := fun x => (blk3_at c (Arr m c) t x).trans (op3 m c x)
  have e4 := fun x => (blk4_at c (Arr m c) t x).trans (op4 m c x)
  have e5 := fun x => (blk5_at c (Arr m c) t x).trans (op5 m c x)
  have e6 := fun x => (blk6_at c (Arr m c) t x).trans (op6 m c x)
  refine congrArg₂ (fun u v : EReal => Ideal.exp u - Ideal.exp v + Ideal.ofBits .f32 0x3E4CCCCD#32)
    (Finset.sum_congr rfl fun x _ => congrArg₂ (fun u v : EReal => u * v) (e3 x) (e4 x)) (Finset.sum_congr rfl fun x _ => congrArg₂ (fun u v : EReal => u * v) (e5 x) (e6 x))

/-- A row of ⊥s normalises to zeros. -/
theorem norm_bot (g : EReal) (e : Fin 256) : Attn.normRow (fun _ => ⊥) g e = 0 := by
  unfold Attn.normRow
  obtain ⟨z, hz⟩ := litEps
  have h1 : (∑ x : Fin 256, (⊥ : EReal) * ⊥) = ⊤ := by
    rw [EReal.bot_mul_bot, Fin.sum_univ_succ]
    refine EReal.top_add_of_ne_bot ?_
    refine ne_of_gt (lt_of_lt_of_le EReal.bot_lt_zero (Finset.sum_nonneg fun _ _ => le_top))
  rw [h1, lit256, Ideal.div_coe (by norm_num), EReal.top_mul_coe_of_pos (by norm_num), hz, EReal.top_add_coe, Ideal.rsqrt_top, mul_zero, zero_mul, zero_mul]

/-- The reference's attention, -/
def O : FVec Ideal ReferenceIdeal.S2x8208x4x256 .f32 :=
  ReferenceIdeal.attn (ReferenceIdeal.rlam (argL1 m c) (argL2 m c) (argL3 m c) (argL4 m c))
    (ReferenceIdeal.soft (ReferenceIdeal.expM (ReferenceIdeal.scoresM (ReferenceIdeal.half0 (ReferenceIdeal.rq (argQK m c))) (ReferenceIdeal.half0 (ReferenceIdeal.rk (argQK m c))))))
    (ReferenceIdeal.soft (ReferenceIdeal.expM (ReferenceIdeal.scoresM (ReferenceIdeal.half1 (ReferenceIdeal.rq (argQK m c))) (ReferenceIdeal.half1 (ReferenceIdeal.rk (argQK m c))))))
    (ReferenceIdeal.rv (argV m c))
/-- and its result. -/
def G : FVec Ideal S16640x1024 .bf16 := ReferenceIdeal.rout (ReferenceIdeal.norm (O m c) (argG m c))

theorem head_mem : ∀ h : Fin 4, ((h, (⟨2 * h.val, by omega⟩ : Fin 8), (⟨2 * h.val + 1, by omega⟩ : Fin 8)) : Fin 4 × Fin 8 × Fin 8) ∈ Attn.headList := by decide

/-- The keys of a row on the diagonal. -/
theorem keys_diag {n K : ℕ} (h : n < K) : Attn.keys n K = Attn.keys n (n + 1) := by
  ext k; rw [Attn.mem_keys, Attn.mem_keys]; omega

theorem keys_pad {n K : ℕ} (h : n < 112) : Attn.keys n K = ∅ := by
  ext k; rw [Attn.mem_keys]; simp; omega

/-- **An entry of the block that a diagonal step leaves is the reference's.** -/
theorem out_eq (H : Real6 m c) (t : Fin (cfgM Ideal).N) (hd : (kt t).val = (qt t).val) (X : Vec Ideal (Attn.Sh2 640 1024) .bf16)
    (hX : Attn.OutRel (qt t) (kt t) (blk3 c (Arr m c) t) (blk4 c (Arr m c) t) (blk5 c (Arr m c) t) (blk6 c (Arr m c) t) (blk7 c (Arr m c) t) (Iv m c t 5) X)
    (ρ : Fin 640) (h : Fin 4) (e : Fin 256) :
    X (ix2 ρ ⟨256 * h.val + e.val, by omega⟩) = G m c (ix2 ⟨640 * (13 * (bt t).val + (qt t).val) + ρ.val, by have := (bt t).isLt; have := (qt t).isLt; omega⟩ ⟨256 * h.val + e.val, by omega⟩) := by
  obtain ⟨M, L, A, hI, hO⟩ := hX hd
  have hO := hO _ (head_mem h) (ix2 ρ e)
  rw [Attn.rO_at] at hO
  refine hO.trans ?_
  unfold Attn.tileOut
  refine (Attn.outPay_at _ _ _ _ _ _ _ _ _).trans ?_
  have hR := Iv_end m c hI
  have hg : blk7 c (Arr m c) t (ix2 0 e) = argG m c (ix1 e) := (blk7_at c (Arr m c) t e).trans (op7 m c e)
  have hq : (qt t).val < 13 := (qt t).isLt
  have hb : (bt t).val < 2 := (bt t).isLt
  have hn : 640 * (qt t).val + ρ.val < 640 * ((kt t).val + 1) := by omega
  have hrow : ∀ k : Fin 8, Flash.Inv (sB m c (bt t) k (640 * (qt t).val + ρ.val)) (vB m c (bt t) k) (Attn.keys (640 * (qt t).val + ρ.val) (640 * (qt t).val + ρ.val + 1))
      (M (ix2 ρ ⟨k.val, by omega⟩)) (L (ix2 ρ ⟨k.val, by omega⟩)) fun e => A ((Attn.rH k).emb (ix3 0 ρ e)) := by
    intro k
    have := hR k ρ
    rw [keys_diag hn] at this
    simp only [Attn.rH_at]
    exact this
  obtain ⟨l, hl⟩ := lam_real H.l1 H.l2 H.l3 H.l4
  rw [Attn.lamPay_at, lam_eq m c t, hl, hg]
  by_cases hp : 640 * (qt t).val + ρ.val < 112
  · have hbot : ∀ (k : Fin 8) (e : Fin 256), Ideal.div (A ((Attn.rH k).emb (ix3 0 ρ e))) (L (ix2 ρ ⟨k.val, by omega⟩)) = ⊥ := by
      intro k e
      have := hrow k
      rw [keys_pad hp] at this
      exact Flash.ratio_bot this e
    simp only [hbot, EReal.bot_sub]
    rw [norm_bot]
    have := ReferenceIdeal.rout_pad (ReferenceIdeal.norm (O m c) (argG m c)) (bt t) ⟨640 * (qt t).val + ρ.val, hp⟩ h e
    refine this.symm.trans ?_
    unfold G
    refine congrArg _ (congrArg₂ ix2 (Fin.ext ?_) rfl)
    simp only []
    omega
  · have hratio : ∀ (k : Fin 8) (e : Fin 256), Ideal.div (A ((Attn.rH k).emb (ix3 0 ρ e))) (L (ix2 ρ ⟨k.val, by omega⟩))
        = (att (rat (argQK m c)) (rat (argV m c)) (bt t).val k.val (640 * (qt t).val + ρ.val) e : EReal) := by
      intro k e
      exact Flash.ratio_real (hrow k) ⟨640 * (qt t).val + ρ.val, Attn.mem_keys.mpr ⟨by omega, by omega, le_refl _⟩⟩ e
    simp only [hratio]
    obtain ⟨n, hnn⟩ : ∃ n : Fin 8208, 640 * (qt t).val + ρ.val = 112 + n.val := ⟨⟨640 * (qt t).val + ρ.val - 112, by omega⟩, by simp only []; omega⟩
    rw [hnn]
    have hrn := ReferenceIdeal.rout_row (ReferenceIdeal.norm (O m c) (argG m c)) (bt t) n h e
    have hG : G m c (ix2 ⟨640 * (13 * (bt t).val + (qt t).val) + ρ.val, by omega⟩ ⟨256 * h.val + e.val, by omega⟩) = ReferenceIdeal.norm (O m c) (argG m c) (ix4 (bt t) n h e) := by
      refine Eq.trans ?_ hrn
      unfold G
      refine congrArg _ (congrArg₂ ix2 (Fin.ext ?_) rfl)
      simp only []
      omega
    rw [hG, ReferenceIdeal.norm_at]
    have hO : ∀ x, O m c (ix4 (bt t) n h x) = _ := fun x => attn_row H.qk H.v _ l hl (bt t) n h x
    simp only [hO]
    unfold Attn.normRow
    simp only [EReal.coe_sub, EReal.coe_mul]

end Cert.KernelIdeal

end
-- ==== Proof.Finite.lean ====
/-
  The precondition read: every entry of the six arrays it names is a real number.
-/
module

public import proofs.«01_k».proof.Pre_finite_inputs
public import Idealize.ShloMosaic.Lib.ReduceAll
public import Idealize.ShloMosaic.Lib.Pipeline.ValueKit

@[expose] public section

set_option maxRecDepth 16384

noncomputable section

namespace Cert.Pre_finite_inputs

open Idealize.ShloMosaic

theorem lit_top : Ideal.ofBits .f32 0x7F800000#32 = ⊤ := by simp [Ideal.ofBits, Ideal.ieee]

instance : Subsingleton S_.Idx := ⟨fun a b => funext fun i => i.elim0⟩

/-- A number of absolute value below ⊤ is real. -/
theorem real_of_abs (x : EReal) (h : max x (-x) < ⊤) : ∃ z : ℝ, x = (z : EReal) := by
  induction x using EReal.rec with
  | bot => simp at h
  | top => simp at h
  | coe z => exact ⟨z, rfl⟩

theorem real_of_all {s : Shape} (x : FVec Ideal s .f32) {axes : List (Fin s.rank)} (hr : s.ReducesTo axes S_) (hu : 0 < S_.numel)
    (hb : S_.BroadcastsInDim s (![] : Fin 0 → Fin s.rank)) (j : S_.Idx)
    (e : Host.reduce IntOp.andi (cmpf .olt (Host.absf x) (broadcastInDim s ![] hb (constant (F := Ideal) S_ .f32 0x7F800000#32))) (constantI S_ 1 1#1) hr hu j = 1#1)
    (i : s.Idx) : ∃ z : ℝ, x i = (z : EReal) := by
  have h := Host.reduce_andi_all _ _ hr hu j e i
  refine real_of_abs _ ?_
  have h' : Ideal.cmp .olt (max (x i : EReal) (-(x i))) (Ideal.ofBits .f32 0x7F800000#32) = 1#1 := h
  rw [lit_top] at h'
  by_contra hn
  simp only [Ideal.cmp, decide_eq_false hn] at h'
  exact absurd h' (by decide)

theorem fn_real [Facts] (a0 : FVec Ideal S16640x4096 .f32) (a1 : FVec Ideal S16640x2048 .f32) (a2 a3 a4 a5 : FVec Ideal S128 .f32) (a6 : FVec Ideal S256 .f32)
    (h : fn (F := Ideal) a0 a1 a2 a3 a4 a5 a6 = fun _ => 1#1) :
    (∀ i, ∃ z : ℝ, a0 i = (z : EReal)) ∧ (∀ i, ∃ z : ℝ, a1 i = (z : EReal)) ∧ (∀ i, ∃ z : ℝ, a2 i = (z : EReal))
      ∧ (∀ i, ∃ z : ℝ, a3 i = (z : EReal)) ∧ (∀ i, ∃ z : ℝ, a4 i = (z : EReal)) ∧ (∀ i, ∃ z : ℝ, a5 i = (z : EReal)) := by
  have h0 := congrFun h ix0
  obtain ⟨h1, h5⟩ := IntOp.andi_eq_one.1 h0
  obtain ⟨h1, h4⟩ := IntOp.andi_eq_one.1 h1
  obtain ⟨h1, h3⟩ := IntOp.andi_eq_one.1 h1
  obtain ⟨h1, h2⟩ := IntOp.andi_eq_one.1 h1
  obtain ⟨h0, h1⟩ := IntOp.andi_eq_one.1 h1
  exact ⟨real_of_all a0 _ _ _ _ h0, real_of_all a1 _ _ _ _ h1, real_of_all a2 _ _ _ _ h2, real_of_all a3 _ _ _ _ h3, real_of_all a4 _ _ _ _ h4, real_of_all a5 _ _ _ _ h5⟩

end Cert.Pre_finite_inputs

end
-- ==== Proof.ExpertBody.lean ====
/-
  The expert call's body: what one grid point computes of its windows' blocks, and its run: from the windows at any
  contents, a block below the number of used blocks is replaced by the block's feed-forward, any other by zeros.
-/
module

public import proofs.«01_k».proof.Proof.Rules
public import proofs.«01_k».proof.Proof.Gen.Kernel2Ideal.Launch
public import Idealize.ShloMosaic.Lib.ValueIdxCore

@[expose] public section

noncomputable section

namespace Cert.Kernel2Ideal

open Idealize.ShloMosaic Idealize.ShloMosaic.ValueIdx
open Idealize.SL
open Idealize.SL.RA Idealize.SL.Sem Idealize.SL.ProofMode
open Idealize.SL.BI (sProp)
open scoped Idealize.SL.BI
open Idealize.SL.BI.BIBase Idealize.SL.BI.Laws
open Cert.Attn (wp_load_owns wp_store_owns unit_emb_val)
open Facts₀ Facts

variable {F : FTy → Type} [FloatOps F]

/-- The first product and its bias. -/
def mid (x : Vec F S128x2048 .bf16) (w1 : Vec F S1x2048x4096 .bf16) (b1 : Vec F S1x1x4096 .f32) : FVec F S128x4096 .f32 :=
  addf (matmul dot_S128x2048_S2048x4096_S128x4096_1_0_0_1_n_n none (shapeCast S128x2048 x shapeCasts_S128x2048_S128x2048)
      (shapeCast S2048x4096 w1 shapeCasts_S1x2048x4096_S2048x4096) (constant S128x4096 .f32 0x00000000#32))
    (broadcastTo S128x4096 (shapeCast S1x4096 b1 shapeCasts_S1x1x4096_S1x4096) broadcasts_S1x4096_S128x4096)

/-- The columns of the gate, -/
def gateCols (v : FVec F S128x4096 .f32) : FVec F S128x2048 .f32 :=
  concatenate S128x2048 1 [⟨S128x128, extractStridedSlice S128x128 ![0, 0] v slices_S128x4096_o0_0_S128x128⟩, ⟨S128x128, extractStridedSlice S128x128 ![0, 256] v slices_S128x4096_o0_256_S128x128⟩, ⟨S128x128, extractStridedSlice S128x128 ![0, 512] v slices_S128x4096_o0_512_S128x128⟩, ⟨S128x128, extractStridedSlice S128x128 ![0, 768] v slices_S128x4096_o0_768_S128x128⟩, ⟨S128x128, extractStridedSlice S128x128 ![0, 1024] v slices_S128x4096_o0_1024_S128x128⟩, ⟨S128x128, extractStridedSlice S128x128 ![0, 1280] v slices_S128x4096_o0_1280_S128x128⟩, ⟨S128x128, extractStridedSlice S128x128 ![0, 1536] v slices_S128x4096_o0_1536_S128x128⟩, ⟨S128x128, extractStridedSlice S128x128 ![0, 1792] v slices_S128x4096_o0_1792_S128x128⟩, ⟨S128x128, extractStridedSlice S128x128 ![0, 2048] v slices_S128x4096_o0_2048_S128x128⟩, ⟨S128x128, extractStridedSlice S128x128 ![0, 2304] v slices_S128x4096_o0_2304_S128x128⟩, ⟨S128x128, extractStridedSlice S128x128 ![0, 2560] v slices_S128x4096_o0_2560_S128x128⟩, ⟨S128x128, extractStridedSlice S128x128 ![0, 2816] v slices_S128x4096_o0_2816_S128x128⟩, ⟨S128x128, extractStridedSlice S128x128 ![0, 3072] v slices_S128x4096_o0_3072_S128x128⟩, ⟨S128x128, extractStridedSlice S128x128 ![0, 3328] v slices_S128x4096_o0_3328_S128x128⟩, ⟨S128x128, extractStridedSlice S128x128 ![0, 3584] v slices_S128x4096_o0_3584_S128x128⟩, ⟨S128x128, extractStridedSlice S128x128 ![0, 3840] v slices_S128x4096_o0_3840_S128x128⟩] concatenates_S128x128_S128x128_S128x128_S128x128_S128x128_S128x128_S128x128_S128x128_S128x128_S128x128_S128x128_S128x128_S128x128_S128x128_S128x128_S128x128_S128x2048_d1
/-- and the columns of the linear part. -/
def linCols (v : FVec F S128x4096 .f32) : FVec F S128x2048 .f32 :=
  concatenate S128x2048 1 [⟨S128x128, extractStridedSlice S128x128 ![0, 128] v slices_S128x4096_o0_128_S128x128⟩, ⟨S128x128, extractStridedSlice S128x128 ![0, 384] v slices_S128x4096_o0_384_S128x128⟩, ⟨S128x128, extractStridedSlice S128x128 ![0, 640] v slices_S128x4096_o0_640_S128x128⟩, ⟨S128x128, extractStridedSlice S128x128 ![0, 896] v slices_S128x4096_o0_896_S128x128⟩, ⟨S128x128, extractStridedSlice S128x128 ![0, 1152] v slices_S128x4096_o0_1152_S128x128⟩, ⟨S128x128, extractStridedSlice S128x128 ![0, 1408] v slices_S128x4096_o0_1408_S128x128⟩, ⟨S128x128, extractStridedSlice S128x128 ![0, 1664] v slices_S128x4096_o0_1664_S128x128⟩, ⟨S128x128, extractStridedSlice S128x128 ![0, 1920] v slices_S128x4096_o0_1920_S128x128⟩, ⟨S128x128, extractStridedSlice S128x128 ![0, 2176] v slices_S128x4096_o0_2176_S128x128⟩, ⟨S128x128, extractStridedSlice S128x128 ![0, 2432] v slices_S128x4096_o0_2432_S128x128⟩, ⟨S128x128, extractStridedSlice S128x128 ![0, 2688] v slices_S128x4096_o0_2688_S128x128⟩, ⟨S128x128, extractStridedSlice S128x128 ![0, 2944] v slices_S128x4096_o0_2944_S128x128⟩, ⟨S128x128, extractStridedSlice S128x128 ![0, 3200] v slices_S128x4096_o0_3200_S128x128⟩, ⟨S128x128, extractStridedSlice S128x128 ![0, 3456] v slices_S128x4096_o0_3456_S128x128⟩, ⟨S128x128, extractStridedSlice S128x128 ![0, 3712] v slices_S128x4096_o0_3712_S128x128⟩, ⟨S128x128, extractStridedSlice S128x128 ![0, 3968] v slices_S128x4096_o0_3968_S128x128⟩] concatenates_S128x128_S128x128_S128x128_S128x128_S128x128_S128x128_S128x128_S128x128_S128x128_S128x128_S128x128_S128x128_S128x128_S128x128_S128x128_S128x128_S128x2048_d1

/-- The clamped gate times the clamped linear part. -/
def act (g l : FVec F S128x2048 .f32) : FVec F S128x2048 .f32 :=
  mulf (mulf (minimumf g (broadcast S128x2048 (Scalar.ofBits .f32 0x40E00000#32)))
      (logistic (mulf (broadcast S128x2048 (Scalar.ofBits .f32 0x3FD9DB23#32)) (minimumf g (broadcast S128x2048 (Scalar.ofBits .f32 0x40E00000#32))))))
    (addf (minimumf (broadcast S128x2048 (Scalar.ofBits .f32 0x40E00000#32)) (maximumf (broadcast S128x2048 (Scalar.ofBits .f32 0xC0E00000#32)) l))
      (broadcast S128x2048 (Scalar.ofBits .f32 0x3F800000#32)))

/-- The second product and its bias. -/
def fin (a : FVec F S128x2048 .f32) (w2 : Vec F S1x2048x2048 .bf16) (b2 : Vec F S1x1x2048 .f32) : FVec F S128x2048 .f32 :=
  addf (matmul dot_S128x2048_S2048x2048_S128x2048_1_0_0_1_n_n none (truncf .bf16 a bitsLt_bf16_f32)
      (shapeCast S2048x2048 w2 shapeCasts_S1x2048x2048_S2048x2048) (constant S128x2048 .f32 0x00000000#32))
    (broadcastTo S128x2048 (shapeCast S1x2048 b2 shapeCasts_S1x1x2048_S1x2048) broadcasts_S1x2048_S128x2048)

/-- The feed-forward of a block. -/
def ffn (x : Vec F S128x2048 .bf16) (w1 : Vec F S1x2048x4096 .bf16) (b1 : Vec F S1x1x4096 .f32) (w2 : Vec F S1x2048x2048 .bf16)
    (b2 : Vec F S1x1x2048 .f32) : FVec F S128x2048 .f32 :=
  fin (act (gateCols (mid x w1 b1)) (linCols (mid x w1 b1))) w2 b2

/-- The body, its parts named. -/
def step (i : grid0.Coords) (arg2 : Memref sig .tc .smem S1 .i32) (arg3 : Memref sig .tc .vmem S128x2048 .bf16) (arg4 : Memref sig .tc .vmem S1x2048x4096 .bf16) (arg5 : Memref sig .tc .vmem S1x1x4096 .f32)
    (arg6 : Memref sig .tc .vmem S1x2048x2048 .bf16) (arg7 : Memref sig .tc .vmem S1x1x2048 .f32) (arg8 : Memref sig .tc .vmem S128x2048 .f32) :
    Prog (TpuEff nD τ sig (Elt F) Λ₀ .tc) PUnit := do
  let v0 : Elt F .i32 ← smemLoad arg2 (Rect.unit (s := S1) ![0] S1.size inb_S1_S1_0) numel1_S1 rfl
  if _k0_h1 : k0_cond1 i v0 = 1#1 then do
    let x : Vec F S128x2048 .bf16 ← Prog.lift (.load arg3 (Rect.unit (s := S128x2048) ![0, 0] S128x2048.size inb_S128x2048_S128x2048_0_0).toLoadRect (View.loadsAt_vmem h_S128x2048))
    let w1 : Vec F S1x2048x4096 .bf16 ← Prog.lift (.load arg4 (Rect.unit (s := S1x2048x4096) ![0, 0, 0] S1x2048x4096.size inb_S1x2048x4096_S1x2048x4096_0_0_0).toLoadRect (View.loadsAt_vmem h_S1x2048x4096))
    let b1 : Vec F S1x1x4096 .f32 ← Prog.lift (.load arg5 (Rect.unit (s := S1x1x4096) ![0, 0, 0] S1x1x4096.size inb_S1x1x4096_S1x1x4096_0_0_0).toLoadRect (View.loadsAt_vmem h_S1x1x4096))
    let w2 : Vec F S1x2048x2048 .bf16 ← Prog.lift (.load arg6 (Rect.unit (s := S1x2048x2048) ![0, 0, 0] S1x2048x2048.size inb_S1x2048x2048_S1x2048x2048_0_0_0).toLoadRect (View.loadsAt_vmem h_S1x2048x2048))
    let b2 : Vec F S1x1x2048 .f32 ← Prog.lift (.load arg7 (Rect.unit (s := S1x1x2048) ![0, 0, 0] S1x1x2048.size inb_S1x1x2048_S1x1x2048_0_0_0).toLoadRect (View.loadsAt_vmem h_S1x1x2048))
    let _o : Vec F S128x2048 .f32 ← Prog.lift (.load arg8 (Rect.unit (s := S128x2048) ![0, 0] S128x2048.size inb_S128x2048_S128x2048_0_0).toLoadRect (View.loadsAt_vmem h_S128x2048))
    Prog.lift (.store arg8 (Rect.unit (s := S128x2048) ![0, 0] S128x2048.size inb_S128x2048_S128x2048_0_0) (ffn x w1 b1 w2 b2) Finset.univ (View.stores_vmem_bits_univ h_S128x2048 rfl) (.inl rfl))
    pure ⟨⟩
  else do
    pure ⟨⟩
  let v4 : Elt F .i32 ← smemLoad arg2 (Rect.unit (s := S1) ![0] S1.size inb_S1_S1_0) numel1_S1 rfl
  if _k0_h2 : k0_cond2 i v4 = 1#1 then do
    let _o : Vec F S128x2048 .f32 ← Prog.lift (.load arg8 (Rect.unit (s := S128x2048) ![0, 0] S128x2048.size inb_S128x2048_S128x2048_0_0).toLoadRect (View.loadsAt_vmem h_S128x2048))
    Prog.lift (.store arg8 (Rect.unit (s := S128x2048) ![0, 0] S128x2048.size inb_S128x2048_S128x2048_0_0) (broadcast S128x2048 (Scalar.ofBits .f32 0x00000000#32) : FVec F S128x2048 .f32) Finset.univ (View.stores_vmem_bits_univ h_S128x2048 rfl) (.inl rfl))
    pure ⟨⟩
  else do
    pure ⟨⟩

theorem body_eq (i : grid0.Coords) (arg1 : Memref sig .tc .smem S545 .i32) (h1 : arg1.IsWhole) (arg2 : Memref sig .tc .smem S1 .i32) (arg3 : Memref sig .tc .vmem S128x2048 .bf16) (arg4 : Memref sig .tc .vmem S1x2048x4096 .bf16) (arg5 : Memref sig .tc .vmem S1x1x4096 .f32)
    (arg6 : Memref sig .tc .vmem S1x2048x2048 .bf16) (arg7 : Memref sig .tc .vmem S1x1x2048 .f32) (arg8 : Memref sig .tc .vmem S128x2048 .f32) (h2 h3 h4 h5 h6 h7 h8) :
    (cc0__expert_kernel i arg1 h1 arg2 h2 arg3 h3 arg4 h4 arg5 h5 arg6 h6 arg7 h7 arg8 h8 : Prog (TpuEff nD τ sig (Elt F) Λ₀ .tc) PUnit)
      = step i arg2 arg3 arg4 arg5 arg6 arg7 arg8 := by
  chain_rfl

/-- What a grid point leaves in its result block. -/
def res (i : grid0.Coords) (n : BitVec 32) (x : Vec F S128x2048 .bf16) (w1 : Vec F S1x2048x4096 .bf16) (b1 : Vec F S1x1x4096 .f32)
    (w2 : Vec F S1x2048x2048 .bf16) (b2 : Vec F S1x1x2048 .f32) : Vec F S128x2048 .f32 :=
  if k0_cond1 i n = 1#1 then ffn x w1 b1 w2 b2 else broadcast S128x2048 (Scalar.ofBits .f32 0x00000000#32)

/-- One of the two conditions holds, and not both. -/
theorem cond_one (i : grid0.Coords) (n : BitVec 32) : k0_cond1 i n = 1#1 ↔ ¬ k0_cond2 i n = 1#1 := by
  unfold k0_cond1 k0_cond2
  simp only [Scalar.cmpi, Scalar.extui, IntOp.cmpi, BitVec.sle_eq_not_slt]
  generalize (BitVec.ofNat 32 (i 0).val).slt n = b
  cases b <;> decide

theorem whole2 (i : S128x2048.Idx) : (Rect.unit (s := S128x2048) ![0, 0] S128x2048.size inb_S128x2048_S128x2048_0_0).emb i = i := by
  funext a; apply Fin.ext
  rw [unit_emb_val (s := S128x2048) _ _ inb_S128x2048_S128x2048_0_0 i a]
  fin_cases a <;> exact Nat.zero_add _

theorem whole3 {s : Shape} (hs : s.rank = 3) (off : Fin s.rank → ℕ) (h0 : ∀ a, off a = 0) (inb : ∀ a, off a + s.size a ≤ s.size a) (i : s.Idx) :
    (Rect.unit (s := s) off s.size inb).emb i = i := by
  funext a; apply Fin.ext
  rw [unit_emb_val (s := s) _ _ inb i a, h0]
  exact Nat.zero_add _

theorem off3 : ∀ a, (![0, 0, 0] : Fin 3 → ℕ) a = 0 := by decide

section Run

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD)

/-- The number of used blocks read from its table. -/
theorem wp_count {α : Type} (bd : Option 𝒱.V) {Γ : PendingWaitsCtx sig Ix} (E : Set Name) {Φ : α → sProp 𝕄}
    (q : Memref sig .tc .smem S1 .i32) {π : PosShare TreeShare} {T : Vec F S1 .i32} {k : Elt F .i32 → Prog (TpuEff nD τ sig (Elt F) Λ₀ .tc) α} :
    (owns ((d, .tc) : Thread nD τ) q π T : sProp 𝕄) ⊢
      iprop((owns ((d, .tc) : Thread nD τ) q π T -∗ wp frame (wpE' defs 𝒱 ((d, .tc) : Thread nD τ) bd Γ) E (k (T (ix1 0))) Φ)
        -∗ wp frame (wpE' defs 𝒱 ((d, .tc) : Thread nD τ) bd Γ) E (smemLoad q (Rect.unit (s := S1) ![0] S1.size inb_S1_S1_0) numel1_S1 rfl >>= k) Φ) := by
  rw [wp_bind]
  iintro H Hk
  unfold smemLoad smemLoadElt
  iapply (wp_load_owns (defs := defs) 𝒱 ((d, .tc) : Thread nD τ) bd E) $$ H
  iintro H
  rw [wp_ret]
  imodintro
  rw [show (fun i => T ((Rect.unit (s := S1) ![0] S1.size inb_S1_S1_0).emb i)) (Shape.Idx.first _) = T (ix1 0) from congrArg T (by
    funext a; apply Fin.ext
    obtain rfl : a = 0 := Subsingleton.elim _ _
    exact Nat.lt_one_iff.1 (Fin.isLt _))]
  iapply Hk
  iexact H

/-- **One grid point.** -/
theorem wp_step (bd : Option 𝒱.V) {Γ : PendingWaitsCtx sig Ix} (E : Set Name) {Φ : PUnit → sProp 𝕄}
    (i : grid0.Coords) (arg2 : Memref sig .tc .smem S1 .i32) (arg3 : Memref sig .tc .vmem S128x2048 .bf16) (arg4 : Memref sig .tc .vmem S1x2048x4096 .bf16) (arg5 : Memref sig .tc .vmem S1x1x4096 .f32)
    (arg6 : Memref sig .tc .vmem S1x2048x2048 .bf16) (arg7 : Memref sig .tc .vmem S1x1x2048 .f32) (arg8 : Memref sig .tc .vmem S128x2048 .f32)
    {π : PosShare TreeShare} {T : Vec F S1 .i32}
    (x : Vec F S128x2048 .bf16) (w1 : Vec F S1x2048x4096 .bf16) (b1 : Vec F S1x1x4096 .f32) (w2 : Vec F S1x2048x2048 .bf16) (b2 : Vec F S1x1x2048 .f32) :
    iprop(owns ((d, .tc) : Thread nD τ) arg2 π T ∗ owns ((d, .tc) : Thread nD τ) arg3 fullShare x ∗ owns ((d, .tc) : Thread nD τ) arg4 fullShare w1
        ∗ owns ((d, .tc) : Thread nD τ) arg5 fullShare b1 ∗ owns ((d, .tc) : Thread nD τ) arg6 fullShare w2 ∗ owns ((d, .tc) : Thread nD τ) arg7 fullShare b2
        ∗ (∃ O, owns ((d, .tc) : Thread nD τ) arg8 fullShare O) : sProp 𝕄) ⊢
      iprop((owns ((d, .tc) : Thread nD τ) arg2 π T -∗ owns ((d, .tc) : Thread nD τ) arg3 fullShare x -∗ owns ((d, .tc) : Thread nD τ) arg4 fullShare w1
          -∗ owns ((d, .tc) : Thread nD τ) arg5 fullShare b1 -∗ owns ((d, .tc) : Thread nD τ) arg6 fullShare w2 -∗ owns ((d, .tc) : Thread nD τ) arg7 fullShare b2
          -∗ owns ((d, .tc) : Thread nD τ) arg8 fullShare (res i (T (ix1 0)) x w1 b1 w2 b2) -∗ Φ ⟨⟩)
        -∗ wp frame (wpE' defs 𝒱 ((d, .tc) : Thread nD τ) bd Γ) E (step i arg2 arg3 arg4 arg5 arg6 arg7 arg8) Φ) := by
  have hx : (fun i => x ((Rect.unit (s := S128x2048) ![0, 0] S128x2048.size inb_S128x2048_S128x2048_0_0).emb i)) = x := funext fun i => congrArg x (whole2 i)
  have hw1 : (fun i => w1 ((Rect.unit (s := S1x2048x4096) ![0, 0, 0] S1x2048x4096.size inb_S1x2048x4096_S1x2048x4096_0_0_0).emb i)) = w1 :=
    funext fun i => congrArg w1 (whole3 rfl _ off3 _ i)
  have hb1 : (fun i => b1 ((Rect.unit (s := S1x1x4096) ![0, 0, 0] S1x1x4096.size inb_S1x1x4096_S1x1x4096_0_0_0).emb i)) = b1 :=
    funext fun i => congrArg b1 (whole3 rfl _ off3 _ i)
  have hw2 : (fun i => w2 ((Rect.unit (s := S1x2048x2048) ![0, 0, 0] S1x2048x2048.size inb_S1x2048x2048_S1x2048x2048_0_0_0).emb i)) = w2 :=
    funext fun i => congrArg w2 (whole3 rfl _ off3 _ i)
  have hb2 : (fun i => b2 ((Rect.unit (s := S1x1x2048) ![0, 0, 0] S1x1x2048.size inb_S1x1x2048_S1x1x2048_0_0_0).emb i)) = b2 :=
    funext fun i => congrArg b2 (whole3 rfl _ off3 _ i)
  unfold step res
  iintro ⟨Ht, H3, H4, H5, H6, H7, ⟨%O, H8⟩⟩ HΦ
  iapply (wp_count (defs := defs) 𝒱 d bd E arg2) $$ Ht
  iintro Ht
  by_cases h : k0_cond1 i (T (ix1 0)) = 1#1
  · have h2 := (cond_one i (T (ix1 0))).1 h
    rw [dif_pos h, if_pos h]
    iapply (wp_load_owns (defs := defs) 𝒱 ((d, .tc) : Thread nD τ) bd E) $$ H3
    iintro H3
    iapply (wp_load_owns (defs := defs) 𝒱 ((d, .tc) : Thread nD τ) bd E) $$ H4
    iintro H4
    iapply (wp_load_owns (defs := defs) 𝒱 ((d, .tc) : Thread nD τ) bd E) $$ H5
    iintro H5
    iapply (wp_load_owns (defs := defs) 𝒱 ((d, .tc) : Thread nD τ) bd E) $$ H6
    iintro H6
    iapply (wp_load_owns (defs := defs) 𝒱 ((d, .tc) : Thread nD τ) bd E) $$ H7
    iintro H7
    iapply (wp_load_owns (defs := defs) 𝒱 ((d, .tc) : Thread nD τ) bd E) $$ H8
    iintro H8
    rw [hx, hw1, hb1, hw2, hb2]
    iapply (wp_store_owns (defs := defs) 𝒱 ((d, .tc) : Thread nD τ) bd E) $$ H8
    iintro %Y %hY H8
    obtain rfl : Y = ffn x w1 b1 w2 b2 := funext fun i => (congrArg Y (whole2 i)).symm.trans (hY.1 i)
    iapply (wp_count (defs := defs) 𝒱 d bd E arg2) $$ Ht
    iintro Ht
    rw [dif_neg h2]
    iapply (show Φ ⟨⟩ ⊢ wp frame (wpE' defs 𝒱 ((d, .tc) : Thread nD τ) bd Γ) E (.ret ⟨⟩) Φ from by
      rw [wp_ret]; iintro H; imodintro; iexact H)
    iapply HΦ $$ Ht H3 H4 H5 H6 H7 H8
  · have h2 : k0_cond2 i (T (ix1 0)) = 1#1 := by
      by_contra hc; exact h ((cond_one i (T (ix1 0))).2 hc)
    rw [dif_neg h, if_neg h]
    iapply (wp_count (defs := defs) 𝒱 d bd E arg2) $$ Ht
    iintro Ht
    rw [dif_pos h2]
    iapply (wp_load_owns (defs := defs) 𝒱 ((d, .tc) : Thread nD τ) bd E) $$ H8
    iintro H8
    iapply (wp_store_owns (defs := defs) 𝒱 ((d, .tc) : Thread nD τ) bd E) $$ H8
    iintro %Y %hY H8
    obtain rfl : Y = broadcast S128x2048 (Scalar.ofBits .f32 0x00000000#32) := funext fun i => (congrArg Y (whole2 i)).symm.trans (hY.1 i)
    iapply (show Φ ⟨⟩ ⊢ wp frame (wpE' defs 𝒱 ((d, .tc) : Thread nD τ) bd Γ) E (.ret ⟨⟩) Φ from by
      rw [wp_ret]; iintro H; imodintro; iexact H)
    iapply HΦ $$ Ht H3 H4 H5 H6 H7 H8

end Run

end Cert.Kernel2Ideal
-- ==== Proof.ExpertRun.lean ====
/-
  The run of the expert call, at tables of any admitted contents: the body's obligation at each grid point, the run of the
  whole program, and its frame.
-/
module

public import proofs.«01_k».proof.Proof.ExpertBody
public import Idealize.ShloMosaic.Lib.Pipeline.Frame
public import Idealize.ShloMosaic.Lib.Pipeline.FrameBody
public import Idealize.ShloMosaic.Lib.Pipeline.DatRel
public import Idealize.ShloMosaic.Lib.Pipeline.ArrRel

@[expose] public section

noncomputable section

namespace Cert.Kernel2Ideal

open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat RDat)
open Cert.Kernel2Ideal.Gen

variable {F : FTy → Type} [FloatOps F]

local notation "𝕄" => MT nD τ sig Unit (Elt F) ℕ (UR sig nD τ) ℕ

/-- Admitted contents of the tables. -/
abbrev Adm (F : FTy → Type) [FloatOps F] : Type := (p : Fin 1) → (pcfgs (F := F) p).Adm

variable (ad : Adm F)

/-- The pipeline at the tables' contents. -/
abbrev cfgM : Pipeline.Cfg sig Λ₀ := Pipeline.pin (pcfgs (F := F)) ad 0

/-- The table of experts -/
def tabE : Vec F S545 .i32 := (ad 0).1 0
/-- and the number of used blocks, as the tables hold them. -/
def tabN : Vec F S1 .i32 := (ad 0).1 1

/-- The two tables, each at half. -/
def tabs (c : Dev nD) : sProp 𝕄 :=
  iprop(owns (c : Thread nD τ) (Memref.whole main_v18) fullShare.right (tabE ad) ∗ owns (c : Thread nD τ) (Memref.whole main_arg1) fullShare.right (tabN ad))

theorem tabs_eq (c : Dev nD) : (Pipeline.ΦT pre0 (ad 0).1 c : sProp 𝕄) = tabs ad c := by
  unfold Pipeline.ΦT Pipeline.prefHeld tabs
  rw [show (Finset.univ : Finset (Fin 2)) = insert (0 : Fin 2) {(1 : Fin 2)} from by decide, Idealize.SL.BI.bigSep_insert (by decide), Idealize.SL.BI.bigSep_singleton]
  exact congrArg₂ BI.sep (owns_whole (c : Thread nD τ) main_v18 fullShare.right (tabE ad)).symm
    (owns_whole (c : Thread nD τ) main_arg1 fullShare.right (tabN ad)).symm

/-- What a grid point carries to the next. -/
def inv (c : Dev nD) : sProp 𝕄 := iprop((∃ r, prngReg c r) ∗ tabs ad c)

/-- The pipeline's data at the arrays' contents `A`: each input window's buffer holds its block. -/
def dat (c : Dev nD) (A : (w : Fin (cfgM ad).W) → Buf (Elt F) (((cfgM ad).win w).arr.view.loc (c.tc : Thread nD τ))) :
    Dat τ (Elt F) Unit ℕ (UR sig nD τ) ℕ (cfgM ad) c where
  A := A
  after := fun w t => match w with
    | 0 => (((cfgM ad).win 0).blk t).view.read (Elt F) (A 0)
    | 1 => (((cfgM ad).win 1).blk t).view.read (Elt F) (A 1)
    | 2 => (((cfgM ad).win 2).blk t).view.read (Elt F) (A 2)
    | 3 => (((cfgM ad).win 3).blk t).view.read (Elt F) (A 3)
    | 4 => (((cfgM ad).win 4).blk t).view.read (Elt F) (A 4)
    | 5 => Dat.unnamed 5 t
    | ⟨_ + 6, h⟩ => absurd h (Nat.not_lt.2 (Nat.le_add_left _ _))
  Φ := fun _ => inv ad c
  q := fun _ => fullShare
  owed := fun _ => 0

section Data

variable (c : Dev nD) (A : (w : Fin (cfgM ad).W) → Buf (Elt F) (((cfgM ad).win w).arr.view.loc (c.tc : Thread nD τ)))

/-! The blocks that a grid point reads. -/
def blk0 (t : Fin (cfgM ad).N) : Vec F S128x2048 .bf16 := (((cfgM ad).win 0).blk t).view.read (Elt F) (A 0)
def blk1 (t : Fin (cfgM ad).N) : Vec F S1x2048x4096 .bf16 := (((cfgM ad).win 1).blk t).view.read (Elt F) (A 1)
def blk2 (t : Fin (cfgM ad).N) : Vec F S1x1x4096 .f32 := (((cfgM ad).win 2).blk t).view.read (Elt F) (A 2)
def blk3 (t : Fin (cfgM ad).N) : Vec F S1x2048x2048 .bf16 := (((cfgM ad).win 3).blk t).view.read (Elt F) (A 3)
def blk4 (t : Fin (cfgM ad).N) : Vec F S1x1x2048 .f32 := (((cfgM ad).win 4).blk t).view.read (Elt F) (A 4)

theorem before0 (t d) : (dat ad c A).before 0 t d = blk0 ad c A t :=
  (dat ad c A).before_in_eq_fetched 0 rfl (fun _ => rfl) (fun _ _ _ => rfl) (fun _ => rfl) t d
theorem before1 (t d) : (dat ad c A).before 1 t d = blk1 ad c A t :=
  (dat ad c A).before_in_eq_fetched 1 rfl (fun _ => rfl) (fun _ _ _ => rfl) (fun _ => rfl) t d
theorem before2 (t d) : (dat ad c A).before 2 t d = blk2 ad c A t :=
  (dat ad c A).before_in_eq_fetched 2 rfl (fun _ => rfl) (fun _ _ _ => rfl) (fun _ => rfl) t d
theorem before3 (t d) : (dat ad c A).before 3 t d = blk3 ad c A t :=
  (dat ad c A).before_in_eq_fetched 3 rfl (fun _ => rfl) (fun _ _ _ => rfl) (fun _ => rfl) t d
theorem before4 (t d) : (dat ad c A).before 4 t d = blk4 ad c A t :=
  (dat ad c A).before_in_eq_fetched 4 rfl (fun _ => rfl) (fun _ _ _ => rfl) (fun _ => rfl) t d

/-- Only the result's window is not named. -/
def fgt : Fin (cfgM ad).W → Bool := fun w => match w with | 5 => true | _ => false

/-- What a grid point leaves in the result's window. -/
def left (t : Fin (cfgM ad).N) : Vec F S128x2048 .f32 :=
  res (grid0.coords t) (tabN ad (ix1 0)) (blk0 ad c A t) (blk1 ad c A t) (blk2 ad c A t) (blk3 ad c A t) (blk4 ad c A t)

def Rl : (w : Fin (cfgM ad).W) → (t : Fin (cfgM ad).N) → (((cfgM ad).win w).block.Idx → Elt F ((cfgM ad).win w).elt) → Prop :=
  fun w t => match w with
    | 5 => fun X => X = left ad c A t
    | _ => fun _ => True

theorem hbody (𝒱₀ : Variants) : Pipeline.BodyObligationRel (dat ad c A) defs₀ 𝒱₀ () Set.univ (fgt ad) (Rl ad c A) := fun t => by
  rw [bigSep_W0, bigSep_W0]
  rw [show (defs₀ (F := F) .tc (cfgM ad).body ((cfgM ad).bodyArgs t ((cfgM ad).slots t)))
    = step (grid0.coords t) (Memref.whole main_arg1) (spec0_0.stage ((cfgM ad).slots t 0)) (spec0_1.stage ((cfgM ad).slots t 1)) (spec0_2.stage ((cfgM ad).slots t 2)) (spec0_3.stage ((cfgM ad).slots t 3)) (spec0_4.stage ((cfgM ad).slots t 4)) (spec0_5.stage ((cfgM ad).slots t 5)) from
      body_eq (grid0.coords t) _ _ _ _ _ _ _ _ _ _ _ _ _ _ _ _]
  show iprop(inv ad c ∗ (dat ad c A).owesAt () t.castSucc
      ∗ (∃ d, owns (c : Thread nD τ) (spec0_0.stage ((cfgM ad).slots t 0)) fullShare ((dat ad c A).before 0 t d))
      ∗ (∃ d, owns (c : Thread nD τ) (spec0_1.stage ((cfgM ad).slots t 1)) fullShare ((dat ad c A).before 1 t d))
      ∗ (∃ d, owns (c : Thread nD τ) (spec0_2.stage ((cfgM ad).slots t 2)) fullShare ((dat ad c A).before 2 t d))
      ∗ (∃ d, owns (c : Thread nD τ) (spec0_3.stage ((cfgM ad).slots t 3)) fullShare ((dat ad c A).before 3 t d))
      ∗ (∃ d, owns (c : Thread nD τ) (spec0_4.stage ((cfgM ad).slots t 4)) fullShare ((dat ad c A).before 4 t d))
      ∗ (∃ Y, ⌜_⌝ ∗ owns (c : Thread nD τ) (spec0_5.stage ((cfgM ad).slots t 5)) fullShare Y))
    ⊢ wp frame (wpE defs₀ 𝒱₀ (c : Thread nD τ) none) Set.univ _ fun _ =>
      iprop(inv ad c ∗ (dat ad c A).owesAt () t.castSucc
      ∗ owns (c : Thread nD τ) (spec0_0.stage ((cfgM ad).slots t 0)) fullShare (blk0 ad c A t)
      ∗ owns (c : Thread nD τ) (spec0_1.stage ((cfgM ad).slots t 1)) fullShare (blk1 ad c A t)
      ∗ owns (c : Thread nD τ) (spec0_2.stage ((cfgM ad).slots t 2)) fullShare (blk2 ad c A t)
      ∗ owns (c : Thread nD τ) (spec0_3.stage ((cfgM ad).slots t 3)) fullShare (blk3 ad c A t)
      ∗ owns (c : Thread nD τ) (spec0_4.stage ((cfgM ad).slots t 4)) fullShare (blk4 ad c A t)
      ∗ (∃ X, ⌜X = left ad c A t⌝ ∗ owns (c : Thread nD τ) (spec0_5.stage ((cfgM ad).slots t 5)) fullShare X))
  simp only [before0, before1, before2, before3, before4]
  unfold inv tabs left
  iintro ⟨⟨Hp, He, Hn⟩, Howe, ⟨%d0, H0⟩, ⟨%d1, H1⟩, ⟨%d2, H2⟩, ⟨%d3, H3⟩, ⟨%d4, H4⟩, ⟨%Y, -, H5⟩⟩
  iapply (wp_step (defs := defs₀ (F := F)) 𝒱₀ c none Set.univ (grid0.coords t) (Memref.whole main_arg1) (spec0_0.stage ((cfgM ad).slots t 0)) (spec0_1.stage ((cfgM ad).slots t 1)) (spec0_2.stage ((cfgM ad).slots t 2)) (spec0_3.stage ((cfgM ad).slots t 3)) (spec0_4.stage ((cfgM ad).slots t 4)) (spec0_5.stage ((cfgM ad).slots t 5))
    (π := fullShare.right) (T := tabN ad) (blk0 ad c A t) (blk1 ad c A t) (blk2 ad c A t) (blk3 ad c A t) (blk4 ad c A t)) $$ [Hn H0 H1 H2 H3 H4 H5]
  · isplitl [Hn]
    · iexact Hn
    isplitl [H0]
    · iexact H0
    isplitl [H1]
    · iexact H1
    isplitl [H2]
    · iexact H2
    isplitl [H3]
    · iexact H3
    isplitl [H4]
    · iexact H4
    · iexists Y; iexact H5
  iintro Hn H0 H1 H2 H3 H4 H5
  isplitl [Hp He Hn]
  · isplitl [Hp]
    · iexact Hp
    isplitl [He]
    · iexact He
    · iexact Hn
  isplitl [Howe]
  · iexact Howe
  isplitl [H0]
  · iexact H0
  isplitl [H1]
  · iexact H1
  isplitl [H2]
  · iexact H2
  isplitl [H3]
  · iexact H3
  isplitl [H4]
  · iexact H4
  iexists _
  isplitr
  · ipureintro; rfl
  · iexact H5

end Data

section Whole

variable (m : (ℓ : Loc nD τ sig) → Buf (Elt F) ℓ)

/-- The buffers as the call finds them. -/
abbrev V (c : Dev nD) (b : Ref sig .tc) : Buf (Elt F) ((c : Thread nD τ).loc b) :=
  StableHlo.after (List.flatten [hostOps0]) (fun b => m (c, b)) (Proc.devRef .tc b)

theorem fresh0 : (hostOps0 (F := F)).Forall fun op => op.fresh = ∅ := by
  simp only [List.Forall]
  and_intros <;> rfl

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub) (by simp only [List.Forall]; exact fresh0) main_chain

/-- The arrays as the call finds them. -/
def Arr (c : Dev nD) (w : Fin (cfgM ad).W) : Buf (Elt F) (((cfgM ad).win w).arr.view.loc (c.tc : Thread nD τ)) := V m c (Pipeline.arrRef spec0 w)

theorem rest_inv (c : Dev nD) :
    (iprop(Pipeline.ΦA spec0 c ∗ Pipeline.ΦT pre0 (ad 0).1 c) : sProp 𝕄) ⊢ inv ad c := by
  rw [tabs_eq]
  unfold Pipeline.ΦA inv
  iintro ⟨⟨-, Hp⟩, Ht⟩
  isplitl [Hp]
  · iexact Hp
  · iexact Ht

theorem inv_rest (c : Dev nD) : (inv ad c : sProp 𝕄) ⊢ Pipeline.ΦA spec0 c := by
  unfold Pipeline.ΦA inv
  rw [scopedRest0_eq]
  iintro ⟨Hp, -⟩
  isplitr
  · iempintro
  · iexact Hp

/-- **The run**, from tables whose contents are admitted. -/
theorem run (𝒱₀ : Variants) (g : Dev nD → PrngReg) (hpf : ∀ c k, V m c (pre0.ref k) = (ad 0).1 k) :
    θ_run (defs (F := F)) (onTc (τ := τ) (main (F := F))) ⟨m, fun _ => 0, g⟩ (fun r =>
      RDat.FramePost (cfgM ad) (fun c => (dat ad c (Arr ad m c)).toRRel (fgt ad) (Rl ad c (Arr ad m c))) (V m) r ∧ r.2.sem = fun _ => 0) :=
  Pipeline.RDat.θ_run_frameP_track pcfgs ad 0 launch0 defs₀ 𝒱₀ (fun c => (dat ad c (Arr ad m c)).toRRel (fgt ad) (Rl ad c (Arr ad m c))) m g main
    (fun c => (hbody ad c (Arr ad m c) 𝒱₀).toRRel) (fun _ _ => by unfold RDat.share; split <;> rfl) (fun _ _ => rfl) (V m) (hmain m 𝒱₀)
    (fun _ _ => rfl) hpf
    (fun c => rest_inv ad c) (fun c => inv_rest ad c)
    _ (fun _ h => h)

/-- No operation before the call writes an argument. -/
theorem V_arg (c : Dev nD) (b : Ref sig .tc) (hb : b ∈ [main_arg0, main_arg1, main_arg2, main_arg3, main_arg4, main_arg5, main_arg6]) :
    V m c b = m ((c : Thread nD τ).loc b) := by
  simp only [List.mem_cons, List.mem_nil_iff, or_false] at hb
  rcases hb with rfl | rfl | rfl | rfl | rfl | rfl | rfl <;>
    (show StableHlo.after hostOps0 (fun b => m (c, b)) (Proc.devRef .tc _) = _; after_results)

theorem arg_rest : ∀ b ∈ [main_arg0, main_arg1, main_arg2, main_arg3, main_arg4, main_arg5, main_arg6], b ∈ Pipeline.restRefs sig spec0 := by decide

/-- **The frame**: the program ends, its arguments as they were. -/
theorem frame (𝒱₀ : Variants) (g : Dev nD → PrngReg) (hpf : ∀ c k, V m c (pre0.ref k) = (ad 0).1 k) :
    θ_run (defs (F := F)) (onTc (τ := τ) (main (F := F))) ⟨m, fun _ => 0, g⟩ (fun r =>
      (∀ c : Dev nD, ∀ b ∈ [main_arg0, main_arg1, main_arg2, main_arg3, main_arg4, main_arg5, main_arg6],
        r.2.mem ((c : Thread nD τ).loc b) = m ((c : Thread nD τ).loc b)) ∧ r.2.sem = fun _ => 0) :=
  (θ_run _ _ _).mono (fun r h => ⟨fun c b hb => ((h.1 c).2 b (arg_rest b hb)).trans (V_arg m c b hb), h.2⟩)
    (run ad m 𝒱₀ g hpf)

end Whole

end Cert.Kernel2Ideal
-- ==== Proof.ExpertWords.lean ====
/-
  Words of the expert call's look-ups: block numbers below 545, a count of blocks between 1 and 545, experts below 32.
-/
module

public import Idealize.ShloMosaic.Lib.ValueIdxCore
public import Idealize.ShloMosaic.Lib.StableHlo.Predicate

@[expose] public section

noncomputable section

namespace Cert.Expert

open Idealize.ShloMosaic Idealize.ShloMosaic.ValueIdx

theorem toInt_ofNat (p : ℕ) (h : p < 2 ^ 31) : (BitVec.ofNat 32 p).toInt = p := by
  rw [BitVec.toInt_eq_toNat_of_lt (by rw [BitVec.toNat_ofNat]; omega), BitVec.toNat_ofNat]
  omega

theorem slt_iff (p q : ℕ) (hp : p < 2 ^ 31) (hq : q < 2 ^ 31) : (BitVec.ofNat 32 p).slt (BitVec.ofNat 32 q) = decide (p < q) := by
  rw [BitVec.slt_eq_decide, toInt_ofNat p hp, toInt_ofNat q hq]
  simp

/-- The last used block's number, as a word. -/
theorem pred_word (k : ℕ) (h : 1 ≤ k) (h' : k ≤ 545) : IntOp.subi (BitVec.ofNat 32 k) 1#32 = BitVec.ofNat 32 (k - 1) := by
  show BitVec.ofNat 32 k - 1#32 = _
  apply BitVec.eq_of_toNat_eq
  simp only [BitVec.toNat_sub, BitVec.toNat_ofNat]
  omega

/-- A block's number cut at the last used block. -/
theorem min_word (p k : ℕ) (hp : p < 545) (h : 1 ≤ k) (h' : k ≤ 545) :
    IntOp.minsi (BitVec.ofNat 32 p) (IntOp.subi (BitVec.ofNat 32 k) 1#32) = BitVec.ofNat 32 (min p (k - 1)) := by
  rw [pred_word k h h']
  unfold IntOp.minsi
  rw [slt_iff p (k - 1) (by omega) (by omega)]
  by_cases hc : p < k - 1
  · rw [if_pos (decide_eq_true hc), min_eq_left (by omega)]
  · rw [if_neg (by simpa using hc), min_eq_right (by omega)]

/-- A word that is no negative number is not wrapped. -/
theorem wrap_word (p : ℕ) (hp : p < 2 ^ 31) (x : BitVec 32) :
    Scalar.select (IntOp.cmpi .slt (BitVec.ofNat 32 p) 0#32) x (BitVec.ofNat 32 p) = BitVec.ofNat 32 p := by
  have h : IntOp.cmpi .slt (BitVec.ofNat 32 p) 0#32 = 0#1 := by
    show BitVec.ofBool ((BitVec.ofNat 32 p).slt (BitVec.ofNat 32 0)) = _
    rw [slt_iff p 0 hp (by omega)]
    simp
  rw [h]; rfl

theorem lt_word (p k : ℕ) (hp : p < 2 ^ 31) (hk : k < 2 ^ 31) : IntOp.cmpi .slt (BitVec.ofNat 32 p) (BitVec.ofNat 32 k) = 1#1 ↔ p < k := by
  show BitVec.ofBool ((BitVec.ofNat 32 p).slt (BitVec.ofNat 32 k)) = _ ↔ _
  rw [slt_iff p k hp hk]
  by_cases h : p < k <;> simp [h]

/-- The condition a printed test makes of a comparison. -/
theorem test_word (b : BitVec 1) : Scalar.cmpi .ne (Scalar.extui b) 0#32 = b := by
  revert b; decide

/-- The ranges of the two tables: `k` used blocks, block `t` of expert `e t`. -/
structure Rng (a0 : IVec (⟨1, ![545]⟩ : Shape) 32) (a1 : IVec (⟨1, ![1]⟩ : Shape) 32) (k : ℕ) (e : Fin 545 → ℕ) : Prop where
  pos : 1 ≤ k
  le : k ≤ 545
  cnt : a1 (ix1 0) = BitVec.ofNat 32 k
  lt : ∀ t, e t < 32
  ex : ∀ t, a0 (ix1 t) = BitVec.ofNat 32 (e t)

end Cert.Expert
-- ==== Proof.ExpertTables.lean ====
/-
  The expert call's two tables as the host leaves them, the blocks its windows read by them, and the region's side
  condition of them.
-/
module

public import proofs.«01_k».proof.Proof.ExpertRun
public import proofs.«01_k».proof.Proof.ExpertWords
public import Idealize.ShloMosaic.Lib.PairWhole

@[expose] public section

set_option maxRecDepth 16384

noncomputable section

namespace Cert.Kernel2Ideal

open Idealize.ShloMosaic Idealize.ShloMosaic.ValueIdx Idealize.SL.Sem
open Idealize.ShloMosaic.TcCoe
open Cert.Kernel2Ideal.Gen (hostOps0)
open Cert.Expert (Rng)
open Facts₀ Facts

/-- The table of experts cut at the last used block. -/
def compose (x : IVec S545 32) (n : IVec S1 32) : IVec S545 32 :=
  Host.gather gather_S545_S545x1_S545_n_0_n_n_0_1_1 x (broadcastInDim S545x1 ![0] bcast_S545_S545x1_0
    (select (cmpi .slt (minsi (iotaInDim S545 32 0) (broadcastInDim S545 ![] bcast_S_S545 (subi (shapeCast S_ n shapeCasts_S1_S_) (constantI S_ 32 1#32))))
        (broadcastInDim S545 ![] bcast_S_S545 (constantI S_ 32 0#32)))
      (addi (minsi (iotaInDim S545 32 0) (broadcastInDim S545 ![] bcast_S_S545 (subi (shapeCast S_ n shapeCasts_S1_S_) (constantI S_ 32 1#32))))
        (broadcastInDim S545 ![] bcast_S_S545 (constantI S_ 32 545#32)))
      (minsi (iotaInDim S545 32 0) (broadcastInDim S545 ![] bcast_S_S545 (subi (shapeCast S_ n shapeCasts_S1_S_) (constantI S_ 32 1#32))))))

theorem one_ix (j j' : S1.Idx) : j = j' := by
  funext a
  obtain rfl : a = 0 := Subsingleton.elim _ _
  exact Subsingleton.elim (α := Fin 1) _ _

/-- The block whose expert a block's look-up takes. -/
def cut (k : ℕ) (t : Fin 545) : Fin 545 := ⟨min t.val (k - 1), by omega⟩

theorem compose_at (x : IVec S545 32) (n : IVec S1 32) (k : ℕ) (hn : n (ix1 0) = BitVec.ofNat 32 k) (h : 1 ≤ k) (h' : k ≤ 545) (t : Fin 545) :
    compose x n (ix1 t) = x (ix1 (cut k t)) := by
  unfold compose
  have hix : ∀ p : Fin 545, (ix1 p : S545.Idx) = Shape.Idx.ofFin p := fun p => by
    funext a; obtain rfl : a = 0 := Subsingleton.elim _ _; rfl
  rw [hix t]
  refine (StableHlo.Predicate.gather_take gather_S545_S545x1_S545_n_0_n_n_0_1_1 rfl rfl rfl rfl x _ t (by omega)).trans ?_
  have hsc : ∀ j : S_.Idx, shapeCast S_ n shapeCasts_S1_S_ j = BitVec.ofNat 32 k := fun j => by
    rw [← hn]
    exact congrArg n (one_ix _ _)
  have hmin : (minsi (iotaInDim S545 32 0) (broadcastInDim S545 ![] bcast_S_S545 (subi (shapeCast S_ n shapeCasts_S1_S_) (constantI S_ 32 1#32))) : IVec S545 32) (ix1 t)
      = BitVec.ofNat 32 (min t.val (k - 1)) := by
    show IntOp.minsi (BitVec.ofNat 32 t.val) (IntOp.subi (shapeCast S_ n shapeCasts_S1_S_ _) 1#32) = _
    rw [hsc, Expert.min_word t.val k t.isLt h h']
  have hw : ∀ I : IVec S545x1 32, I (StableHlo.Predicate.ixP t) = BitVec.ofNat 32 (min t.val (k - 1)) →
      min (I (StableHlo.Predicate.ixP t)).toInt.toNat (545 - 1) = min t.val (k - 1) := fun I hI => by
    rw [hI, Expert.toInt_ofNat _ (by omega)]
    omega
  refine Eq.trans (congrArg x (congrArg Shape.Idx.ofFin (Fin.ext (hw _ ?_)))) (congrArg x (hix _).symm)
  refine (broadcastInDim_apply _ _ _ (StableHlo.Predicate.ixP t) (ix1 t) (fun a => by obtain rfl : a = 0 := Subsingleton.elim _ _; rfl)).trans ?_
  show Scalar.select (IntOp.cmpi .slt (minsi _ _ (ix1 t)) 0#32) _ (minsi _ _ (ix1 t)) = _
  rw [hmin, Expert.wrap_word _ (by omega)]

variable {F : FTy → Type} [FloatOps F]
variable (m : (ℓ : Loc nD τ sig) → Buf (Elt F) ℓ)

theorem V_tab (c : Dev nD) : V m c main_v18 = compose (m ((c : Thread nD τ).loc main_arg0)) (m ((c : Thread nD τ).loc main_arg1)) := by
  show StableHlo.after hostOps0 (fun b => m (c, b)) (Proc.devRef .tc main_v18) = _
  after_results; rfl

/-- The tables' contents. -/
def tbl : pre0.Contents (Elt F) := fun
  | 0 => V m 0 main_v18
  | 1 => V m 0 main_arg1
  | ⟨_ + 2, h⟩ => absurd h (Nat.not_lt.2 (Nat.le_add_left _ _))

theorem tbl_pre (c : Dev nD) : ∀ k : Fin 2, V m c (pre0.ref k) = tbl m k
  | 0 => by obtain rfl : c = 0 := Subsingleton.elim _ _; rfl
  | 1 => by obtain rfl : c = 0 := Subsingleton.elim _ _; rfl

/-- The ranges of the arguments. -/
abbrev InRng (k : ℕ) (e : Fin 545 → ℕ) : Prop :=
  Rng (m (((0 : Dev nD) : Thread nD τ).loc main_arg0)) (m (((0 : Dev nD) : Thread nD τ).loc main_arg1)) k e

variable {k : ℕ} {e : Fin 545 → ℕ} (hr : InRng m k e)
include hr

theorem tbl0 (t : Fin 545) : tbl m 0 (ix1 t) = BitVec.ofNat 32 (e (cut k t)) := by
  show V m 0 main_v18 (ix1 t) = _
  rw [V_tab]
  exact (compose_at _ _ k hr.cnt hr.pos hr.le t).trans (hr.ex _)

theorem tbl1 : tbl m 1 (ix1 0) = BitVec.ofNat 32 k := by
  show V m 0 main_arg1 (ix1 0) = _
  rw [V_arg m 0 main_arg1 (by simp)]
  exact hr.cnt

theorem at0 (i : grid0.Coords) (h1 : S1.numel = 1) :
    (tbl m).at 0 (Rect.unit (s := S545) ![(Scalar.indexCast (BitVec.ofNat 32 (i 0).val)).toNat] S1.size (k0_off1_inb i)) h1 = BitVec.ofNat 32 (e (cut k (i 0))) := by
  refine Eq.trans (congrArg (tbl m 0) ?_) (tbl0 m hr (i 0))
  show (Rect.unit (s := S545) ![(Scalar.indexCast (BitVec.ofNat 32 (i 0).val)).toNat] S1.size (k0_off1_inb i)).emb _ = (ix1 (i 0) : S545.Idx)
  funext a; apply Fin.ext
  refine (Attn.unit_emb_val (s := S545) _ _ (k0_off1_inb i) _ a).trans ?_
  obtain rfl : a = 0 := Subsingleton.elim (α := Fin 1) _ _
  show (BitVec.ofNat 32 (i 0).val).toNat + 0 = (i 0).val
  have := (i 0).isLt
  rw [BitVec.toNat_ofNat, Nat.add_zero, Nat.mod_eq_of_lt (lt_trans (show (i 0).val < 545 from this) (by decide))]

theorem at1 (h1 : S1.numel = 1) : (tbl m).at 1 (Rect.unit (s := S1) ![0] S1.size inb_S1_S1_0) h1 = BitVec.ofNat 32 k := by
  exact Eq.trans (congrArg (tbl m 1) (one_ix _ _)) (tbl1 m hr)

omit hr in
theorem word_nat (p : ℕ) (h : p < 2 ^ 32) : (BitVec.ofNat 32 p).toNat = p := by
  rw [BitVec.toNat_ofNat]; omega

theorem transform_0_eq (i : grid0.Coords) : cc0_transform_0 inb_S1_S1_0 numel1_S1 (tbl m) i = ![(cut k (i 0)).val, 0] := by
  have hi : (i 0).val < 545 := (i 0).isLt
  have h1 := at1 m hr numel1_S1
  unfold cc0_transform_0
  show ![(IntOp.minsi (BitVec.ofNat 32 (i 0).val) (IntOp.subi ((tbl m).at 1 (Rect.unit (s := S1) ![0] S1.size inb_S1_S1_0) numel1_S1) 1#32)).toNat, 0] = _
  rw [h1, Expert.min_word _ k hi hr.pos hr.le, word_nat _ (by omega)]
  rfl

theorem ex_nat (t : Fin 545) : (BitVec.ofNat 32 (e t)).toNat = e t := word_nat _ (by have := hr.lt t; omega)

theorem transform_1_eq (i : grid0.Coords) : cc0_transform_1 k0_off1_inb numel1_S1 (tbl m) i = ![e (cut k (i 0)), 0, 0] := by
  have h0 := at0 m hr i numel1_S1
  unfold cc0_transform_1
  show ![((tbl m).at 0 (Rect.unit (s := S545) ![(Scalar.indexCast (BitVec.ofNat 32 (i 0).val)).toNat] S1.size (k0_off1_inb i)) numel1_S1).toNat, 0, 0] = _
  rw [h0, ex_nat m hr]
theorem transform_2_eq (i : grid0.Coords) : cc0_transform_2 k0_off1_inb numel1_S1 (tbl m) i = ![e (cut k (i 0)), 0, 0] := by
  have h0 := at0 m hr i numel1_S1
  unfold cc0_transform_2
  show ![((tbl m).at 0 (Rect.unit (s := S545) ![(Scalar.indexCast (BitVec.ofNat 32 (i 0).val)).toNat] S1.size (k0_off1_inb i)) numel1_S1).toNat, 0, 0] = _
  rw [h0, ex_nat m hr]
theorem transform_3_eq (i : grid0.Coords) : cc0_transform_3 k0_off1_inb numel1_S1 (tbl m) i = ![e (cut k (i 0)), 0, 0] := by
  have h0 := at0 m hr i numel1_S1
  unfold cc0_transform_3
  show ![((tbl m).at 0 (Rect.unit (s := S545) ![(Scalar.indexCast (BitVec.ofNat 32 (i 0).val)).toNat] S1.size (k0_off1_inb i)) numel1_S1).toNat, 0, 0] = _
  rw [h0, ex_nat m hr]
theorem transform_4_eq (i : grid0.Coords) : cc0_transform_4 k0_off1_inb numel1_S1 (tbl m) i = ![e (cut k (i 0)), 0, 0] := by
  have h0 := at0 m hr i numel1_S1
  unfold cc0_transform_4
  show ![((tbl m).at 0 (Rect.unit (s := S545) ![(Scalar.indexCast (BitVec.ofNat 32 (i 0).val)).toNat] S1.size (k0_off1_inb i)) numel1_S1).toNat, 0, 0] = _
  rw [h0, ex_nat m hr]

omit hr in
theorem blk3_le {A B : ℕ} (e : ℕ) (he : e < 32) (ix : Fin 3 → ℕ) (hx : ix = ![e, 0, 0]) :
    ∀ a, (ix a + 1) * (⟨3, ![1, A, B]⟩ : Shape).size a ≤ (⟨3, ![32, A, B]⟩ : Shape).size a := by
  subst hx
  intro a
  fin_cases a
  · show (e + 1) * 1 ≤ 32
    omega
  · show (0 + 1) * A ≤ A
    omega
  · show (0 + 1) * B ≤ B
    omega

omit hr in
theorem blk3_words {A B : ℕ} (hA : 2 ∣ A) (ix : Fin 3 → ℕ) (h : ∀ a, (ix a + 1) * (⟨3, ![1, A, B]⟩ : Shape).size a ≤ (⟨3, ![32, A, B]⟩ : Shape).size a) :
    (Rect.block (s := (⟨3, ![32, A, B]⟩ : Shape)) (⟨3, ![1, A, B]⟩ : Shape).size ix h).WholeWords 2 := by
  have h2 : 2 ≤ (⟨3, ![32, A, B]⟩ : Shape).rank := show 2 ≤ 3 by decide
  refine Rect.PackedRows.wholeWords (Rect.packedRows_of_rowAxis _ 2 h2 ?_ ?_ rfl)
  · exact show 2 ∣ ix 1 * A from Dvd.dvd.mul_left hA _
  · exact hA

omit hr in
theorem blk2_le (q : ℕ) (hq : q < 545) (ix : Fin 2 → ℕ) (hx : ix = ![q, 0]) : ∀ a, (ix a + 1) * S128x2048.size a ≤ S70656x2048.size a := by
  subst hx
  rw [Fin.forall_fin_two]
  exact ⟨show (q + 1) * 128 ≤ 70656 by omega, show (0 + 1) * 2048 ≤ 2048 by omega⟩

omit hr in
theorem blk2_words (ix : Fin 2 → ℕ) (h : ∀ a, (ix a + 1) * S128x2048.size a ≤ S70656x2048.size a) :
    (Rect.block (s := S70656x2048) S128x2048.size ix h).WholeWords 2 := by
  have h2 : 2 ≤ S70656x2048.rank := le_refl 2
  refine Rect.PackedRows.wholeWords (Rect.packedRows_of_rowAxis _ 2 h2 ?_ ?_ rfl)
  · exact show 2 ∣ ix 0 * 128 from Dvd.dvd.mul_left (by decide) _
  · exact show 2 ∣ 128 by decide

/-- Every window's block lies inside its array. -/
theorem tbl_ok : ok0 (tbl m) :=
  ⟨fun i => ⟨blk2_le _ (cut k (i 0)).isLt _ (transform_0_eq m hr i), .inr (blk2_words _ _)⟩,
    fun i => ⟨blk3_le _ (hr.lt _) _ (transform_1_eq m hr i), .inr (blk3_words (by decide) _ _)⟩,
    fun i => ⟨blk3_le _ (hr.lt _) _ (transform_2_eq m hr i), .inl rfl⟩,
    fun i => ⟨blk3_le _ (hr.lt _) _ (transform_3_eq m hr i), .inr (blk3_words (by decide) _ _)⟩,
    fun i => ⟨blk3_le _ (hr.lt _) _ (transform_4_eq m hr i), .inl rfl⟩⟩

/-- The tables as the region admits them. -/
def adm : Adm F := fun _ => ⟨tbl m, tbl_ok m hr⟩

/-- **The frame**, for tables in range. -/
theorem frame_in (𝒱₀ : Variants) (g : Dev nD → PrngReg) :
    θ_run (defs (F := F)) (onTc (τ := τ) (main (F := F))) ⟨m, fun _ => 0, g⟩ (fun r =>
      (∀ c : Dev nD, ∀ b ∈ [main_arg0, main_arg1, main_arg2, main_arg3, main_arg4, main_arg5, main_arg6],
        r.2.mem ((c : Thread nD τ).loc b) = m ((c : Thread nD τ).loc b)) ∧ r.2.sem = fun _ => 0) :=
  frame (adm m hr) m 𝒱₀ g (tbl_pre m)

end Cert.Kernel2Ideal
-- ==== Proof.ExpertSame.lean ====
/-
  The experts' kernel and its idealization are one program: the same body, the same calls, the same operations.
-/
module

public import proofs.«01_k».proof.Proof.Gen.Kernel2.Launch
public import proofs.«01_k».proof.Proof.ExpertTables

@[expose] public section

set_option maxRecDepth 16384

noncomputable section

namespace Cert.Expert

open Idealize.ShloMosaic Idealize.SL.Sem

attribute [local instance] Cert.Kernel2.Gen.facts Cert.Kernel2Ideal.Gen.facts

variable {F : FTy → Type} [FloatOps F]

theorem body_same : @Cert.Kernel2.cc0__expert_kernel F _ _ = @Cert.Kernel2Ideal.cc0__expert_kernel F _ _ := by
  funext a b c d e f g h i j k l m n o p q
  unfold Cert.Kernel2.cc0__expert_kernel Cert.Kernel2Ideal.cc0__expert_kernel
  rfl

theorem defs_same₀ : @Cert.Kernel2.defs₀ F _ _ = @Cert.Kernel2Ideal.defs₀ F _ _ := by
  unfold Cert.Kernel2.defs₀ Cert.Kernel2Ideal.defs₀
  refine congrArg Defs.onTc (funext fun l => funext fun x => ?_)
  obtain ⟨l, hl⟩ := l
  obtain _ | l := l
  · obtain ⟨t, s⟩ := x
    dsimp only
    rw [body_same]
    rfl
  · exact absurd hl (Nat.not_lt.2 (Nat.le_add_left _ _))

theorem defs_same : @Cert.Kernel2.defs F _ _ = @Cert.Kernel2Ideal.defs F _ _ :=
  congrArg (Pipeline.defs (Cert.Kernel2.pcfgs (F := F))) defs_same₀

set_option maxHeartbeats 1000000 in
theorem ops_same : @Cert.Kernel2.Gen.hostOps0 F _ = @Cert.Kernel2Ideal.Gen.hostOps0 F _ := by
  unfold Cert.Kernel2.Gen.hostOps0 Cert.Kernel2Ideal.Gen.hostOps0
  rfl

theorem main_same : @Cert.Kernel2.main F _ _ = @Cert.Kernel2Ideal.main F _ _ := by
  funext c
  refine (Cert.Kernel2.Gen.main_chain c).trans (Eq.trans ?_ (Cert.Kernel2Ideal.Gen.main_chain c).symm)
  rw [ops_same]
  rfl

/-- So their runs are one. -/
theorem run_same (m : (ℓ : Loc Cert.Kernel2.nD Cert.Kernel2.τ Cert.Kernel2.sig) → Buf (Elt F) ℓ) (g : Dev Cert.Kernel2.nD → PrngReg) :
    θ_run (Cert.Kernel2.defs (F := F)) (onTc (τ := Cert.Kernel2.τ) (Cert.Kernel2.main (F := F))) ⟨m, fun _ => 0, g⟩
      = θ_run (Cert.Kernel2Ideal.defs (F := F)) (onTc (τ := Cert.Kernel2Ideal.τ) (Cert.Kernel2Ideal.main (F := F))) ⟨m, fun _ => 0, g⟩ := by
  rw [defs_same, main_same]
  rfl

end Cert.Expert

end
-- ==== Proof.ExpertRead.lean ====
/-
  The expert call's feed-forward of one row, as a formula, and the body's block read at an index as that formula.
-/
module

public import proofs.«01_k».proof.Proof.ExpertBody
public import Idealize.ShloMosaic.Lib.Pipeline.ValueKit
public import Idealize.ShloMosaic.Lib.MatmulPlain

@[expose] public section

set_option maxRecDepth 16384

noncomputable section

namespace Cert.Expert

open Idealize.ShloMosaic

theorem zero_lit : Ideal.ofBits .f32 0x00000000#32 = 0 := by simp [Ideal.ofBits, Ideal.ieee]
theorem one_lit : Ideal.ofBits .f32 0x3F800000#32 = 1 := by
  simp [Ideal.ofBits, Ideal.ieee]
  rw [← EReal.coe_mul, ← EReal.coe_one]
  norm_num

/-- The clamped gate times the clamped linear part, of one entry each. -/
def glu (g l : EReal) : EReal :=
  min g (Ideal.ofBits .f32 0x40E00000#32)
      * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- A row's entry of the first product. -/
def hid (x : Fin 2048 → EReal) (w : Fin 2048 → EReal) (b : EReal) : EReal := (∑ d, x d * w d) + b

/-- A row's entry of the feed-forward, from its gates and linear parts. -/
def outp (g l : Fin 2048 → EReal) (w : Fin 2048 → EReal) (b : EReal) : EReal := (∑ f, glu (g f) (l f) * w f) + b

/-- The column of the permuted weights that holds an entry's gate, -/
def colG (f : Fin 2048) : Fin 4096 := ⟨256 * (f.val / 128) + f.val % 128, by omega⟩
/-- and the one that holds its linear part. -/
def colL (f : Fin 2048) : Fin 4096 := ⟨256 * (f.val / 128) + 128 + f.val % 128, by omega⟩

end Cert.Expert

namespace Cert.Kernel2Ideal

open Idealize.ShloMosaic
open Cert.Expert
open Facts₀ Facts

theorem mid_at (x : Vec Ideal S128x2048 .bf16) (w1 : Vec Ideal S1x2048x4096 .bf16) (b1 : Vec Ideal S1x1x4096 .f32) (ρ : Fin 128) (y : Fin 4096) :
    mid (F := Ideal) x w1 b1 (ix2 ρ y) = hid (fun d => x (ix2 ρ d)) (fun d => w1 (ix3 0 d y)) (b1 (ix3 0 0 y)) := by
  unfold mid hid
  refine congrArg₂ (fun u v : EReal => u + v) ?_ ?_
  · refine (Ideal.matmul_plain_apply (φ₁ := .bf16) (φ₂ := .bf16) none _ _ _ _ _).trans ?_
    show Ideal.ofBits .f32 0x00000000#32 + _ = _
    rw [zero_lit, zero_add]
    refine Finset.sum_congr rfl fun d _ => ?_
    rw [shapeCast_self]
    refine congrArg (fun u : EReal => (x (ix2 ρ d) : EReal) * u) (shapeCast_apply _ _ _ (ix3 0 d y) ?_)
    rw [Shape.rowMajor_val_two, Shape.rowMajor_val_three]
    show (0 * 2048 + d.val) * 4096 + y.val = d.val * 4096 + y.val
    omega
  · refine (broadcastTo_apply _ _ _ (ix2 0 y) (by rw [Fin.forall_fin_two]; exact ⟨rfl, rfl⟩)).trans (shapeCast_apply _ _ _ (ix3 0 0 y) ?_)
    rw [Shape.rowMajor_val_two, Shape.rowMajor_val_three]
    show (0 * 1 + 0) * 4096 + y.val = 0 * 4096 + y.val
    omega

theorem slicesG : ∀ n : Fin 16, S128x4096.Slices ![0, 256 * n.val] S128x128 := by decide
theorem slicesL : ∀ n : Fin 16, S128x4096.Slices ![0, 256 * n.val + 128] S128x128 := by decide

theorem gateCols_at (v : FVec Ideal S128x4096 .f32) (ρ : Fin 128) (f : Fin 2048) : gateCols v (ix2 ρ f) = v (ix2 ρ (colG f)) := by
  refine (concatenate_ofFn_apply (t := S128x2048) (s₁ := S128x128) 1 (N := 16)
    (fun n => extractStridedSlice S128x128 ![0, 256 * n.val] v (slicesG n)) _ rfl 128 rfl (ix2 ρ f) ⟨f.val / 128, by omega⟩ rfl
    (ix2 ρ ⟨f.val % 128, by omega⟩) rfl ?_).trans (extractStridedSlice_apply _ _ _ _ _ ?_)
  · intro b hb
    fin_cases b
    · rfl
    · exact absurd rfl hb
  · rw [Fin.forall_fin_two]
    exact ⟨(Nat.zero_add _).symm, rfl⟩

theorem linCols_at (v : FVec Ideal S128x4096 .f32) (ρ : Fin 128) (f : Fin 2048) : linCols v (ix2 ρ f) = v (ix2 ρ (colL f)) := by
  refine (concatenate_ofFn_apply (t := S128x2048) (s₁ := S128x128) 1 (N := 16)
    (fun n => extractStridedSlice S128x128 ![0, 256 * n.val + 128] v (slicesL n)) _ rfl 128 rfl (ix2 ρ f) ⟨f.val / 128, by omega⟩ rfl
    (ix2 ρ ⟨f.val % 128, by omega⟩) rfl ?_).trans (extractStridedSlice_apply _ _ _ _ _ ?_)
  · intro b hb
    fin_cases b
    · rfl
    · exact absurd rfl hb
  · rw [Fin.forall_fin_two]
    exact ⟨(Nat.zero_add _).symm, rfl⟩

theorem act_at (g l : FVec Ideal S128x2048 .f32) (i : S128x2048.Idx) : act (F := Ideal) g l i = glu (g i) (l i) := by
  unfold glu
  rw [← one_lit]
  rfl

theorem ffn_at (x : Vec Ideal S128x2048 .bf16) (w1 : Vec Ideal S1x2048x4096 .bf16) (b1 : Vec Ideal S1x1x4096 .f32) (w2 : Vec Ideal S1x2048x2048 .bf16)
    (b2 : Vec Ideal S1x1x2048 .f32) (ρ : Fin 128) (y : Fin 2048) :
    ffn (F := Ideal) x w1 b1 w2 b2 (ix2 ρ y)
      = outp (fun f => hid (fun d => x (ix2 ρ d)) (fun d => w1 (ix3 0 d (colG f))) (b1 (ix3 0 0 (colG f))))
          (fun f => hid (fun d => x (ix2 ρ d)) (fun d => w1 (ix3 0 d (colL f))) (b1 (ix3 0 0 (colL f))))
          (fun f => w2 (ix3 0 f y)) (b2 (ix3 0 0 y)) := by
  unfold ffn fin outp
  refine congrArg₂ (fun u v : EReal => u + v) ?_ ?_
  · refine (Ideal.matmul_plain_apply (φ₁ := .bf16) (φ₂ := .bf16) none _ _ _ _ _).trans ?_
    show Ideal.ofBits .f32 0x00000000#32 + _ = _
    rw [zero_lit, zero_add]
    refine Finset.sum_congr rfl fun f _ => ?_
    refine congrArg₂ (fun u v : EReal => u * v) ?_ (shapeCast_apply _ _ _ (ix3 0 f y) ?_)
    · refine (act_at _ _ (ix2 ρ f)).trans ?_
      rw [gateCols_at, linCols_at, mid_at, mid_at]
    · rw [Shape.rowMajor_val_two, Shape.rowMajor_val_three]
      show (0 * 2048 + f.val) * 2048 + y.val = f.val * 2048 + y.val
      omega
  · refine (broadcastTo_apply _ _ _ (ix2 0 y) (by rw [Fin.forall_fin_two]; exact ⟨rfl, rfl⟩)).trans (shapeCast_apply _ _ _ (ix3 0 0 y) ?_)
    rw [Shape.rowMajor_val_two, Shape.rowMajor_val_three]
    show (0 * 1 + 0) * 2048 + y.val = 0 * 2048 + y.val
    omega

end Cert.Kernel2Ideal

end
-- ==== Proof.ExpertArrays.lean ====
/-
  The arrays the expert call reads and writes, over the extended reals: what the operations before it leave in its
  operands, the blocks a grid point reads, what it leaves, and the result's array.
-/
module

public import proofs.«01_k».proof.Proof.ExpertTables
public import proofs.«01_k».proof.Proof.ExpertRead

@[expose] public section

set_option maxRecDepth 16384

noncomputable section

namespace Cert.Kernel2Ideal

open Idealize.ShloMosaic Idealize.ShloMosaic.TcCoe Idealize.SL.Sem
open Idealize.ShloMosaic.Pipeline (Dat RDat)
open Cert.Expert
open Cert.Kernel2Ideal.Gen (hostOps0)
open Facts₀ Facts

theorem co : ∀ t : Fin grid0.N, (grid0.coords t 0).val = t.val := by decide +kernel

variable (m : (ℓ : Loc nD τ sig) → Buf (Elt Ideal) ℓ)

/-! ## The operands -/

/-- The dispatched rows, -/
def arg2 : FVec Ideal S70656x2048 .f32 := m (((0 : Dev nD) : Thread nD τ).loc main_arg2)
/-- the first weights -/
def arg3 : FVec Ideal S32x2048x4096 .f32 := m (((0 : Dev nD) : Thread nD τ).loc main_arg3)
/-- and biases, -/
def arg4 : FVec Ideal S32x4096 .f32 := m (((0 : Dev nD) : Thread nD τ).loc main_arg4)
/-- the second weights -/
def arg5 : FVec Ideal S32x2048x2048 .f32 := m (((0 : Dev nD) : Thread nD τ).loc main_arg5)
/-- and biases. -/
def arg6 : FVec Ideal S32x2048 .f32 := m (((0 : Dev nD) : Thread nD τ).loc main_arg6)

theorem V19 : (V m 0 main_v19 : FVec Ideal S70656x2048 .bf16) = (truncf .bf16 (arg2 m) bitsLt_bf16_f32 : FVec Ideal S70656x2048 .bf16) := by
  show StableHlo.after hostOps0 (fun b => m (0, b)) (Proc.devRef .tc main_v19) = _
  after_results
  rfl
theorem V20 : (V m 0 main_v20 : FVec Ideal S32x2048x2048 .bf16) = (truncf .bf16 (arg5 m) bitsLt_bf16_f32 : FVec Ideal S32x2048x2048 .bf16) := by
  show StableHlo.after hostOps0 (fun b => m (0, b)) (Proc.devRef .tc main_v20) = _
  after_results
  rfl
theorem V3 : (V m 0 main_v3 : FVec Ideal S32x2048x4096 .bf16) = (truncf .bf16 (shapeCast S32x2048x4096 (transpose S32x2048x16x2x128 [0, 1, 2, 4, 3]
    (shapeCast S32x2048x16x128x2 (arg3 m) shapeCasts_S32x2048x4096_S32x2048x16x128x2) transposes_S32x2048x16x128x2_S32x2048x16x2x128_0_1_2_4_3) shapeCasts_S32x2048x16x2x128_S32x2048x4096) bitsLt_bf16_f32 : FVec Ideal S32x2048x4096 .bf16) := by
  show StableHlo.after hostOps0 (fun b => m (0, b)) (Proc.devRef .tc main_v3) = _
  after_results
  rfl
theorem V21 : (V m 0 main_v21 : FVec Ideal S32x1x4096 .f32) = shapeCast S32x1x4096 (shapeCast S32x4096 (transpose S32x16x2x128 [0, 1, 3, 2]
    (shapeCast S32x16x128x2 (arg4 m) shapeCasts_S32x4096_S32x16x128x2) transposes_S32x16x128x2_S32x16x2x128_0_1_3_2) shapeCasts_S32x16x2x128_S32x4096) shapeCasts_S32x4096_S32x1x4096 := by
  show StableHlo.after hostOps0 (fun b => m (0, b)) (Proc.devRef .tc main_v21) = _
  after_results
  rfl
theorem V22 : (V m 0 main_v22 : FVec Ideal S32x1x2048 .f32) = shapeCast S32x1x2048 (arg6 m) shapeCasts_S32x2048_S32x1x2048 := by
  show StableHlo.after hostOps0 (fun b => m (0, b)) (Proc.devRef .tc main_v22) = _
  after_results
  rfl

/-- A matrix's permuted columns: the gates' -/
theorem permG (x : FVec Ideal S32x2048x4096 .f32) (q : Fin 32) (d : Fin 2048) (f : Fin 2048) :
    shapeCast S32x2048x4096 (transpose S32x2048x16x2x128 [0, 1, 2, 4, 3]
      (shapeCast S32x2048x16x128x2 x shapeCasts_S32x2048x4096_S32x2048x16x128x2) transposes_S32x2048x16x128x2_S32x2048x16x2x128_0_1_2_4_3) shapeCasts_S32x2048x16x2x128_S32x2048x4096 (ix3 q d (colG f))
      = x (ix3 q d ⟨2 * f.val, by omega⟩) := by
  refine (shapeCast_apply _ _ _ (ix5 q d ⟨f.val / 128, by omega⟩ 0 ⟨f.val % 128, by omega⟩) ?_).trans
    ((transpose_apply _ _ _ _ (ix5 q d ⟨f.val / 128, by omega⟩ ⟨f.val % 128, by omega⟩ 0) ?_).trans (shapeCast_apply _ _ _ _ ?_))
  · rw [Shape.rowMajor_val_five, Shape.rowMajor_val_three]
    show (((q.val * 2048 + d.val) * 16 + f.val / 128) * 2 + 0) * 128 + f.val % 128 = (q.val * 2048 + d.val) * 4096 + (256 * (f.val / 128) + f.val % 128)
    omega
  · intro b
    fin_cases b <;> rfl
  · rw [Shape.rowMajor_val_five, Shape.rowMajor_val_three]
    show (q.val * 2048 + d.val) * 4096 + 2 * f.val = (((q.val * 2048 + d.val) * 16 + f.val / 128) * 128 + f.val % 128) * 2 + 0
    omega
/-- and the linear parts'. -/
theorem permL (x : FVec Ideal S32x2048x4096 .f32) (q : Fin 32) (d : Fin 2048) (f : Fin 2048) :
    shapeCast S32x2048x4096 (transpose S32x2048x16x2x128 [0, 1, 2, 4, 3]
      (shapeCast S32x2048x16x128x2 x shapeCasts_S32x2048x4096_S32x2048x16x128x2) transposes_S32x2048x16x128x2_S32x2048x16x2x128_0_1_2_4_3) shapeCasts_S32x2048x16x2x128_S32x2048x4096 (ix3 q d (colL f))
      = x (ix3 q d ⟨2 * f.val + 1, by omega⟩) := by
  refine (shapeCast_apply _ _ _ (ix5 q d ⟨f.val / 128, by omega⟩ 1 ⟨f.val % 128, by omega⟩) ?_).trans
    ((transpose_apply _ _ _ _ (ix5 q d ⟨f.val / 128, by omega⟩ ⟨f.val % 128, by omega⟩ 1) ?_).trans (shapeCast_apply _ _ _ _ ?_))
  · rw [Shape.rowMajor_val_five, Shape.rowMajor_val_three]
    show (((q.val * 2048 + d.val) * 16 + f.val / 128) * 2 + 1) * 128 + f.val % 128 = (q.val * 2048 + d.val) * 4096 + (256 * (f.val / 128) + 128 + f.val % 128)
    omega
  · intro b
    fin_cases b <;> rfl
  · rw [Shape.rowMajor_val_five, Shape.rowMajor_val_three]
    show (q.val * 2048 + d.val) * 4096 + (2 * f.val + 1) = (((q.val * 2048 + d.val) * 16 + f.val / 128) * 128 + f.val % 128) * 2 + 1
    omega

/-- The same of the biases. -/
theorem biasG (x : FVec Ideal S32x4096 .f32) (q : Fin 32) (f : Fin 2048) :
    shapeCast S32x1x4096 (shapeCast S32x4096 (transpose S32x16x2x128 [0, 1, 3, 2]
      (shapeCast S32x16x128x2 x shapeCasts_S32x4096_S32x16x128x2) transposes_S32x16x128x2_S32x16x2x128_0_1_3_2) shapeCasts_S32x16x2x128_S32x4096) shapeCasts_S32x4096_S32x1x4096 (ix3 q 0 (colG f))
      = x (ix2 q ⟨2 * f.val, by omega⟩) := by
  refine (shapeCast_apply _ _ _ (ix2 q (colG f)) ?_).trans ((shapeCast_apply _ _ _ (ix4 q ⟨f.val / 128, by omega⟩ 0 ⟨f.val % 128, by omega⟩) ?_).trans
    ((transpose_apply _ _ _ _ (ix4 q ⟨f.val / 128, by omega⟩ ⟨f.val % 128, by omega⟩ 0) ?_).trans (shapeCast_apply _ _ _ _ ?_)))
  · rw [Shape.rowMajor_val_two, Shape.rowMajor_val_three]
    show q.val * 4096 + (256 * (f.val / 128) + f.val % 128) = (q.val * 1 + 0) * 4096 + (256 * (f.val / 128) + f.val % 128)
    omega
  · rw [Shape.rowMajor_val_four, Shape.rowMajor_val_two]
    show ((q.val * 16 + f.val / 128) * 2 + 0) * 128 + f.val % 128 = q.val * 4096 + (256 * (f.val / 128) + f.val % 128)
    omega
  · intro b
    fin_cases b <;> rfl
  · rw [Shape.rowMajor_val_four, Shape.rowMajor_val_two]
    show q.val * 4096 + 2 * f.val = ((q.val * 16 + f.val / 128) * 128 + f.val % 128) * 2 + 0
    omega
theorem biasL (x : FVec Ideal S32x4096 .f32) (q : Fin 32) (f : Fin 2048) :
    shapeCast S32x1x4096 (shapeCast S32x4096 (transpose S32x16x2x128 [0, 1, 3, 2]
      (shapeCast S32x16x128x2 x shapeCasts_S32x4096_S32x16x128x2) transposes_S32x16x128x2_S32x16x2x128_0_1_3_2) shapeCasts_S32x16x2x128_S32x4096) shapeCasts_S32x4096_S32x1x4096 (ix3 q 0 (colL f))
      = x (ix2 q ⟨2 * f.val + 1, by omega⟩) := by
  refine (shapeCast_apply _ _ _ (ix2 q (colL f)) ?_).trans ((shapeCast_apply _ _ _ (ix4 q ⟨f.val / 128, by omega⟩ 1 ⟨f.val % 128, by omega⟩) ?_).trans
    ((transpose_apply _ _ _ _ (ix4 q ⟨f.val / 128, by omega⟩ ⟨f.val % 128, by omega⟩ 1) ?_).trans (shapeCast_apply _ _ _ _ ?_)))
  · rw [Shape.rowMajor_val_two, Shape.rowMajor_val_three]
    show q.val * 4096 + (256 * (f.val / 128) + 128 + f.val % 128) = (q.val * 1 + 0) * 4096 + (256 * (f.val / 128) + 128 + f.val % 128)
    omega
  · rw [Shape.rowMajor_val_four, Shape.rowMajor_val_two]
    show ((q.val * 16 + f.val / 128) * 2 + 1) * 128 + f.val % 128 = q.val * 4096 + (256 * (f.val / 128) + 128 + f.val % 128)
    omega
  · intro b
    fin_cases b <;> rfl
  · rw [Shape.rowMajor_val_four, Shape.rowMajor_val_two]
    show q.val * 4096 + (2 * f.val + 1) = ((q.val * 16 + f.val / 128) * 128 + f.val % 128) * 2 + 1
    omega

/-! ## The blocks -/

section Blocks

variable {k : ℕ} {e : Fin 545 → ℕ} (hr : InRng m k e) (t : Fin (cfgM (adm m hr)).N)

/-- A grid point's block number. -/
abbrev tn : Fin 545 := ⟨t.val, t.isLt⟩

theorem pt : grid0.coords t 0 = tn m hr t := Fin.ext (co t)

theorem cut_lt (s : Fin 545) (h : s.val < k) : cut k s = s := Fin.ext (min_eq_left (by omega))

variable (h : t.val < k)
include h

theorem idx0 : ((cfgM (adm m hr)).win 0).index t = ![t.val, 0] :=
  (transform_0_eq m hr (grid0.coords t)).trans (by rw [pt m hr t, cut_lt (tn m hr t) h])
theorem idx1 : ((cfgM (adm m hr)).win 1).index t = ![e (tn m hr t), 0, 0] :=
  (transform_1_eq m hr (grid0.coords t)).trans (by rw [pt m hr t, cut_lt (tn m hr t) h])
theorem idx2 : ((cfgM (adm m hr)).win 2).index t = ![e (tn m hr t), 0, 0] :=
  (transform_2_eq m hr (grid0.coords t)).trans (by rw [pt m hr t, cut_lt (tn m hr t) h])
theorem idx3 : ((cfgM (adm m hr)).win 3).index t = ![e (tn m hr t), 0, 0] :=
  (transform_3_eq m hr (grid0.coords t)).trans (by rw [pt m hr t, cut_lt (tn m hr t) h])
theorem idx4 : ((cfgM (adm m hr)).win 4).index t = ![e (tn m hr t), 0, 0] :=
  (transform_4_eq m hr (grid0.coords t)).trans (by rw [pt m hr t, cut_lt (tn m hr t) h])

theorem blk0_at (ρ : Fin 128) (d : Fin 2048) : blk0 (adm m hr) 0 (Arr (adm m hr) m 0) t (ix2 ρ d)
    = arg2 m (ix2 ⟨128 * (tn m hr t).val + ρ.val, by omega⟩ d) := by
  refine Eq.trans (congrArg (V m 0 main_v19 : FVec Ideal S70656x2048 .bf16) (funext fun a => Fin.ext ?_)) (congrFun (V19 m) _)
  show ((cfgM (adm m hr)).win 0).index t a * ((cfgM (adm m hr)).win 0).size a + 1 * ((ix2 ρ d : S128x2048.Idx) a).val = _
  rw [idx0 m hr t h]
  fin_cases a
  · show t.val * 128 + 1 * ρ.val = 128 * t.val + ρ.val
    omega
  · show 0 * 2048 + 1 * d.val = d.val
    omega

theorem blk1_at (d : Fin 2048) (y : Fin 4096) : blk1 (adm m hr) 0 (Arr (adm m hr) m 0) t (ix3 0 d y)
    = (V m 0 main_v3 : FVec Ideal S32x2048x4096 .bf16) (ix3 ⟨e (tn m hr t), hr.lt _⟩ d y) := by
  refine congrArg (V m 0 main_v3 : FVec Ideal S32x2048x4096 .bf16) (funext fun a => Fin.ext ?_)
  show ((cfgM (adm m hr)).win 1).index t a * ((cfgM (adm m hr)).win 1).size a + 1 * ((ix3 0 d y : S1x2048x4096.Idx) a).val = _
  rw [idx1 m hr t h]
  fin_cases a
  · show e (tn m hr t) * 1 + 1 * 0 = e (tn m hr t)
    omega
  · show 0 * 2048 + 1 * d.val = d.val
    omega
  · show 0 * 4096 + 1 * y.val = y.val
    omega

theorem blk2_at (y : Fin 4096) : blk2 (adm m hr) 0 (Arr (adm m hr) m 0) t (ix3 0 0 y)
    = (V m 0 main_v21 : FVec Ideal S32x1x4096 .f32) (ix3 ⟨e (tn m hr t), hr.lt _⟩ 0 y) := by
  refine congrArg (V m 0 main_v21 : FVec Ideal S32x1x4096 .f32) (funext fun a => Fin.ext ?_)
  show ((cfgM (adm m hr)).win 2).index t a * ((cfgM (adm m hr)).win 2).size a + 1 * ((ix3 0 0 y : S1x1x4096.Idx) a).val = _
  rw [idx2 m hr t h]
  fin_cases a
  · show e (tn m hr t) * 1 + 1 * 0 = e (tn m hr t)
    omega
  · rfl
  · show 0 * 4096 + 1 * y.val = y.val
    omega

theorem blk3_at (f : Fin 2048) (y : Fin 2048) : blk3 (adm m hr) 0 (Arr (adm m hr) m 0) t (ix3 0 f y)
    = arg5 m (ix3 ⟨e (tn m hr t), hr.lt _⟩ f y) := by
  refine Eq.trans (congrArg (V m 0 main_v20 : FVec Ideal S32x2048x2048 .bf16) (funext fun a => Fin.ext ?_)) (congrFun (V20 m) _)
  show ((cfgM (adm m hr)).win 3).index t a * ((cfgM (adm m hr)).win 3).size a + 1 * ((ix3 0 f y : S1x2048x2048.Idx) a).val = _
  rw [idx3 m hr t h]
  fin_cases a
  · show e (tn m hr t) * 1 + 1 * 0 = e (tn m hr t)
    omega
  · show 0 * 2048 + 1 * f.val = f.val
    omega
  · show 0 * 2048 + 1 * y.val = y.val
    omega

theorem blk4_at (y : Fin 2048) : blk4 (adm m hr) 0 (Arr (adm m hr) m 0) t (ix3 0 0 y)
    = arg6 m (ix2 ⟨e (tn m hr t), hr.lt _⟩ y) := by
  refine Eq.trans (congrArg (V m 0 main_v22 : FVec Ideal S32x1x2048 .f32) (show _ = ix3 ⟨e (tn m hr t), hr.lt _⟩ 0 y from funext fun a => Fin.ext ?_))
    ((congrFun (V22 m) _).trans (shapeCast_apply _ _ _ _ ?_))
  · show ((cfgM (adm m hr)).win 4).index t a * ((cfgM (adm m hr)).win 4).size a + 1 * ((ix3 0 0 y : S1x1x2048.Idx) a).val = _
    rw [idx4 m hr t h]
    fin_cases a
    · show e (tn m hr t) * 1 + 1 * 0 = e (tn m hr t)
      omega
    · rfl
    · show 0 * 2048 + 1 * y.val = y.val
      omega
  · rw [Shape.rowMajor_val_two, Shape.rowMajor_val_three]
    show e (tn m hr t) * 2048 + y.val = (e (tn m hr t) * 1 + 0) * 2048 + y.val
    omega

theorem w1G (d f : Fin 2048) : blk1 (adm m hr) 0 (Arr (adm m hr) m 0) t (ix3 0 d (colG f)) = arg3 m (ix3 ⟨e (tn m hr t), hr.lt _⟩ d ⟨2 * f.val, by omega⟩) :=
  (blk1_at m hr t h d _).trans ((congrFun (V3 m) _).trans (permG (arg3 m) _ d f))
theorem w1L (d f : Fin 2048) : blk1 (adm m hr) 0 (Arr (adm m hr) m 0) t (ix3 0 d (colL f)) = arg3 m (ix3 ⟨e (tn m hr t), hr.lt _⟩ d ⟨2 * f.val + 1, by omega⟩) :=
  (blk1_at m hr t h d _).trans ((congrFun (V3 m) _).trans (permL (arg3 m) _ d f))
theorem b1G (f : Fin 2048) : blk2 (adm m hr) 0 (Arr (adm m hr) m 0) t (ix3 0 0 (colG f)) = arg4 m (ix2 ⟨e (tn m hr t), hr.lt _⟩ ⟨2 * f.val, by omega⟩) :=
  (blk2_at m hr t h _).trans ((congrFun (V21 m) _).trans (biasG (arg4 m) _ f))
theorem b1L (f : Fin 2048) : blk2 (adm m hr) 0 (Arr (adm m hr) m 0) t (ix3 0 0 (colL f)) = arg4 m (ix2 ⟨e (tn m hr t), hr.lt _⟩ ⟨2 * f.val + 1, by omega⟩) :=
  (blk2_at m hr t h _).trans ((congrFun (V21 m) _).trans (biasL (arg4 m) _ f))

end Blocks

/-! ## What a grid point leaves -/

section Left

variable {k : ℕ} {e : Fin 545 → ℕ} (hr : InRng m k e)

/-- An entry of the call's result. -/
def entry (t : Fin 545) (ρ : Fin 128) (y : Fin 2048) : EReal :=
  if t.val < k then outp
    (fun f => hid (fun d => arg2 m (ix2 ⟨128 * t.val + ρ.val, by omega⟩ d)) (fun d => arg3 m (ix3 ⟨e t, hr.lt t⟩ d ⟨2 * f.val, by omega⟩)) (arg4 m (ix2 ⟨e t, hr.lt t⟩ ⟨2 * f.val, by omega⟩)))
    (fun f => hid (fun d => arg2 m (ix2 ⟨128 * t.val + ρ.val, by omega⟩ d)) (fun d => arg3 m (ix3 ⟨e t, hr.lt t⟩ d ⟨2 * f.val + 1, by omega⟩)) (arg4 m (ix2 ⟨e t, hr.lt t⟩ ⟨2 * f.val + 1, by omega⟩)))
    (fun f => arg5 m (ix3 ⟨e t, hr.lt t⟩ f y)) (arg6 m (ix2 ⟨e t, hr.lt t⟩ y)) else 0

theorem cond_iff (t : Fin (cfgM (adm m hr)).N) : k0_cond1 (grid0.coords t) (tabN (adm m hr) (ValueIdx.ix1 0)) = 1#1 ↔ t.val < k := by
  have hn : tabN (adm m hr) (ValueIdx.ix1 0) = BitVec.ofNat 32 k := tbl1 m hr
  have hc : k0_cond1 (grid0.coords t) (BitVec.ofNat 32 k) = IntOp.cmpi .slt (BitVec.ofNat 32 (grid0.coords t 0).val) (BitVec.ofNat 32 k) := Expert.test_word _
  have ht : t.val < 545 := t.isLt
  rw [hn, hc, co t]
  exact Expert.lt_word t.val k (by omega) (by have := hr.le; omega)

theorem left_at (t : Fin (cfgM (adm m hr)).N) (ρ : Fin 128) (y : Fin 2048) :
    left (adm m hr) 0 (Arr (adm m hr) m 0) t (ix2 ρ y) = entry m hr (tn m hr t) ρ y := by
  unfold left res entry
  by_cases h : t.val < k
  · rw [if_pos ((cond_iff m hr t).2 h), if_pos h]
    refine (ffn_at _ _ _ _ _ ρ y).trans ?_
    simp only [blk0_at m hr t h, w1G m hr t h, w1L m hr t h, b1G m hr t h, b1L m hr t h, blk3_at m hr t h, blk4_at m hr t h]
  · rw [if_neg fun hc => h ((cond_iff m hr t).1 hc), if_neg h]
    exact zero_lit

/-! ## The result -/

theorem idx5 (t : Fin (cfgM (adm m hr)).N) : ((cfgM (adm m hr)).win 5).index t = ![t.val, 0] := by
  have ht : t.val < 545 := t.isLt
  show ![(BitVec.ofNat 32 (grid0.coords t 0).val).toNat, 0] = _
  rw [co t, word_nat _ (by omega)]

theorem covers5 : ((cfgM (adm m hr)).win 5).Covers := by
  have hn0 : ((cfgM (adm m hr)).win 5).nblk (0 : Fin 2) = 545 := by
    show (69760 + 128 - 1) / 128 = 545
    norm_num
  have hn1 : ((cfgM (adm m hr)).win 5).nblk (1 : Fin 2) = 1 := by
    show (2048 + 2048 - 1) / 2048 = 1
    norm_num
  refine ⟨fun a => ?_, fun β => ?_⟩
  · fin_cases a
    · show 0 < 128
      norm_num
    · show 0 < 2048
      norm_num
  have hb : (β (0 : Fin 2)).val < 545 := lt_of_lt_of_eq (β (0 : Fin 2)).isLt hn0
  have hb1 : (β (1 : Fin 2)).val < 1 := lt_of_lt_of_eq (β (1 : Fin 2)).isLt hn1
  refine ⟨⟨(β (0 : Fin 2)).val, hb⟩, ?_, fun a => ?_⟩
  · unfold Pipeline.Window.flush
    rw [Bool.and_eq_true]
    refine ⟨rfl, ?_⟩
    rw [Bool.or_eq_true_iff]
    by_cases he : (β (0 : Fin 2)).val + 1 = 545
    · exact .inl (decide_eq_true he)
    · refine .inr (decide_eq_true ⟨show (β (0 : Fin 2)).val + 1 < 545 by omega, fun h => ?_⟩)
      rw [idx5, idx5] at h
      have h0 : (β (0 : Fin 2)).val + 1 = (β (0 : Fin 2)).val := congrFun h 0
      omega
  · rw [idx5]
    refine ⟨?_, ?_⟩
    · fin_cases a
      · rfl
      · show 0 = (β (1 : Fin 2)).val
        omega
    · exact .inl rfl

/-- **The result's array**: it is `G` if `G`'s entries are the formula's. -/
theorem result_eq (r : PUnit × MemSt nD τ sig (Elt Ideal))
    (h : RDat.FramePost (cfgM (adm m hr)) (fun c => (dat (adm m hr) c (Arr (adm m hr) m c)).toRRel (fgt (adm m hr)) (Rl (adm m hr) c (Arr (adm m hr) m c))) (V m) r)
    (G : FVec Ideal S69760x2048 .f32)
    (hG : ∀ (t : Fin 545) (ρ : Fin 128) (y : Fin 2048), G (ix2 ⟨128 * t.val + ρ.val, by omega⟩ y) = entry m hr t ρ y) :
    r.2.mem (((0 : Dev nD).tc : Thread nD τ).loc main_v23) = G := by
  obtain ⟨after, hL, hA⟩ := RDat.FramePost.exists_exact h 0
  refine (hA 5).trans ?_
  refine Dat.arrAt_eq_of_covers _ 5 _ (covers5 m hr) fun t hf y => ?_
  have hR : after 5 t = left (adm m hr) 0 (Arr (adm m hr) m 0) t :=
    (dat (adm m hr) 0 (Arr (adm m hr) m 0)).toRRel_leaves (Rl := Rl (adm m hr) 0 (Arr (adm m hr) m 0)) (fgt := fgt (adm m hr)) (w := 5) rfl (hL 5 t hf)
  refine (congrFun hR y).trans ?_
  refine Eq.trans (congrArg (left (adm m hr) 0 (Arr (adm m hr) m 0) t) (show (y : S128x2048.Idx) = ix2 (y (0 : Fin 2)) (y (1 : Fin 2)) from ?_)) ((left_at m hr t (y (0 : Fin 2)) (y (1 : Fin 2))).trans ((hG (tn m hr t) (y (0 : Fin 2)) (y (1 : Fin 2))).symm.trans (congrArg G ?_)))
  · funext a; fin_cases a <;> rfl
  · funext a; apply Fin.ext
    refine Eq.trans ?_ (show ((cfgM (adm m hr)).win 5).index t a * ((cfgM (adm m hr)).win 5).size a + 1 * (y a).val = _ from rfl)
    rw [idx5]
    fin_cases a
    · show 128 * t.val + (y (0 : Fin 2)).val = t.val * 128 + 1 * (y (0 : Fin 2)).val
      omega
    · show (y (1 : Fin 2)).val = 0 * 2048 + 1 * (y (1 : Fin 2)).val
      omega

end Left

end Cert.Kernel2Ideal

end
-- ==== Proof.ExpertRef.lean ====
/-
  The expert call's reference in stages, each read at an index over the extended reals.
-/
module

public import proofs.«01_k».proof.Proof.Gen.Reference2Ideal.Run
public import proofs.«01_k».proof.Proof.ExpertRead
public import proofs.«01_k».proof.Proof.ExpertWords
public import Idealize.ShloMosaic.Lib.StackMember
public import Idealize.ShloMosaic.Lib.Routing.Ops

@[expose] public section

set_option maxRecDepth 16384

noncomputable section

namespace Cert.Reference2Ideal

open Idealize.ShloMosaic Cert.Reference2Ideal.Gen Cert.Reference2Ideal.Value
open Cert.Expert

/-- The dimension numbers of the look-up of whole matrices. -/
abbrev matDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A look-up of whole matrices read at an index: the matrix whose number the column names. -/
theorem gather_mat {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (i : Fin A) (j : Fin B) (e : Fin N)
    (he : idx (ix2 t 0) = BitVec.ofNat 32 e.val) (hN : N < 2 ^ 31) :
    Host.gather (matDims N A B n wf) x idx (ix3 t i j) = x (ix3 e i j) := by
  unfold Host.gather
  refine congrArg x (funext fun a => Fin.ext ?_)
  show (matDims N A B n wf).start (ix3 t i j) idx a + (matDims N A B n wf).batchCoord (ix3 t i j) a + (matDims N A B n wf).offCoord (ix3 t i j) a = _
  rw [GatherDims.batchCoord_eq_zero _ _ _ List.not_mem_nil, Nat.add_zero]
  match a with
  | ⟨0, _⟩ =>
    have hk : (0 : Fin 3) ∉ (matDims N A B n wf).sKept := fun h => ((GatherDims.mem_sKept _ _).mp h).1 (List.mem_singleton.mpr rfl)
    have hm : (0 : Fin 3) ∈ (matDims N A B n wf).startIndexMap := List.mem_singleton.mpr rfl
    refine (congrArg (_ + ·) (GatherDims.offCoord_eq_zero _ _ _ hk)).trans ?_
    show (matDims N A B n wf).start (ix3 t i j) idx (0 : Fin 3) + 0 = e.val
    rw [Nat.add_zero]
    unfold GatherDims.start
    rw [dif_pos hm]
    have hsi : (matDims N A B n wf).siIdx (ix3 t i j) ⟨List.idxOf (0 : Fin 3) (matDims N A B n wf).startIndexMap,
        List.idxOf_lt_length_iff.2 hm⟩ = ix2 t 0 := by
      funext b; refine Fin.ext ?_
      match b with
      | ⟨0, _⟩ => rfl
      | ⟨1, _⟩ => rfl
    rw [hsi, he, Expert.toInt_ofNat _ (by have := e.isLt; omega)]
    have := e.isLt
    show min ((e.val : Int)).toNat (N - 1) = e.val
    omega
  | ⟨1, _⟩ =>
    have hm : (1 : Fin 3) ∉ (matDims N A B n wf).startIndexMap := fun h => absurd (congrArg Fin.val (List.mem_singleton.1 h)) (by simp)
    have hk : (1 : Fin 3) ∈ (matDims N A B n wf).sKept := (GatherDims.mem_sKept _ _).2 ⟨fun h => absurd (congrArg Fin.val (List.mem_singleton.1 h)) (by simp), List.not_mem_nil⟩
    show (matDims N A B n wf).start (ix3 t i j) idx (1 : Fin 3) + (matDims N A B n wf).offCoord (ix3 t i j) (1 : Fin 3) = i.val
    unfold GatherDims.start GatherDims.offCoord
    rw [dif_neg hm, dif_pos hk, Nat.zero_add]
    rfl
  | ⟨2, _⟩ =>
    have hm : (2 : Fin 3) ∉ (matDims N A B n wf).startIndexMap := fun h => absurd (congrArg Fin.val (List.mem_singleton.1 h)) (by simp)
    have hk : (2 : Fin 3) ∈ (matDims N A B n wf).sKept := (GatherDims.mem_sKept _ _).2 ⟨fun h => absurd (congrArg Fin.val (List.mem_singleton.1 h)) (by simp), List.not_mem_nil⟩
    show (matDims N A B n wf).start (ix3 t i j) idx (2 : Fin 3) + (matDims N A B n wf).offCoord (ix3 t i j) (2 : Fin 3) = j.val
    unfold GatherDims.start GatherDims.offCoord
    rw [dif_neg hm, dif_pos hk, Nat.zero_add]
    rfl

/-- The experts' numbers as a column. -/
def col (a0 : IVec S545 32) : IVec S545x1 32 :=
  broadcastInDim S545x1 ![0] bcast_S545_S545x1_0 (select (cmpi .slt a0 (broadcastInDim S545 ![] bcast_S_S545 (constantI S_ 32 0#32))) (addi a0 (broadcastInDim S545 ![] bcast_S_S545 (constantI S_ 32 32#32))) a0)

/-- The rows by block, -/
def rows (a2 : FVec Ideal S70656x2048 .f32) : FVec Ideal S545x128x2048 .f32 :=
  shapeCast _ (extractStridedSlice S69760x2048 ![0, 0] a2 slices_S70656x2048_S69760x2048_0_0) shapeCasts_S69760x2048_S545x128x2048

/-- their first product, -/
def up (a0 : IVec S545 32) (a2 : FVec Ideal S70656x2048 .f32) (a3 : FVec Ideal S32x2048x4096 .f32) (a4 : FVec Ideal S32x4096 .f32) : FVec Ideal S545x128x4096 .f32 :=
  addf (Host.dotGeneral (φ₁ := .f32) (φ₂ := .f32) dot_S545x128x2048_S545x2048x4096_S545x128x4096_2_1_1_2_0_0 none (rows a2) (Host.gather gather_S32x2048x4096_S545x1_S545x2048x4096_12_0_n_n_0_1_120484096 a3 (col a0)))
    (broadcastInDim S545x128x4096 ![0, 1, 2] bcast_S545x1x4096_S545x128x4096_0_1_2 (broadcastInDim S545x1x4096 ![0, 2] bcast_S545x4096_S545x1x4096_0_2 (Host.gather gather_S32x4096_S545x1_S545x4096_1_0_n_n_0_1_14096 a4 (col a0))))

/-- the clamped gates times the clamped linear parts, -/
def swi (u : FVec Ideal S545x128x4096 .f32) : FVec Ideal S545x128x2048 .f32 :=
  mulf (mulf (minimumf (Host.slice S545x128x2048 ![0, 0, 0] ![1, 1, 2] u slicesBy_S545x128x4096_S545x128x2048_0s1_0s1_0s2) (broadcastInDim S545x128x2048 ![] bcast_S_S545x128x2048 (constant S_ .f32 0x40E00000#32)))
      (Host.divf (broadcastInDim S545x128x2048 ![] bcast_S_S545x128x2048 (constant S_ .f32 0x3F800000#32)) (addf (broadcastInDim S545x128x2048 ![] bcast_S_S545x128x2048 (constant S_ .f32 0x3F800000#32)) (Host.exp (Host.negf (mulf (broadcastInDim S545x128x2048 ![] bcast_S_S545x128x2048 (constant S_ .f32 0x3FD9DB23#32)) (minimumf (Host.slice S545x128x2048 ![0, 0, 0] ![1, 1, 2] u slicesBy_S545x128x4096_S545x128x2048_0s1_0s1_0s2) (broadcastInDim S545x128x2048 ![] bcast_S_S545x128x2048 (constant S_ .f32 0x40E00000#32)))))))))
    (addf (minimumf (broadcastInDim S545x128x2048 ![] bcast_S_S545x128x2048 (id (constant S_ .f32 0x40E00000#32))) (maximumf (broadcastInDim S545x128x2048 ![] bcast_S_S545x128x2048 (id (constant S_ .f32 0xC0E00000#32))) (Host.slice S545x128x2048 ![0, 0, 1] ![1, 1, 2] u slicesBy_S545x128x4096_S545x128x2048_0s1_0s1_1s2)))
      (broadcastInDim S545x128x2048 ![] bcast_S_S545x128x2048 (constant S_ .f32 0x3F800000#32)))

/-- and the blocks' results, zeros behind the blocks in use. -/
def out (a0 : IVec S545 32) (a1 : IVec S1 32) (s : FVec Ideal S545x128x2048 .f32) (a5 : FVec Ideal S32x2048x2048 .f32) (a6 : FVec Ideal S32x2048 .f32) : FVec Ideal S545x128x2048 .f32 :=
  select (broadcastInDim S545x128x2048 ![0, 1, 2] bcast_S545x1x1_S545x128x2048_0_1_2 (broadcastInDim S545x1x1 ![0] bcast_S545_S545x1x1_0 (cmpi .slt (iotaInDim S545 32 0) (broadcastInDim S545 ![0] bcast_S1_S545_0 a1))))
    (addf (Host.dotGeneral (φ₁ := .f32) (φ₂ := .f32) dot_S545x128x2048_S545x2048x2048_S545x128x2048_2_1_1_2_0_0 none s (Host.gather gather_S32x2048x2048_S545x1_S545x2048x2048_12_0_n_n_0_1_120482048 a5 (col a0)))
      (broadcastInDim S545x128x2048 ![0, 1, 2] bcast_S545x1x2048_S545x128x2048_0_1_2 (broadcastInDim S545x1x2048 ![0, 2] bcast_S545x2048_S545x1x2048_0_2 (Host.gather gather_S32x2048_S545x1_S545x2048_1_0_n_n_0_1_12048 a6 (col a0)))))
    (broadcastInDim S545x128x2048 ![] bcast_S_S545x128x2048 (id (constant S_ .f32 0x00000000#32)))

theorem res_eq (m : (ℓ : Loc nD τ sig) → Buf (Elt Ideal) ℓ) (c : Dev nD) :
    res_main_v60 m c = shapeCast S69760x2048 (out (m ((c.tc : Thread nD τ).loc main_arg0)) (m ((c.tc : Thread nD τ).loc main_arg1))
      (swi (up (m ((c.tc : Thread nD τ).loc main_arg0)) (m ((c.tc : Thread nD τ).loc main_arg2)) (m ((c.tc : Thread nD τ).loc main_arg3)) (m ((c.tc : Thread nD τ).loc main_arg4))))
      (m ((c.tc : Thread nD τ).loc main_arg5)) (m ((c.tc : Thread nD τ).loc main_arg6))) shapeCasts_S545x128x2048_S69760x2048 := by
  unfold res_main_v60
  rfl

section Reads

variable {a0 : IVec S545 32} {a1 : IVec S1 32} {k : ℕ} {e : Fin 545 → ℕ} (hr : Rng a0 a1 k e)
include hr

theorem col_at (t : Fin 545) : col a0 (ix2 t 0) = BitVec.ofNat 32 (e t) := by
  unfold col
  refine (broadcastInDim_apply _ _ _ (ix2 t 0) (ValueIdx.ix1 t) (fun a => by obtain rfl : a = 0 := Subsingleton.elim _ _; rfl)).trans ?_
  show Scalar.select (IntOp.cmpi .slt (a0 (ValueIdx.ix1 t)) 0#32) _ (a0 (ValueIdx.ix1 t)) = _
  rw [hr.ex t, Expert.wrap_word _ (by have := hr.lt t; omega)]

theorem up_at (a2 : FVec Ideal S70656x2048 .f32) (a3 : FVec Ideal S32x2048x4096 .f32) (a4 : FVec Ideal S32x4096 .f32) (t : Fin 545) (ρ : Fin 128) (y : Fin 4096) :
    up a0 a2 a3 a4 (ix3 t ρ y) = hid (fun d => a2 (ix2 ⟨128 * t.val + ρ.val, by omega⟩ d)) (fun d => a3 (ix3 ⟨e t, hr.lt t⟩ d y)) (a4 (ix2 ⟨e t, hr.lt t⟩ y)) := by
  unfold up hid
  refine congrArg₂ (fun u v : EReal => u + v) ?_ ?_
  · refine (StackMember.dotGeneral_stack_apply (φ₁ := .f32) (φ₂ := .f32) dot_S545x128x2048_S545x2048x4096_S545x128x4096_2_1_1_2_0_0_wf none _ _ t ρ y).trans ?_
    refine Finset.sum_congr rfl fun d _ => congrArg₂ (fun u v : EReal => u * v) ?_ ?_
    · unfold rows
      refine (shapeCast_apply _ _ _ (ix2 ⟨128 * t.val + ρ.val, by omega⟩ d) ?_).trans (extractStridedSlice_apply _ _ _ _ _ ?_)
      · rw [Shape.rowMajor_val_two, Shape.rowMajor_val_three]
        show (128 * t.val + ρ.val) * 2048 + d.val = (t.val * 128 + ρ.val) * 2048 + d.val
        omega
      · rw [Fin.forall_fin_two]
        exact ⟨(Nat.zero_add _).symm, (Nat.zero_add _).symm⟩
    · exact gather_mat gather_S32x2048x4096_S545x1_S545x2048x4096_12_0_n_n_0_1_120484096_wf a3 (col a0) t d y ⟨e t, hr.lt t⟩ (col_at hr t) (by omega)
  · refine (broadcastInDim_apply _ _ _ _ (ix3 t 0 y) (fun a => by fin_cases a <;> rfl)).trans ((broadcastInDim_apply _ _ _ _ (ix2 t y) (fun a => by fin_cases a <;> rfl)).trans ?_)
    exact Routing.gather_row _ rfl rfl rfl rfl rfl a4 (col a0) t y ⟨e t, hr.lt t⟩ (col_at hr t) (by omega)

omit hr in
theorem swi_at (u : FVec Ideal S545x128x4096 .f32) (t : Fin 545) (ρ : Fin 128) (f : Fin 2048) :
    swi u (ix3 t ρ f) = glu (u (ix3 t ρ ⟨2 * f.val, by omega⟩)) (u (ix3 t ρ ⟨2 * f.val + 1, by omega⟩)) := by
  unfold swi glu Ideal.logistic
  have h0 : Host.slice S545x128x2048 ![0, 0, 0] ![1, 1, 2] u slicesBy_S545x128x4096_S545x128x2048_0s1_0s1_0s2 (ix3 t ρ f) = u (ix3 t ρ ⟨2 * f.val, by omega⟩) := by
    unfold Host.slice
    refine congrArg u (funext fun a => Fin.ext ?_)
    fin_cases a
    · show 0 + 1 * t.val = t.val
      omega
    · show 0 + 1 * ρ.val = ρ.val
      omega
    · show 0 + 2 * f.val = 2 * f.val
      omega
  have h1 : Host.slice S545x128x2048 ![0, 0, 1] ![1, 1, 2] u slicesBy_S545x128x4096_S545x128x2048_0s1_0s1_1s2 (ix3 t ρ f) = u (ix3 t ρ ⟨2 * f.val + 1, by omega⟩) := by
    unfold Host.slice
    refine congrArg u (funext fun a => Fin.ext ?_)
    fin_cases a
    · show 0 + 1 * t.val = t.val
      omega
    · show 0 + 1 * ρ.val = ρ.val
      omega
    · show 1 + 2 * f.val = 2 * f.val + 1
      omega
  rw [← h0, ← h1, ← one_lit]
  rfl

theorem out_at (s : FVec Ideal S545x128x2048 .f32) (a5 : FVec Ideal S32x2048x2048 .f32) (a6 : FVec Ideal S32x2048 .f32) (t : Fin 545) (ρ : Fin 128) (y : Fin 2048) :
    out a0 a1 s a5 a6 (ix3 t ρ y) = if t.val < k then (∑ f, (s (ix3 t ρ f) : EReal) * a5 (ix3 ⟨e t, hr.lt t⟩ f y)) + a6 (ix2 ⟨e t, hr.lt t⟩ y) else 0 := by
  unfold out
  have hc : broadcastInDim S545x128x2048 ![0, 1, 2] bcast_S545x1x1_S545x128x2048_0_1_2 (broadcastInDim S545x1x1 ![0] bcast_S545_S545x1x1_0 (cmpi .slt (iotaInDim S545 32 0) (broadcastInDim S545 ![0] bcast_S1_S545_0 a1))) (ix3 t ρ y)
      = IntOp.cmpi .slt (BitVec.ofNat 32 t.val) (BitVec.ofNat 32 k) := by
    refine (broadcastInDim_apply _ _ _ _ (ix3 t 0 0) (fun a => by fin_cases a <;> rfl)).trans ((broadcastInDim_apply _ _ _ _ (ValueIdx.ix1 t) (fun a => by obtain rfl : a = 0 := Subsingleton.elim _ _; rfl)).trans ?_)
    refine congrArg (IntOp.cmpi .slt (BitVec.ofNat 32 t.val)) ((broadcastInDim_apply _ _ _ _ (ValueIdx.ix1 0) (fun a => by obtain rfl : a = 0 := Subsingleton.elim _ _; rfl)).trans hr.cnt)
  show Scalar.select (broadcastInDim S545x128x2048 ![0, 1, 2] bcast_S545x1x1_S545x128x2048_0_1_2 (broadcastInDim S545x1x1 ![0] bcast_S545_S545x1x1_0 (cmpi .slt (iotaInDim S545 32 0) (broadcastInDim S545 ![0] bcast_S1_S545_0 a1))) (ix3 t ρ y)) _ _ = _
  rw [hc]
  have hw := Expert.lt_word t.val k (by omega) (by have := hr.le; omega)
  by_cases h : t.val < k
  · rw [hw.2 h, if_pos h]
    refine congrArg₂ (fun u v : EReal => u + v) ?_ ?_
    · refine (StackMember.dotGeneral_stack_apply (φ₁ := .f32) (φ₂ := .f32) dot_S545x128x2048_S545x2048x2048_S545x128x2048_2_1_1_2_0_0_wf none _ _ t ρ y).trans ?_
      refine Finset.sum_congr rfl fun f _ => congrArg₂ (fun u v : EReal => u * v) rfl ?_
      exact gather_mat gather_S32x2048x2048_S545x1_S545x2048x2048_12_0_n_n_0_1_120482048_wf a5 (col a0) t f y ⟨e t, hr.lt t⟩ (col_at hr t) (by omega)
    · refine (broadcastInDim_apply _ _ _ _ (ix3 t 0 y) (fun a => by fin_cases a <;> rfl)).trans ((broadcastInDim_apply _ _ _ _ (ix2 t y) (fun a => by fin_cases a <;> rfl)).trans ?_)
      exact Routing.gather_row _ rfl rfl rfl rfl rfl a6 (col a0) t y ⟨e t, hr.lt t⟩ (col_at hr t) (by omega)
  · have h0 : IntOp.cmpi .slt (BitVec.ofNat 32 t.val) (BitVec.ofNat 32 k) = 0#1 := by
      rcases (by decide : ∀ b : BitVec 1, b = 0#1 ∨ b = 1#1) (IntOp.cmpi .slt (BitVec.ofNat 32 t.val) (BitVec.ofNat 32 k)) with h' | h'
      · exact h'
      · exact absurd (hw.1 h') h
    rw [h0, if_neg h]
    exact zero_lit

/-- **The reference's result**, entry by entry. -/
theorem res_at (a2 : FVec Ideal S70656x2048 .f32) (a3 : FVec Ideal S32x2048x4096 .f32) (a4 : FVec Ideal S32x4096 .f32) (a5 : FVec Ideal S32x2048x2048 .f32)
    (a6 : FVec Ideal S32x2048 .f32) (t : Fin 545) (ρ : Fin 128) (y : Fin 2048) :
    shapeCast S69760x2048 (out a0 a1 (swi (up a0 a2 a3 a4)) a5 a6) shapeCasts_S545x128x2048_S69760x2048 (ix2 ⟨128 * t.val + ρ.val, by omega⟩ y)
      = if t.val < k then outp
          (fun f => hid (fun d => a2 (ix2 ⟨128 * t.val + ρ.val, by omega⟩ d)) (fun d => a3 (ix3 ⟨e t, hr.lt t⟩ d ⟨2 * f.val, by omega⟩)) (a4 (ix2 ⟨e t, hr.lt t⟩ ⟨2 * f.val, by omega⟩)))
          (fun f => hid (fun d => a2 (ix2 ⟨128 * t.val + ρ.val, by omega⟩ d)) (fun d => a3 (ix3 ⟨e t, hr.lt t⟩ d ⟨2 * f.val + 1, by omega⟩)) (a4 (ix2 ⟨e t, hr.lt t⟩ ⟨2 * f.val + 1, by omega⟩)))
          (fun f => a5 (ix3 ⟨e t, hr.lt t⟩ f y)) (a6 (ix2 ⟨e t, hr.lt t⟩ y)) else 0 := by
  refine (shapeCast_apply _ _ _ (ix3 t ρ y) ?_).trans ((out_at hr _ a5 a6 t ρ y).trans ?_)
  · rw [Shape.rowMajor_val_two, Shape.rowMajor_val_three]
    show (t.val * 128 + ρ.val) * 2048 + y.val = (128 * t.val + ρ.val) * 2048 + y.val
    omega
  · unfold outp
    simp only [swi_at, up_at hr]

end Reads

end Cert.Reference2Ideal

end
-- ==== Proof.ExpertFinal.lean ====
/-
  The expert call's result is the reference's, of any arguments whose tables are in range.
-/
module

public import proofs.«01_k».proof.Proof.ExpertArrays
public import proofs.«01_k».proof.Proof.ExpertRef

@[expose] public section

set_option maxRecDepth 16384

noncomputable section

namespace Cert.Kernel2Ideal

open Idealize.ShloMosaic Idealize.ShloMosaic.TcCoe Idealize.SL.Sem
open Idealize.ShloMosaic.Pipeline (Dat RDat)

variable (m : (ℓ : Loc nD τ sig) → Buf (Elt Ideal) ℓ) {k : ℕ} {e : Fin 545 → ℕ} (hr : InRng m k e)

/-- The reference's result of the kernel's arguments. -/
def refOf : FVec Ideal S69760x2048 .f32 :=
  shapeCast (Cert.Reference2Ideal.S69760x2048)
    (Cert.Reference2Ideal.out (m (((0 : Dev nD) : Thread nD τ).loc main_arg0)) (m (((0 : Dev nD) : Thread nD τ).loc main_arg1))
      (Cert.Reference2Ideal.swi (Cert.Reference2Ideal.up (m (((0 : Dev nD) : Thread nD τ).loc main_arg0)) (arg2 m) (arg3 m) (arg4 m))) (arg5 m) (arg6 m))
    Cert.Reference2Ideal.Facts₀.shapeCasts_S545x128x2048_S69760x2048

include hr in
/-- **The result's array is the reference's.** -/
theorem result_ref (r : PUnit × MemSt nD τ sig (Elt Ideal))
    (h : RDat.FramePost (cfgM (adm m hr)) (fun c => (dat (adm m hr) c (Arr (adm m hr) m c)).toRRel (fgt (adm m hr)) (Rl (adm m hr) c (Arr (adm m hr) m c))) (V m) r) :
    r.2.mem (((0 : Dev nD).tc : Thread nD τ).loc main_v23) = refOf m :=
  result_eq m hr r h (refOf m) fun t ρ y => Cert.Reference2Ideal.res_at hr (arg2 m) (arg3 m) (arg4 m) (arg5 m) (arg6 m) t ρ y

end Cert.Kernel2Ideal

end
-- ==== Proof.ExpertRange.lean ====
/-
  The precondition on the expert call's two tables read: the count of used blocks and the experts' numbers are in range.
-/
module

public import proofs.«01_k».proof.Pre_blocks_in_range
public import proofs.«01_k».proof.Proof.ExpertWords
public import Idealize.ShloMosaic.Lib.ReduceAll
public import Idealize.ShloMosaic.Lib.Pipeline.ValueKit

@[expose] public section

set_option maxRecDepth 16384

noncomputable section

namespace Cert.Pre_blocks_in_range

open Idealize.ShloMosaic

instance : Subsingleton S_.Idx := ⟨fun a b => funext fun i => i.elim0⟩

/-- A signed word between two small numbers is the number it reads as. -/
theorem word_ge (a : BitVec 32) (l : ℕ) (hl : l < 2 ^ 31) (h : IntOp.cmpi .sge a (BitVec.ofNat 32 l) = 1#1) : (l : ℤ) ≤ a.toInt := by
  have hl' : (BitVec.ofNat 32 l).toInt = l := by
    rw [BitVec.toInt_eq_toNat_cond, BitVec.toNat_ofNat]; split <;> omega
  by_contra hn
  simp [IntOp.cmpi, BitVec.sle, hl', hn] at h
theorem word_le (a : BitVec 32) (l : ℕ) (hl : l < 2 ^ 31) (h : IntOp.cmpi .sle a (BitVec.ofNat 32 l) = 1#1) : a.toInt ≤ l := by
  have hl' : (BitVec.ofNat 32 l).toInt = l := by
    rw [BitVec.toInt_eq_toNat_cond, BitVec.toNat_ofNat]; split <;> omega
  by_contra hn
  simp [IntOp.cmpi, BitVec.sle, hl', hn] at h
theorem word_lt (a : BitVec 32) (l : ℕ) (hl : l < 2 ^ 31) (h : IntOp.cmpi .slt a (BitVec.ofNat 32 l) = 1#1) : a.toInt < l := by
  have hl' : (BitVec.ofNat 32 l).toInt = l := by
    rw [BitVec.toInt_eq_toNat_cond, BitVec.toNat_ofNat]; split <;> omega
  by_contra hn
  simp [IntOp.cmpi, BitVec.slt, hl', hn] at h
theorem toNat_of (a : BitVec 32) (h : 0 ≤ a.toInt) : (a.toNat : ℤ) = a.toInt := by
  have := a.isLt
  rw [BitVec.toInt_eq_toNat_cond] at h ⊢
  split at h <;> split <;> omega

variable [Facts] {F : FTy → Type} [FloatOps F]

/-- **The precondition gives the ranges**: as many used blocks as the count reads, each of the expert its word reads. -/
theorem fn_range (a0 : IVec S545 32) (a1 : IVec S1 32) (a2 : FVec F S70656x2048 .f32) (a3 : FVec F S32x2048x4096 .f32) (a4 : FVec F S32x4096 .f32)
    (a5 : FVec F S32x2048x2048 .f32) (a6 : FVec F S32x2048 .f32) (h : fn (F := F) a0 a1 a2 a3 a4 a5 a6 = fun _ => 1#1) :
    Cert.Expert.Rng a0 a1 (a1 (ValueIdx.ix1 0)).toNat (fun t => (a0 (ValueIdx.ix1 t)).toNat) := by
  have h0 := congrFun h ix0
  obtain ⟨h1, hd⟩ := IntOp.andi_eq_one.1 h0
  obtain ⟨h1, hc⟩ := IntOp.andi_eq_one.1 h1
  obtain ⟨ha, hb⟩ := IntOp.andi_eq_one.1 h1
  have ga : (1 : ℤ) ≤ (a1 (ValueIdx.ix1 0)).toInt := word_ge _ 1 (by norm_num) (Host.reduce_andi_all _ _ _ _ _ ha (ValueIdx.ix1 0))
  have gb : (a1 (ValueIdx.ix1 0)).toInt ≤ 545 := word_le _ 545 (by norm_num) (Host.reduce_andi_all _ _ _ _ _ hb (ValueIdx.ix1 0))
  have gc : ∀ t : Fin 545, (0 : ℤ) ≤ (a0 (ValueIdx.ix1 t)).toInt := fun t => word_ge _ 0 (by norm_num) (Host.reduce_andi_all _ _ _ _ _ hc (ValueIdx.ix1 t))
  have gd : ∀ t : Fin 545, (a0 (ValueIdx.ix1 t)).toInt < 32 := fun t => word_lt _ 32 (by norm_num) (Host.reduce_andi_all _ _ _ _ _ hd (ValueIdx.ix1 t))
  have na := toNat_of _ (le_trans (by norm_num) ga)
  refine ⟨by omega, by omega, by simp, fun t => ?_, fun t => ?_⟩
  · have n := toNat_of _ (gc t)
    have := gd t
    show (a0 (ValueIdx.ix1 t)).toNat < 32
    omega
  · simp

end Cert.Pre_blocks_in_range

end
-- ==== Proof.ProjGates.lean ====
/-
  The gates' projection, over the extended reals: the kernel's result and the reference's, entry by entry.
-/
module

public import proofs.«01_k».proof.Proof.Gen.Kernel3Ideal.Value
public import proofs.«01_k».proof.Proof.Gen.Reference3Ideal.Run
public import proofs.«01_k».proof.Proof.ExpertRead
public import Idealize.ShloMosaic.Lib.StackMember

@[expose] public section

set_option maxRecDepth 16384

noncomputable section

namespace Cert.Gates

open Idealize.ShloMosaic

/-- The column of the weights that a result's column is the product with. -/
def wcol (y : Fin 4096) : Fin 11344 := ⟨7248 + y.val, by omega⟩

end Cert.Gates

namespace Cert.Kernel3Ideal

open Cert.Kernel3Ideal.Gen Cert.Gates Idealize.ShloMosaic Idealize.ShloMosaic.TcCoe Idealize.SL.Sem
open Idealize.ShloMosaic.Pipeline (Dat)

variable (m : (ℓ : Loc nD τ sig) → Buf (Elt Ideal) ℓ) (c : Dev nD)

/-- The rows, -/
def rows : FVec Ideal S16640x2048 .f32 := m ((c : Thread nD τ).loc main_arg0)
/-- and the weights. -/
def wts : FVec Ideal S2048x11344 .f32 := m ((c : Thread nD τ).loc main_arg1)

theorem V4 : (V m c main_v4 : FVec Ideal S16640x2048 .bf16) = (truncf .bf16 (rows m c) bitsLt_bf16_f32 : FVec Ideal S16640x2048 .bf16) := by
  show StableHlo.after hostOps0 (fun b => m (c, b)) (Proc.devRef .tc main_v4) = _
  after_results
  rfl
theorem V3 : (V m c main_v3 : FVec Ideal S2048x4096 .bf16) = (truncf .bf16 (concatenate S2048x4096 1
    [⟨S2048x2048, extractStridedSlice S2048x2048 ![0, 7248] (wts m c) slices_S2048x11344_S2048x2048_0_7248⟩,
      ⟨S2048x2048, extractStridedSlice S2048x2048 ![0, 9296] (wts m c) slices_S2048x11344_S2048x2048_0_9296⟩]
      concatenates_S2048x2048_S2048x2048_S2048x4096_d1 : FVec Ideal S2048x4096 .f32) bitsLt_bf16_f32 : FVec Ideal S2048x4096 .bf16) := by
  show StableHlo.after hostOps0 (fun b => m (c, b)) (Proc.devRef .tc main_v3) = _
  after_results
  rfl

theorem slc : ∀ n : Fin 2, S2048x11344.Slices ![0, (![7248, 9296] : Fin 2 → ℕ) n] S2048x2048 := by decide

theorem wts_at (d : Fin 2048) (y : Fin 4096) : (V m c main_v3 : FVec Ideal S2048x4096 .bf16) (ix2 d y) = wts m c (ix2 d (wcol y)) := by
  refine (congrFun (V3 m c) _).trans ?_
  refine (concatenate_ofFn_apply (t := S2048x4096) (s₁ := S2048x2048) 1 (N := 2)
    (fun n => extractStridedSlice S2048x2048 ![0, (![7248, 9296] : Fin 2 → ℕ) n] (wts m c) (slc n)) concatenates_S2048x2048_S2048x2048_S2048x4096_d1 rfl 2048 rfl (ix2 d y) ⟨y.val / 2048, by omega⟩ rfl
    (ix2 d ⟨y.val % 2048, by omega⟩) rfl ?_).trans (extractStridedSlice_apply _ _ _ _ _ ?_)
  · intro b hb
    fin_cases b
    · rfl
    · exact absurd rfl hb
  · rw [Fin.forall_fin_two]
    refine ⟨(Nat.zero_add _).symm, ?_⟩
    rcases (by omega : y.val / 2048 = 0 ∨ y.val / 2048 = 1) with h | h
    · have e : (![7248, 9296] : Fin 2 → ℕ) ⟨y.val / 2048, by omega⟩ = 7248 := by simp [h]
      show 7248 + y.val = (![7248, 9296] : Fin 2 → ℕ) ⟨y.val / 2048, _⟩ + y.val % 2048
      rw [e]
      omega
    · have e : (![7248, 9296] : Fin 2 → ℕ) ⟨y.val / 2048, by omega⟩ = 9296 := by simp [h]
      show 7248 + y.val = (![7248, 9296] : Fin 2 → ℕ) ⟨y.val / 2048, _⟩ + y.val % 2048
      rw [e]
      omega

theorem pay_at (x : Vec Ideal S640x2048 .bf16) (w : Vec Ideal S2048x1024 .bf16) (ρ : Fin 640) (y : Fin 1024) :
    (k0_pay1 (F := Ideal) x w (ix2 ρ y) : EReal) = Ideal.logistic (∑ d : Fin 2048, (x (ix2 ρ d) : EReal) * w (ix2 d y)) := by
  unfold k0_pay1
  refine congrArg Ideal.logistic ?_
  refine (Ideal.matmul_plain_apply (φ₁ := .bf16) (φ₂ := .bf16) none _ _ _ _ _).trans ?_
  show Ideal.ofBits .f32 0x00000000#32 + _ = _
  rw [Expert.zero_lit, zero_add]
  rw [shapeCast_self, shapeCast_self]
  rfl

theorem co : ∀ t : Fin grid0.N, (grid0.coords t 0).val = t.val / 4 ∧ (grid0.coords t 1).val = t.val % 4 := by decide +kernel

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem blk0_at (t : Fin cfg0.N) (ρ : Fin 640) (d : Fin 2048) (r : Fin 16640) (hr : r.val = t.val / 4 * 640 + ρ.val) :
    (iblk m c 0 t : FVec Ideal S640x2048 .bf16) (ix2 ρ d) = rows m c (ix2 r d) := by
  refine Eq.trans (congrArg (V m c main_v4 : FVec Ideal S16640x2048 .bf16) (funext fun a => Fin.ext ?_)) (congrFun (V4 m c) _)
  show win0_0.index t a * win0_0.size a + 1 * ((ix2 ρ d : S640x2048.Idx) a).val = _
  rw [idx0]
  fin_cases a
  · show t.val / 4 * 640 + 1 * ρ.val = r.val
    omega
  · show 0 * 2048 + 1 * d.val = d.val
    omega

theorem blk1_at (t : Fin cfg0.N) (d : Fin 2048) (l : Fin 1024) (y : Fin 4096) (hy : y.val = t.val % 4 * 1024 + l.val) :
    (iblk m c 1 t : FVec Ideal S2048x1024 .bf16) (ix2 d l) = wts m c (ix2 d (wcol y)) := by
  refine Eq.trans (congrArg (V m c main_v3 : FVec Ideal S2048x4096 .bf16) (show _ = ix2 d y from funext fun a => Fin.ext ?_)) (wts_at m c d y)
  show win0_1.index t a * win0_1.size a + 1 * ((ix2 d l : S2048x1024.Idx) a).val = _
  rw [idx1]
  fin_cases a
  · show 0 * 2048 + 1 * d.val = d.val
    omega
  · show t.val % 4 * 1024 + 1 * l.val = y.val
    omega

theorem covers2 : win0_2.Covers := by decide +kernel

/-- **The kernel's result**: it is `G` if `G`'s entries are the products. -/
theorem result_eq (G : FVec Ideal S16640x4096 .bf16)
    (hG : ∀ (r : Fin 16640) (y : Fin 4096), (G (ix2 r y) : EReal) = Ideal.logistic (∑ d : Fin 2048, (rows m c (ix2 r d) : EReal) * wts m c (ix2 d (wcol y)))) :
    (dats m 0 c).arrAt 2 cfg0.N = G := by
  refine Dat.arrAt_eq_of_covers _ 2 _ covers2 fun t hf y => ?_
  have h0 : (y (0 : Fin 2)).val < 640 := (y (0 : Fin 2)).isLt
  have h1 : (y (1 : Fin 2)).val < 1024 := (y (1 : Fin 2)).isLt
  have ht : t.val < 104 := t.isLt
  obtain ⟨r, hr⟩ : ∃ r : Fin 16640, r.val = t.val / 4 * 640 + (y (0 : Fin 2)).val := ⟨⟨_, by omega⟩, rfl⟩
  obtain ⟨k, hk⟩ : ∃ k : Fin 4096, k.val = t.val % 4 * 1024 + (y (1 : Fin 2)).val := ⟨⟨_, by omega⟩, rfl⟩
  have hG' := hG r k
  blk_simp
  rw [after0_2]
  frame_out
  refine Eq.trans (congrArg (k0_pay1 (F := Ideal) _ _) (show (y : S640x1024.Idx) = ix2 (y (0 : Fin 2)) (y (1 : Fin 2)) from ?_)) ((pay_at _ _ _ _).trans ?_)
  · funext a; fin_cases a <;> rfl
  refine Eq.trans (congrArg Ideal.logistic (Finset.sum_congr rfl fun d _ => congrArg₂ (fun u v : EReal => u * v) (blk0_at m c t (y (0 : Fin 2)) d r hr) (blk1_at m c t d (y (1 : Fin 2)) k hk))) (hG'.symm.trans (congrArg G ?_))
  funext a; apply Fin.ext
  refine Eq.trans ?_ (show win0_2.index t a * win0_2.size a + 1 * (y a).val = _ from rfl)
  rw [idx2]
  fin_cases a
  · show r.val = t.val / 4 * 640 + 1 * (y (0 : Fin 2)).val
    omega
  · show k.val = t.val % 4 * 1024 + 1 * (y (1 : Fin 2)).val
    omega

end Cert.Kernel3Ideal

namespace Cert.Reference3Ideal

open Idealize.ShloMosaic Cert.Reference3Ideal.Gen Cert.Reference3Ideal.Value Cert.Gates

/-- The products, -/
abbrev prod (x : FVec Ideal S16640x2048 .f32) (w : FVec Ideal S2048x11344 .f32) : FVec Ideal S16640x11344 .f32 :=
  Host.dotGeneral (φ₁ := .f32) (φ₂ := .f32) dot_S16640x2048_S2048x11344_S16640x11344_1_0_0_1_n_n none x w

/-- the logistic function as the reference spells it, -/
def lgs (x : FVec Ideal S16640x2048 .f32) : FVec Ideal S16640x2048 .f32 :=
  Host.divf (broadcastInDim S16640x2048 ![] bcast_S_S16640x2048 (constant S_ .f32 0x3F800000#32))
    (addf (broadcastInDim S16640x2048 ![] bcast_S_S16640x2048 (constant S_ .f32 0x3F800000#32)) (Host.exp (Host.negf x)))

/-- and the reference's result of its two arguments. -/
def out (x : FVec Ideal S16640x2048 .f32) (w : FVec Ideal S2048x11344 .f32) : FVec Ideal S16640x4096 .bf16 :=
  truncf .bf16 (concatenate S16640x4096 1
    [⟨S16640x2048, lgs (extractStridedSlice S16640x2048 ![0, 7248] (prod x w) slices_S16640x11344_S16640x2048_0_7248)⟩,
      ⟨S16640x2048, lgs (extractStridedSlice S16640x2048 ![0, 9296] (prod x w) slices_S16640x11344_S16640x2048_0_9296)⟩]
      concatenates_S16640x2048_S16640x2048_S16640x4096_d1 : FVec Ideal S16640x4096 .f32) bitsLt_bf16_f32

theorem lgs_at (x : FVec Ideal S16640x2048 .f32) (i : S16640x2048.Idx) : (lgs x i : EReal) = Ideal.logistic (x i) := by
  unfold lgs Ideal.logistic
  rw [← Expert.one_lit]
  rfl

theorem slc : ∀ n : Fin 2, S16640x11344.Slices ![0, (![7248, 9296] : Fin 2 → ℕ) n] S16640x2048 := by decide

/-- **The reference's result**, entry by entry. -/
theorem out_at (x : FVec Ideal S16640x2048 .f32) (w : FVec Ideal S2048x11344 .f32) (r : Fin 16640) (y : Fin 4096) :
    (out x w (ix2 r y) : EReal) = Ideal.logistic (∑ d : Fin 2048, (x (ix2 r d) : EReal) * w (ix2 d (wcol y))) := by
  unfold out
  refine (concatenate_ofFn_apply (t := S16640x4096) (s₁ := S16640x2048) 1 (N := 2)
    (fun n => lgs (extractStridedSlice S16640x2048 ![0, (![7248, 9296] : Fin 2 → ℕ) n] (prod x w) (slc n))) concatenates_S16640x2048_S16640x2048_S16640x4096_d1 rfl 2048 rfl
    (ix2 r y) ⟨y.val / 2048, by omega⟩ rfl (ix2 r ⟨y.val % 2048, by omega⟩) rfl ?_).trans
      ((lgs_at _ _).trans (congrArg Ideal.logistic ((extractStridedSlice_apply _ _ _ _ (ix2 r (wcol y)) ?_).trans ?_)))
  · intro b hb
    fin_cases b
    · rfl
    · exact absurd rfl hb
  · rw [Fin.forall_fin_two]
    refine ⟨(Nat.zero_add _).symm, ?_⟩
    rcases (by omega : y.val / 2048 = 0 ∨ y.val / 2048 = 1) with h | h
    · have e : (![7248, 9296] : Fin 2 → ℕ) ⟨y.val / 2048, by omega⟩ = 7248 := by simp [h]
      show 7248 + y.val = (![7248, 9296] : Fin 2 → ℕ) ⟨y.val / 2048, _⟩ + y.val % 2048
      rw [e]
      omega
    · have e : (![7248, 9296] : Fin 2 → ℕ) ⟨y.val / 2048, by omega⟩ = 9296 := by simp [h]
      show 7248 + y.val = (![7248, 9296] : Fin 2 → ℕ) ⟨y.val / 2048, _⟩ + y.val % 2048
      rw [e]
      omega
  · exact StackMember.dotGeneral_plain_apply (φ₁ := .f32) (φ₂ := .f32) none _ _ _ _

end Cert.Reference3Ideal

end
-- ==== Proof.ProjValues.lean ====
/-
  The values' projection, over the extended reals: the kernel's result and the reference's, entry by entry.
-/
module

public import proofs.«01_k».proof.Proof.Gen.Kernel4Ideal.Value
public import proofs.«01_k».proof.Proof.Gen.Reference4Ideal.Run
public import proofs.«01_k».proof.Proof.ExpertRead
public import Idealize.ShloMosaic.Lib.StackMember

@[expose] public section

set_option maxRecDepth 16384

noncomputable section

namespace Cert.Values

open Idealize.ShloMosaic

/-- The column of the weights that a result's column is the product with. -/
def wcol (y : Fin 2048) : Fin 11344 := ⟨(if y.val / 1024 = 0 then 2048 else 6224) + y.val % 1024, by split <;> omega⟩

end Cert.Values

namespace Cert.Kernel4Ideal

open Cert.Kernel4Ideal.Gen Cert.Values Idealize.ShloMosaic Idealize.ShloMosaic.TcCoe Idealize.SL.Sem
open Idealize.ShloMosaic.Pipeline (Dat)

variable (m : (ℓ : Loc nD τ sig) → Buf (Elt Ideal) ℓ) (c : Dev nD)

/-- The rows, -/
def rows : FVec Ideal S16640x2048 .f32 := m ((c : Thread nD τ).loc main_arg0)
/-- and the weights. -/
def wts : FVec Ideal S2048x11344 .f32 := m ((c : Thread nD τ).loc main_arg1)

theorem V4 : (V m c main_v4 : FVec Ideal S16640x2048 .bf16) = (truncf .bf16 (rows m c) bitsLt_bf16_f32 : FVec Ideal S16640x2048 .bf16) := by
  show StableHlo.after hostOps0 (fun b => m (c, b)) (Proc.devRef .tc main_v4) = _
  after_results
  rfl
theorem V3 : (V m c main_v3 : FVec Ideal S2048x2048 .bf16) = (truncf .bf16 (concatenate S2048x2048 1
    [⟨S2048x1024, extractStridedSlice S2048x1024 ![0, 2048] (wts m c) slices_S2048x11344_S2048x1024_0_2048⟩,
      ⟨S2048x1024, extractStridedSlice S2048x1024 ![0, 6224] (wts m c) slices_S2048x11344_S2048x1024_0_6224⟩]
      concatenates_S2048x1024_S2048x1024_S2048x2048_d1 : FVec Ideal S2048x2048 .f32) bitsLt_bf16_f32 : FVec Ideal S2048x2048 .bf16) := by
  show StableHlo.after hostOps0 (fun b => m (c, b)) (Proc.devRef .tc main_v3) = _
  after_results
  rfl

theorem slc : ∀ n : Fin 2, S2048x11344.Slices ![0, (![2048, 6224] : Fin 2 → ℕ) n] S2048x1024 := by decide

theorem wts_at (d y : Fin 2048) : (V m c main_v3 : FVec Ideal S2048x2048 .bf16) (ix2 d y) = wts m c (ix2 d (wcol y)) := by
  refine (congrFun (V3 m c) _).trans ?_
  refine (concatenate_ofFn_apply (t := S2048x2048) (s₁ := S2048x1024) 1 (N := 2)
    (fun n => extractStridedSlice S2048x1024 ![0, (![2048, 6224] : Fin 2 → ℕ) n] (wts m c) (slc n)) concatenates_S2048x1024_S2048x1024_S2048x2048_d1 rfl 1024 rfl (ix2 d y) ⟨y.val / 1024, by omega⟩ rfl
    (ix2 d ⟨y.val % 1024, by omega⟩) rfl ?_).trans (extractStridedSlice_apply _ _ _ _ _ ?_)
  · intro b hb
    fin_cases b
    · rfl
    · exact absurd rfl hb
  · rw [Fin.forall_fin_two]
    refine ⟨(Nat.zero_add _).symm, ?_⟩
    rcases (by omega : y.val / 1024 = 0 ∨ y.val / 1024 = 1) with h | h
    · show (if y.val / 1024 = 0 then 2048 else 6224) + y.val % 1024 = (![2048, 6224] : Fin 2 → ℕ) ⟨y.val / 1024, _⟩ + y.val % 1024
      simp [h]
    · show (if y.val / 1024 = 0 then 2048 else 6224) + y.val % 1024 = (![2048, 6224] : Fin 2 → ℕ) ⟨y.val / 1024, _⟩ + y.val % 1024
      simp [h]

theorem pay_at (x : Vec Ideal S640x2048 .bf16) (w : Vec Ideal S2048x1024 .bf16) (ρ : Fin 640) (y : Fin 1024) :
    (k0_pay1 (F := Ideal) x w (ix2 ρ y) : EReal) = ∑ d : Fin 2048, (x (ix2 ρ d) : EReal) * w (ix2 d y) := by
  unfold k0_pay1
  refine (Ideal.matmul_plain_apply (φ₁ := .bf16) (φ₂ := .bf16) none _ _ _ _ _).trans ?_
  show Ideal.ofBits .f32 0x00000000#32 + _ = _
  rw [Expert.zero_lit, zero_add]
  rw [shapeCast_self, shapeCast_self]
  rfl

theorem co : ∀ t : Fin grid0.N, (grid0.coords t 0).val = t.val / 2 ∧ (grid0.coords t 1).val = t.val % 2 := by decide +kernel

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

theorem blk0_at (t : Fin cfg0.N) (ρ : Fin 640) (d : Fin 2048) (r : Fin 16640) (hr : r.val = t.val / 2 * 640 + ρ.val) :
    (iblk m c 0 t : FVec Ideal S640x2048 .bf16) (ix2 ρ d) = rows m c (ix2 r d) := by
  refine Eq.trans (congrArg (V m c main_v4 : FVec Ideal S16640x2048 .bf16) (funext fun a => Fin.ext ?_)) (congrFun (V4 m c) _)
  show win0_0.index t a * win0_0.size a + 1 * ((ix2 ρ d : S640x2048.Idx) a).val = _
  rw [idx0]
  fin_cases a
  · show t.val / 2 * 640 + 1 * ρ.val = r.val
    omega
  · show 0 * 2048 + 1 * d.val = d.val
    omega

theorem blk1_at (t : Fin cfg0.N) (d : Fin 2048) (l : Fin 1024) (y : Fin 2048) (hy : y.val = t.val % 2 * 1024 + l.val) :
    (iblk m c 1 t : FVec Ideal S2048x1024 .bf16) (ix2 d l) = wts m c (ix2 d (wcol y)) := by
  refine Eq.trans (congrArg (V m c main_v3 : FVec Ideal S2048x2048 .bf16) (show _ = ix2 d y from funext fun a => Fin.ext ?_)) (wts_at m c d y)
  show win0_1.index t a * win0_1.size a + 1 * ((ix2 d l : S2048x1024.Idx) a).val = _
  rw [idx1]
  fin_cases a
  · show 0 * 2048 + 1 * d.val = d.val
    omega
  · show t.val % 2 * 1024 + 1 * l.val = y.val
    omega

theorem covers2 : win0_2.Covers := by decide +kernel

/-- **The kernel's result**: it is `G` if `G`'s entries are the products. -/
theorem result_eq (G : FVec Ideal S16640x2048 .bf16)
    (hG : ∀ (r : Fin 16640) (y : Fin 2048), (G (ix2 r y) : EReal) = ∑ d : Fin 2048, (rows m c (ix2 r d) : EReal) * wts m c (ix2 d (wcol y))) :
    (dats m 0 c).arrAt 2 cfg0.N = G := by
  refine Dat.arrAt_eq_of_covers _ 2 _ covers2 fun t hf y => ?_
  have h0 : (y (0 : Fin 2)).val < 640 := (y (0 : Fin 2)).isLt
  have h1 : (y (1 : Fin 2)).val < 1024 := (y (1 : Fin 2)).isLt
  have ht : t.val < 52 := t.isLt
  obtain ⟨r, hr⟩ : ∃ r : Fin 16640, r.val = t.val / 2 * 640 + (y (0 : Fin 2)).val := ⟨⟨_, by omega⟩, rfl⟩
  obtain ⟨k, hk⟩ : ∃ k : Fin 2048, k.val = t.val % 2 * 1024 + (y (1 : Fin 2)).val := ⟨⟨_, by omega⟩, rfl⟩
  have hG' := hG r k
  blk_simp
  rw [after0_2]
  frame_out
  refine Eq.trans (congrArg (k0_pay1 (F := Ideal) _ _) (show (y : S640x1024.Idx) = ix2 (y (0 : Fin 2)) (y (1 : Fin 2)) from ?_)) ((pay_at _ _ _ _).trans ?_)
  · funext a; fin_cases a <;> rfl
  refine Eq.trans (Finset.sum_congr rfl fun d _ => congrArg₂ (fun u v : EReal => u * v) (blk0_at m c t (y (0 : Fin 2)) d r hr) (blk1_at m c t d (y (1 : Fin 2)) k hk)) (hG'.symm.trans (congrArg G ?_))
  funext a; apply Fin.ext
  refine Eq.trans ?_ (show win0_2.index t a * win0_2.size a + 1 * (y a).val = _ from rfl)
  rw [idx2]
  fin_cases a
  · show r.val = t.val / 2 * 640 + 1 * (y (0 : Fin 2)).val
    omega
  · show k.val = t.val % 2 * 1024 + 1 * (y (1 : Fin 2)).val
    omega

end Cert.Kernel4Ideal

namespace Cert.Reference4Ideal

open Idealize.ShloMosaic Cert.Reference4Ideal.Gen Cert.Reference4Ideal.Value Cert.Values

/-- The reference's result of its two arguments. -/
def out (x : FVec Ideal S16640x2048 .f32) (w : FVec Ideal S2048x11344 .f32) : FVec Ideal S16640x2048 .bf16 :=
  truncf .bf16 (concatenate S16640x2048 1
    [⟨S16640x1024, extractStridedSlice S16640x1024 ![0, 2048] (Host.dotGeneral (φ₁ := .f32) (φ₂ := .f32) dot_S16640x2048_S2048x11344_S16640x11344_1_0_0_1_n_n none x w) slices_S16640x11344_S16640x1024_0_2048⟩,
      ⟨S16640x1024, extractStridedSlice S16640x1024 ![0, 6224] (Host.dotGeneral (φ₁ := .f32) (φ₂ := .f32) dot_S16640x2048_S2048x11344_S16640x11344_1_0_0_1_n_n none x w) slices_S16640x11344_S16640x1024_0_6224⟩]
      concatenates_S16640x1024_S16640x1024_S16640x2048_d1 : FVec Ideal S16640x2048 .f32) bitsLt_bf16_f32

theorem slc : ∀ n : Fin 2, S16640x11344.Slices ![0, (![2048, 6224] : Fin 2 → ℕ) n] S16640x1024 := by decide

/-- **The reference's result**, entry by entry. -/
theorem out_at (x : FVec Ideal S16640x2048 .f32) (w : FVec Ideal S2048x11344 .f32) (r : Fin 16640) (y : Fin 2048) :
    (out x w (ix2 r y) : EReal) = ∑ d : Fin 2048, (x (ix2 r d) : EReal) * w (ix2 d (wcol y)) := by
  unfold out
  refine (concatenate_ofFn_apply (t := S16640x2048) (s₁ := S16640x1024) 1 (N := 2)
    (fun n => extractStridedSlice S16640x1024 ![0, (![2048, 6224] : Fin 2 → ℕ) n] (Host.dotGeneral (φ₁ := .f32) (φ₂ := .f32) dot_S16640x2048_S2048x11344_S16640x11344_1_0_0_1_n_n none x w) (slc n)) concatenates_S16640x1024_S16640x1024_S16640x2048_d1 rfl 1024 rfl
    (ix2 r y) ⟨y.val / 1024, by omega⟩ rfl (ix2 r ⟨y.val % 1024, by omega⟩) rfl ?_).trans ((extractStridedSlice_apply _ _ _ _ (ix2 r (wcol y)) ?_).trans ?_)
  · intro b hb
    fin_cases b
    · rfl
    · exact absurd rfl hb
  · rw [Fin.forall_fin_two]
    refine ⟨(Nat.zero_add _).symm, ?_⟩
    rcases (by omega : y.val / 1024 = 0 ∨ y.val / 1024 = 1) with h | h
    · show (if y.val / 1024 = 0 then 2048 else 6224) + y.val % 1024 = (![2048, 6224] : Fin 2 → ℕ) ⟨y.val / 1024, _⟩ + y.val % 1024
      simp [h]
    · show (if y.val / 1024 = 0 then 2048 else 6224) + y.val % 1024 = (![2048, 6224] : Fin 2 → ℕ) ⟨y.val / 1024, _⟩ + y.val % 1024
      simp [h]
  · exact StackMember.dotGeneral_plain_apply (φ₁ := .f32) (φ₂ := .f32) none _ _ _ _

end Cert.Reference4Ideal

end
-- ==== Proof.ProjRope.lean ====
/-
  The rotated queries' and keys' projection, over the extended reals: the kernel's result and the reference's, entry by
  entry. A row's entry is its product times a cosine plus its partner's product, half a head away, times a signed sine.
-/
module

public import proofs.«01_k».proof.Proof.Gen.Kernel5Ideal.Value
public import proofs.«01_k».proof.Proof.Gen.Reference5Ideal.Run
public import proofs.«01_k».proof.Proof.ExpertRead
public import Idealize.ShloMosaic.Lib.StackMember
public import Idealize.ShloMosaic.Lib.KernelVsHost

@[expose] public section

set_option maxRecDepth 16384

noncomputable section

namespace Cert.Rope

open Idealize.ShloMosaic

/-- The four groups' first columns. -/
def offs : Fin 4 → ℕ := ![0, 1024, 4176, 5200]

theorem offs_le : ∀ n, offs n ≤ 5200 := by decide

/-- The column of the weights that a result's column is the product with. -/
def wcol (y : Fin 4096) : Fin 11344 := ⟨offs ⟨y.val / 1024, by omega⟩ + y.val % 1024, by have := offs_le ⟨y.val / 1024, by omega⟩; omega⟩

/-- A column's partner: the one half a head away. -/
def pn (y : ℕ) : ℕ := 128 * (y / 128) + (y % 128 + 64) % 128

theorem pn_lt {n y : ℕ} (h : y < 128 * n) : pn y < 128 * n := by unfold pn; omega

theorem pn_add (q l : ℕ) : pn (q * 1024 + l) = q * 1024 + pn l := by unfold pn; omega

/-- One entry, of the product, its partner's product, and the angle's cosine and sine. -/
def rot (u v a b : EReal) (e : ℕ) : EReal := u * a + v * (if e < 64 then - b else b)

end Cert.Rope

namespace Cert.Kernel5Ideal

open Cert.Kernel5Ideal.Gen Cert.Rope Idealize.ShloMosaic Idealize.ShloMosaic.TcCoe Idealize.SL.Sem
open Idealize.ShloMosaic.Pipeline (Dat)

variable (m : (ℓ : Loc nD τ sig) → Buf (Elt Ideal) ℓ) (c : Dev nD)

/-- The rows, -/
def rows : FVec Ideal S16640x2048 .f32 := m ((c : Thread nD τ).loc main_arg0)
/-- the weights, -/
def wts : FVec Ideal S2048x11344 .f32 := m ((c : Thread nD τ).loc main_arg1)

/-- the angle of each position and half-head lane, -/
def ang : FVec Ideal S8320x64 .f32 :=
  mulf (broadcastInDim S8320x64 ![0, 1] bcast_S8320x1_S8320x64_0_1 (broadcastInDim S8320x1 ![0] bcast_S8320_S8320x1_0 (subf (sitofp .f32 (iotaInDim S8320 32 0)) (broadcastInDim S8320 ![] bcast_S_S8320 (constant S_ .f32 0x42E00000#32)))))
    (broadcastInDim S8320x64 ![0, 1] bcast_S1x64_S8320x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- a table as the call is given it. -/
def tiled (x : FVec Ideal S8320x128 .f32) : FVec Ideal S8320x128 .f32 :=
  shapeCast S8320x128 (broadcastInDim S1x8320x1x128 ![0, 1, 2, 3] bcast_S1x8320x1x128_S1x8320x1x128_0_1_2_3 (shapeCast S1x8320x1x128 x shapeCasts_S8320x128_S1x8320x1x128)) shapeCasts_S1x8320x1x128_S8320x128

theorem V38 : (V m c main_v38 : FVec Ideal S16640x2048 .bf16) = (truncf .bf16 (rows m c) bitsLt_bf16_f32 : FVec Ideal S16640x2048 .bf16) := by
  show StableHlo.after hostOps0 (fun b => m (c, b)) (Proc.devRef .tc main_v38) = _
  after_results
  rfl
theorem V39 : (V m c main_v39 : FVec Ideal S1x4096 .f32) = (broadcastInDim S1x4096 ![] bcast_S_S1x4096 (constant S_ .f32 0x3F800000#32 : FVec Ideal S_ .f32) : FVec Ideal S1x4096 .f32) := by
  show StableHlo.after hostOps0 (fun b => m (c, b)) (Proc.devRef .tc main_v39) = _
  after_results
theorem V34 : (V m c main_v34 : FVec Ideal S8320x128 .f32) = tiled (concatenate S8320x128 1 [⟨S8320x64, Host.cos ang⟩, ⟨S8320x64, Host.cos ang⟩] concatenates_S8320x64_S8320x64_S8320x128_d1) := by
  show StableHlo.after hostOps0 (fun b => m (c, b)) (Proc.devRef .tc main_v34) = _
  after_results
  rfl
theorem V37 : (V m c main_v37 : FVec Ideal S8320x128 .f32) = tiled (concatenate S8320x128 1 [⟨S8320x64, Host.negf (Host.sin ang)⟩, ⟨S8320x64, Host.sin ang⟩] concatenates_S8320x64_S8320x64_S8320x128_d1) := by
  show StableHlo.after hostOps0 (fun b => m (c, b)) (Proc.devRef .tc main_v37) = _
  after_results
  rfl
theorem V5 : (V m c main_v5 : FVec Ideal S2048x4096 .bf16) = (truncf .bf16 (concatenate S2048x4096 1
    [⟨S2048x1024, extractStridedSlice S2048x1024 ![0, 0] (wts m c) slices_S2048x11344_S2048x1024_0_0⟩,
      ⟨S2048x1024, extractStridedSlice S2048x1024 ![0, 1024] (wts m c) slices_S2048x11344_S2048x1024_0_1024⟩,
      ⟨S2048x1024, extractStridedSlice S2048x1024 ![0, 4176] (wts m c) slices_S2048x11344_S2048x1024_0_4176⟩,
      ⟨S2048x1024, extractStridedSlice S2048x1024 ![0, 5200] (wts m c) slices_S2048x11344_S2048x1024_0_5200⟩]
      concatenates_S2048x1024_S2048x1024_S2048x1024_S2048x1024_S2048x4096_d1 : FVec Ideal S2048x4096 .f32) bitsLt_bf16_f32 : FVec Ideal S2048x4096 .bf16) := by
  show StableHlo.after hostOps0 (fun b => m (c, b)) (Proc.devRef .tc main_v5) = _
  after_results
  rfl

theorem slc : ∀ n : Fin 4, S2048x11344.Slices ![0, offs n] S2048x1024 := by decide

theorem wts_at (d : Fin 2048) (y : Fin 4096) : (V m c main_v5 : FVec Ideal S2048x4096 .bf16) (ix2 d y) = wts m c (ix2 d (wcol y)) := by
  refine (congrFun (V5 m c) _).trans ?_
  refine (concatenate_ofFn_apply (t := S2048x4096) (s₁ := S2048x1024) 1 (N := 4)
    (fun n => extractStridedSlice S2048x1024 ![0, offs n] (wts m c) (slc n)) concatenates_S2048x1024_S2048x1024_S2048x1024_S2048x1024_S2048x4096_d1 rfl 1024 rfl (ix2 d y) ⟨y.val / 1024, by omega⟩ rfl
    (ix2 d ⟨y.val % 1024, by omega⟩) rfl ?_).trans (extractStridedSlice_apply _ _ _ _ _ ?_)
  · intro b hb
    fin_cases b
    · rfl
    · exact absurd rfl hb
  · rw [Fin.forall_fin_two]
    exact ⟨(Nat.zero_add _).symm, rfl⟩

/-! ## The tables -/

theorem tiled_at (x : FVec Ideal S8320x128 .f32) (t : Fin 8320) (e : Fin 128) : tiled x (ix2 t e) = x (ix2 t e) := by
  unfold tiled
  refine (shapeCast_apply _ _ _ (ix4 0 t 0 e) ?_).trans ((broadcastInDim_apply _ _ _ _ (ix4 0 t 0 e) (fun a => by fin_cases a <;> rfl)).trans (shapeCast_apply _ _ _ _ ?_))
  · rw [Shape.rowMajor_val_four, Shape.rowMajor_val_two]
    show ((0 * 8320 + t.val) * 1 + 0) * 128 + e.val = t.val * 128 + e.val
    omega
  · rw [Shape.rowMajor_val_four, Shape.rowMajor_val_two]
    show t.val * 128 + e.val = ((0 * 8320 + t.val) * 1 + 0) * 128 + e.val
    omega

/-- Two half-head tables side by side. -/
theorem pair_at (x y : FVec Ideal S8320x64 .f32) (t : Fin 8320) (e : Fin 128) :
    concatenate S8320x128 1 [⟨S8320x64, x⟩, ⟨S8320x64, y⟩] concatenates_S8320x64_S8320x64_S8320x128_d1 (ix2 t e)
      = if e.val < 64 then x (ix2 t ⟨e.val % 64, by omega⟩) else y (ix2 t ⟨e.val % 64, by omega⟩) := by
  refine (concatenate_ofFn_apply (t := S8320x128) (s₁ := S8320x64) 1 (N := 2) (![x, y] : Fin 2 → FVec Ideal S8320x64 .f32)
    concatenates_S8320x64_S8320x64_S8320x128_d1 rfl 64 rfl (ix2 t e) ⟨e.val / 64, by omega⟩ rfl (ix2 t ⟨e.val % 64, by omega⟩) rfl ?_).trans ?_
  · intro b hb
    fin_cases b
    · rfl
    · exact absurd rfl hb
  · by_cases h : e.val < 64
    · have h' : (⟨e.val / 64, by omega⟩ : Fin 2) = 0 := Fin.ext (by show e.val / 64 = 0; omega)
      rw [h', if_pos h]
      rfl
    · have h' : (⟨e.val / 64, by omega⟩ : Fin 2) = 1 := Fin.ext (by show e.val / 64 = 1; omega)
      rw [h', if_neg h]
      rfl

theorem cos_at (t : Fin 8320) (e : Fin 128) : ((V m c main_v34 : FVec Ideal S8320x128 .f32) (ix2 t e) : EReal) = (Host.cos ang : FVec Ideal S8320x64 .f32) (ix2 t ⟨e.val % 64, by omega⟩) := by
  refine (congrFun (V34 m c) _).trans ((tiled_at _ t e).trans ((pair_at _ _ t e).trans ?_))
  split <;> rfl

theorem sin_at (t : Fin 8320) (e : Fin 128) : ((V m c main_v37 : FVec Ideal S8320x128 .f32) (ix2 t e) : EReal)
    = if e.val < 64 then - ((Host.sin ang : FVec Ideal S8320x64 .f32) (ix2 t ⟨e.val % 64, by omega⟩) : EReal) else (Host.sin ang : FVec Ideal S8320x64 .f32) (ix2 t ⟨e.val % 64, by omega⟩) := by
  refine (congrFun (V37 m c) _).trans ((tiled_at _ t e).trans ((pair_at _ _ t e).trans ?_))
  split <;> rfl

/-! ## The body -/

theorem prod_at (x : Vec Ideal S640x2048 .bf16) (w : Vec Ideal S2048x1024 .bf16) (sc : Vec Ideal S1x1024 .f32) (ρ : Fin 640) (y : Fin 1024) :
    (k0_pay2 (F := Ideal) x w sc (ix2 ρ y) : EReal) = (∑ d : Fin 2048, (x (ix2 ρ d) : EReal) * w (ix2 d y)) * sc (ix2 0 y) := by
  unfold k0_pay2
  refine congrArg₂ (fun u v : EReal => u * v) ?_ ?_
  · refine (Ideal.matmul_plain_apply (φ₁ := .bf16) (φ₂ := .bf16) none _ _ _ _ _).trans ?_
    show Ideal.ofBits .f32 0x00000000#32 + _ = _
    rw [Expert.zero_lit, zero_add]
    rw [shapeCast_self, shapeCast_self]
    rfl
  · refine (broadcastTo_apply _ _ _ (ix2 0 y) (by rw [Fin.forall_fin_two]; exact ⟨rfl, rfl⟩)).trans ?_
    rw [shapeCast_self]

theorem slh : ∀ n : Fin 8, S640x1024.Slices ![0, 128 * n.val] S640x128 := by decide

/-- One head of a block. -/
def head (v : FVec Ideal S640x1024 .f32) (cs sn : FVec Ideal S640x128 .f32) (n : Fin 8) : FVec Ideal S640x128 .f32 :=
  addf (mulf (extractStridedSlice S640x128 ![0, 128 * n.val] v (slh n)) cs)
    (mulf (dynamicRotate 1 64#32 none (extractStridedSlice S640x128 ![0, 128 * n.val] v (slh n)) rotates_S640x128_d1) sn)

/-- The block a grid point stores. -/
abbrev blkOf (x : Vec Ideal S640x2048 .bf16) (w : Vec Ideal S2048x1024 .bf16) (cs sn : Vec Ideal S640x128 .f32) (sc : Vec Ideal S1x1024 .f32) : FVec Ideal S640x1024 .bf16 :=
  k0_pay1 (k0_pay2 x w sc) (k0_pay3 cs) (k0_pay4 sn) (k0_pay5 x w sc cs sn) (k0_pay6 x w sc cs sn) (k0_pay7 x w sc cs sn) (k0_pay8 x w sc cs sn)
    (k0_pay9 x w sc cs sn) (k0_pay11 x w sc) (k0_pay12 x w sc cs)

theorem head_at (v : FVec Ideal S640x1024 .f32) (cs sn : FVec Ideal S640x128 .f32) (ρ : Fin 640) (y : Fin 1024) :
    (head v cs sn ⟨y.val / 128, by omega⟩ (ix2 ρ ⟨y.val % 128, by omega⟩) : EReal)
      = (v (ix2 ρ y) : EReal) * cs (ix2 ρ ⟨y.val % 128, by omega⟩) + (v (ix2 ρ ⟨pn y.val, pn_lt (n := 8) y.isLt⟩) : EReal) * sn (ix2 ρ ⟨y.val % 128, by omega⟩) := by
  unfold head
  refine congrArg₂ (fun a b : EReal => a + b) (congrArg (fun a : EReal => a * cs (ix2 ρ ⟨y.val % 128, by omega⟩)) ?_) (congrArg (fun a : EReal => a * sn (ix2 ρ ⟨y.val % 128, by omega⟩)) ?_)
  · refine extractStridedSlice_apply _ _ _ _ _ ?_
    rw [Fin.forall_fin_two]
    exact ⟨(Nat.zero_add _).symm, (Nat.div_add_mod _ _).symm⟩
  · refine (dynamicRotate_apply _ _ _ _ _ (ix2 ρ ⟨(y.val % 128 + 64) % 128, by omega⟩) ?_).trans (extractStridedSlice_apply _ _ _ _ _ ?_)
    · intro b
      fin_cases b
      · rfl
      · show (y.val % 128 + 64) % 128 = (y.val % 128 + 128 - 64 % 128) % 128
        omega
    · rw [Fin.forall_fin_two]
      exact ⟨(Nat.zero_add _).symm, rfl⟩

theorem blkOf_eq (x : Vec Ideal S640x2048 .bf16) (w : Vec Ideal S2048x1024 .bf16) (cs sn : Vec Ideal S640x128 .f32) (sc : Vec Ideal S1x1024 .f32) :
    blkOf x w cs sn sc = (truncf .bf16 (concatenate S640x1024 1 (List.ofFn fun n : Fin 8 => ⟨S640x128, head (k0_pay2 x w sc) (k0_pay3 cs) (k0_pay4 sn) n⟩)
      concatenates_S640x128_S640x128_S640x128_S640x128_S640x128_S640x128_S640x128_S640x128_S640x1024_d1 : FVec Ideal S640x1024 .f32) bitsLt_bf16_f32 : FVec Ideal S640x1024 .bf16) := by
  unfold blkOf k0_pay1 k0_pay5 k0_pay6 k0_pay7 k0_pay8 k0_pay9 k0_pay11 k0_pay12 k0_pay10
  rfl

theorem blkOf_at (x : Vec Ideal S640x2048 .bf16) (w : Vec Ideal S2048x1024 .bf16) (cs sn : Vec Ideal S640x128 .f32) (sc : Vec Ideal S1x1024 .f32) (ρ : Fin 640) (y : Fin 1024) :
    (blkOf x w cs sn sc (ix2 ρ y) : EReal)
      = (k0_pay2 (F := Ideal) x w sc (ix2 ρ y) : EReal) * cs (ix2 ρ ⟨y.val % 128, by omega⟩)
        + (k0_pay2 (F := Ideal) x w sc (ix2 ρ ⟨pn y.val, pn_lt (n := 8) y.isLt⟩) : EReal) * sn (ix2 ρ ⟨y.val % 128, by omega⟩) := by
  rw [blkOf_eq]
  refine (concatenate_ofFn_apply (t := S640x1024) (s₁ := S640x128) 1 (N := 8) (fun n => head (k0_pay2 x w sc) (k0_pay3 cs) (k0_pay4 sn) n)
    concatenates_S640x128_S640x128_S640x128_S640x128_S640x128_S640x128_S640x128_S640x128_S640x1024_d1 rfl 128 rfl (ix2 ρ y) ⟨y.val / 128, by omega⟩ rfl
    (ix2 ρ ⟨y.val % 128, by omega⟩) rfl ?_).trans ((head_at _ _ _ ρ y).trans ?_)
  · intro b hb
    fin_cases b
    · rfl
    · exact absurd rfl hb
  · unfold k0_pay3 k0_pay4
    rw [shapeCast_self, shapeCast_self]

/-! ## The blocks -/

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4 % 13, 0] := (by decide +kernel : ∀ t : Fin grid0.N, win0_2.index t = ![t.val / 4 % 13, 0])
theorem idx3 : ∀ t : Fin cfg0.N, win0_3.index t = ![t.val / 4 % 13, 0] := (by decide +kernel : ∀ t : Fin grid0.N, win0_3.index t = ![t.val / 4 % 13, 0])
theorem idx4 : ∀ t : Fin cfg0.N, win0_4.index t = ![0, t.val % 4] := (by decide +kernel : ∀ t : Fin grid0.N, win0_4.index t = ![0, t.val % 4])
theorem idx5 : ∀ t : Fin cfg0.N, win0_5.index t = ![t.val / 4, t.val % 4] := (by decide +kernel : ∀ t : Fin grid0.N, win0_5.index t = ![t.val / 4, t.val % 4])

theorem blk0_at (t : Fin cfg0.N) (ρ : Fin 640) (d : Fin 2048) (r : Fin 16640) (hr : r.val = t.val / 4 * 640 + ρ.val) :
    (iblk m c 0 t : FVec Ideal S640x2048 .bf16) (ix2 ρ d) = rows m c (ix2 r d) := by
  refine Eq.trans (congrArg (V m c main_v38 : FVec Ideal S16640x2048 .bf16) (funext fun a => Fin.ext ?_)) (congrFun (V38 m c) _)
  show win0_0.index t a * win0_0.size a + 1 * ((ix2 ρ d : S640x2048.Idx) a).val = _
  rw [idx0]
  fin_cases a
  · show t.val / 4 * 640 + 1 * ρ.val = r.val
    omega
  · show 0 * 2048 + 1 * d.val = d.val
    omega

theorem blk1_at (t : Fin cfg0.N) (d : Fin 2048) (l : Fin 1024) (y : Fin 4096) (hy : y.val = t.val % 4 * 1024 + l.val) :
    (iblk m c 1 t : FVec Ideal S2048x1024 .bf16) (ix2 d l) = wts m c (ix2 d (wcol y)) := by
  refine Eq.trans (congrArg (V m c main_v5 : FVec Ideal S2048x4096 .bf16) (show _ = ix2 d y from funext fun a => Fin.ext ?_)) (wts_at m c d y)
  show win0_1.index t a * win0_1.size a + 1 * ((ix2 d l : S2048x1024.Idx) a).val = _
  rw [idx1]
  fin_cases a
  · show 0 * 2048 + 1 * d.val = d.val
    omega
  · show t.val % 4 * 1024 + 1 * l.val = y.val
    omega

theorem blk2_at (t : Fin cfg0.N) (ρ : Fin 640) (e : Fin 128) (p : Fin 8320) (hp : p.val = t.val / 4 % 13 * 640 + ρ.val) :
    (iblk m c 2 t : FVec Ideal S640x128 .f32) (ix2 ρ e) = (V m c main_v34 : FVec Ideal S8320x128 .f32) (ix2 p e) := by
  refine congrArg (V m c main_v34 : FVec Ideal S8320x128 .f32) (funext fun a => Fin.ext ?_)
  show win0_2.index t a * win0_2.size a + 1 * ((ix2 ρ e : S640x128.Idx) a).val = _
  rw [idx2]
  fin_cases a
  · show t.val / 4 % 13 * 640 + 1 * ρ.val = p.val
    omega
  · show 0 * 128 + 1 * e.val = e.val
    omega

theorem blk3_at (t : Fin cfg0.N) (ρ : Fin 640) (e : Fin 128) (p : Fin 8320) (hp : p.val = t.val / 4 % 13 * 640 + ρ.val) :
    (iblk m c 3 t : FVec Ideal S640x128 .f32) (ix2 ρ e) = (V m c main_v37 : FVec Ideal S8320x128 .f32) (ix2 p e) := by
  refine congrArg (V m c main_v37 : FVec Ideal S8320x128 .f32) (funext fun a => Fin.ext ?_)
  show win0_3.index t a * win0_3.size a + 1 * ((ix2 ρ e : S640x128.Idx) a).val = _
  rw [idx3]
  fin_cases a
  · show t.val / 4 % 13 * 640 + 1 * ρ.val = p.val
    omega
  · show 0 * 128 + 1 * e.val = e.val
    omega

theorem blk4_at (t : Fin cfg0.N) (l : Fin 1024) : ((iblk m c 4 t : FVec Ideal S1x1024 .f32) (ix2 0 l) : EReal) = (1 : EReal) :=
  (congrFun (V39 m c) _).trans Expert.one_lit

/-- The product of a row with a column of the weights. -/
def dotp (r : Fin 16640) (y : Fin 4096) : EReal := ∑ d : Fin 2048, (rows m c (ix2 r d) : EReal) * wts m c (ix2 d (wcol y))

theorem prod_blk (t : Fin cfg0.N) (ρ : Fin 640) (l : Fin 1024) (r : Fin 16640) (hr : r.val = t.val / 4 * 640 + ρ.val) (y : Fin 4096) (hy : y.val = t.val % 4 * 1024 + l.val) :
    (k0_pay2 (F := Ideal) (iblk m c 0 t) (iblk m c 1 t) (iblk m c 4 t) (ix2 ρ l) : EReal) = dotp m c r y :=
  (prod_at _ _ _ ρ l).trans ((congrArg₂ (fun u v : EReal => u * v)
    (Finset.sum_congr rfl fun d _ => congrArg₂ (fun u v : EReal => u * v) (blk0_at m c t ρ d r hr) (blk1_at m c t d l y hy)) (blk4_at m c t l)).trans (mul_one _))

theorem covers5 : win0_5.Covers := by decide +kernel

/-- **The kernel's result**: it is `G` if `G`'s entries are the rotated products. -/
theorem result_eq (G : FVec Ideal S16640x4096 .bf16)
    (hG : ∀ (r : Fin 16640) (y : Fin 4096), (G (ix2 r y) : EReal)
      = rot (dotp m c r y) (dotp m c r ⟨pn y.val, pn_lt (n := 32) y.isLt⟩) ((Host.cos ang : FVec Ideal S8320x64 .f32) (ix2 ⟨r.val % 8320, by omega⟩ ⟨y.val % 64, by omega⟩)) ((Host.sin ang : FVec Ideal S8320x64 .f32) (ix2 ⟨r.val % 8320, by omega⟩ ⟨y.val % 64, by omega⟩)) (y.val % 128)) :
    (dats m 0 c).arrAt 5 cfg0.N = G := by
  refine Dat.arrAt_eq_of_covers _ 5 _ covers5 fun t hf y => ?_
  have h0 : (y (0 : Fin 2)).val < 640 := (y (0 : Fin 2)).isLt
  have h1 : (y (1 : Fin 2)).val < 1024 := (y (1 : Fin 2)).isLt
  have ht : t.val < 104 := t.isLt
  obtain ⟨r, hr⟩ : ∃ r : Fin 16640, r.val = t.val / 4 * 640 + (y (0 : Fin 2)).val := ⟨⟨_, by omega⟩, rfl⟩
  obtain ⟨k, hk⟩ : ∃ k : Fin 4096, k.val = t.val % 4 * 1024 + (y (1 : Fin 2)).val := ⟨⟨_, by omega⟩, rfl⟩
  have hG' := hG r k
  blk_simp
  rw [after0_5]
  frame_out
  refine Eq.trans (congrArg (blkOf (iblk m c 0 t) (iblk m c 1 t) (iblk m c 2 t) (iblk m c 3 t) (iblk m c 4 t)) (show (y : S640x1024.Idx) = ix2 (y (0 : Fin 2)) (y (1 : Fin 2)) from ?_)) ((blkOf_at _ _ _ _ _ (y (0 : Fin 2)) (y (1 : Fin 2))).trans ?_)
  · funext a; fin_cases a <;> rfl
  have hp : r.val % 8320 = t.val / 4 % 13 * 640 + (y (0 : Fin 2)).val := by omega
  have he : (y (1 : Fin 2)).val % 128 = k.val % 128 := by omega
  refine Eq.trans ?_ (hG'.symm.trans (congrArg G ?_))
  · unfold rot
    refine congrArg₂ (fun u v : EReal => u + v) (congrArg₂ (fun u v : EReal => u * v) (prod_blk m c t _ _ r hr k hk) ?_) (congrArg₂ (fun u v : EReal => u * v) (prod_blk m c t _ _ r hr _ ?_) ?_)
    · refine (blk2_at m c t _ _ ⟨r.val % 8320, by omega⟩ hp).trans ((cos_at m c _ _).trans ?_)
      refine congrArg (fun i => (Host.cos ang : FVec Ideal S8320x64 .f32) (ix2 ⟨r.val % 8320, by omega⟩ i)) (Fin.ext ?_)
      show (y (1 : Fin 2)).val % 128 % 64 = k.val % 64
      omega
    · show pn k.val = t.val % 4 * 1024 + pn (y (1 : Fin 2)).val
      rw [hk, pn_add]
    · refine (blk3_at m c t _ _ ⟨r.val % 8320, by omega⟩ hp).trans ((sin_at m c _ _).trans ?_)
      have hi : k.val % 128 % 64 = k.val % 64 := by omega
      simp only [he, hi]
  · funext a; apply Fin.ext
    refine Eq.trans ?_ (show win0_5.index t a * win0_5.size a + 1 * (y a).val = _ from rfl)
    rw [idx5]
    fin_cases a
    · show r.val = t.val / 4 * 640 + 1 * (y (0 : Fin 2)).val
      omega
    · show k.val = t.val % 4 * 1024 + 1 * (y (1 : Fin 2)).val
      omega

end Cert.Kernel5Ideal

namespace Cert.Reference5Ideal

open Idealize.ShloMosaic Idealize.ShloMosaic.TcCoe Idealize.SL.Sem Cert.Reference5Ideal.Gen Cert.Reference5Ideal.Value Cert.Rope

/-- The products by sequence and position, -/
def prod3 (x : FVec Ideal S16640x2048 .f32) (w : FVec Ideal S2048x11344 .f32) : FVec Ideal S2x8320x11344 .f32 :=
  shapeCast S2x8320x11344 (Host.dotGeneral (φ₁ := .f32) (φ₂ := .f32) dot_S16640x2048_S2048x11344_S16640x11344_1_0_0_1_n_n none x w) shapeCasts_S16640x11344_S2x8320x11344

theorem sl3 : ∀ n : Fin 4, S2x8320x11344.Slices ![0, 0, offs n] S2x8320x1024 := by decide

/-- the heads of one group, -/
def grp (p : FVec Ideal S2x8320x11344 .f32) (n : Fin 4) : FVec Ideal S2x8320x8x128 .f32 :=
  shapeCast S2x8320x8x128 (extractStridedSlice S2x8320x1024 ![0, 0, offs n] p (sl3 n)) shapeCasts_S2x8320x1024_S2x8320x8x128

/-- all heads, -/
def heads (p : FVec Ideal S2x8320x11344 .f32) : FVec Ideal S2x8320x32x128 .f32 :=
  concatenate S2x8320x32x128 2 (List.ofFn fun n : Fin 4 => ⟨S2x8320x8x128, grp p n⟩) concatenates_S2x8320x8x128_S2x8320x8x128_S2x8320x8x128_S2x8320x8x128_S2x8320x32x128_d2

/-- their halves changed over, the first one's sign too, -/
def turn (h : FVec Ideal S2x8320x32x128 .f32) : FVec Ideal S2x8320x32x128 .f32 :=
  concatenate S2x8320x32x128 3 [⟨S2x8320x32x64, Host.negf (extractStridedSlice S2x8320x32x64 ![0, 0, 0, 64] h slices_S2x8320x32x128_S2x8320x32x64_0_0_0_64)⟩,
    ⟨S2x8320x32x64, extractStridedSlice S2x8320x32x64 ![0, 0, 0, 0] h slices_S2x8320x32x128_S2x8320x32x64_0_0_0_0⟩] concatenates_S2x8320x32x64_S2x8320x32x64_S2x8320x32x128_d3

/-- the angle of each position and lane, -/
def ang2 : FVec Ideal S8320x128 .f32 :=
  concatenate S8320x128 1 [⟨S8320x64, Kernel5Ideal.ang⟩, ⟨S8320x64, Kernel5Ideal.ang⟩] concatenates_S8320x64_S8320x64_S8320x128_d1

/-- a table for every head, -/
def tbl (x : FVec Ideal S8320x128 .f32) : FVec Ideal S2x8320x32x128 .f32 :=
  broadcastInDim S2x8320x32x128 ![0, 1, 2, 3] bcast_S1x8320x1x128_S2x8320x32x128_0_1_2_3 (broadcastInDim S1x8320x1x128 ![1, 3] bcast_S8320x128_S1x8320x1x128_1_3 x)

/-- the rotated heads, -/
def roped (h : FVec Ideal S2x8320x32x128 .f32) : FVec Ideal S2x8320x32x128 .f32 :=
  addf (mulf h (tbl (Host.cos ang2))) (mulf (turn h) (tbl (Host.sin ang2)))

/-- and the reference's result of its two arguments. -/
def out (x : FVec Ideal S16640x2048 .f32) (w : FVec Ideal S2048x11344 .f32) : FVec Ideal S16640x4096 .bf16 :=
  truncf .bf16 (shapeCast S16640x4096 (roped (heads (prod3 x w))) shapeCasts_S2x8320x32x128_S16640x4096) bitsLt_bf16_f32

theorem res_eq (m : (ℓ : Loc nD τ sig) → Buf (Elt Ideal) ℓ) (c : Dev nD) :
    res_main_v45 m c = out (m ((c.tc : Thread nD τ).loc main_arg0)) (m ((c.tc : Thread nD τ).loc main_arg1)) := by
  unfold res_main_v45
  rfl

theorem heads_at (x : FVec Ideal S16640x2048 .f32) (w : FVec Ideal S2048x11344 .f32) (b : Fin 2) (t : Fin 8320) (j : Fin 32) (e : Fin 128)
    (r : Fin 16640) (hr : r.val = b.val * 8320 + t.val) (y : Fin 4096) (hy : y.val = j.val * 128 + e.val) :
    (heads (prod3 x w) (ix4 b t j e) : EReal) = ∑ d : Fin 2048, (x (ix2 r d) : EReal) * w (ix2 d (wcol y)) := by
  unfold heads
  refine (concatenate_ofFn_apply (t := S2x8320x32x128) (s₁ := S2x8320x8x128) 2 (N := 4) (fun n => grp (prod3 x w) n)
    concatenates_S2x8320x8x128_S2x8320x8x128_S2x8320x8x128_S2x8320x8x128_S2x8320x32x128_d2 rfl 8 rfl (ix4 b t j e) ⟨j.val / 8, by omega⟩ rfl
    (ix4 b t ⟨j.val % 8, by omega⟩ e) rfl ?_).trans ?_
  · intro a ha
    fin_cases a
    · rfl
    · rfl
    · exact absurd rfl ha
    · rfl
  · unfold grp prod3
    refine (shapeCast_apply _ _ _ (ix3 b t ⟨y.val % 1024, by omega⟩) ?_).trans ((extractStridedSlice_apply _ _ _ _ (ix3 b t (wcol y)) ?_).trans
      ((shapeCast_apply _ _ _ (ix2 r (wcol y)) ?_).trans ?_))
    · rw [Shape.rowMajor_val_three, Shape.rowMajor_val_four]
      show (b.val * 8320 + t.val) * 1024 + y.val % 1024 = ((b.val * 8320 + t.val) * 8 + j.val % 8) * 128 + e.val
      omega
    · have hj : (⟨j.val / 8, by omega⟩ : Fin 4) = ⟨y.val / 1024, by omega⟩ := Fin.ext (by show j.val / 8 = y.val / 1024; omega)
      intro a
      fin_cases a
      · exact (Nat.zero_add _).symm
      · exact (Nat.zero_add _).symm
      · show offs ⟨y.val / 1024, _⟩ + y.val % 1024 = offs ⟨j.val / 8, _⟩ + y.val % 1024
        rw [hj]
    · rw [Shape.rowMajor_val_three, Shape.rowMajor_val_two]
      show r.val * 11344 + (wcol y).val = (b.val * 8320 + t.val) * 11344 + (wcol y).val
      rw [hr]
    · exact StackMember.dotGeneral_plain_apply (φ₁ := .f32) (φ₂ := .f32) none _ _ _ _

theorem turn_at (h : FVec Ideal S2x8320x32x128 .f32) (b : Fin 2) (t : Fin 8320) (j : Fin 32) (e : Fin 128) :
    (turn h (ix4 b t j e) : EReal) = if e.val < 64 then - (h (ix4 b t j ⟨(e.val + 64) % 128, by omega⟩) : EReal) else h (ix4 b t j ⟨(e.val + 64) % 128, by omega⟩) := by
  unfold turn
  refine (concatenate_ofFn_apply (t := S2x8320x32x128) (s₁ := S2x8320x32x64) 3 (N := 2)
    (![Host.negf (extractStridedSlice S2x8320x32x64 ![0, 0, 0, 64] h slices_S2x8320x32x128_S2x8320x32x64_0_0_0_64),
      extractStridedSlice S2x8320x32x64 ![0, 0, 0, 0] h slices_S2x8320x32x128_S2x8320x32x64_0_0_0_0] : Fin 2 → FVec Ideal S2x8320x32x64 .f32)
    concatenates_S2x8320x32x64_S2x8320x32x64_S2x8320x32x128_d3 rfl 64 rfl (ix4 b t j e) ⟨e.val / 64, by omega⟩ rfl (ix4 b t j ⟨e.val % 64, by omega⟩) rfl ?_).trans ?_
  · intro a ha
    fin_cases a
    · rfl
    · rfl
    · rfl
    · exact absurd rfl ha
  · by_cases he : e.val < 64
    · have h' : (⟨e.val / 64, by omega⟩ : Fin 2) = 0 := Fin.ext (by show e.val / 64 = 0; omega)
      rw [h', if_pos he]
      refine congrArg (fun u : EReal => - u) (extractStridedSlice_apply _ _ _ _ _ ?_)
      intro a
      fin_cases a
      · exact (Nat.zero_add _).symm
      · exact (Nat.zero_add _).symm
      · exact (Nat.zero_add _).symm
      · show (e.val + 64) % 128 = 64 + e.val % 64
        omega
    · have h' : (⟨e.val / 64, by omega⟩ : Fin 2) = 1 := Fin.ext (by show e.val / 64 = 1; omega)
      rw [h', if_neg he]
      refine extractStridedSlice_apply _ h slices_S2x8320x32x128_S2x8320x32x64_0_0_0_0 _ _ ?_
      intro a
      fin_cases a
      · exact (Nat.zero_add _).symm
      · exact (Nat.zero_add _).symm
      · exact (Nat.zero_add _).symm
      · show (e.val + 64) % 128 = 0 + e.val % 64
        omega

theorem tbl_at (x : FVec Ideal S8320x128 .f32) (b : Fin 2) (t : Fin 8320) (j : Fin 32) (e : Fin 128) : tbl x (ix4 b t j e) = x (ix2 t e) := by
  unfold tbl
  exact (broadcastInDim_apply _ _ _ _ (ix4 0 t 0 e) (fun a => by fin_cases a <;> rfl)).trans (broadcastInDim_apply _ _ _ _ (ix2 t e) (fun a => by fin_cases a <;> rfl))

theorem ang2_at (t : Fin 8320) (e : Fin 128) : ang2 (ix2 t e) = Kernel5Ideal.ang (ix2 t ⟨e.val % 64, by omega⟩) :=
  (Kernel5Ideal.pair_at _ _ t e).trans (ite_self _)

/-- **The reference's result**, entry by entry. -/
theorem out_at (x : FVec Ideal S16640x2048 .f32) (w : FVec Ideal S2048x11344 .f32) (r : Fin 16640) (y : Fin 4096) :
    (out x w (ix2 r y) : EReal)
      = rot (∑ d : Fin 2048, (x (ix2 r d) : EReal) * w (ix2 d (wcol y))) (∑ d : Fin 2048, (x (ix2 r d) : EReal) * w (ix2 d (wcol ⟨pn y.val, pn_lt (n := 32) y.isLt⟩)))
          ((Host.cos Kernel5Ideal.ang : FVec Ideal S8320x64 .f32) (ix2 ⟨r.val % 8320, by omega⟩ ⟨y.val % 64, by omega⟩)) ((Host.sin Kernel5Ideal.ang : FVec Ideal S8320x64 .f32) (ix2 ⟨r.val % 8320, by omega⟩ ⟨y.val % 64, by omega⟩)) (y.val % 128) := by
  unfold out
  refine (shapeCast_apply (roped (heads (prod3 x w))) shapeCasts_S2x8320x32x128_S16640x4096 (ix2 r y) (ix4 (⟨r.val / 8320, by omega⟩ : Fin 2) (⟨r.val % 8320, by omega⟩ : Fin 8320) (⟨y.val / 128, by omega⟩ : Fin 32) (⟨y.val % 128, by omega⟩ : Fin 128)) ?_).trans ?_
  · rw [Shape.rowMajor_val_two, Shape.rowMajor_val_four]
    show ((r.val / 8320 * 8320 + r.val % 8320) * 32 + y.val / 128) * 128 + y.val % 128 = r.val * 4096 + y.val
    omega
  unfold roped rot
  have hi : (⟨y.val % 128 % 64, by omega⟩ : Fin 64) = ⟨y.val % 64, by omega⟩ := Fin.ext (by show y.val % 128 % 64 = y.val % 64; omega)
  have ha : ang2 (ix2 ⟨r.val % 8320, by omega⟩ ⟨y.val % 128, by omega⟩) = Kernel5Ideal.ang (ix2 ⟨r.val % 8320, by omega⟩ ⟨y.val % 64, by omega⟩) := by
    rw [ang2_at, hi]
  refine congrArg₂ (fun u v : EReal => u + v) (congrArg₂ (fun u v : EReal => u * v) (heads_at x w _ _ _ _ r ?_ y ?_) ?_) ?_
  · show r.val = r.val / 8320 * 8320 + r.val % 8320
    omega
  · show y.val = y.val / 128 * 128 + y.val % 128
    omega
  · refine (tbl_at _ _ _ _ _).trans ?_
    exact congrArg (FloatOps.cos (F := Ideal) (φ := .f32)) ha
  · have hs : (tbl (Host.sin ang2) (ix4 (⟨r.val / 8320, by omega⟩ : Fin 2) (⟨r.val % 8320, by omega⟩ : Fin 8320) (⟨y.val / 128, by omega⟩ : Fin 32) (⟨y.val % 128, by omega⟩ : Fin 128)) : EReal)
        = (Host.sin Kernel5Ideal.ang : FVec Ideal S8320x64 .f32) (ix2 ⟨r.val % 8320, by omega⟩ ⟨y.val % 64, by omega⟩) := by
      refine (tbl_at _ _ _ _ _).trans ?_
      exact congrArg (FloatOps.sin (F := Ideal) (φ := .f32)) ha
    refine (congrArg₂ (fun u v : EReal => u * v) (turn_at _ _ _ _ _) hs).trans ?_
    have hh := heads_at x w (⟨r.val / 8320, by omega⟩ : Fin 2) (⟨r.val % 8320, by omega⟩ : Fin 8320) (⟨y.val / 128, by omega⟩ : Fin 32) (⟨(y.val % 128 + 64) % 128, by omega⟩ : Fin 128) r
      (by show r.val = r.val / 8320 * 8320 + r.val % 8320; omega) ⟨pn y.val, pn_lt (n := 32) y.isLt⟩ (by show pn y.val = y.val / 128 * 128 + (y.val % 128 + 64) % 128; unfold pn; omega)
    by_cases he : y.val % 128 < 64
    · simp only [if_pos he]
      refine (congrArg (fun u : EReal => - u * _) hh).trans ?_
      rw [neg_mul, mul_neg]
    · simp only [if_neg he]
      exact congrArg (fun u : EReal => u * _) hh

end Cert.Reference5Ideal

end
-- ==== Proof.Merge.lean ====
/-
  The gated merge, its output projection, residual and norm, over the extended reals: the kernel's results and the
  reference's, entry by entry.
-/
module

public import proofs.«01_k».proof.Proof.Gen.Kernel6Ideal.Value
public import proofs.«01_k».proof.Proof.Gen.Reference6Ideal.Run
public import proofs.«01_k».proof.Proof.ExpertRead
public import Idealize.ShloMosaic.Lib.StackMember

@[expose] public section

set_option maxRecDepth 16384

noncomputable section

namespace Cert.Merge

open Idealize.ShloMosaic

/-- The merged row's entry: the two mixers' rows projected up, each times its gate. -/
def mrg (a b : Fin 1024 → EReal) (p q : Fin 2048 → EReal) (u w : Fin 1024 → Fin 2048 → EReal) (k : Fin 2048) : EReal :=
  p k * (∑ d, a d * u d k) + q k * (∑ d, b d * w d k)

/-- The residual row's entry: the row it is added to, plus the merged row's projection. -/
def res (a b : Fin 1024 → EReal) (p q : Fin 2048 → EReal) (u w : Fin 1024 → Fin 2048 → EReal) (h : Fin 2048 → EReal) (o : Fin 2048 → Fin 2048 → EReal)
    (y : Fin 2048) : EReal :=
  h y + ∑ k, mrg a b p q u w k * o k y

/-- A row normalised to unit mean square, times the gain. -/
def nrm (x : Fin 2048 → EReal) (g : Fin 2048 → EReal) (y : Fin 2048) : EReal :=
  x y * Ideal.rsqrt (Ideal.div (∑ d, x d * x d) (Ideal.ofBits .f32 0x45000000#32) + Ideal.ofBits .f32 0x3727C5AC#32) * g y

/-- The column of the first gate, -/
def lo (k : Fin 2048) : Fin 4096 := ⟨k.val, by omega⟩
/-- and of the second. -/
def hi (k : Fin 2048) : Fin 4096 := ⟨2048 + k.val, by omega⟩

end Cert.Merge

namespace Cert.Kernel6Ideal

open Cert.Kernel6Ideal.Gen Cert.Merge Idealize.ShloMosaic Idealize.ShloMosaic.TcCoe Idealize.SL.Sem
open Idealize.ShloMosaic.Pipeline (Dat)

variable (m : (ℓ : Loc nD τ sig) → Buf (Elt Ideal) ℓ) (c : Dev nD)

/-- The first mixer's output, -/
def argA : FVec Ideal S16640x1024 .f32 := m ((c : Thread nD τ).loc main_arg0)
/-- the second's, -/
def argB : FVec Ideal S16640x1024 .f32 := m ((c : Thread nD τ).loc main_arg1)
/-- the gates, -/
def argG : FVec Ideal S16640x4096 .f32 := m ((c : Thread nD τ).loc main_arg2)
/-- the rows the merge is added to, -/
def argH : FVec Ideal S16640x2048 .f32 := m ((c : Thread nD τ).loc main_arg3)
/-- the first projection up, -/
def argU : FVec Ideal S1024x2048 .f32 := m ((c : Thread nD τ).loc main_arg4)
/-- the second, -/
def argW : FVec Ideal S1024x2048 .f32 := m ((c : Thread nD τ).loc main_arg5)
/-- the output's projection, -/
def argO : FVec Ideal S2048x2048 .f32 := m ((c : Thread nD τ).loc main_arg6)
/-- and the norm's gain. -/
def argN : FVec Ideal S2048 .f32 := m ((c : Thread nD τ).loc main_arg7)

theorem V6 : (V m c main_v6 : FVec Ideal S16640x1024 .bf16) = (truncf .bf16 (argA m c) bitsLt_bf16_f32 : FVec Ideal S16640x1024 .bf16) := by
  show StableHlo.after hostOps0 (fun b => m (c, b)) (Proc.devRef .tc main_v6) = _
  after_results
  rfl
theorem V7 : (V m c main_v7 : FVec Ideal S16640x1024 .bf16) = (truncf .bf16 (argB m c) bitsLt_bf16_f32 : FVec Ideal S16640x1024 .bf16) := by
  show StableHlo.after hostOps0 (fun b => m (c, b)) (Proc.devRef .tc main_v7) = _
  after_results
  rfl
theorem V8 : (V m c main_v8 : FVec Ideal S16640x4096 .bf16) = (truncf .bf16 (argG m c) bitsLt_bf16_f32 : FVec Ideal S16640x4096 .bf16) := by
  show StableHlo.after hostOps0 (fun b => m (c, b)) (Proc.devRef .tc main_v8) = _
  after_results
  rfl
theorem V9 : (V m c main_v9 : FVec Ideal S1024x2048 .bf16) = (truncf .bf16 (argU m c) bitsLt_bf16_f32 : FVec Ideal S1024x2048 .bf16) := by
  show StableHlo.after hostOps0 (fun b => m (c, b)) (Proc.devRef .tc main_v9) = _
  after_results
  rfl
theorem V10 : (V m c main_v10 : FVec Ideal S1024x2048 .bf16) = (truncf .bf16 (argW m c) bitsLt_bf16_f32 : FVec Ideal S1024x2048 .bf16) := by
  show StableHlo.after hostOps0 (fun b => m (c, b)) (Proc.devRef .tc main_v10) = _
  after_results
  rfl
theorem V11 : (V m c main_v11 : FVec Ideal S2048x2048 .bf16) = (truncf .bf16 (argO m c) bitsLt_bf16_f32 : FVec Ideal S2048x2048 .bf16) := by
  show StableHlo.after hostOps0 (fun b => m (c, b)) (Proc.devRef .tc main_v11) = _
  after_results
  rfl
theorem V12 : (V m c main_v12 : FVec Ideal S1x2048 .f32) = (shapeCast S1x2048 (argN m c) shapeCasts_S2048_S1x2048 : FVec Ideal S1x2048 .f32) := by
  show StableHlo.after hostOps0 (fun b => m (c, b)) (Proc.devRef .tc main_v12) = _
  after_results
  rfl

theorem pay4_at (x0 x1 : Vec Ideal S256x1024 .bf16) (x2 x3 : Vec Ideal S256x2048 .bf16) (x4 : Vec Ideal S256x2048 .f32) (x5 x6 : Vec Ideal S1024x2048 .bf16) (x7 : Vec Ideal S2048x2048 .bf16)
    (ρ : Fin 256) (y : Fin 2048) :
    (k0_pay4 (F := Ideal) x0 x5 x1 x6 x2 x3 x7 x4 (ix2 ρ y) : EReal)
      = res (fun d => x0 (ix2 ρ d)) (fun d => x1 (ix2 ρ d)) (fun k => x2 (ix2 ρ k)) (fun k => x3 (ix2 ρ k)) (fun d k => x5 (ix2 d k)) (fun d k => x6 (ix2 d k)) (fun k => x4 (ix2 ρ k))
          (fun k l => x7 (ix2 k l)) y := by
  have up : ∀ (x : Vec Ideal S256x1024 .bf16) (w : Vec Ideal S1024x2048 .bf16) (k : Fin 2048),
      (matmul (F := Ideal) (φ₁ := .bf16) (φ₂ := .bf16) dot_S256x1024_S1024x2048_S256x2048_1_0_0_1_n_n none (shapeCast S256x1024 x shapeCasts_S256x1024_S256x1024) (shapeCast S1024x2048 w shapeCasts_S1024x2048_S1024x2048) (constant S256x2048 .f32 0x00000000#32) (ix2 ρ k) : EReal)
        = ∑ d : Fin 1024, (x (ix2 ρ d) : EReal) * w (ix2 d k) := by
    intro x w k
    refine (Ideal.matmul_plain_apply (φ₁ := .bf16) (φ₂ := .bf16) none _ _ _ _ _).trans ?_
    show Ideal.ofBits .f32 0x00000000#32 + _ = _
    rw [Expert.zero_lit, zero_add, shapeCast_self, shapeCast_self]
    rfl
  unfold k0_pay4 res
  refine congrArg₂ (fun u v : EReal => u + v) rfl ((Ideal.matmul_plain_apply (φ₁ := .bf16) (φ₂ := .bf16) none _ _ _ _ _).trans ?_)
  show Ideal.ofBits .f32 0x00000000#32 + _ = _
  rw [Expert.zero_lit, zero_add]
  refine Finset.sum_congr rfl fun k _ => congrArg₂ (fun u v : EReal => u * v) ?_ ?_
  · unfold mrg
    refine congrArg₂ (fun u v : EReal => u + v) (congrArg₂ (fun u v : EReal => u * v) ?_ (up _ _ _)) (congrArg₂ (fun u v : EReal => u * v) ?_ (up _ _ _))
    · rw [shapeCast_self]; rfl
    · rw [shapeCast_self]; rfl
  · rw [shapeCast_self]
    rfl

theorem pay6_at (x0 x1 : Vec Ideal S256x1024 .bf16) (x2 x3 : Vec Ideal S256x2048 .bf16) (x4 : Vec Ideal S256x2048 .f32) (x5 x6 : Vec Ideal S1024x2048 .bf16) (x7 : Vec Ideal S2048x2048 .bf16) (x8 : Vec Ideal S1x2048 .f32)
    (ρ : Fin 256) (y : Fin 2048) :
    (k0_pay6 (F := Ideal) (k0_pay4 x0 x5 x1 x6 x2 x3 x7 x4) (k0_pay5 x0 x5 x1 x6 x2 x3 x7 x4) (Scalar.ofBits .f32 0x45000000#32) x8 (ix2 ρ y) : EReal)
      = nrm (fun y => k0_pay4 (F := Ideal) x0 x5 x1 x6 x2 x3 x7 x4 (ix2 ρ y)) (fun y => x8 (ix2 0 y)) y := by
  unfold k0_pay5
  generalize k0_pay4 (F := Ideal) x0 x5 x1 x6 x2 x3 x7 x4 = z
  pointwise [k0_pay6, nrm]

/-- What a point leaves in the residual's block, -/
theorem outs11 (t : Fin cfg0.N) : (outsAt0 m c t.val t.isLt).1
    = k0_pay4 (F := Ideal) (iblk m c 0 t) (iblk m c 5 t) (iblk m c 1 t) (iblk m c 6 t) (iblk m c 2 t) (iblk m c 3 t) (iblk m c 7 t) (iblk m c 4 t) := by
  by_cases h : t.val % 65 = 0
  · rw [outsAt0_A m c t h]
    frame_out
  · rw [outsAt0_B m c t h]
    frame_out

/-- and in the normalised rows'. -/
theorem outs12 (t : Fin cfg0.N) : (outsAt0 m c t.val t.isLt).2.1
    = k0_pay6 (F := Ideal) (k0_pay4 (iblk m c 0 t) (iblk m c 5 t) (iblk m c 1 t) (iblk m c 6 t) (iblk m c 2 t) (iblk m c 3 t) (iblk m c 7 t) (iblk m c 4 t))
        (k0_pay5 (iblk m c 0 t) (iblk m c 5 t) (iblk m c 1 t) (iblk m c 6 t) (iblk m c 2 t) (iblk m c 3 t) (iblk m c 7 t) (iblk m c 4 t)) (Scalar.ofBits .f32 0x45000000#32) (iblk m c 8 t) := by
  by_cases h : t.val % 65 = 0
  · rw [outsAt0_A m c t h]
    frame_out
  · rw [outsAt0_B m c t h]
    frame_out

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 1] := (by decide +kernel : ∀ t : Fin grid0.N, win0_3.index t = ![t.val, 1])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

theorem blk0_at (t : Fin cfg0.N) (ρ : Fin 256) (d : Fin 1024) (r : Fin 16640) (hr : r.val = t.val * 256 + ρ.val) :
    (iblk m c 0 t : FVec Ideal S256x1024 .bf16) (ix2 ρ d) = argA m c (ix2 r d) := by
  refine Eq.trans (congrArg (V m c main_v6 : FVec Ideal S16640x1024 .bf16) (funext fun a => Fin.ext ?_)) (congrFun (V6 m c) _)
  show win0_0.index t a * win0_0.size a + 1 * ((ix2 ρ d : S256x1024.Idx) a).val = _
  rw [idx0]
  fin_cases a
  · show t.val * 256 + 1 * ρ.val = r.val
    omega
  · show 0 * 1024 + 1 * d.val = d.val
    omega

theorem blk1_at (t : Fin cfg0.N) (ρ : Fin 256) (d : Fin 1024) (r : Fin 16640) (hr : r.val = t.val * 256 + ρ.val) :
    (iblk m c 1 t : FVec Ideal S256x1024 .bf16) (ix2 ρ d) = argB m c (ix2 r d) := by
  refine Eq.trans (congrArg (V m c main_v7 : FVec Ideal S16640x1024 .bf16) (funext fun a => Fin.ext ?_)) (congrFun (V7 m c) _)
  show win0_1.index t a * win0_1.size a + 1 * ((ix2 ρ d : S256x1024.Idx) a).val = _
  rw [idx1]
  fin_cases a
  · show t.val * 256 + 1 * ρ.val = r.val
    omega
  · show 0 * 1024 + 1 * d.val = d.val
    omega

theorem blk2_at (t : Fin cfg0.N) (ρ : Fin 256) (d : Fin 2048) (r : Fin 16640) (hr : r.val = t.val * 256 + ρ.val) :
    (iblk m c 2 t : FVec Ideal S256x2048 .bf16) (ix2 ρ d) = argG m c (ix2 r (lo d)) := by
  refine Eq.trans (congrArg (V m c main_v8 : FVec Ideal S16640x4096 .bf16) (funext fun a => Fin.ext ?_)) (congrFun (V8 m c) _)
  show win0_2.index t a * win0_2.size a + 1 * ((ix2 ρ d : S256x2048.Idx) a).val = _
  rw [idx2]
  fin_cases a
  · show t.val * 256 + 1 * ρ.val = r.val
    omega
  · show 0 * 2048 + 1 * d.val = d.val
    omega

theorem blk3_at (t : Fin cfg0.N) (ρ : Fin 256) (d : Fin 2048) (r : Fin 16640) (hr : r.val = t.val * 256 + ρ.val) :
    (iblk m c 3 t : FVec Ideal S256x2048 .bf16) (ix2 ρ d) = argG m c (ix2 r (hi d)) := by
  refine Eq.trans (congrArg (V m c main_v8 : FVec Ideal S16640x4096 .bf16) (funext fun a => Fin.ext ?_)) (congrFun (V8 m c) _)
  show win0_3.index t a * win0_3.size a + 1 * ((ix2 ρ d : S256x2048.Idx) a).val = _
  rw [idx3]
  fin_cases a
  · show t.val * 256 + 1 * ρ.val = r.val
    omega
  · show 1 * 2048 + 1 * d.val = 2048 + d.val
    omega

theorem blk4_at (t : Fin cfg0.N) (ρ : Fin 256) (d : Fin 2048) (r : Fin 16640) (hr : r.val = t.val * 256 + ρ.val) :
    (iblk m c 4 t : FVec Ideal S256x2048 .f32) (ix2 ρ d) = argH m c (ix2 r d) := by
  refine Eq.trans (congrArg (V m c main_arg3 : FVec Ideal S16640x2048 .f32) (funext fun a => Fin.ext ?_)) (congrFun (V_main_arg3 m c) _)
  show win0_4.index t a * win0_4.size a + 1 * ((ix2 ρ d : S256x2048.Idx) a).val = _
  rw [idx4]
  fin_cases a
  · show t.val * 256 + 1 * ρ.val = r.val
    omega
  · show 0 * 2048 + 1 * d.val = d.val
    omega

theorem blk5_at (t : Fin cfg0.N) (d : Fin 1024) (k : Fin 2048) :
    (iblk m c 5 t : FVec Ideal S1024x2048 .bf16) (ix2 d k) = argU m c (ix2 d k) := by
  refine Eq.trans (congrArg (V m c main_v9 : FVec Ideal S1024x2048 .bf16) (funext fun a => Fin.ext ?_)) (congrFun (V9 m c) _)
  show win0_5.index t a * win0_5.size a + 1 * ((ix2 d k : S1024x2048.Idx) a).val = _
  rw [idx5]
  fin_cases a
  · show 0 * 1024 + 1 * d.val = d.val
    omega
  · show 0 * 2048 + 1 * k.val = k.val
    omega

theorem blk6_at (t : Fin cfg0.N) (d : Fin 1024) (k : Fin 2048) :
    (iblk m c 6 t : FVec Ideal S1024x2048 .bf16) (ix2 d k) = argW m c (ix2 d k) := by
  refine Eq.trans (congrArg (V m c main_v10 : FVec Ideal S1024x2048 .bf16) (funext fun a => Fin.ext ?_)) (congrFun (V10 m c) _)
  show win0_6.index t a * win0_6.size a + 1 * ((ix2 d k : S1024x2048.Idx) a).val = _
  rw [idx6]
  fin_cases a
  · show 0 * 1024 + 1 * d.val = d.val
    omega
  · show 0 * 2048 + 1 * k.val = k.val
    omega

theorem blk7_at (t : Fin cfg0.N) (d : Fin 2048) (k : Fin 2048) :
    (iblk m c 7 t : FVec Ideal S2048x2048 .bf16) (ix2 d k) = argO m c (ix2 d k) := by
  refine Eq.trans (congrArg (V m c main_v11 : FVec Ideal S2048x2048 .bf16) (funext fun a => Fin.ext ?_)) (congrFun (V11 m c) _)
  show win0_7.index t a * win0_7.size a + 1 * ((ix2 d k : S2048x2048.Idx) a).val = _
  rw [idx7]
  fin_cases a
  · show 0 * 2048 + 1 * d.val = d.val
    omega
  · show 0 * 2048 + 1 * k.val = k.val
    omega

theorem blk8_at (t : Fin cfg0.N) (y : Fin 2048) :
    (iblk m c 8 t : FVec Ideal S1x2048 .f32) (ix2 0 y) = argN m c (ix1 y) := by
  refine Eq.trans (congrArg (V m c main_v12 : FVec Ideal S1x2048 .f32) (show _ = ix2 0 y from funext fun a => Fin.ext ?_))
    ((congrFun (V12 m c) _).trans (shapeCast_apply (argN m c) shapeCasts_S2048_S1x2048 (ix2 0 y) (ix1 y) ?_))
  · show win0_8.index t a * win0_8.size a + 1 * ((ix2 0 y : S1x2048.Idx) a).val = _
    rw [idx8]
    fin_cases a
    · rfl
    · show 0 * 2048 + 1 * y.val = y.val
      omega
  · rw [Shape.rowMajor_val_two, Shape.rowMajor_val_one]
    show y.val = 0 * 2048 + y.val
    omega

/-- The residual row's entry, of the arguments. -/
def resOf (r : Fin 16640) (y : Fin 2048) : EReal :=
  res (fun d => argA m c (ix2 r d)) (fun d => argB m c (ix2 r d)) (fun k => argG m c (ix2 r (lo k))) (fun k => argG m c (ix2 r (hi k))) (fun d k => argU m c (ix2 d k)) (fun d k => argW m c (ix2 d k))
    (fun k => argH m c (ix2 r k)) (fun k l => argO m c (ix2 k l)) y

theorem pay4_blk (t : Fin cfg0.N) (ρ : Fin 256) (y : Fin 2048) (r : Fin 16640) (hr : r.val = t.val * 256 + ρ.val) :
    (k0_pay4 (F := Ideal) (iblk m c 0 t) (iblk m c 5 t) (iblk m c 1 t) (iblk m c 6 t) (iblk m c 2 t) (iblk m c 3 t) (iblk m c 7 t) (iblk m c 4 t) (ix2 ρ y) : EReal) = resOf m c r y := by
  refine (pay4_at _ _ _ _ _ _ _ _ _ _).trans ?_
  unfold resOf
  have e0 := funext fun d => blk0_at m c t ρ d r hr
  have e1 := funext fun d => blk1_at m c t ρ d r hr
  have e2 := funext fun d => blk2_at m c t ρ d r hr
  have e3 := funext fun d => blk3_at m c t ρ d r hr
  have e4 := funext fun d => blk4_at m c t ρ d r hr
  have e5 := funext fun d => funext fun k => blk5_at m c t d k
  have e6 := funext fun d => funext fun k => blk6_at m c t d k
  have e7 := funext fun d => funext fun k => blk7_at m c t d k
  rw [e0, e1, e2, e3, e4, e5, e6, e7]

theorem covers11 : win0_11.Covers := by decide +kernel
theorem covers12 : win0_12.Covers := by decide +kernel

/-- **The kernel's residual rows**: they are `G` if `G`'s entries are the residual's. -/
theorem result11_eq (G : FVec Ideal S16640x2048 .f32) (hG : ∀ (r : Fin 16640) (y : Fin 2048), (G (ix2 r y) : EReal) = resOf m c r y) :
    (dats m 0 c).arrAt 11 cfg0.N = G := by
  refine Dat.arrAt_eq_of_covers _ 11 _ covers11 fun t hf y => ?_
  have h0 : (y (0 : Fin 2)).val < 256 := (y (0 : Fin 2)).isLt
  have h1 : (y (1 : Fin 2)).val < 2048 := (y (1 : Fin 2)).isLt
  have ht : t.val < 65 := t.isLt
  obtain ⟨r, hr⟩ : ∃ r : Fin 16640, r.val = t.val * 256 + (y (0 : Fin 2)).val := ⟨⟨_, by omega⟩, rfl⟩
  have hG' := hG r (y (1 : Fin 2))
  blk_simp
  rw [after0_11, outs11]
  refine Eq.trans (congrArg (k0_pay4 (F := Ideal) _ _ _ _ _ _ _ _) (show (y : S256x2048.Idx) = ix2 (y (0 : Fin 2)) (y (1 : Fin 2)) from ?_)) ((pay4_blk m c t _ _ r hr).trans ?_)
  · funext a; fin_cases a <;> rfl
  refine hG'.symm.trans (congrArg G ?_)
  funext a; apply Fin.ext
  refine Eq.trans ?_ (show win0_11.index t a * win0_11.size a + 1 * (y a).val = _ from rfl)
  rw [idx11]
  fin_cases a
  · show r.val = t.val * 256 + 1 * (y (0 : Fin 2)).val
    omega
  · show (y (1 : Fin 2)).val = 0 * 2048 + 1 * (y (1 : Fin 2)).val
    omega

/-- **The kernel's normalised rows**: they are `G` if `G`'s entries are the normalised residual's. -/
theorem result12_eq (G : FVec Ideal S16640x2048 .bf16) (hG : ∀ (r : Fin 16640) (y : Fin 2048), (G (ix2 r y) : EReal) = nrm (resOf m c r) (fun y => argN m c (ix1 y)) y) :
    (dats m 0 c).arrAt 12 cfg0.N = G := by
  refine Dat.arrAt_eq_of_covers _ 12 _ covers12 fun t hf y => ?_
  have h0 : (y (0 : Fin 2)).val < 256 := (y (0 : Fin 2)).isLt
  have h1 : (y (1 : Fin 2)).val < 2048 := (y (1 : Fin 2)).isLt
  have ht : t.val < 65 := t.isLt
  obtain ⟨r, hr⟩ : ∃ r : Fin 16640, r.val = t.val * 256 + (y (0 : Fin 2)).val := ⟨⟨_, by omega⟩, rfl⟩
  have hG' := hG r (y (1 : Fin 2))
  blk_simp
  rw [after0_12, outs12]
  refine Eq.trans (congrArg (k0_pay6 (F := Ideal) _ _ _ _) (show (y : S256x2048.Idx) = ix2 (y (0 : Fin 2)) (y (1 : Fin 2)) from ?_)) ((pay6_at _ _ _ _ _ _ _ _ _ _ _).trans ?_)
  · funext a; fin_cases a <;> rfl
  have e : (fun k => (k0_pay4 (F := Ideal) (iblk m c 0 t) (iblk m c 5 t) (iblk m c 1 t) (iblk m c 6 t) (iblk m c 2 t) (iblk m c 3 t) (iblk m c 7 t) (iblk m c 4 t) (ix2 (y (0 : Fin 2)) k) : EReal))
      = resOf m c r := funext fun k => pay4_blk m c t _ k r hr
  have e8 := funext fun k => blk8_at m c t k
  refine Eq.trans (congrArg₂ (fun u v => nrm u v (y (1 : Fin 2))) e e8) (hG'.symm.trans (congrArg G ?_))
  funext a; apply Fin.ext
  refine Eq.trans ?_ (show win0_12.index t a * win0_12.size a + 1 * (y a).val = _ from rfl)
  rw [idx12]
  fin_cases a
  · show r.val = t.val * 256 + 1 * (y (0 : Fin 2)).val
    omega
  · show (y (1 : Fin 2)).val = 0 * 2048 + 1 * (y (1 : Fin 2)).val
    omega

end Cert.Kernel6Ideal

namespace Cert.Reference6Ideal

open Idealize.ShloMosaic Idealize.ShloMosaic.TcCoe Cert.Reference6Ideal.Gen Cert.Reference6Ideal.Value Cert.Merge

/-- A product up, -/
abbrev up (a : FVec Ideal S16640x1024 .f32) (u : FVec Ideal S1024x2048 .f32) : FVec Ideal S16640x2048 .f32 :=
  Host.dotGeneral (φ₁ := .f32) (φ₂ := .f32) dot_S16640x1024_S1024x2048_S16640x2048_1_0_0_1_n_n none a u

/-- the reference's residual rows, of its arguments, -/
def out1 (a b : FVec Ideal S16640x1024 .f32) (g : FVec Ideal S16640x4096 .f32) (h : FVec Ideal S16640x2048 .f32) (u w : FVec Ideal S1024x2048 .f32) (o : FVec Ideal S2048x2048 .f32) :
    FVec Ideal S16640x2048 .f32 :=
  addf h (Host.dotGeneral (φ₁ := .f32) (φ₂ := .f32) dot_S16640x2048_S2048x2048_S16640x2048_1_0_0_1_n_n none
    (addf (mulf (extractStridedSlice S16640x2048 ![0, 0] g slices_S16640x4096_S16640x2048_0_0) (up a u))
      (mulf (extractStridedSlice S16640x2048 ![0, 2048] g slices_S16640x4096_S16640x2048_0_2048) (up b w))) o)

/-- and its normalised rows, of the residual rows and the gain. -/
def out2 (x : FVec Ideal S16640x2048 .f32) (n : FVec Ideal S2048 .f32) : FVec Ideal S16640x2048 .bf16 :=
  truncf .bf16 (mulf (mulf x (broadcastInDim S16640x2048 ![0, 1] bcast_S16640x1_S16640x2048_0_1 (Host.rsqrt (addf (Host.divf (broadcastInDim S16640x1 ![0] bcast_S16640_S16640x1_0
    (Host.reduceAdd (mulf x x) (constant S_ .f32 0x00000000#32) reducesTo_S16640x2048_S16640_d1 h_S_)) (broadcastInDim S16640x1 ![] bcast_S_S16640x1 (constant S_ .f32 0x45000000#32)))
      (broadcastInDim S16640x1 ![] bcast_S_S16640x1 (constant S_ .f32 0x3727C5AC#32)))))) (broadcastInDim S16640x2048 ![0, 1] bcast_S1x2048_S16640x2048_0_1 (broadcastInDim S1x2048 ![1] bcast_S2048_S1x2048_1 n))) bitsLt_bf16_f32

theorem out1_at (a b : FVec Ideal S16640x1024 .f32) (g : FVec Ideal S16640x4096 .f32) (h : FVec Ideal S16640x2048 .f32) (u w : FVec Ideal S1024x2048 .f32) (o : FVec Ideal S2048x2048 .f32)
    (r : Fin 16640) (y : Fin 2048) :
    (out1 a b g h u w o (ix2 r y) : EReal)
      = res (fun d => a (ix2 r d)) (fun d => b (ix2 r d)) (fun k => g (ix2 r (lo k))) (fun k => g (ix2 r (hi k))) (fun d k => u (ix2 d k)) (fun d k => w (ix2 d k)) (fun k => h (ix2 r k))
          (fun k l => o (ix2 k l)) y := by
  unfold out1 res
  refine congrArg₂ (fun u v : EReal => u + v) rfl ((StackMember.dotGeneral_plain_apply (φ₁ := .f32) (φ₂ := .f32) none _ _ _ _).trans ?_)
  refine Finset.sum_congr rfl fun k _ => congrArg₂ (fun u v : EReal => u * v) ?_ rfl
  unfold mrg
  refine congrArg₂ (fun u v : EReal => u + v) (congrArg₂ (fun u v : EReal => u * v) ?_ ?_) (congrArg₂ (fun u v : EReal => u * v) ?_ ?_)
  · refine extractStridedSlice_apply _ _ _ _ (ix2 r (lo k)) ?_
    rw [Fin.forall_fin_two]
    exact ⟨(Nat.zero_add _).symm, (Nat.zero_add _).symm⟩
  · exact StackMember.dotGeneral_plain_apply (φ₁ := .f32) (φ₂ := .f32) none _ _ _ _
  · refine extractStridedSlice_apply _ _ _ _ (ix2 r (hi k)) ?_
    rw [Fin.forall_fin_two]
    exact ⟨(Nat.zero_add _).symm, rfl⟩
  · exact StackMember.dotGeneral_plain_apply (φ₁ := .f32) (φ₂ := .f32) none _ _ _ _

theorem out2_at (x : FVec Ideal S16640x2048 .f32) (n : FVec Ideal S2048 .f32) (r : Fin 16640) (y : Fin 2048) :
    (out2 x n (ix2 r y) : EReal) = nrm (fun y => x (ix2 r y)) (fun y => n (ix1 y)) y := by
  pointwise [out2, nrm]

/-- **The reference's normalised rows**, entry by entry of its arguments. -/
theorem out2_of (a b : FVec Ideal S16640x1024 .f32) (g : FVec Ideal S16640x4096 .f32) (h : FVec Ideal S16640x2048 .f32) (u w : FVec Ideal S1024x2048 .f32) (o : FVec Ideal S2048x2048 .f32)
    (n : FVec Ideal S2048 .f32) (r : Fin 16640) (y : Fin 2048) :
    (out2 (out1 a b g h u w o) n (ix2 r y) : EReal)
      = nrm (res (fun d => a (ix2 r d)) (fun d => b (ix2 r d)) (fun k => g (ix2 r (lo k))) (fun k => g (ix2 r (hi k))) (fun d k => u (ix2 d k)) (fun d k => w (ix2 d k)) (fun k => h (ix2 r k))
          (fun k l => o (ix2 k l))) (fun y => n (ix1 y)) y := by
  refine (out2_at _ _ _ _).trans ?_
  rw [funext fun y => out1_at a b g h u w o r y]

end Cert.Reference6Ideal

end
-- ==== Proof.IndexRope.lean ====
/-
  The indexer's queries' and keys' projection, over the extended reals: the kernel's result and the reference's, entry by
  entry. A row's entry is its product times a cosine plus its partner's product, half a head away, times a signed sine; the
  key's columns stand at both ends of the last 256, between them zeros.
-/
module

public import proofs.«01_k».proof.Proof.Gen.Kernel7Ideal.Value
public import proofs.«01_k».proof.Proof.Gen.Reference7Ideal.Run
public import proofs.«01_k».proof.Proof.ExpertRead
public import Idealize.ShloMosaic.Lib.StackMember
public import Idealize.ShloMosaic.Lib.KernelVsHost

@[expose] public section

set_option maxRecDepth 16384

noncomputable section

namespace Cert.IndexRope

open Idealize.ShloMosaic

/-- The column of the weights that a result's column is the product with, -/
def wcol (y : Fin 1280) : Fin 11344 := ⟨if y.val < 1024 then 3072 + y.val else 4096 + y.val % 64, by split <;> omega⟩

/-- but for the columns of zeros: -/
def gap (y : ℕ) : Prop := 1088 ≤ y ∧ y < 1216

instance (y : ℕ) : Decidable (gap y) := inferInstanceAs (Decidable (_ ∧ _))

/-- a weight as the product takes it, -/
def wv (w : FVec Ideal ⟨2, ![2048, 11344]⟩ .f32) (d : Fin 2048) (y : Fin 1280) : EReal := if gap y.val then 0 else w (ix2 d (wcol y))

/-- and the product of a row with a column. -/
def dotp (x : FVec Ideal ⟨2, ![16640, 2048]⟩ .f32) (w : FVec Ideal ⟨2, ![2048, 11344]⟩ .f32) (r : Fin 16640) (y : Fin 1280) : EReal :=
  ∑ d : Fin 2048, (x (ix2 r d) : EReal) * wv w d y

theorem dotp_gap (x : FVec Ideal ⟨2, ![16640, 2048]⟩ .f32) (w : FVec Ideal ⟨2, ![2048, 11344]⟩ .f32) (r : Fin 16640) (y : Fin 1280) (h : gap y.val) : dotp x w r y = 0 :=
  Finset.sum_eq_zero fun d _ => by rw [wv, if_pos h, mul_zero]

theorem dotp_col (x : FVec Ideal ⟨2, ![16640, 2048]⟩ .f32) (w : FVec Ideal ⟨2, ![2048, 11344]⟩ .f32) (r : Fin 16640) (y : Fin 1280) (h : ¬ gap y.val) :
    dotp x w r y = ∑ d : Fin 2048, (x (ix2 r d) : EReal) * w (ix2 d (wcol y)) :=
  Finset.sum_congr rfl fun d _ => by rw [wv, if_neg h]

/-- A column's partner: the one half a head away. -/
def pn (y : ℕ) : ℕ := 64 * (y / 64) + (y % 64 + 32) % 64

theorem pn_lt {n y : ℕ} (h : y < 64 * n) : pn y < 64 * n := by unfold pn; omega

theorem pn_add (q l : ℕ) : pn (q * 640 + l) = q * 640 + pn l := by unfold pn; omega

theorem gap_pn {y : ℕ} (h : gap y) : gap (pn y) := by unfold gap pn at *; omega

/-- One entry, of the product, its partner's product, and the angle's cosine and sine. -/
def rot (u v a b : EReal) (e : ℕ) : EReal := u * a + v * (if e < 32 then - b else b)

theorem rot_zero (a b : EReal) (e : ℕ) : rot 0 0 a b e = 0 := by unfold rot; rw [zero_mul, zero_mul, zero_add]

end Cert.IndexRope

namespace Cert.Kernel7Ideal

open Cert.Kernel7Ideal.Gen Cert.IndexRope Idealize.ShloMosaic Idealize.ShloMosaic.TcCoe Idealize.SL.Sem
open Idealize.ShloMosaic.Pipeline (Dat)

variable (m : (ℓ : Loc nD τ sig) → Buf (Elt Ideal) ℓ) (c : Dev nD)

/-- The rows, -/
def rows : FVec Ideal S16640x2048 .f32 := m ((c : Thread nD τ).loc main_arg0)
/-- the weights, -/
def wts : FVec Ideal S2048x11344 .f32 := m ((c : Thread nD τ).loc main_arg1)

/-- the angle of each position and half-head lane, -/
def ang : FVec Ideal S8320x32 .f32 :=
  mulf (broadcastInDim S8320x32 ![0, 1] bcast_S8320x1_S8320x32_0_1 (broadcastInDim S8320x1 ![0] bcast_S8320_S8320x1_0 (subf (sitofp .f32 (iotaInDim S8320 32 0)) (broadcastInDim S8320 ![] bcast_S_S8320 (constant S_ .f32 0x42E00000#32)))))
    (broadcastInDim S8320x32 ![0, 1] bcast_S1x32_S8320x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- a table as the call is given it. -/
def tiled (x : FVec Ideal S8320x64 .f32) : FVec Ideal S8320x128 .f32 :=
  shapeCast S8320x128 (broadcastInDim S1x8320x2x64 ![0, 1, 2, 3] bcast_S1x8320x1x64_S1x8320x2x64_0_1_2_3 (shapeCast S1x8320x1x64 x shapeCasts_S8320x64_S1x8320x1x64)) shapeCasts_S1x8320x2x64_S8320x128

theorem V38 : (V m c main_v38 : FVec Ideal S16640x2048 .bf16) = (truncf .bf16 (rows m c) bitsLt_bf16_f32 : FVec Ideal S16640x2048 .bf16) := by
  show StableHlo.after hostOps0 (fun b => m (c, b)) (Proc.devRef .tc main_v38) = _
  after_results
  rfl
theorem V39 : (V m c main_v39 : FVec Ideal S1x1280 .f32) = (broadcastInDim S1x1280 ![] bcast_S_S1x1280 (constant S_ .f32 0x3F800000#32 : FVec Ideal S_ .f32) : FVec Ideal S1x1280 .f32) := by
  show StableHlo.after hostOps0 (fun b => m (c, b)) (Proc.devRef .tc main_v39) = _
  after_results
theorem V34 : (V m c main_v34 : FVec Ideal S8320x128 .f32) = tiled (concatenate S8320x64 1 [⟨S8320x32, Host.cos ang⟩, ⟨S8320x32, Host.cos ang⟩] concatenates_S8320x32_S8320x32_S8320x64_d1) := by
  show StableHlo.after hostOps0 (fun b => m (c, b)) (Proc.devRef .tc main_v34) = _
  after_results
  rfl
theorem V37 : (V m c main_v37 : FVec Ideal S8320x128 .f32) = tiled (concatenate S8320x64 1 [⟨S8320x32, Host.negf (Host.sin ang)⟩, ⟨S8320x32, Host.sin ang⟩] concatenates_S8320x32_S8320x32_S8320x64_d1) := by
  show StableHlo.after hostOps0 (fun b => m (c, b)) (Proc.devRef .tc main_v37) = _
  after_results
  rfl

/-- The zeros' columns, -/
def zcols : FVec Ideal S2048x64 .f32 := broadcastInDim S2048x64 ![] bcast_S_S2048x64 (constant S_ .f32 0x00000000#32)
/-- the key's, -/
def kcols : FVec Ideal S2048x64 .f32 := extractStridedSlice S2048x64 ![0, 4096] (wts m c) slices_S2048x11344_S2048x64_0_4096
/-- and all columns. -/
def cols : FVec Ideal S2048x1280 .f32 := concatenate S2048x1280 1
    [⟨S2048x1024, extractStridedSlice S2048x1024 ![0, 3072] (wts m c) slices_S2048x11344_S2048x1024_0_3072⟩, ⟨S2048x64, kcols m c⟩, ⟨S2048x64, zcols⟩, ⟨S2048x64, zcols⟩, ⟨S2048x64, kcols m c⟩]
    concatenates_S2048x1024_S2048x64_S2048x64_S2048x64_S2048x64_S2048x1280_d1

theorem V5 : (V m c main_v5 : FVec Ideal S2048x1280 .bf16) = (truncf .bf16 (cols m c) bitsLt_bf16_f32 : FVec Ideal S2048x1280 .bf16) := by
  show StableHlo.after hostOps0 (fun b => m (c, b)) (Proc.devRef .tc main_v5) = _
  after_results
  rfl

theorem kcols_at (d : Fin 2048) (l : Fin 64) (y : Fin 1280) (hy : ¬ y.val < 1024) (hl : l.val = y.val % 64) : kcols m c (ix2 d l) = wts m c (ix2 d (wcol y)) := by
  unfold kcols
  refine extractStridedSlice_apply _ _ _ _ _ ?_
  rw [Fin.forall_fin_two]
  refine ⟨(Nat.zero_add _).symm, ?_⟩
  show (if y.val < 1024 then 3072 + y.val else 4096 + y.val % 64) = 4096 + l.val
  rw [if_neg hy, hl]

theorem cols_at (d : Fin 2048) (y : Fin 1280) : (cols m c (ix2 d y) : EReal) = wv (wts m c) d y := by
  unfold cols wv
  by_cases h0 : y.val < 1024
  · rw [if_neg (by unfold gap; omega)]
    refine (concatenate_apply_piece (t := S2048x1280) 1 _ _ _ 0 (by show 0 < 5; omega) S2048x1024 _ rfl rfl 0 rfl (ix2 d ⟨y.val, h0⟩) ?_ (Nat.zero_add _)).trans (extractStridedSlice_apply _ _ _ _ _ ?_)
    · intro b hb
      fin_cases b
      · rfl
      · exact absurd rfl hb
    · rw [Fin.forall_fin_two]
      refine ⟨(Nat.zero_add _).symm, ?_⟩
      show (if y.val < 1024 then 3072 + y.val else 4096 + y.val % 64) = 3072 + y.val
      rw [if_pos h0]
  by_cases h1 : y.val < 1088
  · rw [if_neg (by unfold gap; omega)]
    refine (concatenate_apply_piece (t := S2048x1280) 1 _ _ _ 1 (by show 1 < 5; omega) S2048x64 _ rfl rfl 1024 rfl (ix2 d ⟨y.val % 64, by omega⟩) ?_ ?_).trans (kcols_at m c d _ y h0 rfl)
    · intro b hb
      fin_cases b
      · rfl
      · exact absurd rfl hb
    · show 1024 + y.val % 64 = y.val
      omega
  by_cases h2 : y.val < 1152
  · rw [if_pos (by unfold gap; omega)]
    refine (concatenate_apply_piece (t := S2048x1280) 1 _ _ _ 2 (by show 2 < 5; omega) S2048x64 _ rfl rfl 1088 rfl (ix2 d ⟨y.val % 64, by omega⟩) ?_ ?_).trans Expert.zero_lit
    · intro b hb
      fin_cases b
      · rfl
      · exact absurd rfl hb
    · show 1088 + y.val % 64 = y.val
      omega
  by_cases h3 : y.val < 1216
  · rw [if_pos (by unfold gap; omega)]
    refine (concatenate_apply_piece (t := S2048x1280) 1 _ _ _ 3 (by show 3 < 5; omega) S2048x64 _ rfl rfl 1152 rfl (ix2 d ⟨y.val % 64, by omega⟩) ?_ ?_).trans Expert.zero_lit
    · intro b hb
      fin_cases b
      · rfl
      · exact absurd rfl hb
    · show 1152 + y.val % 64 = y.val
      omega
  rw [if_neg (by unfold gap; omega)]
  refine (concatenate_apply_piece (t := S2048x1280) 1 _ _ _ 4 (by show 4 < 5; omega) S2048x64 _ rfl rfl 1216 rfl (ix2 d ⟨y.val % 64, by omega⟩) ?_ ?_).trans (kcols_at m c d _ y h0 rfl)
  · intro b hb
    fin_cases b
    · rfl
    · exact absurd rfl hb
  · show 1216 + y.val % 64 = y.val
    omega

theorem wts_at (d : Fin 2048) (y : Fin 1280) : ((V m c main_v5 : FVec Ideal S2048x1280 .bf16) (ix2 d y) : EReal) = wv (wts m c) d y :=
  (congrFun (V5 m c) _).trans (cols_at m c d y)

/-! ## The tables -/

theorem tiled_at (x : FVec Ideal S8320x64 .f32) (t : Fin 8320) (e : Fin 128) : tiled x (ix2 t e) = x (ix2 t ⟨e.val % 64, by omega⟩) := by
  unfold tiled
  refine (shapeCast_apply _ _ _ (ix4 0 t (⟨e.val / 64, by omega⟩ : Fin 2) (⟨e.val % 64, by omega⟩ : Fin 64)) ?_).trans ((broadcastInDim_apply _ _ _ _ (ix4 0 t 0 (⟨e.val % 64, by omega⟩ : Fin 64)) (fun a => by fin_cases a <;> rfl)).trans (shapeCast_apply _ _ _ _ ?_))
  · rw [Shape.rowMajor_val_four, Shape.rowMajor_val_two]
    show ((0 * 8320 + t.val) * 2 + e.val / 64) * 64 + e.val % 64 = t.val * 128 + e.val
    omega
  · rw [Shape.rowMajor_val_four, Shape.rowMajor_val_two]
    show t.val * 64 + e.val % 64 = ((0 * 8320 + t.val) * 1 + 0) * 64 + e.val % 64
    omega

/-- Two half-head tables side by side. -/
theorem pair_at (x y : FVec Ideal S8320x32 .f32) (t : Fin 8320) (e : Fin 64) :
    concatenate S8320x64 1 [⟨S8320x32, x⟩, ⟨S8320x32, y⟩] concatenates_S8320x32_S8320x32_S8320x64_d1 (ix2 t e)
      = if e.val < 32 then x (ix2 t ⟨e.val % 32, by omega⟩) else y (ix2 t ⟨e.val % 32, by omega⟩) := by
  refine (concatenate_ofFn_apply (t := S8320x64) (s₁ := S8320x32) 1 (N := 2) (![x, y] : Fin 2 → FVec Ideal S8320x32 .f32)
    concatenates_S8320x32_S8320x32_S8320x64_d1 rfl 32 rfl (ix2 t e) ⟨e.val / 32, by omega⟩ rfl (ix2 t ⟨e.val % 32, by omega⟩) rfl ?_).trans ?_
  · intro b hb
    fin_cases b
    · rfl
    · exact absurd rfl hb
  · by_cases h : e.val < 32
    · have h' : (⟨e.val / 32, by omega⟩ : Fin 2) = 0 := Fin.ext (by show e.val / 32 = 0; omega)
      rw [h', if_pos h]
      rfl
    · have h' : (⟨e.val / 32, by omega⟩ : Fin 2) = 1 := Fin.ext (by show e.val / 32 = 1; omega)
      rw [h', if_neg h]
      rfl

theorem cos_at (t : Fin 8320) (e : Fin 128) : ((V m c main_v34 : FVec Ideal S8320x128 .f32) (ix2 t e) : EReal) = (Host.cos ang : FVec Ideal S8320x32 .f32) (ix2 t ⟨e.val % 64 % 32, by omega⟩) := by
  refine (congrFun (V34 m c) _).trans ((tiled_at _ t e).trans ((pair_at _ _ t _).trans ?_))
  split <;> rfl

theorem sin_at (t : Fin 8320) (e : Fin 128) : ((V m c main_v37 : FVec Ideal S8320x128 .f32) (ix2 t e) : EReal)
    = if e.val % 64 < 32 then - ((Host.sin ang : FVec Ideal S8320x32 .f32) (ix2 t ⟨e.val % 64 % 32, by omega⟩) : EReal) else (Host.sin ang : FVec Ideal S8320x32 .f32) (ix2 t ⟨e.val % 64 % 32, by omega⟩) := by
  refine (congrFun (V37 m c) _).trans ((tiled_at _ t e).trans ((pair_at _ _ t _).trans ?_))
  split <;> rfl

/-! ## The body -/

theorem prod_at (x : Vec Ideal S640x2048 .bf16) (w : Vec Ideal S2048x640 .bf16) (sc : Vec Ideal S1x640 .f32) (ρ : Fin 640) (y : Fin 640) :
    (k0_pay2 (F := Ideal) x w sc (ix2 ρ y) : EReal) = (∑ d : Fin 2048, (x (ix2 ρ d) : EReal) * w (ix2 d y)) * sc (ix2 0 y) := by
  unfold k0_pay2
  refine congrArg₂ (fun u v : EReal => u * v) ?_ ?_
  · refine (Ideal.matmul_plain_apply (φ₁ := .bf16) (φ₂ := .bf16) none _ _ _ _ _).trans ?_
    show Ideal.ofBits .f32 0x00000000#32 + _ = _
    rw [Expert.zero_lit, zero_add]
    rw [shapeCast_self, shapeCast_self]
    rfl
  · refine (broadcastTo_apply _ _ _ (ix2 0 y) (by rw [Fin.forall_fin_two]; exact ⟨rfl, rfl⟩)).trans ?_
    rw [shapeCast_self]

theorem slh : ∀ n : Fin 5, S640x640.Slices ![0, 128 * n.val] S640x128 := by decide

/-- Which lanes take the rotation from the right, of each lane's number. -/
def mskOf (v13 : IVec S640x128 32) : IVec S640x128 1 :=
  let v42 : BitVec 1 := Scalar.cmpi .eq 64#32 0#32
  let v43 : BitVec 32 := Scalar.select v42 1#32 64#32
  have v44 : IVec S640x128 32 := broadcast S640x128 v43
  have v45 : IVec S640x128 32 := remsi v13 v44
  have v46 : IVec S640x128 32 := broadcast S640x128 0#32
  have v47 : IVec S640x128 1 := cmpi .ne v45 v46
  have v48 : IVec S640x128 32 := broadcast S640x128 0#32
  have v49 : IVec S640x128 1 := cmpi .slt v45 v48
  let v50 : BitVec 1 := Scalar.cmpi .slt v43 0#32
  have v51 : IVec S640x128 1 := broadcast S640x128 v50
  have v52 : IVec S640x128 1 := broadcastTo S640x128 v51 broadcasts_S640x128_S640x128
  have v53 : IVec S640x128 1 := xori v49 v52
  have v54 : IVec S640x128 1 := andi v53 v47
  have v55 : IVec S640x128 32 := broadcast S640x128 v43
  have v56 : IVec S640x128 32 := addi v45 v55
  have v57 : IVec S640x128 32 := select v54 v56 v45
  have v58 : IVec S640x128 32 := broadcast S640x128 32#32
  cmpi .slt v57 v58

theorem msk_word : ∀ l : Fin 128, mskOf (fun _ => BitVec.ofNat 32 l.val) (ix2 0 0) = if l.val % 64 < 32 then 1#1 else 0#1 := by decide +kernel

/-- The lanes' numbers. -/
abbrev lanes : IVec S640x128 32 := iota .tc S640x128 32 [1] iota_S640x128_d1_w32

theorem mskOf_at (x : IVec S640x128 32) (j : S640x128.Idx) : mskOf x j = mskOf (fun _ => x j) (ix2 0 0) := by
  unfold mskOf
  rfl

theorem lanes_at (ρ : Fin 640) (l : Fin 128) : lanes (ix2 ρ l) = BitVec.ofNat 32 l.val := iota_single_apply _ _ _ _ _ _

theorem msk_at (ρ : Fin 640) (l : Fin 128) : mskOf lanes (ix2 ρ l) = if l.val % 64 < 32 then 1#1 else 0#1 := by
  rw [mskOf_at, lanes_at]
  exact msk_word l

/-- One pair of heads of a block. -/
def head (v : FVec Ideal S640x640 .f32) (cs sn : FVec Ideal S640x128 .f32) (n : Fin 5) : FVec Ideal S640x128 .f32 :=
  addf (mulf (extractStridedSlice S640x128 ![0, 128 * n.val] v (slh n)) cs)
    (mulf (select (mskOf lanes) (dynamicRotate 1 96#32 none (extractStridedSlice S640x128 ![0, 128 * n.val] v (slh n)) rotates_S640x128_d1)
      (dynamicRotate 1 32#32 none (extractStridedSlice S640x128 ![0, 128 * n.val] v (slh n)) rotates_S640x128_d1)) sn)

theorem sel_at (m : IVec S640x128 1) (a b : FVec Ideal S640x128 .f32) (j : S640x128.Idx) :
    select m a b j = Scalar.select (m j) (a j) (b j) := rfl

theorem rot_at (v : FVec Ideal S640x640 .f32) (n : Fin 5) (sb : BitVec 32) (ρ : Fin 640) (l l' : Fin 128)
    (hl : l'.val = (l.val + 128 - sb.toNat % 128) % 128) :
    (dynamicRotate 1 sb none (extractStridedSlice S640x128 ![0, 128 * n.val] v (slh n)) rotates_S640x128_d1 (ix2 ρ l) : EReal)
      = v (ix2 ρ ⟨128 * n.val + l'.val, by omega⟩) := by
  refine Eq.trans (b := (extractStridedSlice S640x128 ![0, 128 * n.val] v (slh n) (ix2 ρ l') : EReal)) ?_ ?_
  · refine dynamicRotate_apply (s := S640x128) 1 sb (extractStridedSlice S640x128 ![0, 128 * n.val] v (slh n)) rotates_S640x128_d1 (ix2 ρ l) (ix2 ρ l') ?_
    intro b
    fin_cases b
    · rfl
    · exact hl
  · refine extractStridedSlice_apply _ _ _ _ _ ?_
    rw [Fin.forall_fin_two]
    exact ⟨(Nat.zero_add _).symm, rfl⟩

theorem head_at (v : FVec Ideal S640x640 .f32) (cs sn : FVec Ideal S640x128 .f32) (ρ : Fin 640) (y : Fin 640) :
    (head v cs sn ⟨y.val / 128, by omega⟩ (ix2 ρ ⟨y.val % 128, by omega⟩) : EReal)
      = (v (ix2 ρ y) : EReal) * cs (ix2 ρ ⟨y.val % 128, by omega⟩) + (v (ix2 ρ ⟨pn y.val, pn_lt (n := 10) y.isLt⟩) : EReal) * sn (ix2 ρ ⟨y.val % 128, by omega⟩) := by
  unfold head
  refine congrArg₂ (fun a b : EReal => a + b) (congrArg (fun a : EReal => a * cs (ix2 ρ ⟨y.val % 128, by omega⟩)) ?_) (congrArg (fun a : EReal => a * sn (ix2 ρ ⟨y.val % 128, by omega⟩)) ?_)
  · refine extractStridedSlice_apply _ _ _ _ _ ?_
    rw [Fin.forall_fin_two]
    exact ⟨(Nat.zero_add _).symm, (Nat.div_add_mod _ _).symm⟩
  · refine (sel_at _ _ _ _).trans ?_
    rw [msk_at]
    by_cases h : y.val % 128 % 64 < 32
    · rw [if_pos h]
      refine (rot_at v ⟨y.val / 128, by omega⟩ 96#32 ρ ⟨y.val % 128, by omega⟩ ⟨(y.val % 128 + 32) % 128, by omega⟩ ?_).trans ?_
      · show (y.val % 128 + 32) % 128 = (y.val % 128 + 128 - 96 % 128) % 128
        omega
      · refine congrArg (fun k : Fin 640 => (v (ix2 ρ k) : EReal)) (Fin.ext ?_)
        show 128 * (y.val / 128) + (y.val % 128 + 32) % 128 = pn y.val
        unfold pn
        omega
    · rw [if_neg h]
      refine (rot_at v ⟨y.val / 128, by omega⟩ 32#32 ρ ⟨y.val % 128, by omega⟩ ⟨(y.val % 128 + 96) % 128, by omega⟩ ?_).trans ?_
      · show (y.val % 128 + 96) % 128 = (y.val % 128 + 128 - 32 % 128) % 128
        omega
      · refine congrArg (fun k : Fin 640 => (v (ix2 ρ k) : EReal)) (Fin.ext ?_)
        show 128 * (y.val / 128) + (y.val % 128 + 96) % 128 = pn y.val
        unfold pn
        omega

/-- The block a grid point stores. -/
def blkOf (x : Vec Ideal S640x2048 .bf16) (w : Vec Ideal S2048x640 .bf16) (cs sn : Vec Ideal S640x128 .f32) (sc : Vec Ideal S1x640 .f32) : FVec Ideal S640x640 .bf16 :=
  truncf .bf16 (concatenate S640x640 1 (List.ofFn fun n : Fin 5 => ⟨S640x128, head (k0_pay2 x w sc) (k0_pay3 cs) (k0_pay4 sn) n⟩)
      concatenates_S640x128_S640x128_S640x128_S640x128_S640x128_S640x640_d1 : FVec Ideal S640x640 .f32) bitsLt_bf16_f32

theorem out_eq (x : Vec Ideal S640x2048 .bf16) (w : Vec Ideal S2048x640 .bf16) (cs sn : Vec Ideal S640x128 .f32) (sc : Vec Ideal S1x640 .f32) :
    out0_5 (F := Ideal) x w cs sn sc = blkOf x w cs sn sc := by
  unfold_out out0_5
  simp (disch := decide) only [View.canon_cons_unit_lit', View.ld_unit_lit']
  unfold k0_pay1 k0_pay23 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay5
  rfl

theorem blkOf_at (x : Vec Ideal S640x2048 .bf16) (w : Vec Ideal S2048x640 .bf16) (cs sn : Vec Ideal S640x128 .f32) (sc : Vec Ideal S1x640 .f32) (ρ : Fin 640) (y : Fin 640) :
    (blkOf x w cs sn sc (ix2 ρ y) : EReal)
      = (k0_pay2 (F := Ideal) x w sc (ix2 ρ y) : EReal) * cs (ix2 ρ ⟨y.val % 128, by omega⟩)
        + (k0_pay2 (F := Ideal) x w sc (ix2 ρ ⟨pn y.val, pn_lt (n := 10) y.isLt⟩) : EReal) * sn (ix2 ρ ⟨y.val % 128, by omega⟩) := by
  unfold blkOf
  refine (concatenate_ofFn_apply (t := S640x640) (s₁ := S640x128) 1 (N := 5) (fun n => head (k0_pay2 x w sc) (k0_pay3 cs) (k0_pay4 sn) n)
    concatenates_S640x128_S640x128_S640x128_S640x128_S640x128_S640x640_d1 rfl 128 rfl (ix2 ρ y) ⟨y.val / 128, by omega⟩ rfl
    (ix2 ρ ⟨y.val % 128, by omega⟩) rfl ?_).trans ((head_at _ _ _ ρ y).trans ?_)
  · intro b hb
    fin_cases b
    · rfl
    · exact absurd rfl hb
  · unfold k0_pay3 k0_pay4
    rw [shapeCast_self, shapeCast_self]

/-! ## The blocks -/

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2 % 13, 0] := (by decide +kernel : ∀ t : Fin grid0.N, win0_2.index t = ![t.val / 2 % 13, 0])
theorem idx3 : ∀ t : Fin cfg0.N, win0_3.index t = ![t.val / 2 % 13, 0] := (by decide +kernel : ∀ t : Fin grid0.N, win0_3.index t = ![t.val / 2 % 13, 0])
theorem idx4 : ∀ t : Fin cfg0.N, win0_4.index t = ![0, t.val % 2] := (by decide +kernel : ∀ t : Fin grid0.N, win0_4.index t = ![0, t.val % 2])
theorem idx5 : ∀ t : Fin cfg0.N, win0_5.index t = ![t.val / 2, t.val % 2] := (by decide +kernel : ∀ t : Fin grid0.N, win0_5.index t = ![t.val / 2, t.val % 2])

theorem blk0_at (t : Fin cfg0.N) (ρ : Fin 640) (d : Fin 2048) (r : Fin 16640) (hr : r.val = t.val / 2 * 640 + ρ.val) :
    (iblk m c 0 t : FVec Ideal S640x2048 .bf16) (ix2 ρ d) = rows m c (ix2 r d) := by
  refine Eq.trans (congrArg (V m c main_v38 : FVec Ideal S16640x2048 .bf16) (funext fun a => Fin.ext ?_)) (congrFun (V38 m c) _)
  show win0_0.index t a * win0_0.size a + 1 * ((ix2 ρ d : S640x2048.Idx) a).val = _
  rw [idx0]
  fin_cases a
  · show t.val / 2 * 640 + 1 * ρ.val = r.val
    omega
  · show 0 * 2048 + 1 * d.val = d.val
    omega

theorem blk1_at (t : Fin cfg0.N) (d : Fin 2048) (l : Fin 640) (y : Fin 1280) (hy : y.val = t.val % 2 * 640 + l.val) :
    ((iblk m c 1 t : FVec Ideal S2048x640 .bf16) (ix2 d l) : EReal) = wv (wts m c) d y := by
  refine Eq.trans (congrArg (V m c main_v5 : FVec Ideal S2048x1280 .bf16) (show _ = ix2 d y from funext fun a => Fin.ext ?_)) (wts_at m c d y)
  show win0_1.index t a * win0_1.size a + 1 * ((ix2 d l : S2048x640.Idx) a).val = _
  rw [idx1]
  fin_cases a
  · show 0 * 2048 + 1 * d.val = d.val
    omega
  · show t.val % 2 * 640 + 1 * l.val = y.val
    omega

theorem blk2_at (t : Fin cfg0.N) (ρ : Fin 640) (e : Fin 128) (p : Fin 8320) (hp : p.val = t.val / 2 % 13 * 640 + ρ.val) :
    (iblk m c 2 t : FVec Ideal S640x128 .f32) (ix2 ρ e) = (V m c main_v34 : FVec Ideal S8320x128 .f32) (ix2 p e) := by
  refine congrArg (V m c main_v34 : FVec Ideal S8320x128 .f32) (funext fun a => Fin.ext ?_)
  show win0_2.index t a * win0_2.size a + 1 * ((ix2 ρ e : S640x128.Idx) a).val = _
  rw [idx2]
  fin_cases a
  · show t.val / 2 % 13 * 640 + 1 * ρ.val = p.val
    omega
  · show 0 * 128 + 1 * e.val = e.val
    omega

theorem blk3_at (t : Fin cfg0.N) (ρ : Fin 640) (e : Fin 128) (p : Fin 8320) (hp : p.val = t.val / 2 % 13 * 640 + ρ.val) :
    (iblk m c 3 t : FVec Ideal S640x128 .f32) (ix2 ρ e) = (V m c main_v37 : FVec Ideal S8320x128 .f32) (ix2 p e) := by
  refine congrArg (V m c main_v37 : FVec Ideal S8320x128 .f32) (funext fun a => Fin.ext ?_)
  show win0_3.index t a * win0_3.size a + 1 * ((ix2 ρ e : S640x128.Idx) a).val = _
  rw [idx3]
  fin_cases a
  · show t.val / 2 % 13 * 640 + 1 * ρ.val = p.val
    omega
  · show 0 * 128 + 1 * e.val = e.val
    omega

theorem blk4_at (t : Fin cfg0.N) (l : Fin 640) : ((iblk m c 4 t : FVec Ideal S1x640 .f32) (ix2 0 l) : EReal) = (1 : EReal) :=
  (congrFun (V39 m c) _).trans Expert.one_lit

theorem prod_blk (t : Fin cfg0.N) (ρ : Fin 640) (l : Fin 640) (r : Fin 16640) (hr : r.val = t.val / 2 * 640 + ρ.val) (y : Fin 1280) (hy : y.val = t.val % 2 * 640 + l.val) :
    (k0_pay2 (F := Ideal) (iblk m c 0 t) (iblk m c 1 t) (iblk m c 4 t) (ix2 ρ l) : EReal) = dotp (rows m c) (wts m c) r y :=
  (prod_at _ _ _ ρ l).trans ((congrArg₂ (fun u v : EReal => u * v)
    (Finset.sum_congr rfl fun d _ => congrArg₂ (fun u v : EReal => u * v) (blk0_at m c t ρ d r hr) (blk1_at m c t d l y hy)) (blk4_at m c t l)).trans (mul_one _))

theorem covers5 : win0_5.Covers := by decide +kernel

/-- **The kernel's result**: it is `G` if `G`'s entries are the rotated products. -/
theorem result_eq (G : FVec Ideal S16640x1280 .bf16)
    (hG : ∀ (r : Fin 16640) (y : Fin 1280), (G (ix2 r y) : EReal)
      = rot (dotp (rows m c) (wts m c) r y) (dotp (rows m c) (wts m c) r ⟨pn y.val, pn_lt (n := 20) y.isLt⟩) ((Host.cos ang : FVec Ideal S8320x32 .f32) (ix2 ⟨r.val % 8320, by omega⟩ ⟨y.val % 32, by omega⟩)) ((Host.sin ang : FVec Ideal S8320x32 .f32) (ix2 ⟨r.val % 8320, by omega⟩ ⟨y.val % 32, by omega⟩)) (y.val % 64)) :
    (dats m 0 c).arrAt 5 cfg0.N = G := by
  refine Dat.arrAt_eq_of_covers _ 5 _ covers5 fun t hf y => ?_
  have h0 : (y (0 : Fin 2)).val < 640 := (y (0 : Fin 2)).isLt
  have h1 : (y (1 : Fin 2)).val < 640 := (y (1 : Fin 2)).isLt
  have ht : t.val < 52 := t.isLt
  obtain ⟨r, hr⟩ : ∃ r : Fin 16640, r.val = t.val / 2 * 640 + (y (0 : Fin 2)).val := ⟨⟨_, by omega⟩, rfl⟩
  obtain ⟨k, hk⟩ : ∃ k : Fin 1280, k.val = t.val % 2 * 640 + (y (1 : Fin 2)).val := ⟨⟨_, by omega⟩, rfl⟩
  have hG' := hG r k
  blk_simp
  rw [after0_5, out_eq]
  refine Eq.trans (congrArg (blkOf (iblk m c 0 t) (iblk m c 1 t) (iblk m c 2 t) (iblk m c 3 t) (iblk m c 4 t)) (show (y : S640x640.Idx) = ix2 (y (0 : Fin 2)) (y (1 : Fin 2)) from ?_)) ((blkOf_at _ _ _ _ _ (y (0 : Fin 2)) (y (1 : Fin 2))).trans ?_)
  · funext a; fin_cases a <;> rfl
  have hp : r.val % 8320 = t.val / 2 % 13 * 640 + (y (0 : Fin 2)).val := by omega
  have he : (y (1 : Fin 2)).val % 128 % 64 = k.val % 64 := by omega
  refine Eq.trans ?_ (hG'.symm.trans (congrArg G ?_))
  · unfold rot
    refine congrArg₂ (fun u v : EReal => u + v) (congrArg₂ (fun u v : EReal => u * v) (prod_blk m c t _ _ r hr k hk) ?_) (congrArg₂ (fun u v : EReal => u * v) (prod_blk m c t _ _ r hr _ ?_) ?_)
    · refine (blk2_at m c t _ _ ⟨r.val % 8320, by omega⟩ hp).trans ((cos_at m c _ _).trans ?_)
      refine congrArg (fun i => (Host.cos ang : FVec Ideal S8320x32 .f32) (ix2 ⟨r.val % 8320, by omega⟩ i)) (Fin.ext ?_)
      show (y (1 : Fin 2)).val % 128 % 64 % 32 = k.val % 32
      omega
    · show pn k.val = t.val % 2 * 640 + pn (y (1 : Fin 2)).val
      rw [hk, pn_add]
    · refine (blk3_at m c t _ _ ⟨r.val % 8320, by omega⟩ hp).trans ((sin_at m c _ _).trans ?_)
      have hi : k.val % 64 % 32 = k.val % 32 := by omega
      simp only [he, hi]
  · funext a; apply Fin.ext
    refine Eq.trans ?_ (show win0_5.index t a * win0_5.size a + 1 * (y a).val = _ from rfl)
    rw [idx5]
    fin_cases a
    · show r.val = t.val / 2 * 640 + 1 * (y (0 : Fin 2)).val
      omega
    · show k.val = t.val % 2 * 640 + 1 * (y (1 : Fin 2)).val
      omega

end Cert.Kernel7Ideal

namespace Cert.Reference7Ideal

open Idealize.ShloMosaic Idealize.ShloMosaic.TcCoe Idealize.SL.Sem Cert.Reference7Ideal.Gen Cert.Reference7Ideal.Value Cert.IndexRope

/-- The products by sequence and position, -/
def prod3 (x : FVec Ideal S16640x2048 .f32) (w : FVec Ideal S2048x11344 .f32) : FVec Ideal S2x8320x11344 .f32 :=
  shapeCast S2x8320x11344 (Host.dotGeneral (φ₁ := .f32) (φ₂ := .f32) dot_S16640x2048_S2048x11344_S16640x11344_1_0_0_1_n_n none x w) shapeCasts_S16640x11344_S2x8320x11344

/-- the queries' heads, -/
def qh (p : FVec Ideal S2x8320x11344 .f32) : FVec Ideal S2x8320x16x64 .f32 :=
  shapeCast S2x8320x16x64 (extractStridedSlice S2x8320x1024 ![0, 0, 3072] p slices_S2x8320x11344_S2x8320x1024_0_0_3072) shapeCasts_S2x8320x1024_S2x8320x16x64

/-- the key, -/
def kh (p : FVec Ideal S2x8320x11344 .f32) : FVec Ideal S2x8320x1x64 .f32 :=
  shapeCast S2x8320x1x64 (extractStridedSlice S2x8320x64 ![0, 0, 4096] p slices_S2x8320x11344_S2x8320x64_0_0_4096) shapeCasts_S2x8320x64_S2x8320x1x64

/-- the angle of each position and lane, -/
def ang2 : FVec Ideal S8320x64 .f32 :=
  concatenate S8320x64 1 [⟨S8320x32, Kernel7Ideal.ang⟩, ⟨S8320x32, Kernel7Ideal.ang⟩] concatenates_S8320x32_S8320x32_S8320x64_d1

/-- the queries: their halves changed over, the first one's sign too, -/
def turnQ (h : FVec Ideal S2x8320x16x64 .f32) : FVec Ideal S2x8320x16x64 .f32 :=
  concatenate S2x8320x16x64 3 [⟨S2x8320x16x32, Host.negf (extractStridedSlice S2x8320x16x32 ![0, 0, 0, 32] h slices_S2x8320x16x64_S2x8320x16x32_0_0_0_32)⟩,
    ⟨S2x8320x16x32, extractStridedSlice S2x8320x16x32 ![0, 0, 0, 0] h slices_S2x8320x16x64_S2x8320x16x32_0_0_0_0⟩] concatenates_S2x8320x16x32_S2x8320x16x32_S2x8320x16x64_d3

/-- a table for them, -/
def tblQ (x : FVec Ideal S8320x64 .f32) : FVec Ideal S2x8320x16x64 .f32 :=
  broadcastInDim S2x8320x16x64 ![0, 1, 2, 3] bcast_S1x8320x1x64_S2x8320x16x64_0_1_2_3 (broadcastInDim S1x8320x1x64 ![1, 3] bcast_S8320x64_S1x8320x1x64_1_3 x)

/-- rotated, -/
def ropedQ (h : FVec Ideal S2x8320x16x64 .f32) : FVec Ideal S2x8320x16x64 .f32 :=
  addf (mulf h (tblQ (Host.cos ang2))) (mulf (turnQ h) (tblQ (Host.sin ang2)))

/-- the key: their halves changed over, the first one's sign too, -/
def turnK (h : FVec Ideal S2x8320x1x64 .f32) : FVec Ideal S2x8320x1x64 .f32 :=
  concatenate S2x8320x1x64 3 [⟨S2x8320x1x32, Host.negf (extractStridedSlice S2x8320x1x32 ![0, 0, 0, 32] h slices_S2x8320x1x64_S2x8320x1x32_0_0_0_32)⟩,
    ⟨S2x8320x1x32, extractStridedSlice S2x8320x1x32 ![0, 0, 0, 0] h slices_S2x8320x1x64_S2x8320x1x32_0_0_0_0⟩] concatenates_S2x8320x1x32_S2x8320x1x32_S2x8320x1x64_d3

/-- a table for them, -/
def tblK (x : FVec Ideal S8320x64 .f32) : FVec Ideal S2x8320x1x64 .f32 :=
  broadcastInDim S2x8320x1x64 ![0, 1, 2, 3] bcast_S1x8320x1x64_S2x8320x1x64_0_1_2_3 (broadcastInDim S1x8320x1x64 ![1, 3] bcast_S8320x64_S1x8320x1x64_1_3 x)

/-- rotated, -/
def ropedK (h : FVec Ideal S2x8320x1x64 .f32) : FVec Ideal S2x8320x1x64 .f32 :=
  addf (mulf h (tblK (Host.cos ang2))) (mulf (turnK h) (tblK (Host.sin ang2)))

/-- the zeros, -/
def zh : FVec Ideal S2x8320x1x64 .f32 := broadcastInDim S2x8320x1x64 ![] bcast_S_S2x8320x1x64 (constant S_ .f32 0x00000000#32)

/-- all heads, -/
def heads (x : FVec Ideal S16640x2048 .f32) (w : FVec Ideal S2048x11344 .f32) : FVec Ideal S2x8320x20x64 .f32 :=
  concatenate S2x8320x20x64 2 [⟨S2x8320x16x64, ropedQ (qh (prod3 x w))⟩, ⟨S2x8320x1x64, ropedK (kh (prod3 x w))⟩, ⟨S2x8320x1x64, zh⟩, ⟨S2x8320x1x64, zh⟩, ⟨S2x8320x1x64, ropedK (kh (prod3 x w))⟩]
    concatenates_S2x8320x16x64_S2x8320x1x64_S2x8320x1x64_S2x8320x1x64_S2x8320x1x64_S2x8320x20x64_d2

/-- and the reference's result of its two arguments. -/
def out (x : FVec Ideal S16640x2048 .f32) (w : FVec Ideal S2048x11344 .f32) : FVec Ideal S16640x1280 .bf16 :=
  truncf .bf16 (shapeCast S16640x1280 (heads x w) shapeCasts_S2x8320x20x64_S16640x1280) bitsLt_bf16_f32

theorem res_eq (m : (ℓ : Loc nD τ sig) → Buf (Elt Ideal) ℓ) (c : Dev nD) :
    res_main_v53 m c = out (m ((c.tc : Thread nD τ).loc main_arg0)) (m ((c.tc : Thread nD τ).loc main_arg1)) := by
  unfold res_main_v53
  rfl

theorem prod3_at (x : FVec Ideal S16640x2048 .f32) (w : FVec Ideal S2048x11344 .f32) (b : Fin 2) (t : Fin 8320) (k : Fin 11344) (r : Fin 16640) (hr : r.val = b.val * 8320 + t.val) :
    (prod3 x w (ix3 b t k) : EReal) = ∑ d : Fin 2048, (x (ix2 r d) : EReal) * w (ix2 d k) := by
  unfold prod3
  refine (shapeCast_apply _ _ _ (ix2 r k) ?_).trans (StackMember.dotGeneral_plain_apply (φ₁ := .f32) (φ₂ := .f32) none _ _ _ _)
  rw [Shape.rowMajor_val_three, Shape.rowMajor_val_two]
  show r.val * 11344 + k.val = (b.val * 8320 + t.val) * 11344 + k.val
  rw [hr]

theorem qh_at (x : FVec Ideal S16640x2048 .f32) (w : FVec Ideal S2048x11344 .f32) (b : Fin 2) (t : Fin 8320) (j : Fin 16) (e : Fin 64)
    (r : Fin 16640) (hr : r.val = b.val * 8320 + t.val) (y : Fin 1280) (hy : y.val = j.val * 64 + e.val) :
    (qh (prod3 x w) (ix4 b t j e) : EReal) = dotp x w r y := by
  have hy' : y.val < 1024 := by omega
  rw [dotp_col x w r y (by unfold gap; omega)]
  unfold qh
  refine (shapeCast_apply _ _ _ (ix3 b t ⟨y.val, hy'⟩) ?_).trans ((extractStridedSlice_apply _ _ _ _ (ix3 b t (wcol y)) ?_).trans (prod3_at x w b t _ r hr))
  · rw [Shape.rowMajor_val_three, Shape.rowMajor_val_four]
    show (b.val * 8320 + t.val) * 1024 + y.val = ((b.val * 8320 + t.val) * 16 + j.val) * 64 + e.val
    omega
  · intro a
    fin_cases a
    · exact (Nat.zero_add _).symm
    · exact (Nat.zero_add _).symm
    · show (if y.val < 1024 then 3072 + y.val else 4096 + y.val % 64) = 3072 + y.val
      rw [if_pos hy']

theorem kh_at (x : FVec Ideal S16640x2048 .f32) (w : FVec Ideal S2048x11344 .f32) (b : Fin 2) (t : Fin 8320) (j : Fin 1) (e : Fin 64)
    (r : Fin 16640) (hr : r.val = b.val * 8320 + t.val) (y : Fin 1280) (h0 : ¬ y.val < 1024) (hg : ¬ gap y.val) (hy : y.val % 64 = e.val) :
    (kh (prod3 x w) (ix4 b t j e) : EReal) = dotp x w r y := by
  have hj : j.val < 1 := j.isLt
  rw [dotp_col x w r y hg]
  unfold kh
  refine (shapeCast_apply _ _ _ (ix3 b t e) ?_).trans ((extractStridedSlice_apply _ _ _ _ (ix3 b t (wcol y)) ?_).trans (prod3_at x w b t _ r hr))
  · rw [Shape.rowMajor_val_three, Shape.rowMajor_val_four]
    show (b.val * 8320 + t.val) * 64 + e.val = ((b.val * 8320 + t.val) * 1 + j.val) * 64 + e.val
    omega
  · intro a
    fin_cases a
    · exact (Nat.zero_add _).symm
    · exact (Nat.zero_add _).symm
    · show (if y.val < 1024 then 3072 + y.val else 4096 + y.val % 64) = 4096 + e.val
      rw [if_neg h0, hy]

theorem ang2_at (t : Fin 8320) (e : Fin 64) : ang2 (ix2 t e) = Kernel7Ideal.ang (ix2 t ⟨e.val % 32, by omega⟩) :=
  (Kernel7Ideal.pair_at _ _ t e).trans (ite_self _)

theorem turnQ_at (h : FVec Ideal S2x8320x16x64 .f32) (b : Fin 2) (t : Fin 8320) (j : Fin 16) (e : Fin 64) :
    (turnQ h (ix4 b t j e) : EReal) = if e.val < 32 then - (h (ix4 b t j ⟨(e.val + 32) % 64, by omega⟩) : EReal) else h (ix4 b t j ⟨(e.val + 32) % 64, by omega⟩) := by
  unfold turnQ
  refine (concatenate_ofFn_apply (t := S2x8320x16x64) (s₁ := S2x8320x16x32) 3 (N := 2)
    (![Host.negf (extractStridedSlice S2x8320x16x32 ![0, 0, 0, 32] h slices_S2x8320x16x64_S2x8320x16x32_0_0_0_32),
      extractStridedSlice S2x8320x16x32 ![0, 0, 0, 0] h slices_S2x8320x16x64_S2x8320x16x32_0_0_0_0] : Fin 2 → FVec Ideal S2x8320x16x32 .f32)
    concatenates_S2x8320x16x32_S2x8320x16x32_S2x8320x16x64_d3 rfl 32 rfl (ix4 b t j e) ⟨e.val / 32, by omega⟩ rfl (ix4 b t j ⟨e.val % 32, by omega⟩) rfl ?_).trans ?_
  · intro a ha
    fin_cases a
    · rfl
    · rfl
    · rfl
    · exact absurd rfl ha
  · by_cases he : e.val < 32
    · have h' : (⟨e.val / 32, by omega⟩ : Fin 2) = 0 := Fin.ext (by show e.val / 32 = 0; omega)
      rw [h', if_pos he]
      refine congrArg (fun u : EReal => - u) (extractStridedSlice_apply _ _ _ _ _ ?_)
      intro a
      fin_cases a
      · exact (Nat.zero_add _).symm
      · exact (Nat.zero_add _).symm
      · exact (Nat.zero_add _).symm
      · show (e.val + 32) % 64 = 32 + e.val % 32
        omega
    · have h' : (⟨e.val / 32, by omega⟩ : Fin 2) = 1 := Fin.ext (by show e.val / 32 = 1; omega)
      rw [h', if_neg he]
      refine extractStridedSlice_apply _ h slices_S2x8320x16x64_S2x8320x16x32_0_0_0_0 _ _ ?_
      intro a
      fin_cases a
      · exact (Nat.zero_add _).symm
      · exact (Nat.zero_add _).symm
      · exact (Nat.zero_add _).symm
      · show (e.val + 32) % 64 = 0 + e.val % 32
        omega

theorem tblQ_at (x : FVec Ideal S8320x64 .f32) (b : Fin 2) (t : Fin 8320) (j : Fin 16) (e : Fin 64) : tblQ x (ix4 b t j e) = x (ix2 t e) := by
  unfold tblQ
  exact (broadcastInDim_apply _ _ _ _ (ix4 0 t 0 e) (fun a => by fin_cases a <;> rfl)).trans (broadcastInDim_apply _ _ _ _ (ix2 t e) (fun a => by fin_cases a <;> rfl))

theorem ropedQ_at (h : FVec Ideal S2x8320x16x64 .f32) (b : Fin 2) (t : Fin 8320) (j : Fin 16) (e : Fin 64) :
    (ropedQ h (ix4 b t j e) : EReal) = rot (h (ix4 b t j e)) (h (ix4 b t j ⟨(e.val + 32) % 64, by omega⟩))
      ((Host.cos Kernel7Ideal.ang : FVec Ideal S8320x32 .f32) (ix2 t ⟨e.val % 32, by omega⟩)) ((Host.sin Kernel7Ideal.ang : FVec Ideal S8320x32 .f32) (ix2 t ⟨e.val % 32, by omega⟩)) e.val := by
  unfold ropedQ rot
  have hs : (tblQ (Host.sin ang2) (ix4 b t j e) : EReal) = (Host.sin Kernel7Ideal.ang : FVec Ideal S8320x32 .f32) (ix2 t ⟨e.val % 32, by omega⟩) :=
    (tblQ_at _ _ _ _ _).trans (congrArg (FloatOps.sin (F := Ideal) (φ := .f32)) (ang2_at t e))
  refine congrArg₂ (fun u v : EReal => u + v) (congrArg (fun v : EReal => h (ix4 b t j e) * v) ((tblQ_at _ _ _ _ _).trans (congrArg (FloatOps.cos (F := Ideal) (φ := .f32)) (ang2_at t e)))) ?_
  refine (congrArg₂ (fun u v : EReal => u * v) (turnQ_at _ _ _ _ _) hs).trans ?_
  by_cases he : e.val < 32
  · rw [if_pos he, if_pos he, neg_mul, mul_neg]
  · rw [if_neg he, if_neg he]

theorem turnK_at (h : FVec Ideal S2x8320x1x64 .f32) (b : Fin 2) (t : Fin 8320) (j : Fin 1) (e : Fin 64) :
    (turnK h (ix4 b t j e) : EReal) = if e.val < 32 then - (h (ix4 b t j ⟨(e.val + 32) % 64, by omega⟩) : EReal) else h (ix4 b t j ⟨(e.val + 32) % 64, by omega⟩) := by
  unfold turnK
  refine (concatenate_ofFn_apply (t := S2x8320x1x64) (s₁ := S2x8320x1x32) 3 (N := 2)
    (![Host.negf (extractStridedSlice S2x8320x1x32 ![0, 0, 0, 32] h slices_S2x8320x1x64_S2x8320x1x32_0_0_0_32),
      extractStridedSlice S2x8320x1x32 ![0, 0, 0, 0] h slices_S2x8320x1x64_S2x8320x1x32_0_0_0_0] : Fin 2 → FVec Ideal S2x8320x1x32 .f32)
    concatenates_S2x8320x1x32_S2x8320x1x32_S2x8320x1x64_d3 rfl 32 rfl (ix4 b t j e) ⟨e.val / 32, by omega⟩ rfl (ix4 b t j ⟨e.val % 32, by omega⟩) rfl ?_).trans ?_
  · intro a ha
    fin_cases a
    · rfl
    · rfl
    · rfl
    · exact absurd rfl ha
  · by_cases he : e.val < 32
    · have h' : (⟨e.val / 32, by omega⟩ : Fin 2) = 0 := Fin.ext (by show e.val / 32 = 0; omega)
      rw [h', if_pos he]
      refine congrArg (fun u : EReal => - u) (extractStridedSlice_apply _ _ _ _ _ ?_)
      intro a
      fin_cases a
      · exact (Nat.zero_add _).symm
      · exact (Nat.zero_add _).symm
      · exact (Nat.zero_add _).symm
      · show (e.val + 32) % 64 = 32 + e.val % 32
        omega
    · have h' : (⟨e.val / 32, by omega⟩ : Fin 2) = 1 := Fin.ext (by show e.val / 32 = 1; omega)
      rw [h', if_neg he]
      refine extractStridedSlice_apply _ h slices_S2x8320x1x64_S2x8320x1x32_0_0_0_0 _ _ ?_
      intro a
      fin_cases a
      · exact (Nat.zero_add _).symm
      · exact (Nat.zero_add _).symm
      · exact (Nat.zero_add _).symm
      · show (e.val + 32) % 64 = 0 + e.val % 32
        omega

theorem tblK_at (x : FVec Ideal S8320x64 .f32) (b : Fin 2) (t : Fin 8320) (j : Fin 1) (e : Fin 64) : tblK x (ix4 b t j e) = x (ix2 t e) := by
  unfold tblK
  exact (broadcastInDim_apply _ _ _ _ (ix4 0 t 0 e) (fun a => by fin_cases a <;> rfl)).trans (broadcastInDim_apply _ _ _ _ (ix2 t e) (fun a => by fin_cases a <;> rfl))

theorem ropedK_at (h : FVec Ideal S2x8320x1x64 .f32) (b : Fin 2) (t : Fin 8320) (j : Fin 1) (e : Fin 64) :
    (ropedK h (ix4 b t j e) : EReal) = rot (h (ix4 b t j e)) (h (ix4 b t j ⟨(e.val + 32) % 64, by omega⟩))
      ((Host.cos Kernel7Ideal.ang : FVec Ideal S8320x32 .f32) (ix2 t ⟨e.val % 32, by omega⟩)) ((Host.sin Kernel7Ideal.ang : FVec Ideal S8320x32 .f32) (ix2 t ⟨e.val % 32, by omega⟩)) e.val := by
  unfold ropedK rot
  have hs : (tblK (Host.sin ang2) (ix4 b t j e) : EReal) = (Host.sin Kernel7Ideal.ang : FVec Ideal S8320x32 .f32) (ix2 t ⟨e.val % 32, by omega⟩) :=
    (tblK_at _ _ _ _ _).trans (congrArg (FloatOps.sin (F := Ideal) (φ := .f32)) (ang2_at t e))
  refine congrArg₂ (fun u v : EReal => u + v) (congrArg (fun v : EReal => h (ix4 b t j e) * v) ((tblK_at _ _ _ _ _).trans (congrArg (FloatOps.cos (F := Ideal) (φ := .f32)) (ang2_at t e)))) ?_
  refine (congrArg₂ (fun u v : EReal => u * v) (turnK_at _ _ _ _ _) hs).trans ?_
  by_cases he : e.val < 32
  · rw [if_pos he, if_pos he, neg_mul, mul_neg]
  · rw [if_neg he, if_neg he]

theorem ropedK_of (x : FVec Ideal S16640x2048 .f32) (w : FVec Ideal S2048x11344 .f32) (b : Fin 2) (t : Fin 8320) (e : Fin 64)
    (r : Fin 16640) (hr : r.val = b.val * 8320 + t.val) (y : Fin 1280) (h0 : ¬ y.val < 1024) (hg : ¬ gap y.val) (hy : y.val % 64 = e.val) :
    (ropedK (kh (prod3 x w)) (ix4 b t 0 e) : EReal) = rot (dotp x w r y) (dotp x w r ⟨pn y.val, pn_lt (n := 20) y.isLt⟩)
      ((Host.cos Kernel7Ideal.ang : FVec Ideal S8320x32 .f32) (ix2 t ⟨y.val % 32, by omega⟩)) ((Host.sin Kernel7Ideal.ang : FVec Ideal S8320x32 .f32) (ix2 t ⟨y.val % 32, by omega⟩)) (y.val % 64) := by
  have hi : (⟨y.val % 32, by omega⟩ : Fin 32) = ⟨e.val % 32, by omega⟩ := Fin.ext (by show y.val % 32 = e.val % 32; omega)
  rw [ropedK_at, hi, hy, kh_at x w b t 0 e r hr y h0 hg hy, kh_at x w b t 0 ⟨(e.val + 32) % 64, by omega⟩ r hr ⟨pn y.val, pn_lt (n := 20) y.isLt⟩ (by show ¬ pn y.val < 1024; unfold pn; omega)
    (by show ¬ gap (pn y.val); unfold gap pn at *; omega) (by show pn y.val % 64 = (e.val + 32) % 64; unfold pn; omega)]

theorem heads_at (x : FVec Ideal S16640x2048 .f32) (w : FVec Ideal S2048x11344 .f32) (b : Fin 2) (t : Fin 8320) (j : Fin 20) (e : Fin 64)
    (r : Fin 16640) (hr : r.val = b.val * 8320 + t.val) (y : Fin 1280) (hy : y.val = j.val * 64 + e.val) :
    (heads x w (ix4 b t j e) : EReal) = rot (dotp x w r y) (dotp x w r ⟨pn y.val, pn_lt (n := 20) y.isLt⟩)
      ((Host.cos Kernel7Ideal.ang : FVec Ideal S8320x32 .f32) (ix2 t ⟨y.val % 32, by omega⟩)) ((Host.sin Kernel7Ideal.ang : FVec Ideal S8320x32 .f32) (ix2 t ⟨y.val % 32, by omega⟩)) (y.val % 64) := by
  have he : y.val % 64 = e.val := by omega
  unfold heads
  by_cases h0 : j.val < 16
  · have hi : (⟨y.val % 32, by omega⟩ : Fin 32) = ⟨e.val % 32, by omega⟩ := Fin.ext (by show y.val % 32 = e.val % 32; omega)
    refine (concatenate_apply_piece (t := S2x8320x20x64) 2 _ _ _ 0 (by show 0 < 5; omega) S2x8320x16x64 _ rfl rfl 0 rfl (ix4 b t ⟨j.val, h0⟩ e) ?_ (Nat.zero_add _)).trans ?_
    · intro a ha
      fin_cases a
      · rfl
      · rfl
      · exact absurd rfl ha
      · rfl
    · rw [ropedQ_at, hi, he, qh_at x w b t ⟨j.val, h0⟩ e r hr y hy, qh_at x w b t ⟨j.val, h0⟩ ⟨(e.val + 32) % 64, by omega⟩ r hr ⟨pn y.val, pn_lt (n := 20) y.isLt⟩
        (by show pn y.val = j.val * 64 + (e.val + 32) % 64; unfold pn; omega)]
  by_cases h1 : j.val < 17
  · refine (concatenate_apply_piece (t := S2x8320x20x64) 2 _ _ _ 1 (by show 1 < 5; omega) S2x8320x1x64 _ rfl rfl 16 rfl (ix4 b t 0 e) ?_ ?_).trans (ropedK_of x w b t e r hr y (by omega) (by unfold gap; omega) he)
    · intro a ha
      fin_cases a
      · rfl
      · rfl
      · exact absurd rfl ha
      · rfl
    · show 16 + 0 = j.val
      omega
  by_cases h2 : j.val < 18
  · rw [dotp_gap x w r y (by unfold gap; omega), dotp_gap x w r ⟨pn y.val, pn_lt (n := 20) y.isLt⟩ (gap_pn (by unfold gap; omega)), rot_zero]
    refine (concatenate_apply_piece (t := S2x8320x20x64) 2 _ _ _ 2 (by show 2 < 5; omega) S2x8320x1x64 _ rfl rfl 17 rfl (ix4 b t 0 e) ?_ ?_).trans Expert.zero_lit
    · intro a ha
      fin_cases a
      · rfl
      · rfl
      · exact absurd rfl ha
      · rfl
    · show 17 + 0 = j.val
      omega
  by_cases h3 : j.val < 19
  · rw [dotp_gap x w r y (by unfold gap; omega), dotp_gap x w r ⟨pn y.val, pn_lt (n := 20) y.isLt⟩ (gap_pn (by unfold gap; omega)), rot_zero]
    refine (concatenate_apply_piece (t := S2x8320x20x64) 2 _ _ _ 3 (by show 3 < 5; omega) S2x8320x1x64 _ rfl rfl 18 rfl (ix4 b t 0 e) ?_ ?_).trans Expert.zero_lit
    · intro a ha
      fin_cases a
      · rfl
      · rfl
      · exact absurd rfl ha
      · rfl
    · show 18 + 0 = j.val
      omega
  refine (concatenate_apply_piece (t := S2x8320x20x64) 2 _ _ _ 4 (by show 4 < 5; omega) S2x8320x1x64 _ rfl rfl 19 rfl (ix4 b t 0 e) ?_ ?_).trans (ropedK_of x w b t e r hr y (by omega) (by unfold gap; omega) he)
  · intro a ha
    fin_cases a
    · rfl
    · rfl
    · exact absurd rfl ha
    · rfl
  · show 19 + 0 = j.val
    omega

/-- **The reference's result**, entry by entry. -/
theorem out_at (x : FVec Ideal S16640x2048 .f32) (w : FVec Ideal S2048x11344 .f32) (r : Fin 16640) (y : Fin 1280) :
    (out x w (ix2 r y) : EReal) = rot (dotp x w r y) (dotp x w r ⟨pn y.val, pn_lt (n := 20) y.isLt⟩)
      ((Host.cos Kernel7Ideal.ang : FVec Ideal S8320x32 .f32) (ix2 ⟨r.val % 8320, by omega⟩ ⟨y.val % 32, by omega⟩)) ((Host.sin Kernel7Ideal.ang : FVec Ideal S8320x32 .f32) (ix2 ⟨r.val % 8320, by omega⟩ ⟨y.val % 32, by omega⟩)) (y.val % 64) := by
  unfold out
  refine (shapeCast_apply (heads x w) shapeCasts_S2x8320x20x64_S16640x1280 (ix2 r y) (ix4 (⟨r.val / 8320, by omega⟩ : Fin 2) (⟨r.val % 8320, by omega⟩ : Fin 8320) (⟨y.val / 64, by omega⟩ : Fin 20) (⟨y.val % 64, by omega⟩ : Fin 64)) ?_).trans
    (heads_at x w _ _ _ _ r ?_ y ?_)
  · rw [Shape.rowMajor_val_two, Shape.rowMajor_val_four]
    show ((r.val / 8320 * 8320 + r.val % 8320) * 20 + y.val / 64) * 64 + y.val % 64 = r.val * 1280 + y.val
    omega
  · show r.val = r.val / 8320 * 8320 + r.val % 8320
    omega
  · show y.val = y.val / 64 * 64 + y.val % 64
    omega

end Cert.Reference7Ideal

end
-- ==== Proof.HeadWeights.lean ====
/-
  The indexer's head weights, over the extended reals: the kernel's result and the reference's, entry by entry. Past the
  heads the columns are zeros.
-/
module

public import proofs.«01_k».proof.Proof.Gen.Kernel8Ideal.Value
public import proofs.«01_k».proof.Proof.Gen.Reference8Ideal.Run
public import proofs.«01_k».proof.Proof.ExpertRead
public import Idealize.ShloMosaic.Lib.StackMember

@[expose] public section

set_option maxRecDepth 16384

noncomputable section

namespace Cert.HeadWeights

open Idealize.ShloMosaic

/-- The column of the weights that a head's column is the product with. -/
def wcol (y : Fin 128) (h : y.val < 16) : Fin 11344 := ⟨4160 + y.val, by omega⟩

/-- One entry: the product of a row with its head's column, scaled; behind the heads zero. -/
def ent (x : Fin 2048 → EReal) (w : Fin 2048 → Fin 11344 → EReal) (y : Fin 128) : EReal :=
  if h : y.val < 16 then (∑ d, x d * w d (wcol y h)) * Ideal.ofBits .f32 0x3D000000#32 else 0

end Cert.HeadWeights

namespace Cert.Kernel8Ideal

open Cert.Kernel8Ideal.Gen Cert.HeadWeights Idealize.ShloMosaic Idealize.ShloMosaic.TcCoe Idealize.SL.Sem
open Idealize.ShloMosaic.Pipeline (Dat)

variable (m : (ℓ : Loc nD τ sig) → Buf (Elt Ideal) ℓ) (c : Dev nD)

/-- The rows, -/
def rows : FVec Ideal S16640x2048 .f32 := m ((c : Thread nD τ).loc main_arg0)
/-- and the weights. -/
def wts : FVec Ideal S2048x11344 .f32 := m ((c : Thread nD τ).loc main_arg1)

theorem V4 : (V m c main_v4 : FVec Ideal S16640x2048 .bf16) = (truncf .bf16 (rows m c) bitsLt_bf16_f32 : FVec Ideal S16640x2048 .bf16) := by
  show StableHlo.after hostOps0 (fun b => m (c, b)) (Proc.devRef .tc main_v4) = _
  after_results
  rfl
theorem V3 : (V m c main_v3 : FVec Ideal S2048x128 .bf16) = (truncf .bf16 (concatenate S2048x128 1
    [⟨S2048x16, extractStridedSlice S2048x16 ![0, 4160] (wts m c) slices_S2048x11344_S2048x16_0_4160⟩,
      ⟨S2048x112, broadcastInDim S2048x112 ![] bcast_S_S2048x112 (constant S_ .f32 0x00000000#32 : FVec Ideal S_ .f32)⟩]
      concatenates_S2048x16_S2048x112_S2048x128_d1 : FVec Ideal S2048x128 .f32) bitsLt_bf16_f32 : FVec Ideal S2048x128 .bf16) := by
  show StableHlo.after hostOps0 (fun b => m (c, b)) (Proc.devRef .tc main_v3) = _
  after_results
  rfl

theorem wts_lo (d : Fin 2048) (y : Fin 128) (h : y.val < 16) : ((V m c main_v3 : FVec Ideal S2048x128 .bf16) (ix2 d y) : EReal) = wts m c (ix2 d (wcol y h)) := by
  refine (congrFun (V3 m c) _).trans ?_
  refine (concatenate_pair_apply_left (t := S2048x128) (s₁ := S2048x16) (s₂ := S2048x112) 1 _ _ concatenates_S2048x16_S2048x112_S2048x128_d1 (ix2 d y) rfl (ix2 d ⟨y.val, h⟩) ?_).trans (extractStridedSlice_apply _ _ _ _ _ ?_)
  · intro b
    fin_cases b <;> rfl
  · rw [Fin.forall_fin_two]
    exact ⟨(Nat.zero_add _).symm, rfl⟩

theorem wts_hi (d : Fin 2048) (y : Fin 128) (h : ¬ y.val < 16) : ((V m c main_v3 : FVec Ideal S2048x128 .bf16) (ix2 d y) : EReal) = (0 : EReal) := by
  refine (congrFun (V3 m c) _).trans ?_
  refine (concatenate_pair_apply_right (t := S2048x128) (s₁ := S2048x16) (s₂ := S2048x112) 1 _ _ concatenates_S2048x16_S2048x112_S2048x128_d1 (ix2 d y) rfl rfl (ix2 d ⟨y.val - 16, by omega⟩) ?_ ?_).trans Expert.zero_lit
  · intro b hb
    fin_cases b
    · rfl
    · exact absurd rfl hb
  · show y.val - 16 + 16 = y.val
    omega

theorem pay_at (x : Vec Ideal S640x2048 .bf16) (w : Vec Ideal S2048x128 .bf16) (ρ : Fin 640) (y : Fin 128) :
    (k0_pay1 (F := Ideal) x w (ix2 ρ y) : EReal) = (∑ d : Fin 2048, (x (ix2 ρ d) : EReal) * w (ix2 d y)) * Ideal.ofBits .f32 0x3D000000#32 := by
  unfold k0_pay1
  refine congrArg₂ (fun u v : EReal => u * v) ((Ideal.matmul_plain_apply (φ₁ := .bf16) (φ₂ := .bf16) none _ _ _ _ _).trans ?_) rfl
  show Ideal.ofBits .f32 0x00000000#32 + _ = _
  rw [Expert.zero_lit, zero_add]
  rw [shapeCast_self, shapeCast_self]
  rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0_at (t : Fin cfg0.N) (ρ : Fin 640) (d : Fin 2048) (r : Fin 16640) (hr : r.val = t.val * 640 + ρ.val) :
    (iblk m c 0 t : FVec Ideal S640x2048 .bf16) (ix2 ρ d) = rows m c (ix2 r d) := by
  refine Eq.trans (congrArg (V m c main_v4 : FVec Ideal S16640x2048 .bf16) (funext fun a => Fin.ext ?_)) (congrFun (V4 m c) _)
  show win0_0.index t a * win0_0.size a + 1 * ((ix2 ρ d : S640x2048.Idx) a).val = _
  rw [idx0]
  fin_cases a
  · show t.val * 640 + 1 * ρ.val = r.val
    omega
  · show 0 * 2048 + 1 * d.val = d.val
    omega

theorem blk1_at (t : Fin cfg0.N) (d : Fin 2048) (y : Fin 128) :
    (iblk m c 1 t : FVec Ideal S2048x128 .bf16) (ix2 d y) = (V m c main_v3 : FVec Ideal S2048x128 .bf16) (ix2 d y) := by
  refine congrArg (V m c main_v3 : FVec Ideal S2048x128 .bf16) (show _ = ix2 d y from funext fun a => Fin.ext ?_)
  show win0_1.index t a * win0_1.size a + 1 * ((ix2 d y : S2048x128.Idx) a).val = _
  rw [idx1]
  fin_cases a
  · show 0 * 2048 + 1 * d.val = d.val
    omega
  · show 0 * 128 + 1 * y.val = y.val
    omega

theorem pay_blk (t : Fin cfg0.N) (ρ : Fin 640) (y : Fin 128) (r : Fin 16640) (hr : r.val = t.val * 640 + ρ.val) :
    (k0_pay1 (F := Ideal) (iblk m c 0 t) (iblk m c 1 t) (ix2 ρ y) : EReal) = ent (fun d => rows m c (ix2 r d)) (fun d k => wts m c (ix2 d k)) y := by
  refine (pay_at _ _ _ _).trans ?_
  unfold ent
  by_cases h : y.val < 16
  · rw [dif_pos h]
    exact congrArg (fun u : EReal => u * Ideal.ofBits .f32 0x3D000000#32) (Finset.sum_congr rfl fun d _ => congrArg₂ (fun u v : EReal => u * v) (blk0_at m c t ρ d r hr) ((blk1_at m c t d y).trans (wts_lo m c d y h)))
  · rw [dif_neg h]
    refine (congrArg (fun u : EReal => u * Ideal.ofBits .f32 0x3D000000#32) (Finset.sum_eq_zero fun d _ =>
      (congrArg (fun v : EReal => (id ((iblk m c 0 t : FVec Ideal S640x2048 .bf16) (ix2 ρ d)) : EReal) * v) ((blk1_at m c t d y).trans (wts_hi m c d y h))).trans (mul_zero _))).trans (zero_mul _)

theorem covers2 : win0_2.Covers := by decide +kernel

/-- **The kernel's result**: it is `G` if `G`'s entries are the scaled products. -/
theorem result_eq (G : FVec Ideal S16640x128 .f32)
    (hG : ∀ (r : Fin 16640) (y : Fin 128), (G (ix2 r y) : EReal) = ent (fun d => rows m c (ix2 r d)) (fun d k => wts m c (ix2 d k)) y) :
    (dats m 0 c).arrAt 2 cfg0.N = G := by
  refine Dat.arrAt_eq_of_covers _ 2 _ covers2 fun t hf y => ?_
  have h0 : (y (0 : Fin 2)).val < 640 := (y (0 : Fin 2)).isLt
  have h1 : (y (1 : Fin 2)).val < 128 := (y (1 : Fin 2)).isLt
  have ht : t.val < 26 := t.isLt
  obtain ⟨r, hr⟩ : ∃ r : Fin 16640, r.val = t.val * 640 + (y (0 : Fin 2)).val := ⟨⟨_, by omega⟩, rfl⟩
  have hG' := hG r (y (1 : Fin 2))
  blk_simp
  rw [after0_2]
  frame_out
  refine Eq.trans (congrArg (k0_pay1 (F := Ideal) _ _) (show (y : S640x128.Idx) = ix2 (y (0 : Fin 2)) (y (1 : Fin 2)) from ?_)) ((pay_blk m c t _ _ r hr).trans ?_)
  · funext a; fin_cases a <;> rfl
  refine hG'.symm.trans (congrArg G ?_)
  funext a; apply Fin.ext
  refine Eq.trans ?_ (show win0_2.index t a * win0_2.size a + 1 * (y a).val = _ from rfl)
  rw [idx2]
  fin_cases a
  · show r.val = t.val * 640 + 1 * (y (0 : Fin 2)).val
    omega
  · show (y (1 : Fin 2)).val = 0 * 128 + 1 * (y (1 : Fin 2)).val
    omega

end Cert.Kernel8Ideal

namespace Cert.Reference8Ideal

open Idealize.ShloMosaic Cert.Reference8Ideal.Gen Cert.Reference8Ideal.Value Cert.HeadWeights

/-- The reference's result of its two arguments. -/
def out (x : FVec Ideal S16640x2048 .f32) (w : FVec Ideal S2048x11344 .f32) : FVec Ideal S16640x128 .f32 :=
  concatenate S16640x128 1 [⟨S16640x16, mulf (extractStridedSlice S16640x16 ![0, 4160] (Host.dotGeneral (φ₁ := .f32) (φ₂ := .f32) dot_S16640x2048_S2048x11344_S16640x11344_1_0_0_1_n_n none x w) slices_S16640x11344_S16640x16_0_4160)
      (broadcastInDim S16640x16 ![] bcast_S_S16640x16 (constant S_ .f32 0x3D000000#32 : FVec Ideal S_ .f32))⟩,
    ⟨S16640x112, broadcastInDim S16640x112 ![] bcast_S_S16640x112 (constant S_ .f32 0x00000000#32 : FVec Ideal S_ .f32)⟩] concatenates_S16640x16_S16640x112_S16640x128_d1

/-- **The reference's result**, entry by entry. -/
theorem out_at (x : FVec Ideal S16640x2048 .f32) (w : FVec Ideal S2048x11344 .f32) (r : Fin 16640) (y : Fin 128) :
    (out x w (ix2 r y) : EReal) = ent (fun d => x (ix2 r d)) (fun d k => w (ix2 d k)) y := by
  unfold out ent
  by_cases h : y.val < 16
  · rw [dif_pos h]
    refine (concatenate_pair_apply_left (t := S16640x128) (s₁ := S16640x16) (s₂ := S16640x112) 1 _ _ concatenates_S16640x16_S16640x112_S16640x128_d1 (ix2 r y) rfl (ix2 r ⟨y.val, h⟩) ?_).trans ?_
    · intro b
      fin_cases b <;> rfl
    refine congrArg₂ (fun u v : EReal => u * v) ((extractStridedSlice_apply _ _ _ _ (ix2 r (wcol y h)) ?_).trans ?_) rfl
    · rw [Fin.forall_fin_two]
      exact ⟨(Nat.zero_add _).symm, rfl⟩
    · exact StackMember.dotGeneral_plain_apply (φ₁ := .f32) (φ₂ := .f32) none _ _ _ _
  · rw [dif_neg h]
    refine (concatenate_pair_apply_right (t := S16640x128) (s₁ := S16640x16) (s₂ := S16640x112) 1 _ _ concatenates_S16640x16_S16640x112_S16640x128_d1 (ix2 r y) rfl rfl (ix2 r ⟨y.val - 16, by omega⟩) ?_ ?_).trans Expert.zero_lit
    · intro b hb
      fin_cases b
      · rfl
      · exact absurd rfl hb
    · show y.val - 16 + 16 = y.val
      omega

end Cert.Reference8Ideal

end
-- ==== Proof.EmbedNorm.lean ====
/-
  The learned tokens in front of the sequences and the norm of every row, over the extended reals: the kernel's results and
  the reference's, entry by entry.
-/
module

public import proofs.«01_k».proof.Proof.Gen.Kernel9Ideal.Value
public import proofs.«01_k».proof.Proof.Gen.Reference9Ideal.Run
public import proofs.«01_k».proof.Proof.Merge

@[expose] public section

set_option maxRecDepth 16384

noncomputable section

namespace Cert.Embed

open Idealize.ShloMosaic

/-- A row of the layout: the padding, the learned tokens, the sequence's own. -/
def emb (x : Fin 2 → Fin 8192 → Fin 2048 → EReal) (g : Fin 16 → Fin 2048 → EReal) (r : Fin 16640) (y : Fin 2048) : EReal :=
  if r.val % 8320 < 112 then 0
  else if r.val % 8320 < 128 then g ⟨(r.val % 8320 - 112) % 16, by omega⟩ y
  else x ⟨r.val / 8320, by omega⟩ ⟨r.val % 8320 - 128, by omega⟩ y

end Cert.Embed

namespace Cert.Kernel9Ideal

open Cert.Kernel9Ideal.Gen Cert.Embed Cert.Merge Idealize.ShloMosaic Idealize.ShloMosaic.TcCoe Idealize.SL.Sem
open Idealize.ShloMosaic.Pipeline (Dat)

variable (m : (ℓ : Loc nD τ sig) → Buf (Elt Ideal) ℓ) (c : Dev nD)

/-- The sequences, -/
def argX : FVec Ideal S2x8192x2048 .f32 := m ((c : Thread nD τ).loc main_arg0)
/-- the learned tokens, -/
def argM : FVec Ideal S16x2048 .f32 := m ((c : Thread nD τ).loc main_arg1)
/-- and the norm's gain. -/
def argN : FVec Ideal S2048 .f32 := m ((c : Thread nD τ).loc main_arg2)

theorem V1 : (V m c main_v1 : FVec Ideal S128x2048 .f32) = (concatenate S128x2048 0
    [⟨S112x2048, broadcastInDim S112x2048 ![] bcast_S_S112x2048 (constant S_ .f32 0x00000000#32 : FVec Ideal S_ .f32)⟩, ⟨S16x2048, argM m c⟩]
      concatenates_S112x2048_S16x2048_S128x2048_d0 : FVec Ideal S128x2048 .f32) := by
  show StableHlo.after hostOps0 (fun b => m (c, b)) (Proc.devRef .tc main_v1) = _
  after_results
  rfl
theorem V2 : (V m c main_v2 : FVec Ideal S16384x2048 .f32) = (shapeCast S16384x2048 (argX m c) shapeCasts_S2x8192x2048_S16384x2048 : FVec Ideal S16384x2048 .f32) := by
  show StableHlo.after hostOps0 (fun b => m (c, b)) (Proc.devRef .tc main_v2) = _
  after_results
  rfl
theorem V3 : (V m c main_v3 : FVec Ideal S1x2048 .f32) = (shapeCast S1x2048 (argN m c) shapeCasts_S2048_S1x2048 : FVec Ideal S1x2048 .f32) := by
  show StableHlo.after hostOps0 (fun b => m (c, b)) (Proc.devRef .tc main_v3) = _
  after_results
  rfl

/-- Whether a point is a sequence's first. -/
def cnd (i : grid0.Coords) : BitVec 1 :=
  let arg0 : BitVec 32 := BitVec.ofNat 32 (i 0).val
  let v0 : BitVec 1 := Scalar.cmpi .eq 65#32 0#32
  let v1 : BitVec 32 := Scalar.select v0 1#32 65#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .slt v9 1#32

theorem cnd_eq : ∀ t : Fin cfg0.N, cnd (grid0.coords t) = if t.val % 65 = 0 then 1#1 else 0#1 :=
  (by decide +kernel : ∀ t : Fin grid0.N, cnd (grid0.coords t) = if t.val % 65 = 0 then 1#1 else 0#1)

theorem pay1_eq (t : Fin cfg0.N) (a b : Vec Ideal S128x2048 .f32) : k0_pay1 (F := Ideal) (grid0.coords t) a b = if t.val % 65 = 0 then a else b := by
  have e : k0_pay1 (F := Ideal) (grid0.coords t) a b = Scalar.select (cnd (grid0.coords t)) a b := by
    unfold k0_pay1
    rw [shapeCast_self, shapeCast_self]
    rfl
  rw [e, cnd_eq]
  split <;> rfl

theorem pay2_at (i : grid0.Coords) (a b : Vec Ideal S128x2048 .f32) (g : Vec Ideal S1x2048 .f32) (ρ : Fin 128) (y : Fin 2048) :
    (k0_pay2 (F := Ideal) i a b g (ix2 ρ y) : EReal) = nrm (fun y => k0_pay1 (F := Ideal) i a b (ix2 ρ y)) (fun y => g (ix2 0 y)) y := by
  unfold k0_pay2
  generalize k0_pay1 (F := Ideal) i a b = z
  pointwise [nrm]

theorem idx0 : ∀ t : Fin cfg0.N, win0_0.index t = ![0, 0] := (by decide +kernel : ∀ t : Fin grid0.N, win0_0.index t = ![0, 0])
theorem idx1 : ∀ t : Fin cfg0.N, win0_1.index t = ![t.val / 65 * 64 + (t.val % 65 - 1), 0] := (by decide +kernel : ∀ t : Fin grid0.N, win0_1.index t = ![t.val / 65 * 64 + (t.val % 65 - 1), 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

theorem blk0_at (t : Fin cfg0.N) (ρ : Fin 128) (y : Fin 2048) :
    ((iblk m c 0 t : FVec Ideal S128x2048 .f32) (ix2 ρ y) : EReal) = if ρ.val < 112 then 0 else argM m c (ix2 ⟨(ρ.val - 112) % 16, by omega⟩ y) := by
  refine Eq.trans (congrArg (V m c main_v1 : FVec Ideal S128x2048 .f32) (show _ = ix2 ρ y from funext fun a => Fin.ext ?_)) ((congrFun (V1 m c) _).trans ?_)
  · show win0_0.index t a * win0_0.size a + 1 * ((ix2 ρ y : S128x2048.Idx) a).val = _
    rw [idx0]
    fin_cases a
    · show 0 * 128 + 1 * ρ.val = ρ.val
      omega
    · show 0 * 2048 + 1 * y.val = y.val
      omega
  by_cases h : ρ.val < 112
  · rw [if_pos h]
    refine (concatenate_pair_apply_left (t := S128x2048) (s₁ := S112x2048) (s₂ := S16x2048) 0 _ _ _ (ix2 ρ y) rfl (ix2 ⟨ρ.val, h⟩ y) ?_).trans Expert.zero_lit
    intro b
    fin_cases b <;> rfl
  · rw [if_neg h]
    refine concatenate_pair_apply_right (t := S128x2048) (s₁ := S112x2048) (s₂ := S16x2048) 0 _ _ _ (ix2 ρ y) rfl rfl _ ?_ ?_
    · intro b hb
      fin_cases b
      · exact absurd rfl hb
      · rfl
    · show (ρ.val - 112) % 16 + 112 = ρ.val
      omega

theorem blk1_at (t : Fin cfg0.N) (ht : t.val % 65 ≠ 0) (ρ : Fin 128) (y : Fin 2048) (b : Fin 2) (hb : b.val = t.val / 65) (p : Fin 8192) (hp : p.val = (t.val % 65 - 1) * 128 + ρ.val) :
    ((iblk m c 1 t : FVec Ideal S128x2048 .f32) (ix2 ρ y) : EReal) = argX m c (ix3 b p y) := by
  obtain ⟨q, hq⟩ : ∃ q : Fin 16384, q.val = b.val * 8192 + p.val := ⟨⟨_, by omega⟩, rfl⟩
  refine Eq.trans (congrArg (V m c main_v2 : FVec Ideal S16384x2048 .f32) (show _ = ix2 q y from funext fun a => Fin.ext ?_))
    ((congrFun (V2 m c) _).trans (shapeCast_apply (argX m c) shapeCasts_S2x8192x2048_S16384x2048 (ix2 q y) (ix3 b p y) ?_))
  · show win0_1.index t a * win0_1.size a + 1 * ((ix2 ρ y : S128x2048.Idx) a).val = _
    rw [idx1]
    fin_cases a
    · show (t.val / 65 * 64 + (t.val % 65 - 1)) * 128 + 1 * ρ.val = q.val
      omega
    · show 0 * 2048 + 1 * y.val = y.val
      omega
  · rw [Shape.rowMajor_val_two, Shape.rowMajor_val_three]
    show (b.val * 8192 + p.val) * 2048 + y.val = q.val * 2048 + y.val
    omega

theorem blk2_at (t : Fin cfg0.N) (y : Fin 2048) :
    (iblk m c 2 t : FVec Ideal S1x2048 .f32) (ix2 0 y) = argN m c (ix1 y) := by
  refine Eq.trans (congrArg (V m c main_v3 : FVec Ideal S1x2048 .f32) (show _ = ix2 0 y from funext fun a => Fin.ext ?_))
    ((congrFun (V3 m c) _).trans (shapeCast_apply (argN m c) shapeCasts_S2048_S1x2048 (ix2 0 y) (ix1 y) ?_))
  · show win0_2.index t a * win0_2.size a + 1 * ((ix2 0 y : S1x2048.Idx) a).val = _
    rw [idx2]
    fin_cases a
    · rfl
    · show 0 * 2048 + 1 * y.val = y.val
      omega
  · rw [Shape.rowMajor_val_two, Shape.rowMajor_val_one]
    show y.val = 0 * 2048 + y.val
    omega

/-- A row's entry, of the arguments. -/
def embOf (r : Fin 16640) (y : Fin 2048) : EReal := emb (fun b p y => argX m c (ix3 b p y)) (fun j y => argM m c (ix2 j y)) r y

theorem pay1_blk (t : Fin cfg0.N) (ρ : Fin 128) (y : Fin 2048) (r : Fin 16640) (hr : r.val = t.val * 128 + ρ.val) :
    (k0_pay1 (F := Ideal) (grid0.coords t) (iblk m c 0 t) (iblk m c 1 t) (ix2 ρ y) : EReal) = embOf m c r y := by
  have hρ := ρ.isLt
  unfold embOf emb
  by_cases h : t.val % 65 = 0
  · refine (congrFun ((pay1_eq t _ _).trans (if_pos h)) _).trans ((blk0_at m c t ρ y).trans ?_)
    have hm : r.val % 8320 = ρ.val := by omega
    simp only [hm, if_pos hρ]
  · refine (congrFun ((pay1_eq t _ _).trans (if_neg h)) _).trans ?_
    rw [if_neg (by omega), if_neg (by omega)]
    exact blk1_at m c t h ρ y _ (by show r.val / 8320 = t.val / 65; omega) _ (by show r.val % 8320 - 128 = (t.val % 65 - 1) * 128 + ρ.val; omega)

theorem covers3 : win0_3.Covers := by decide +kernel
theorem covers4 : win0_4.Covers := by decide +kernel

/-- **The kernel's rows**: they are `G` if `G`'s entries are the layout's. -/
theorem result3_eq (G : FVec Ideal S16640x2048 .f32) (hG : ∀ (r : Fin 16640) (y : Fin 2048), (G (ix2 r y) : EReal) = embOf m c r y) :
    (dats m 0 c).arrAt 3 cfg0.N = G := by
  refine Dat.arrAt_eq_of_covers _ 3 _ covers3 fun t hf y => ?_
  have h0 : (y (0 : Fin 2)).val < 128 := (y (0 : Fin 2)).isLt
  have ht : t.val < 130 := t.isLt
  obtain ⟨r, hr⟩ : ∃ r : Fin 16640, r.val = t.val * 128 + (y (0 : Fin 2)).val := ⟨⟨_, by omega⟩, rfl⟩
  have hG' := hG r (y (1 : Fin 2))
  blk_simp
  rw [after0_3]
  frame_out
  refine Eq.trans (congrArg (k0_pay1 (F := Ideal) _ _ _) (show (y : S128x2048.Idx) = ix2 (y (0 : Fin 2)) (y (1 : Fin 2)) from ?_)) ((pay1_blk m c t _ _ r hr).trans ?_)
  · funext a; fin_cases a <;> rfl
  refine hG'.symm.trans (congrArg G ?_)
  funext a; apply Fin.ext
  refine Eq.trans ?_ (show win0_3.index t a * win0_3.size a + 1 * (y a).val = _ from rfl)
  rw [idx3]
  fin_cases a
  · show r.val = t.val * 128 + 1 * (y (0 : Fin 2)).val
    omega
  · show (y (1 : Fin 2)).val = 0 * 2048 + 1 * (y (1 : Fin 2)).val
    omega

/-- **The kernel's normalised rows**: they are `G` if `G`'s entries are the normalised layout's. -/
theorem result4_eq (G : FVec Ideal S16640x2048 .bf16) (hG : ∀ (r : Fin 16640) (y : Fin 2048), (G (ix2 r y) : EReal) = nrm (embOf m c r) (fun y => argN m c (ix1 y)) y) :
    (dats m 0 c).arrAt 4 cfg0.N = G := by
  refine Dat.arrAt_eq_of_covers _ 4 _ covers4 fun t hf y => ?_
  have h0 : (y (0 : Fin 2)).val < 128 := (y (0 : Fin 2)).isLt
  have ht : t.val < 130 := t.isLt
  obtain ⟨r, hr⟩ : ∃ r : Fin 16640, r.val = t.val * 128 + (y (0 : Fin 2)).val := ⟨⟨_, by omega⟩, rfl⟩
  have hG' := hG r (y (1 : Fin 2))
  blk_simp
  rw [after0_4]
  frame_out
  refine Eq.trans (congrArg (k0_pay2 (F := Ideal) _ _ _ _) (show (y : S128x2048.Idx) = ix2 (y (0 : Fin 2)) (y (1 : Fin 2)) from ?_)) ((pay2_at _ _ _ _ _ _).trans ?_)
  · funext a; fin_cases a <;> rfl
  have e := funext fun k => pay1_blk m c t (y (0 : Fin 2)) k r hr
  have e2 := funext fun k => blk2_at m c t k
  refine Eq.trans (congrArg₂ (fun u v => nrm u v (y (1 : Fin 2))) e e2) (hG'.symm.trans (congrArg G ?_))
  funext a; apply Fin.ext
  refine Eq.trans ?_ (show win0_4.index t a * win0_4.size a + 1 * (y a).val = _ from rfl)
  rw [idx4]
  fin_cases a
  · show r.val = t.val * 128 + 1 * (y (0 : Fin 2)).val
    omega
  · show (y (1 : Fin 2)).val = 0 * 2048 + 1 * (y (1 : Fin 2)).val
    omega

end Cert.Kernel9Ideal

namespace Cert.Reference9Ideal

open Idealize.ShloMosaic Idealize.ShloMosaic.TcCoe Cert.Reference9Ideal.Gen Cert.Reference9Ideal.Value Cert.Embed Cert.Merge

/-- The reference's rows, of its arguments, by sequence, -/
def cat (x : FVec Ideal S2x8192x2048 .f32) (g : FVec Ideal S16x2048 .f32) : FVec Ideal S2x8320x2048 .f32 :=
  concatenate S2x8320x2048 1 [⟨S2x112x2048, broadcastInDim S2x112x2048 ![] bcast_S_S2x112x2048 (constant S_ .f32 0x00000000#32 : FVec Ideal S_ .f32)⟩,
    ⟨S2x16x2048, broadcastInDim S2x16x2048 ![0, 1, 2] bcast_S1x16x2048_S2x16x2048_0_1_2 (broadcastInDim S1x16x2048 ![1, 2] bcast_S16x2048_S1x16x2048_1_2 g)⟩,
    ⟨S2x8192x2048, x⟩] concatenates_S2x112x2048_S2x16x2048_S2x8192x2048_S2x8320x2048_d1

/-- one after the other, -/
def out1 (x : FVec Ideal S2x8192x2048 .f32) (g : FVec Ideal S16x2048 .f32) : FVec Ideal S16640x2048 .f32 :=
  shapeCast S16640x2048 (cat x g) shapeCasts_S2x8320x2048_S16640x2048

/-- and its normalised rows, of the rows and the gain. -/
def out2 (x : FVec Ideal S16640x2048 .f32) (n : FVec Ideal S2048 .f32) : FVec Ideal S16640x2048 .bf16 :=
  truncf .bf16 (mulf (mulf x (broadcastInDim S16640x2048 ![0, 1] bcast_S16640x1_S16640x2048_0_1 (Host.rsqrt (addf (Host.divf (broadcastInDim S16640x1 ![0] bcast_S16640_S16640x1_0
    (Host.reduceAdd (mulf x x) (constant S_ .f32 0x00000000#32) reducesTo_S16640x2048_S16640_d1 h_S_)) (broadcastInDim S16640x1 ![] bcast_S_S16640x1 (constant S_ .f32 0x45000000#32)))
      (broadcastInDim S16640x1 ![] bcast_S_S16640x1 (constant S_ .f32 0x3727C5AC#32)))))) (broadcastInDim S16640x2048 ![0, 1] bcast_S1x2048_S16640x2048_0_1 (broadcastInDim S1x2048 ![1] bcast_S2048_S1x2048_1 n))) bitsLt_bf16_f32

/-- **The reference's rows**, entry by entry. -/
theorem out1_at (x : FVec Ideal S2x8192x2048 .f32) (g : FVec Ideal S16x2048 .f32) (r : Fin 16640) (y : Fin 2048) :
    (out1 x g (ix2 r y) : EReal) = emb (fun b p y => x (ix3 b p y)) (fun j y => g (ix2 j y)) r y := by
  unfold out1 emb
  refine (shapeCast_apply (cat x g) shapeCasts_S2x8320x2048_S16640x2048 (ix2 r y) (ix3 (⟨r.val / 8320, by omega⟩ : Fin 2) (⟨r.val % 8320, by omega⟩ : Fin 8320) y) ?_).trans ?_
  · rw [Shape.rowMajor_val_two, Shape.rowMajor_val_three]
    show (r.val / 8320 * 8320 + r.val % 8320) * 2048 + y.val = r.val * 2048 + y.val
    omega
  unfold cat
  by_cases h : r.val % 8320 < 112
  · rw [if_pos h]
    refine (concatenate_apply_piece (t := S2x8320x2048) 1 _ _ _ 0 (by show 0 < 3; omega) S2x112x2048 _ rfl rfl 0 rfl (ix3 (⟨r.val / 8320, by omega⟩ : Fin 2) (⟨r.val % 8320, h⟩ : Fin 112) y) ?_ ?_).trans Expert.zero_lit
    · intro b hb
      fin_cases b
      · rfl
      · exact absurd rfl hb
      · rfl
    · exact Nat.zero_add _
  rw [if_neg h]
  by_cases h' : r.val % 8320 < 128
  · rw [if_pos h']
    refine (concatenate_apply_piece (t := S2x8320x2048) 1 _ _ _ 1 (by show 1 < 3; omega) S2x16x2048 _ rfl rfl 112 rfl (ix3 (⟨r.val / 8320, by omega⟩ : Fin 2) (⟨(r.val % 8320 - 112) % 16, by omega⟩ : Fin 16) y) ?_ ?_).trans ?_
    · intro b hb
      fin_cases b
      · rfl
      · exact absurd rfl hb
      · rfl
    · show 112 + (r.val % 8320 - 112) % 16 = r.val % 8320
      omega
    · exact (broadcastInDim_apply _ _ _ _ (ix3 0 (⟨(r.val % 8320 - 112) % 16, by omega⟩ : Fin 16) y) (fun a => by fin_cases a <;> rfl)).trans (broadcastInDim_apply _ _ _ _ (ix2 (⟨(r.val % 8320 - 112) % 16, by omega⟩ : Fin 16) y) (fun a => by fin_cases a <;> rfl))
  · rw [if_neg h']
    refine concatenate_apply_piece (t := S2x8320x2048) 1 _ _ _ 2 (by show 2 < 3; omega) S2x8192x2048 _ rfl rfl 128 rfl (ix3 (⟨r.val / 8320, by omega⟩ : Fin 2) (⟨r.val % 8320 - 128, by omega⟩ : Fin 8192) y) ?_ ?_
    · intro b hb
      fin_cases b
      · rfl
      · exact absurd rfl hb
      · rfl
    · show 128 + (r.val % 8320 - 128) = r.val % 8320
      omega

theorem out2_at (x : FVec Ideal S16640x2048 .f32) (n : FVec Ideal S2048 .f32) (r : Fin 16640) (y : Fin 2048) :
    (out2 x n (ix2 r y) : EReal) = nrm (fun y => x (ix2 r y)) (fun y => n (ix1 y)) y := by
  pointwise [out2, nrm]

/-- **The reference's normalised rows**, entry by entry. -/
theorem out2_of (x : FVec Ideal S2x8192x2048 .f32) (g : FVec Ideal S16x2048 .f32) (n : FVec Ideal S2048 .f32) (r : Fin 16640) (y : Fin 2048) :
    (out2 (out1 x g) n (ix2 r y) : EReal) = nrm (emb (fun b p y => x (ix3 b p y)) (fun j y => g (ix2 j y)) r) (fun y => n (ix1 y)) y := by
  refine (out2_at _ _ _ _).trans ?_
  rw [funext fun y => out1_at x g r y]

end Cert.Reference9Ideal

end
-- ==== Proof.Permute.lean ====
/-
  The permutation of the experts' first weights, over the extended reals: the kernel's product with a matrix of zeros and
  ones and the reference's gather of the even columns and the odd ones, entry by entry.
-/
module

public import proofs.«01_k».proof.Proof.Gen.Kernel10Ideal.Value
public import proofs.«01_k».proof.Proof.Gen.Reference10Ideal.Run
public import proofs.«01_k».proof.Proof.ExpertRead
public import Idealize.ShloMosaic.Lib.StackMember

@[expose] public section

set_option maxRecDepth 16384

noncomputable section

namespace Cert.Permute

open Idealize.ShloMosaic

/-- The column that a result's column is: in its group of 256 the even columns first, then the odd ones. -/
def src (y : ℕ) : ℕ := y / 256 * 256 + y % 128 * 2 + y % 256 / 128

theorem src_lt {n y : ℕ} (h : y < 256 * n) : src y < 256 * n := by unfold src; omega

/-- The same within a group, as the kernel's words say it. -/
def srcw (j : BitVec 32) : BitVec 32 :=
  Scalar.select (Scalar.cmpi .slt j 128#32) (Scalar.muli 2#32 j) (Scalar.addi (Scalar.muli 2#32 (Scalar.subi j 128#32)) 1#32)

theorem srcw_eq : ∀ j : Fin 256, srcw (BitVec.ofNat 32 j.val) = BitVec.ofNat 32 (src j.val) := by decide +kernel

end Cert.Permute

namespace Cert.Kernel10Ideal

open Cert.Kernel10Ideal.Gen Cert.Permute Idealize.ShloMosaic Idealize.ShloMosaic.TcCoe Idealize.SL.Sem
open Idealize.ShloMosaic.Pipeline (Dat)

variable (m : (ℓ : Loc nD τ sig) → Buf (Elt Ideal) ℓ) (c : Dev nD)

/-- The weights. -/
def wts : FVec Ideal S32x2048x4096 .f32 := m ((c : Thread nD τ).loc main_arg0)

theorem word_eq (s j : Fin 256) : Scalar.cmpi .eq (BitVec.ofNat 32 s.val) (srcw (BitVec.ofNat 32 j.val)) = if s.val = src j.val then 1#1 else 0#1 := by
  have hs := s.isLt
  have hj := src_lt (n := 1) j.isLt
  rw [srcw_eq]
  by_cases h : s.val = src j.val
  · rw [if_pos h, h]
    show BitVec.ofBool (_ == _) = _
    rw [beq_self_eq_true]
    rfl
  · rw [if_neg h]
    have hne : BitVec.ofNat 32 s.val ≠ BitVec.ofNat 32 (src j.val) := fun e => h (by
      have := congrArg BitVec.toNat e
      simp only [BitVec.toNat_ofNat] at this
      omega)
    show BitVec.ofBool (_ == _) = _
    rw [beq_false_of_ne hne]
    rfl

theorem mat_at (s j : Fin 256) : (k0_pay4 (F := Ideal) (ix2 s j) : EReal) = if s.val = src j.val then (1 : EReal) else 0 := by
  have e : (k0_pay4 (F := Ideal) (ix2 s j) : EReal)
      = Scalar.select (Scalar.cmpi .eq (iota .tc S256x256 32 [0] iota_S256x256_d0_w32 (ix2 s j)) (srcw (iota .tc S256x256 32 [1] iota_S256x256_d1_w32 (ix2 s j)))) (Ideal.ofBits .f32 0x3F800000#32) (Ideal.ofBits .f32 0x00000000#32) := rfl
  rw [iota_single_apply, iota_single_apply] at e
  refine e.trans ((congrArg (fun c => Scalar.select c (Ideal.ofBits .f32 0x3F800000#32) (Ideal.ofBits .f32 0x00000000#32)) (word_eq s j)).trans ?_)
  rw [Expert.one_lit, Expert.zero_lit]
  split <;> rfl

/-- One group's product. -/
def prm (v : Vec Ideal S1x256x256 .f32) : FVec Ideal S1x256x256 .bf16 :=
  shapeCast S1x256x256 (truncf .bf16 (matmul dot_S256x256_S256x256_S256x256_1_0_0_1_n_n none
    (truncf .bf16 (shapeCast S256x256 v shapeCasts_S1x256x256_S256x256 : FVec Ideal S256x256 .f32) bitsLt_bf16_f32 : FVec Ideal S256x256 .bf16) (k0_pay4 (F := Ideal))
    (constant S256x256 .f32 0x00000000#32) : FVec Ideal S256x256 .f32) bitsLt_bf16_f32 : FVec Ideal S256x256 .bf16) shapeCasts_S256x256_S1x256x256

theorem prm_at (v : Vec Ideal S1x256x256 .f32) (ρ y : Fin 256) : (prm v (ix3 0 ρ y) : EReal) = v (ix3 0 ρ ⟨src y.val, src_lt (n := 1) y.isLt⟩) := by
  unfold prm
  refine (shapeCast_apply _ shapeCasts_S256x256_S1x256x256 (ix3 0 ρ y) (ix2 ρ y) ?_).trans ?_
  · rw [Shape.rowMajor_val_two, Shape.rowMajor_val_three]
    show ρ.val * 256 + y.val = (0 * 256 + ρ.val) * 256 + y.val
    omega
  refine (Ideal.matmul_plain_apply (φ₁ := .bf16) (φ₂ := .bf16) none _ _ _ _ _).trans ?_
  show Ideal.ofBits .f32 0x00000000#32 + _ = _
  rw [Expert.zero_lit, zero_add]
  have hv : ∀ d : Fin 256, (shapeCast S256x256 v shapeCasts_S1x256x256_S256x256 (ix2 ρ d) : EReal) = v (ix3 0 ρ d) := fun d =>
    shapeCast_apply v shapeCasts_S1x256x256_S256x256 (ix2 ρ d) (ix3 0 ρ d) (by
      rw [Shape.rowMajor_val_two, Shape.rowMajor_val_three]
      show (0 * 256 + ρ.val) * 256 + d.val = ρ.val * 256 + d.val
      omega)
  refine (Finset.sum_congr rfl fun d _ => congrArg₂ (fun u v : EReal => u * v) (hv d) (mat_at d y)).trans ?_
  refine (Finset.sum_eq_single (⟨src y.val, src_lt (n := 1) y.isLt⟩ : Fin 256) (fun d _ hd => ?_) (fun h => absurd (Finset.mem_univ _) h)).trans ?_
  · show (v (ix3 0 ρ d) : EReal) * (if d.val = src y.val then (1 : EReal) else 0) = 0
    rw [if_neg fun e => hd (Fin.ext e), mul_zero]
  · show (v (ix3 0 ρ ⟨src y.val, _⟩) : EReal) * (if src y.val = src y.val then (1 : EReal) else 0) = _
    rw [if_pos rfl, mul_one]

/-- What a point's block holds, entry by entry. -/
def perm (x : Vec Ideal S1x256x4096 .f32) : FVec Ideal S1x256x4096 .bf16 :=
  fun j => x (ix3 0 (j (1 : Fin 3)) ⟨src (j (2 : Fin 3)).val, src_lt (n := 16) (j (2 : Fin 3)).isLt⟩)

theorem piece (x : Vec Ideal S1x256x4096 .f32) (o : ℕ) (ho : o % 256 = 0) (inb : ∀ a, (![0, 0, o] : Fin 3 → ℕ) a + S1x256x256.size a ≤ S1x256x4096.size a) (j : S1x256x256.Idx) :
    prm (View.ld x (Rect.unit (s := S1x256x4096) ![0, 0, o] S1x256x256.size inb)) j = perm x ((Rect.unit (s := S1x256x4096) ![0, 0, o] S1x256x256.size inb).emb j) := by
  have h0 : (j (0 : Fin 3)).val < 1 := (j (0 : Fin 3)).isLt
  have h2 : (j (2 : Fin 3)).val < 256 := (j (2 : Fin 3)).isLt
  have hj : j = ix3 0 (j (1 : Fin 3)) (j (2 : Fin 3)) := by
    funext a
    fin_cases a
    · exact Fin.ext (by show (j (0 : Fin 3)).val = 0; omega)
    · rfl
    · rfl
  refine (congrArg (prm _) hj).trans ((prm_at _ _ _).trans ?_)
  refine congrArg x (funext fun a => Fin.ext ?_)
  fin_cases a
  · rfl
  · show 0 + 1 * (j (1 : Fin 3)).val = 0 + 1 * (j (1 : Fin 3)).val
    rfl
  · show o + 1 * src (j (2 : Fin 3)).val = src (o + 1 * (j (2 : Fin 3)).val)
    unfold src
    omega

theorem p0 (v : Vec Ideal S1x256x256 .f32) : k0_pay3 (k0_pay4 (F := Ideal)) v = prm v := rfl
theorem p1 (v : Vec Ideal S1x256x256 .f32) : k0_pay2 (k0_pay4 (F := Ideal)) v = prm v := rfl
theorem p2 (v : Vec Ideal S1x256x256 .f32) : k0_pay1 (k0_pay4 (F := Ideal)) (k0_pay20 v) = prm v := rfl
theorem p3 (v : Vec Ideal S1x256x256 .f32) : k0_pay19 (k0_pay4 (F := Ideal)) v = prm v := rfl
theorem p4 (v : Vec Ideal S1x256x256 .f32) : k0_pay18 (k0_pay4 (F := Ideal)) v = prm v := rfl
theorem p5 (v : Vec Ideal S1x256x256 .f32) : k0_pay17 (k0_pay4 (F := Ideal)) v = prm v := rfl
theorem p6 (v : Vec Ideal S1x256x256 .f32) : k0_pay16 (k0_pay15 (k0_pay4 (F := Ideal)) v) = prm v := rfl
theorem p7 (v : Vec Ideal S1x256x256 .f32) : k0_pay14 (k0_pay4 (F := Ideal)) v = prm v := rfl
theorem p8 (v : Vec Ideal S1x256x256 .f32) : k0_pay13 (k0_pay4 (F := Ideal)) v = prm v := rfl
theorem p9 (v : Vec Ideal S1x256x256 .f32) : k0_pay12 (k0_pay4 (F := Ideal)) v = prm v := rfl
theorem p10 (v : Vec Ideal S1x256x256 .f32) : k0_pay11 (k0_pay10 (k0_pay4 (F := Ideal)) v) = prm v := rfl
theorem p11 (v : Vec Ideal S1x256x256 .f32) : k0_pay9 (k0_pay4 (F := Ideal)) v = prm v := rfl
theorem p12 (v : Vec Ideal S1x256x256 .f32) : k0_pay8 (k0_pay4 (F := Ideal)) v = prm v := rfl
theorem p13 (v : Vec Ideal S1x256x256 .f32) : k0_pay7 (k0_pay4 (F := Ideal)) v = prm v := rfl
theorem p14 (v : Vec Ideal S1x256x256 .f32) : k0_pay6 (F := Ideal) v = prm v := rfl
theorem p15 (v : Vec Ideal S1x256x256 .f32) : k0_pay5 (F := Ideal) v = prm v := rfl

theorem out_eq (x : Vec Ideal S1x256x4096 .f32) : out0_1 (F := Ideal) x = perm x := by
  funext y
  unfold out0_1 k0_pay21
  rw [p0, p1, p2, p3, p4, p5, p6, p7, p8, p9, p10, p11, p12, p13, p14, p15]
  refine View.canon_apply_of_pieces (Val := Elt Ideal) (S := S1x256x4096) (e := .bf16) (perm x) _ ?_ y (cover0_1 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact piece x 3840 rfl inb_S1x256x4096_S1x256x256_0_0_3840
  · exact piece x 3584 rfl inb_S1x256x4096_S1x256x256_0_0_3584
  · exact piece x 3328 rfl inb_S1x256x4096_S1x256x256_0_0_3328
  · exact piece x 3072 rfl inb_S1x256x4096_S1x256x256_0_0_3072
  · exact piece x 2816 rfl inb_S1x256x4096_S1x256x256_0_0_2816
  · exact piece x 2560 rfl inb_S1x256x4096_S1x256x256_0_0_2560
  · exact piece x 2304 rfl inb_S1x256x4096_S1x256x256_0_0_2304
  · exact piece x 2048 rfl inb_S1x256x4096_S1x256x256_0_0_2048
  · exact piece x 1792 rfl inb_S1x256x4096_S1x256x256_0_0_1792
  · exact piece x 1536 rfl inb_S1x256x4096_S1x256x256_0_0_1536
  · exact piece x 1280 rfl inb_S1x256x4096_S1x256x256_0_0_1280
  · exact piece x 1024 rfl inb_S1x256x4096_S1x256x256_0_0_1024
  · exact piece x 768 rfl inb_S1x256x4096_S1x256x256_0_0_768
  · exact piece x 512 rfl inb_S1x256x4096_S1x256x256_0_0_512
  · exact piece x 256 rfl inb_S1x256x4096_S1x256x256_0_0_256
  · exact piece x 0 rfl inb_S1x256x4096_S1x256x256_0_0_0

theorem idx0 : ∀ t : Fin cfg0.N, win0_0.index t = ![t.val / 8, t.val % 8, 0] := (by decide +kernel : ∀ t : Fin grid0.N, win0_0.index t = ![t.val / 8, t.val % 8, 0])
theorem idx1 : ∀ t : Fin cfg0.N, win0_1.index t = ![t.val / 8, t.val % 8, 0] := (by decide +kernel : ∀ t : Fin grid0.N, win0_1.index t = ![t.val / 8, t.val % 8, 0])

theorem blk0_at (t : Fin cfg0.N) (ρ : Fin 256) (y : Fin 4096) (e : Fin 32) (he : e.val = t.val / 8) (k : Fin 2048) (hk : k.val = t.val % 8 * 256 + ρ.val) :
    (iblk m c 0 t : FVec Ideal S1x256x4096 .f32) (ix3 0 ρ y) = wts m c (ix3 e k y) := by
  refine Eq.trans (congrArg (V m c main_arg0 : FVec Ideal S32x2048x4096 .f32) (show _ = ix3 e k y from funext fun a => Fin.ext ?_)) (congrFun (V_main_arg0 m c) _)
  show win0_0.index t a * win0_0.size a + 1 * ((ix3 0 ρ y : S1x256x4096.Idx) a).val = _
  rw [idx0]
  fin_cases a
  · show t.val / 8 * 1 + 1 * 0 = e.val
    omega
  · show t.val % 8 * 256 + 1 * ρ.val = k.val
    omega
  · show 0 * 4096 + 1 * y.val = y.val
    omega

theorem covers1 : win0_1.Covers := by decide +kernel

/-- **The kernel's result**: it is `G` if `G`'s entries are the permuted weights'. -/
theorem result_eq (G : FVec Ideal S32x2048x4096 .bf16)
    (hG : ∀ (e : Fin 32) (k : Fin 2048) (y : Fin 4096), (G (ix3 e k y) : EReal) = wts m c (ix3 e k ⟨src y.val, src_lt (n := 16) y.isLt⟩)) :
    (dats m 0 c).arrAt 1 cfg0.N = G := by
  refine Dat.arrAt_eq_of_covers _ 1 _ covers1 fun t hf y => ?_
  have h0 : (y (0 : Fin 3)).val < 1 := (y (0 : Fin 3)).isLt
  have h1 : (y (1 : Fin 3)).val < 256 := (y (1 : Fin 3)).isLt
  have h2 : (y (2 : Fin 3)).val < 4096 := (y (2 : Fin 3)).isLt
  have ht : t.val < 256 := t.isLt
  obtain ⟨e, he⟩ : ∃ e : Fin 32, e.val = t.val / 8 := ⟨⟨_, by omega⟩, rfl⟩
  obtain ⟨k, hk⟩ : ∃ k : Fin 2048, k.val = t.val % 8 * 256 + (y (1 : Fin 3)).val := ⟨⟨_, by omega⟩, rfl⟩
  have hG' := hG e k (y (2 : Fin 3))
  blk_simp
  rw [after0_1, out_eq]
  refine Eq.trans (blk0_at m c t (y (1 : Fin 3)) _ e he k hk) (hG'.symm.trans (congrArg G ?_))
  funext a; apply Fin.ext
  refine Eq.trans ?_ (show win0_1.index t a * win0_1.size a + 1 * (y a).val = _ from rfl)
  rw [idx1]
  fin_cases a
  · show e.val = t.val / 8 * 1 + 1 * (y (0 : Fin 3)).val
    omega
  · show k.val = t.val % 8 * 256 + 1 * (y (1 : Fin 3)).val
    omega
  · show (y (2 : Fin 3)).val = 0 * 4096 + 1 * (y (2 : Fin 3)).val
    omega

end Cert.Kernel10Ideal

namespace Cert.Reference10Ideal

open Idealize.ShloMosaic Cert.Reference10Ideal.Gen Cert.Reference10Ideal.Value Cert.Permute

theorem slc : ∀ n : Fin 2, S32x2048x16x128x2.Slices ![0, 0, 0, 0, n.val] S32x2048x16x128x1 := by decide

/-- The even columns of every group, or the odd ones, -/
def half (w : FVec Ideal S32x2048x4096 .f32) (n : Fin 2) : FVec Ideal S32x2048x16x128 .f32 :=
  shapeCast S32x2048x16x128 (extractStridedSlice S32x2048x16x128x1 ![0, 0, 0, 0, n.val] (shapeCast S32x2048x16x128x2 w shapeCasts_S32x2048x4096_S32x2048x16x128x2) (slc n)) shapeCasts_S32x2048x16x128x1_S32x2048x16x128

/-- and the reference's result of its argument. -/
def out (w : FVec Ideal S32x2048x4096 .f32) : FVec Ideal S32x2048x4096 .bf16 :=
  truncf .bf16 (shapeCast S32x2048x4096 (concatenate S32x2048x16x256 3 (List.ofFn fun n : Fin 2 => ⟨S32x2048x16x128, half w n⟩) concatenates_S32x2048x16x128_S32x2048x16x128_S32x2048x16x256_d3 : FVec Ideal S32x2048x16x256 .f32)
    shapeCasts_S32x2048x16x256_S32x2048x4096 : FVec Ideal S32x2048x4096 .f32) bitsLt_bf16_f32

theorem half_at (w : FVec Ideal S32x2048x4096 .f32) (n : Fin 2) (e : Fin 32) (k : Fin 2048) (q : Fin 16) (l : Fin 128) (y : Fin 4096) (hy : y.val = q.val * 256 + l.val * 2 + n.val) :
    half w n (ix4 e k q l) = w (ix3 e k y) := by
  unfold half
  refine (shapeCast_apply _ _ _ (ix5 e k q l 0) ?_).trans ((extractStridedSlice_apply _ _ _ _ (ix5 e k q l n) ?_).trans (shapeCast_apply _ _ _ _ ?_))
  · rw [Shape.rowMajor_val_five, Shape.rowMajor_val_four]
    show (((e.val * 2048 + k.val) * 16 + q.val) * 128 + l.val) * 1 + 0 = ((e.val * 2048 + k.val) * 16 + q.val) * 128 + l.val
    omega
  · intro a
    fin_cases a
    · exact (Nat.zero_add _).symm
    · exact (Nat.zero_add _).symm
    · exact (Nat.zero_add _).symm
    · exact (Nat.zero_add _).symm
    · exact (Nat.add_zero _).symm
  · rw [Shape.rowMajor_val_five, Shape.rowMajor_val_three]
    show (e.val * 2048 + k.val) * 4096 + y.val = (((e.val * 2048 + k.val) * 16 + q.val) * 128 + l.val) * 2 + n.val
    rw [hy]
    omega

theorem cat_at (w : FVec Ideal S32x2048x4096 .f32) (e : Fin 32) (k : Fin 2048) (q : Fin 16) (l : Fin 256) (y : Fin 4096) (hy : y.val = q.val * 256 + l.val % 128 * 2 + l.val / 128) :
    (concatenate S32x2048x16x256 3 (List.ofFn fun n : Fin 2 => ⟨S32x2048x16x128, half w n⟩) concatenates_S32x2048x16x128_S32x2048x16x128_S32x2048x16x256_d3 : FVec Ideal S32x2048x16x256 .f32) (ix4 e k q l) = w (ix3 e k y) := by
  refine (concatenate_ofFn_apply (t := S32x2048x16x256) (s₁ := S32x2048x16x128) 3 (N := 2) (fun n => half w n) concatenates_S32x2048x16x128_S32x2048x16x128_S32x2048x16x256_d3 rfl 128 rfl
    (ix4 e k q l) ⟨l.val / 128, by omega⟩ rfl (ix4 e k q ⟨l.val % 128, by omega⟩) rfl ?_).trans (half_at w _ e k q _ y hy)
  intro a ha
  fin_cases a
  · rfl
  · rfl
  · rfl
  · exact absurd rfl ha

theorem flat_at (u : FVec Ideal S32x2048x16x256 .f32) (e : Fin 32) (k : Fin 2048) (y : Fin 4096) (q : Fin 16) (l : Fin 256) (hy : y.val = q.val * 256 + l.val) :
    shapeCast S32x2048x4096 u shapeCasts_S32x2048x16x256_S32x2048x4096 (ix3 e k y) = u (ix4 e k q l) := by
  refine shapeCast_apply _ _ _ _ ?_
  rw [Shape.rowMajor_val_three, Shape.rowMajor_val_four]
  show ((e.val * 2048 + k.val) * 16 + q.val) * 256 + l.val = (e.val * 2048 + k.val) * 4096 + y.val
  omega

theorem cast_at (u : FVec Ideal S32x2048x4096 .f32) (j : S32x2048x4096.Idx) : (truncf .bf16 u bitsLt_bf16_f32 : FVec Ideal S32x2048x4096 .bf16) j = u j := rfl

/-- **The reference's result**, entry by entry. -/
theorem out_at (w : FVec Ideal S32x2048x4096 .f32) (e : Fin 32) (k : Fin 2048) (y : Fin 4096) :
    (out w (ix3 e k y) : EReal) = w (ix3 e k ⟨src y.val, src_lt (n := 16) y.isLt⟩) := by
  obtain ⟨z, hz⟩ : ∃ z : Fin 4096, z = ⟨src y.val, src_lt (n := 16) y.isLt⟩ := ⟨_, rfl⟩
  have hz' : z.val = src y.val := congrArg Fin.val hz
  rw [← hz]
  obtain ⟨q, hq⟩ : ∃ q : Fin 16, q.val = y.val / 256 := ⟨⟨y.val / 256, by omega⟩, rfl⟩
  obtain ⟨l, hl⟩ : ∃ l : Fin 256, l.val = y.val % 256 := ⟨⟨y.val % 256, by omega⟩, rfl⟩
  unfold out
  refine (cast_at _ _).trans ((flat_at _ e k y q l ?_).trans (cat_at w e k q l z ?_))
  · omega
  · rw [hz']
    unfold src
    omega

end Cert.Reference10Ideal

end
-- ==== Proof.lean ====
/-
  The claim, for the differential attention, for the experts, for the joint projection, for the merge, for the indexer's
  queries and keys and its head weights, for the embedding norm and for the permuted first expert weights: the frames of the
  kernel, of its idealization and of the reference, the sanctioned rewrite between the two kernels, and the equality of the
  two results — the attention's on finite inputs, the experts' on tables in range.
-/
module

public import proofs.«01_k».proof.Defs
public import proofs.«01_k».proof.Proof.Run
public import proofs.«01_k».proof.Proof.RunBits
public import proofs.«01_k».proof.Proof.Final
public import proofs.«01_k».proof.Proof.Finite
public import proofs.«01_k».proof.Proof.ExpertSame
public import proofs.«01_k».proof.Proof.ExpertFinal
public import proofs.«01_k».proof.Proof.ExpertRange
public import proofs.«01_k».proof.Proof.ProjGates
public import proofs.«01_k».proof.Proof.ProjValues
public import proofs.«01_k».proof.Proof.ProjRope
public import proofs.«01_k».proof.Proof.Merge
public import proofs.«01_k».proof.Proof.IndexRope
public import proofs.«01_k».proof.Proof.HeadWeights
public import proofs.«01_k».proof.Proof.EmbedNorm
public import proofs.«01_k».proof.Proof.Permute
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import Idealize.ShloMosaic.Lib.Quiescent

@[expose] public section

noncomputable section

namespace Cert.Proof

open Idealize.ShloMosaic Idealize.SL.Sem

/-- The shape facts that the precondition's program states. -/
theorem preFacts : Cert.Pre_finite_inputs.Facts := by
  constructor <;> decide

/-- Seven arrays of a list, one by one. -/
theorem seven {α : Type} {p : α → Prop} {a b c d e f g : α} (h : ∀ x ∈ [a, b, c, d, e, f, g], p x) :
    p a ∧ p b ∧ p c ∧ p d ∧ p e ∧ p f ∧ p g :=
  ⟨h a (by simp), h b (by simp), h c (by simp), h d (by simp), h e (by simp), h f (by simp), h g (by simp)⟩

/-- The precondition makes the six arrays' entries real. -/
theorem reals [Cert.Pre_finite_inputs.Facts] {m : (ℓ : Loc Cert.KernelIdeal.nD Cert.KernelIdeal.τ Cert.KernelIdeal.sig) → Buf (Elt Ideal) ℓ}
    (h : Pre_KernelIdeal_finite_inputs m) (c : Dev Cert.KernelIdeal.nD) : Cert.KernelIdeal.Real6 m c := by
  obtain ⟨h0, h1, h2, h3, h4, h5⟩ := Cert.Pre_finite_inputs.fn_real _ _ _ _ _ _ _ (h c)
  exact ⟨h0, h1, h2, h3, h4, h5⟩

/-- **The value claim**: on finite inputs the kernel's result and the reference's are the same array. -/
theorem algebraic [Cert.Pre_finite_inputs.Facts] :
    algebraic_KernelIdeal_ReferenceIdeal_pre_finite_inputs (hKernelIdeal := Cert.KernelIdeal.Gen.facts) (hReferenceIdeal := Cert.ReferenceIdeal.Gen.facts) := by
  intro m g m' g' hpre hag
  refine ⟨fun c => Cert.KernelIdeal.G m c, ?_, ?_⟩
  · refine (θ_run _ _ _).mono (fun r h c => ?_) (Cert.KernelIdeal.run m Variants.none g (fun c => Cert.KernelIdeal.Jv m c) (fun c => Cert.KernelIdeal.Iv m c)
      (fun c => Cert.KernelIdeal.Jv_zero m c) (fun c t => Cert.KernelIdeal.Iv_step m c (reals hpre c) t) (fun c t => Cert.KernelIdeal.Jv_next m c t))
    refine ⟨Cert.KernelIdeal.result_eq m _ _ r h.1 c _ fun t hd X hX ρ l => ?_,
      seven (p := fun b => r.2.mem ((c.tc : Thread Cert.KernelIdeal.nD Cert.KernelIdeal.τ).loc b) = m ((c.tc : Thread Cert.KernelIdeal.nD Cert.KernelIdeal.τ).loc b))
        fun b hb => ((h.1 c).2 b (Cert.KernelIdeal.arg_rest b hb)).trans (Cert.KernelIdeal.V_arg m c b hb)⟩
    have hl : l = (⟨256 * (l.val / 256) + l.val % 256, by omega⟩ : Fin 1024) := Fin.ext (Nat.div_add_mod _ _).symm
    rw [hl]
    exact Cert.KernelIdeal.out_eq m c (reals hpre c) t hd X hX ρ ⟨l.val / 256, by omega⟩ ⟨l.val % 256, by omega⟩
  · refine (θ_run _ _ _).mono (fun r h c => ⟨(h c).1.trans ?_, (h c).2⟩) (Cert.ReferenceIdeal.Value.run (F := Ideal) m' g')
    obtain ⟨e0, e1, e2, e3, e4, e5, e6⟩ := hag c
    refine (Cert.ReferenceIdeal.res_eq m' c).trans ?_
    rw [e0, e1, e2, e3, e4, e5, e6]
    rfl

/-- The shape facts that the second precondition's program states. -/
theorem rangeFacts : Cert.Pre_blocks_in_range.Facts := by
  constructor <;> decide

/-- **The experts' value claim**: on tables in range the kernel's result and the reference's are the same array. -/
theorem algebraic2 [Cert.Pre_blocks_in_range.Facts] :
    algebraic_Kernel2Ideal_Reference2Ideal (hKernel2Ideal := Cert.Kernel2Ideal.Gen.facts) (hReference2Ideal := Cert.Reference2Ideal.Gen.facts) := by
  intro m g m' g' hpre hag
  have hr := Cert.Pre_blocks_in_range.fn_range _ _ _ _ _ _ _ (hpre 0)
  refine ⟨fun c => Cert.Kernel2Ideal.refOf m, ?_, ?_⟩
  · refine (θ_run _ _ _).mono (fun r h c => ?_) (Cert.Kernel2Ideal.run (Cert.Kernel2Ideal.adm m hr) m Variants.none g (Cert.Kernel2Ideal.tbl_pre m))
    obtain rfl : c = 0 := Subsingleton.elim _ _
    exact ⟨Cert.Kernel2Ideal.result_ref m hr r h.1,
      seven (p := fun b => r.2.mem (((0 : Dev Cert.Kernel2Ideal.nD).tc : Thread Cert.Kernel2Ideal.nD Cert.Kernel2Ideal.τ).loc b) = m (((0 : Dev Cert.Kernel2Ideal.nD).tc : Thread Cert.Kernel2Ideal.nD Cert.Kernel2Ideal.τ).loc b))
        fun b hb => ((h.1 0).2 b (Cert.Kernel2Ideal.arg_rest b hb)).trans (Cert.Kernel2Ideal.V_arg m 0 b hb)⟩
  · refine (θ_run _ _ _).mono (fun r h c => ⟨(h c).1.trans ?_, (h c).2⟩) (Cert.Reference2Ideal.Value.run (F := Ideal) m' g')
    obtain rfl : c = 0 := Subsingleton.elim _ _
    obtain ⟨e0, e1, e2, e3, e4, e5, e6⟩ := hag 0
    refine (Cert.Reference2Ideal.res_eq m' 0).trans ?_
    rw [e0, e1, e2, e3, e4, e5, e6]
    rfl

/-- The experts' kernel at machine words has its idealization's text: its frame is the same run's. -/
theorem frame_kernel2 [Cert.Pre_blocks_in_range.Facts] : quiescent_Kernel2 (hKernel2 := Cert.Kernel2.Gen.facts) := by
  intro m g hpre
  rw [Cert.Expert.run_same m g]
  exact (θ_run _ _ _).mono (fun _ h => ⟨fun c => seven (h.1 c), h.2⟩)
    (Cert.Kernel2Ideal.frame_in (F := Bits) m (Cert.Pre_blocks_in_range.fn_range _ _ _ _ _ _ _ (hpre 0)) Variants.none g)

/-- **The gates' value claim**: the kernel's result and the reference's are the same array. -/
theorem algebraic3 :
    algebraic_Kernel3Ideal_Reference3Ideal (hKernel3Ideal := Cert.Kernel3Ideal.Gen.facts) (hReference3Ideal := Cert.Reference3Ideal.Gen.facts) := by
  intro m g m' g' _ hag
  refine ⟨fun c => Cert.Reference3Ideal.out (Cert.Kernel3Ideal.rows m c) (Cert.Kernel3Ideal.wts m c), ?_, ?_⟩
  · exact (θ_run _ _ _).mono (fun r h c => ⟨(h c).1.trans (Cert.Kernel3Ideal.result_eq m c _ fun r y => Cert.Reference3Ideal.out_at _ _ r y), (h c).2⟩)
      (Cert.Kernel3Ideal.Value.run_blocks m g)
  · refine (θ_run _ _ _).mono (fun r h c => ⟨(h c).1.trans ?_, (h c).2⟩) (Cert.Reference3Ideal.Value.run (F := Ideal) m' g')
    obtain ⟨e0, e1⟩ := hag c
    rw [e0, e1]
    rfl

/-- **The values' value claim**: the kernel's result and the reference's are the same array. -/
theorem algebraic4 :
    algebraic_Kernel4Ideal_Reference4Ideal (hKernel4Ideal := Cert.Kernel4Ideal.Gen.facts) (hReference4Ideal := Cert.Reference4Ideal.Gen.facts) := by
  intro m g m' g' _ hag
  refine ⟨fun c => Cert.Reference4Ideal.out (Cert.Kernel4Ideal.rows m c) (Cert.Kernel4Ideal.wts m c), ?_, ?_⟩
  · exact (θ_run _ _ _).mono (fun r h c => ⟨(h c).1.trans (Cert.Kernel4Ideal.result_eq m c _ fun r y => Cert.Reference4Ideal.out_at _ _ r y), (h c).2⟩)
      (Cert.Kernel4Ideal.Value.run_blocks m g)
  · refine (θ_run _ _ _).mono (fun r h c => ⟨(h c).1.trans ?_, (h c).2⟩) (Cert.Reference4Ideal.Value.run (F := Ideal) m' g')
    obtain ⟨e0, e1⟩ := hag c
    rw [e0, e1]
    rfl

/-- **The rotated queries' and keys' value claim**: the kernel's result and the reference's are the same array. -/
theorem algebraic5 :
    algebraic_Kernel5Ideal_Reference5Ideal (hKernel5Ideal := Cert.Kernel5Ideal.Gen.facts) (hReference5Ideal := Cert.Reference5Ideal.Gen.facts) := by
  intro m g m' g' _ hag
  refine ⟨fun c => Cert.Reference5Ideal.out (Cert.Kernel5Ideal.rows m c) (Cert.Kernel5Ideal.wts m c), ?_, ?_⟩
  · exact (θ_run _ _ _).mono (fun r h c => ⟨(h c).1.trans (Cert.Kernel5Ideal.result_eq m c _ fun r y => Cert.Reference5Ideal.out_at _ _ r y), (h c).2⟩)
      (Cert.Kernel5Ideal.Value.run_blocks m g)
  · refine (θ_run _ _ _).mono (fun r h c => ⟨(h c).1.trans ?_, (h c).2⟩) (Cert.Reference5Ideal.Value.run (F := Ideal) m' g')
    obtain ⟨e0, e1⟩ := hag c
    refine (Cert.Reference5Ideal.res_eq m' c).trans ?_
    rw [e0, e1]
    rfl

/-- **The merge's value claim**: the kernel's residual rows and normalised rows and the reference's are the same arrays. -/
theorem algebraic6 :
    algebraic_Kernel6Ideal_Reference6Ideal (hKernel6Ideal := Cert.Kernel6Ideal.Gen.facts) (hReference6Ideal := Cert.Reference6Ideal.Gen.facts) := by
  intro m g m' g' _ hag
  refine ⟨fun c => Cert.Reference6Ideal.out1 (Cert.Kernel6Ideal.argA m c) (Cert.Kernel6Ideal.argB m c) (Cert.Kernel6Ideal.argG m c) (Cert.Kernel6Ideal.argH m c) (Cert.Kernel6Ideal.argU m c)
      (Cert.Kernel6Ideal.argW m c) (Cert.Kernel6Ideal.argO m c),
    fun c => Cert.Reference6Ideal.out2 (Cert.Reference6Ideal.out1 (Cert.Kernel6Ideal.argA m c) (Cert.Kernel6Ideal.argB m c) (Cert.Kernel6Ideal.argG m c) (Cert.Kernel6Ideal.argH m c)
      (Cert.Kernel6Ideal.argU m c) (Cert.Kernel6Ideal.argW m c) (Cert.Kernel6Ideal.argO m c)) (Cert.Kernel6Ideal.argN m c), ?_, ?_⟩
  · exact (θ_run _ _ _).mono (fun r h c => ⟨(h c).1.trans (Cert.Kernel6Ideal.result11_eq m c _ fun r y => Cert.Reference6Ideal.out1_at _ _ _ _ _ _ _ r y),
      (h c).2.1.trans (Cert.Kernel6Ideal.result12_eq m c _ fun r y => Cert.Reference6Ideal.out2_of _ _ _ _ _ _ _ _ r y), (h c).2.2.2.2.2⟩)
      (Cert.Kernel6Ideal.Value.run_blocks m g)
  · refine (θ_run _ _ _).mono (fun r h c => ⟨(h c).1.trans ?_, (h c).2.1.trans ?_, (h c).2.2⟩) (Cert.Reference6Ideal.Value.run (F := Ideal) m' g')
    · obtain ⟨e0, e1, e2, e3, e4, e5, e6, e7, e8, e9⟩ := hag c
      rw [e0, e1, e2, e3, e4, e5, e6]
      rfl
    · obtain ⟨e0, e1, e2, e3, e4, e5, e6, e7, e8, e9⟩ := hag c
      rw [e0, e1, e2, e3, e4, e5, e6, e7]
      rfl

/-- **The indexer's queries' and keys' value claim**: the kernel's result and the reference's are the same array. -/
theorem algebraic7 :
    algebraic_Kernel7Ideal_Reference7Ideal (hKernel7Ideal := Cert.Kernel7Ideal.Gen.facts) (hReference7Ideal := Cert.Reference7Ideal.Gen.facts) := by
  intro m g m' g' _ hag
  refine ⟨fun c => Cert.Reference7Ideal.out (Cert.Kernel7Ideal.rows m c) (Cert.Kernel7Ideal.wts m c), ?_, ?_⟩
  · exact (θ_run _ _ _).mono (fun r h c => ⟨(h c).1.trans (Cert.Kernel7Ideal.result_eq m c _ fun r y => Cert.Reference7Ideal.out_at _ _ r y), (h c).2⟩)
      (Cert.Kernel7Ideal.Value.run_blocks m g)
  · refine (θ_run _ _ _).mono (fun r h c => ⟨(h c).1.trans ?_, (h c).2⟩) (Cert.Reference7Ideal.Value.run (F := Ideal) m' g')
    obtain ⟨e0, e1⟩ := hag c
    refine (Cert.Reference7Ideal.res_eq m' c).trans ?_
    rw [e0, e1]
    rfl

/-- **The head weights' value claim**: the kernel's result and the reference's are the same array. -/
theorem algebraic8 :
    algebraic_Kernel8Ideal_Reference8Ideal (hKernel8Ideal := Cert.Kernel8Ideal.Gen.facts) (hReference8Ideal := Cert.Reference8Ideal.Gen.facts) := by
  intro m g m' g' _ hag
  refine ⟨fun c => Cert.Reference8Ideal.out (Cert.Kernel8Ideal.rows m c) (Cert.Kernel8Ideal.wts m c), ?_, ?_⟩
  · exact (θ_run _ _ _).mono (fun r h c => ⟨(h c).1.trans (Cert.Kernel8Ideal.result_eq m c _ fun r y => Cert.Reference8Ideal.out_at _ _ r y), (h c).2⟩)
      (Cert.Kernel8Ideal.Value.run_blocks m g)
  · refine (θ_run _ _ _).mono (fun r h c => ⟨(h c).1.trans ?_, (h c).2⟩) (Cert.Reference8Ideal.Value.run (F := Ideal) m' g')
    obtain ⟨e0, e1⟩ := hag c
    rw [e0, e1]
    rfl

/-- **The embedding's value claim**: the kernel's rows and normalised rows and the reference's are the same arrays. -/
theorem algebraic9 :
    algebraic_Kernel9Ideal_Reference9Ideal (hKernel9Ideal := Cert.Kernel9Ideal.Gen.facts) (hReference9Ideal := Cert.Reference9Ideal.Gen.facts) := by
  intro m g m' g' _ hag
  refine ⟨fun c => Cert.Reference9Ideal.out1 (Cert.Kernel9Ideal.argX m c) (Cert.Kernel9Ideal.argM m c),
    fun c => Cert.Reference9Ideal.out2 (Cert.Reference9Ideal.out1 (Cert.Kernel9Ideal.argX m c) (Cert.Kernel9Ideal.argM m c)) (Cert.Kernel9Ideal.argN m c), ?_, ?_⟩
  · exact (θ_run _ _ _).mono (fun r h c => ⟨(h c).1.trans (Cert.Kernel9Ideal.result3_eq m c _ fun r y => Cert.Reference9Ideal.out1_at _ _ r y),
      (h c).2.1.trans (Cert.Kernel9Ideal.result4_eq m c _ fun r y => Cert.Reference9Ideal.out2_of _ _ _ r y), (h c).2.2⟩)
      (Cert.Kernel9Ideal.Value.run_blocks m g)
  · refine (θ_run _ _ _).mono (fun r h c => ⟨(h c).1.trans ?_, (h c).2.1.trans ?_, (h c).2.2⟩) (Cert.Reference9Ideal.Value.run (F := Ideal) m' g')
    · obtain ⟨e0, e1, e2⟩ := hag c
      rw [e0, e1]
      rfl
    · obtain ⟨e0, e1, e2⟩ := hag c
      rw [e0, e1, e2]
      rfl

/-- **The permuted weights' value claim**: the kernel's result and the reference's are the same array. -/
theorem algebraic10 :
    algebraic_Kernel10Ideal_Reference10Ideal (hKernel10Ideal := Cert.Kernel10Ideal.Gen.facts) (hReference10Ideal := Cert.Reference10Ideal.Gen.facts) := by
  intro m g m' g' _ hag
  refine ⟨fun c => Cert.Reference10Ideal.out (Cert.Kernel10Ideal.wts m c), ?_, ?_⟩
  · exact (θ_run _ _ _).mono (fun r h c => ⟨(h c).1.trans (Cert.Kernel10Ideal.result_eq m c _ fun e k y => Cert.Reference10Ideal.out_at _ e k y), (h c).2⟩)
      (Cert.Kernel10Ideal.Value.run_blocks m g)
  · refine (θ_run _ _ _).mono (fun r h c => ⟨(h c).1.trans ?_, (h c).2⟩) (Cert.Reference10Ideal.Value.run (F := Ideal) m' g')
    have e0 := hag c
    rw [e0]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    preFacts, rangeFacts,
    fun m g _ => (θ_run _ _ _).mono (fun _ h => ⟨fun c => seven (h.1 c), h.2⟩) (Cert.Kernel.frame (F := Bits) m Variants.none g),
    fun m g _ => (θ_run _ _ _).mono (fun _ h => ⟨fun c => seven (h.1 c), h.2⟩) (Cert.KernelIdeal.frame (F := Ideal) m Variants.none g),
    fun m g _ => (θ_run _ _ _).mono (fun _ h => ⟨fun c => seven (h.1 c), h.2⟩) (Cert.KernelIdeal.frame (F := Ideal) m Variants.none g),
    fun m g _ => (θ_run _ _ _).mono (fun r h => ⟨fun c => (h c).2, sem_eq_zero_of_no_sems (by decide) r.2⟩) (Cert.ReferenceIdeal.Value.run (F := Ideal) m g),
    fun m g _ => (θ_run _ _ _).mono (fun r h => ⟨fun c => (h c).2, sem_eq_zero_of_no_sems (by decide) r.2⟩) (Cert.ReferenceIdeal.Value.run (F := Ideal) m g),
    @frame_kernel2 rangeFacts,
    fun m g hpre => (θ_run _ _ _).mono (fun _ h => ⟨fun c => seven (h.1 c), h.2⟩)
      (Cert.Kernel2Ideal.frame_in (F := Ideal) m (@Cert.Pre_blocks_in_range.fn_range rangeFacts _ _ _ _ _ _ _ _ _ (hpre 0)) Variants.none g),
    fun m g _ => (θ_run _ _ _).mono (fun r h => ⟨fun c => (h c).2, sem_eq_zero_of_no_sems (by decide) r.2⟩) (Cert.Reference2Ideal.Value.run (F := Ideal) m g),
    fun m g _ => (θ_run _ _ _).mono (fun r h => ⟨fun c => (h c).2, sem_eq_zero_of_no_sems (by decide) r.2⟩) (Cert.Reference2Ideal.Value.run (F := Ideal) m g),
    fun m g _ => Cert.Kernel3.Gen.frame m g,
    fun m g _ => Cert.Kernel3Ideal.Gen.frame m g,
    fun m g _ => (θ_run _ _ _).mono (fun r h => ⟨fun c => (h c).2, sem_eq_zero_of_no_sems (by decide) r.2⟩) (Cert.Reference3Ideal.Value.run (F := Ideal) m g),
    fun m g _ => Cert.Kernel4.Gen.frame m g,
    fun m g _ => Cert.Kernel4Ideal.Gen.frame m g,
    fun m g _ => (θ_run _ _ _).mono (fun r h => ⟨fun c => (h c).2, sem_eq_zero_of_no_sems (by decide) r.2⟩) (Cert.Reference4Ideal.Value.run (F := Ideal) m g),
    fun m g _ => Cert.Kernel5.Gen.frame m g,
    fun m g _ => Cert.Kernel5Ideal.Gen.frame m g,
    fun m g _ => (θ_run _ _ _).mono (fun r h => ⟨fun c => (h c).2, sem_eq_zero_of_no_sems (by decide) r.2⟩) (Cert.Reference5Ideal.Value.run (F := Ideal) m g),
    fun m g _ => Cert.Kernel6.Gen.frame m g,
    fun m g _ => Cert.Kernel6Ideal.Gen.frame m g,
    fun m g _ => (θ_run _ _ _).mono (fun r h => ⟨fun c => (h c).2.2, sem_eq_zero_of_no_sems (by decide) r.2⟩) (Cert.Reference6Ideal.Value.run (F := Ideal) m g),
    fun m g _ => Cert.Kernel7.Gen.frame m g,
    fun m g _ => Cert.Kernel7Ideal.Gen.frame m g,
    fun m g _ => (θ_run _ _ _).mono (fun r h => ⟨fun c => (h c).2, sem_eq_zero_of_no_sems (by decide) r.2⟩) (Cert.Reference7Ideal.Value.run (F := Ideal) m g),
    fun m g _ => Cert.Kernel8.Gen.frame m g,
    fun m g _ => Cert.Kernel8Ideal.Gen.frame m g,
    fun m g _ => (θ_run _ _ _).mono (fun r h => ⟨fun c => (h c).2, sem_eq_zero_of_no_sems (by decide) r.2⟩) (Cert.Reference8Ideal.Value.run (F := Ideal) m g),
    fun m g _ => Cert.Kernel9.Gen.frame m g,
    fun m g _ => Cert.Kernel9Ideal.Gen.frame m g,
    fun m g _ => (θ_run _ _ _).mono (fun r h => ⟨fun c => (h c).2.2, sem_eq_zero_of_no_sems (by decide) r.2⟩) (Cert.Reference9Ideal.Value.run (F := Ideal) m g),
    fun m g _ => Cert.Kernel10.Gen.frame m g,
    fun m g _ => Cert.Kernel10Ideal.Gen.frame m g,
    fun m g _ => (θ_run _ _ _).mono (fun r h => ⟨fun c => (h c).2, sem_eq_zero_of_no_sems (by decide) r.2⟩) (Cert.Reference10Ideal.Value.run (F := Ideal) m g),
    IdealRules.named_const.statement Cert.KernelIdeal.κ "mask" .f32 0xF149F2CA#32 ⊥ rfl,
    @algebraic preFacts, trivial, @algebraic2 rangeFacts,
    trivial, algebraic3, trivial, algebraic4, trivial, algebraic5, trivial, algebraic6,
    trivial, algebraic7, trivial, algebraic8, trivial, algebraic9, trivial, algebraic10⟩

end Cert.Proof

end
